-- ==== Defs.lean ====
def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def Pre_Activations (m : (ℓ : Loc Cert.Activations.nD Cert.Activations.τ Cert.Activations.sig) → Buf (Elt Bits) ℓ) : Prop :=
  True

def Pre_ActivationsIdeal (m : (ℓ : Loc Cert.ActivationsIdeal.nD Cert.ActivationsIdeal.τ Cert.ActivationsIdeal.sig) → Buf (Elt Ideal) ℓ) : Prop :=
  True

def Pre_ActivationsIdeal_finite [hPre_finite : Cert.Pre_finite.Facts] (m : (ℓ : Loc Cert.ActivationsIdeal.nD Cert.ActivationsIdeal.τ Cert.ActivationsIdeal.sig) → Buf (Elt Ideal) ℓ) : Prop :=
  ∀ c : Dev Cert.ActivationsIdeal.nD,
    (Cert.Pre_finite.fn (F := Ideal) (m ((c.tc : Thread Cert.ActivationsIdeal.nD Cert.ActivationsIdeal.τ).loc Cert.ActivationsIdeal.main_arg0)) (m ((c.tc : Thread Cert.ActivationsIdeal.nD Cert.ActivationsIdeal.τ).loc Cert.ActivationsIdeal.main_arg1)) (m ((c.tc : Thread Cert.ActivationsIdeal.nD Cert.ActivationsIdeal.τ).loc Cert.ActivationsIdeal.main_arg2)) (m ((c.tc : Thread Cert.ActivationsIdeal.nD Cert.ActivationsIdeal.τ).loc Cert.ActivationsIdeal.main_arg3)) (m ((c.tc : Thread Cert.ActivationsIdeal.nD Cert.ActivationsIdeal.τ).loc Cert.ActivationsIdeal.main_arg4)) (m ((c.tc : Thread Cert.ActivationsIdeal.nD Cert.ActivationsIdeal.τ).loc Cert.ActivationsIdeal.main_arg5))).1 = (fun _ => 1#1)
    ∧ (Cert.Pre_finite.fn (F := Ideal) (m ((c.tc : Thread Cert.ActivationsIdeal.nD Cert.ActivationsIdeal.τ).loc Cert.ActivationsIdeal.main_arg0)) (m ((c.tc : Thread Cert.ActivationsIdeal.nD Cert.ActivationsIdeal.τ).loc Cert.ActivationsIdeal.main_arg1)) (m ((c.tc : Thread Cert.ActivationsIdeal.nD Cert.ActivationsIdeal.τ).loc Cert.ActivationsIdeal.main_arg2)) (m ((c.tc : Thread Cert.ActivationsIdeal.nD Cert.ActivationsIdeal.τ).loc Cert.ActivationsIdeal.main_arg3)) (m ((c.tc : Thread Cert.ActivationsIdeal.nD Cert.ActivationsIdeal.τ).loc Cert.ActivationsIdeal.main_arg4)) (m ((c.tc : Thread Cert.ActivationsIdeal.nD Cert.ActivationsIdeal.τ).loc Cert.ActivationsIdeal.main_arg5))).2.1 = (fun _ => 1#1)
    ∧ (Cert.Pre_finite.fn (F := Ideal) (m ((c.tc : Thread Cert.ActivationsIdeal.nD Cert.ActivationsIdeal.τ).loc Cert.ActivationsIdeal.main_arg0)) (m ((c.tc : Thread Cert.ActivationsIdeal.nD Cert.ActivationsIdeal.τ).loc Cert.ActivationsIdeal.main_arg1)) (m ((c.tc : Thread Cert.ActivationsIdeal.nD Cert.ActivationsIdeal.τ).loc Cert.ActivationsIdeal.main_arg2)) (m ((c.tc : Thread Cert.ActivationsIdeal.nD Cert.ActivationsIdeal.τ).loc Cert.ActivationsIdeal.main_arg3)) (m ((c.tc : Thread Cert.ActivationsIdeal.nD Cert.ActivationsIdeal.τ).loc Cert.ActivationsIdeal.main_arg4)) (m ((c.tc : Thread Cert.ActivationsIdeal.nD Cert.ActivationsIdeal.τ).loc Cert.ActivationsIdeal.main_arg5))).2.2.1 = (fun _ => 1#1)
    ∧ (Cert.Pre_finite.fn (F := Ideal) (m ((c.tc : Thread Cert.ActivationsIdeal.nD Cert.ActivationsIdeal.τ).loc Cert.ActivationsIdeal.main_arg0)) (m ((c.tc : Thread Cert.ActivationsIdeal.nD Cert.ActivationsIdeal.τ).loc Cert.ActivationsIdeal.main_arg1)) (m ((c.tc : Thread Cert.ActivationsIdeal.nD Cert.ActivationsIdeal.τ).loc Cert.ActivationsIdeal.main_arg2)) (m ((c.tc : Thread Cert.ActivationsIdeal.nD Cert.ActivationsIdeal.τ).loc Cert.ActivationsIdeal.main_arg3)) (m ((c.tc : Thread Cert.ActivationsIdeal.nD Cert.ActivationsIdeal.τ).loc Cert.ActivationsIdeal.main_arg4)) (m ((c.tc : Thread Cert.ActivationsIdeal.nD Cert.ActivationsIdeal.τ).loc Cert.ActivationsIdeal.main_arg5))).2.2.2.1 = (fun _ => 1#1)
    ∧ (Cert.Pre_finite.fn (F := Ideal) (m ((c.tc : Thread Cert.ActivationsIdeal.nD Cert.ActivationsIdeal.τ).loc Cert.ActivationsIdeal.main_arg0)) (m ((c.tc : Thread Cert.ActivationsIdeal.nD Cert.ActivationsIdeal.τ).loc Cert.ActivationsIdeal.main_arg1)) (m ((c.tc : Thread Cert.ActivationsIdeal.nD Cert.ActivationsIdeal.τ).loc Cert.ActivationsIdeal.main_arg2)) (m ((c.tc : Thread Cert.ActivationsIdeal.nD Cert.ActivationsIdeal.τ).loc Cert.ActivationsIdeal.main_arg3)) (m ((c.tc : Thread Cert.ActivationsIdeal.nD Cert.ActivationsIdeal.τ).loc Cert.ActivationsIdeal.main_arg4)) (m ((c.tc : Thread Cert.ActivationsIdeal.nD Cert.ActivationsIdeal.τ).loc Cert.ActivationsIdeal.main_arg5))).2.2.2.2.1 = (fun _ => 1#1)
    ∧ (Cert.Pre_finite.fn (F := Ideal) (m ((c.tc : Thread Cert.ActivationsIdeal.nD Cert.ActivationsIdeal.τ).loc Cert.ActivationsIdeal.main_arg0)) (m ((c.tc : Thread Cert.ActivationsIdeal.nD Cert.ActivationsIdeal.τ).loc Cert.ActivationsIdeal.main_arg1)) (m ((c.tc : Thread Cert.ActivationsIdeal.nD Cert.ActivationsIdeal.τ).loc Cert.ActivationsIdeal.main_arg2)) (m ((c.tc : Thread Cert.ActivationsIdeal.nD Cert.ActivationsIdeal.τ).loc Cert.ActivationsIdeal.main_arg3)) (m ((c.tc : Thread Cert.ActivationsIdeal.nD Cert.ActivationsIdeal.τ).loc Cert.ActivationsIdeal.main_arg4)) (m ((c.tc : Thread Cert.ActivationsIdeal.nD Cert.ActivationsIdeal.τ).loc Cert.ActivationsIdeal.main_arg5))).2.2.2.2.2 = (fun _ => 1#1)

def Pre_ActivationsRefIdeal (m : (ℓ : Loc Cert.ActivationsRefIdeal.nD Cert.ActivationsRefIdeal.τ Cert.ActivationsRefIdeal.sig) → Buf (Elt Ideal) ℓ) : Prop :=
  True

def Pre_ActivationsRefIdeal_finite [hPre_finite : Cert.Pre_finite.Facts] (m : (ℓ : Loc Cert.ActivationsRefIdeal.nD Cert.ActivationsRefIdeal.τ Cert.ActivationsRefIdeal.sig) → Buf (Elt Ideal) ℓ) : Prop :=
  ∀ c : Dev Cert.ActivationsRefIdeal.nD,
    (Cert.Pre_finite.fn (F := Ideal) (m ((c.tc : Thread Cert.ActivationsRefIdeal.nD Cert.ActivationsRefIdeal.τ).loc Cert.ActivationsRefIdeal.main_arg0)) (m ((c.tc : Thread Cert.ActivationsRefIdeal.nD Cert.ActivationsRefIdeal.τ).loc Cert.ActivationsRefIdeal.main_arg1)) (m ((c.tc : Thread Cert.ActivationsRefIdeal.nD Cert.ActivationsRefIdeal.τ).loc Cert.ActivationsRefIdeal.main_arg2)) (m ((c.tc : Thread Cert.ActivationsRefIdeal.nD Cert.ActivationsRefIdeal.τ).loc Cert.ActivationsRefIdeal.main_arg3)) (m ((c.tc : Thread Cert.ActivationsRefIdeal.nD Cert.ActivationsRefIdeal.τ).loc Cert.ActivationsRefIdeal.main_arg4)) (m ((c.tc : Thread Cert.ActivationsRefIdeal.nD Cert.ActivationsRefIdeal.τ).loc Cert.ActivationsRefIdeal.main_arg5))).1 = (fun _ => 1#1)
    ∧ (Cert.Pre_finite.fn (F := Ideal) (m ((c.tc : Thread Cert.ActivationsRefIdeal.nD Cert.ActivationsRefIdeal.τ).loc Cert.ActivationsRefIdeal.main_arg0)) (m ((c.tc : Thread Cert.ActivationsRefIdeal.nD Cert.ActivationsRefIdeal.τ).loc Cert.ActivationsRefIdeal.main_arg1)) (m ((c.tc : Thread Cert.ActivationsRefIdeal.nD Cert.ActivationsRefIdeal.τ).loc Cert.ActivationsRefIdeal.main_arg2)) (m ((c.tc : Thread Cert.ActivationsRefIdeal.nD Cert.ActivationsRefIdeal.τ).loc Cert.ActivationsRefIdeal.main_arg3)) (m ((c.tc : Thread Cert.ActivationsRefIdeal.nD Cert.ActivationsRefIdeal.τ).loc Cert.ActivationsRefIdeal.main_arg4)) (m ((c.tc : Thread Cert.ActivationsRefIdeal.nD Cert.ActivationsRefIdeal.τ).loc Cert.ActivationsRefIdeal.main_arg5))).2.1 = (fun _ => 1#1)
    ∧ (Cert.Pre_finite.fn (F := Ideal) (m ((c.tc : Thread Cert.ActivationsRefIdeal.nD Cert.ActivationsRefIdeal.τ).loc Cert.ActivationsRefIdeal.main_arg0)) (m ((c.tc : Thread Cert.ActivationsRefIdeal.nD Cert.ActivationsRefIdeal.τ).loc Cert.ActivationsRefIdeal.main_arg1)) (m ((c.tc : Thread Cert.ActivationsRefIdeal.nD Cert.ActivationsRefIdeal.τ).loc Cert.ActivationsRefIdeal.main_arg2)) (m ((c.tc : Thread Cert.ActivationsRefIdeal.nD Cert.ActivationsRefIdeal.τ).loc Cert.ActivationsRefIdeal.main_arg3)) (m ((c.tc : Thread Cert.ActivationsRefIdeal.nD Cert.ActivationsRefIdeal.τ).loc Cert.ActivationsRefIdeal.main_arg4)) (m ((c.tc : Thread Cert.ActivationsRefIdeal.nD Cert.ActivationsRefIdeal.τ).loc Cert.ActivationsRefIdeal.main_arg5))).2.2.1 = (fun _ => 1#1)
    ∧ (Cert.Pre_finite.fn (F := Ideal) (m ((c.tc : Thread Cert.ActivationsRefIdeal.nD Cert.ActivationsRefIdeal.τ).loc Cert.ActivationsRefIdeal.main_arg0)) (m ((c.tc : Thread Cert.ActivationsRefIdeal.nD Cert.ActivationsRefIdeal.τ).loc Cert.ActivationsRefIdeal.main_arg1)) (m ((c.tc : Thread Cert.ActivationsRefIdeal.nD Cert.ActivationsRefIdeal.τ).loc Cert.ActivationsRefIdeal.main_arg2)) (m ((c.tc : Thread Cert.ActivationsRefIdeal.nD Cert.ActivationsRefIdeal.τ).loc Cert.ActivationsRefIdeal.main_arg3)) (m ((c.tc : Thread Cert.ActivationsRefIdeal.nD Cert.ActivationsRefIdeal.τ).loc Cert.ActivationsRefIdeal.main_arg4)) (m ((c.tc : Thread Cert.ActivationsRefIdeal.nD Cert.ActivationsRefIdeal.τ).loc Cert.ActivationsRefIdeal.main_arg5))).2.2.2.1 = (fun _ => 1#1)
    ∧ (Cert.Pre_finite.fn (F := Ideal) (m ((c.tc : Thread Cert.ActivationsRefIdeal.nD Cert.ActivationsRefIdeal.τ).loc Cert.ActivationsRefIdeal.main_arg0)) (m ((c.tc : Thread Cert.ActivationsRefIdeal.nD Cert.ActivationsRefIdeal.τ).loc Cert.ActivationsRefIdeal.main_arg1)) (m ((c.tc : Thread Cert.ActivationsRefIdeal.nD Cert.ActivationsRefIdeal.τ).loc Cert.ActivationsRefIdeal.main_arg2)) (m ((c.tc : Thread Cert.ActivationsRefIdeal.nD Cert.ActivationsRefIdeal.τ).loc Cert.ActivationsRefIdeal.main_arg3)) (m ((c.tc : Thread Cert.ActivationsRefIdeal.nD Cert.ActivationsRefIdeal.τ).loc Cert.ActivationsRefIdeal.main_arg4)) (m ((c.tc : Thread Cert.ActivationsRefIdeal.nD Cert.ActivationsRefIdeal.τ).loc Cert.ActivationsRefIdeal.main_arg5))).2.2.2.2.1 = (fun _ => 1#1)
    ∧ (Cert.Pre_finite.fn (F := Ideal) (m ((c.tc : Thread Cert.ActivationsRefIdeal.nD Cert.ActivationsRefIdeal.τ).loc Cert.ActivationsRefIdeal.main_arg0)) (m ((c.tc : Thread Cert.ActivationsRefIdeal.nD Cert.ActivationsRefIdeal.τ).loc Cert.ActivationsRefIdeal.main_arg1)) (m ((c.tc : Thread Cert.ActivationsRefIdeal.nD Cert.ActivationsRefIdeal.τ).loc Cert.ActivationsRefIdeal.main_arg2)) (m ((c.tc : Thread Cert.ActivationsRefIdeal.nD Cert.ActivationsRefIdeal.τ).loc Cert.ActivationsRefIdeal.main_arg3)) (m ((c.tc : Thread Cert.ActivationsRefIdeal.nD Cert.ActivationsRefIdeal.τ).loc Cert.ActivationsRefIdeal.main_arg4)) (m ((c.tc : Thread Cert.ActivationsRefIdeal.nD Cert.ActivationsRefIdeal.τ).loc Cert.ActivationsRefIdeal.main_arg5))).2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.2.2 = (fun _ => 1#1)

def Pre_PoolForward (m : (ℓ : Loc Cert.PoolForward.nD Cert.PoolForward.τ Cert.PoolForward.sig) → Buf (Elt Bits) ℓ) : Prop :=
  True

def Pre_PoolForwardIdeal (m : (ℓ : Loc Cert.PoolForwardIdeal.nD Cert.PoolForwardIdeal.τ Cert.PoolForwardIdeal.sig) → Buf (Elt Ideal) ℓ) : Prop :=
  True

def Pre_PoolForwardRefIdeal (m : (ℓ : Loc Cert.PoolForwardRefIdeal.nD Cert.PoolForwardRefIdeal.τ Cert.PoolForwardRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_QueryRows (m : (ℓ : Loc Cert.QueryRows.nD Cert.QueryRows.τ Cert.QueryRows.sig) → Buf (Elt Bits) ℓ) : Prop :=
  True

def Pre_QueryRowsIdeal (m : (ℓ : Loc Cert.QueryRowsIdeal.nD Cert.QueryRowsIdeal.τ Cert.QueryRowsIdeal.sig) → Buf (Elt Ideal) ℓ) : Prop :=
  True

def Pre_QueryRowsRefIdeal (m : (ℓ : Loc Cert.QueryRowsRefIdeal.nD Cert.QueryRowsRefIdeal.τ Cert.QueryRowsRefIdeal.sig) → Buf (Elt Ideal) ℓ) : Prop :=
  True

def Pre_QueryWeights (m : (ℓ : Loc Cert.QueryWeights.nD Cert.QueryWeights.τ Cert.QueryWeights.sig) → Buf (Elt Bits) ℓ) : Prop :=
  True

def Pre_QueryWeightsIdeal (m : (ℓ : Loc Cert.QueryWeightsIdeal.nD Cert.QueryWeightsIdeal.τ Cert.QueryWeightsIdeal.sig) → Buf (Elt Ideal) ℓ) : Prop :=
  True

def Pre_QueryWeightsRefIdeal (m : (ℓ : Loc Cert.QueryWeightsRefIdeal.nD Cert.QueryWeightsRefIdeal.τ Cert.QueryWeightsRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4))
      ∧ r.2.sem = fun _ => 0)

def quiescent_Activations [hActivations : Cert.Activations.Facts] : Prop :=
  ∀ (m : (ℓ : Loc Cert.Activations.nD Cert.Activations.τ Cert.Activations.sig) → Buf (Elt Bits) ℓ) (g : Dev Cert.Activations.nD → PrngReg), Pre_Activations m →
    θ_run (Cert.Activations.defs (F := Bits)) (onTc (τ := Cert.Activations.τ) (Cert.Activations.main (F := Bits))) ⟨m, fun _ => 0, g⟩ (fun r => (∀ c : Dev Cert.Activations.nD,
      r.2.mem ((c.tc : Thread Cert.Activations.nD Cert.Activations.τ).loc Cert.Activations.main_arg0) = m ((c.tc : Thread Cert.Activations.nD Cert.Activations.τ).loc Cert.Activations.main_arg0)
      ∧ r.2.mem ((c.tc : Thread Cert.Activations.nD Cert.Activations.τ).loc Cert.Activations.main_arg1) = m ((c.tc : Thread Cert.Activations.nD Cert.Activations.τ).loc Cert.Activations.main_arg1)
      ∧ r.2.mem ((c.tc : Thread Cert.Activations.nD Cert.Activations.τ).loc Cert.Activations.main_arg2) = m ((c.tc : Thread Cert.Activations.nD Cert.Activations.τ).loc Cert.Activations.main_arg2)
      ∧ r.2.mem ((c.tc : Thread Cert.Activations.nD Cert.Activations.τ).loc Cert.Activations.main_arg3) = m ((c.tc : Thread Cert.Activations.nD Cert.Activations.τ).loc Cert.Activations.main_arg3)
      ∧ r.2.mem ((c.tc : Thread Cert.Activations.nD Cert.Activations.τ).loc Cert.Activations.main_arg4) = m ((c.tc : Thread Cert.Activations.nD Cert.Activations.τ).loc Cert.Activations.main_arg4)
      ∧ r.2.mem ((c.tc : Thread Cert.Activations.nD Cert.Activations.τ).loc Cert.Activations.main_arg5) = m ((c.tc : Thread Cert.Activations.nD Cert.Activations.τ).loc Cert.Activations.main_arg5))
      ∧ r.2.sem = fun _ => 0)

def quiescent_ActivationsIdeal [hActivationsIdeal : Cert.ActivationsIdeal.Facts] : Prop :=
  ∀ (m : (ℓ : Loc Cert.ActivationsIdeal.nD Cert.ActivationsIdeal.τ Cert.ActivationsIdeal.sig) → Buf (Elt Ideal) ℓ) (g : Dev Cert.ActivationsIdeal.nD → PrngReg), Pre_ActivationsIdeal m →
    θ_run (Cert.ActivationsIdeal.defs (F := Ideal)) (onTc (τ := Cert.ActivationsIdeal.τ) (Cert.ActivationsIdeal.main (F := Ideal))) ⟨m, fun _ => 0, g⟩ (fun r => (∀ c : Dev Cert.ActivationsIdeal.nD,
      r.2.mem ((c.tc : Thread Cert.ActivationsIdeal.nD Cert.ActivationsIdeal.τ).loc Cert.ActivationsIdeal.main_arg0) = m ((c.tc : Thread Cert.ActivationsIdeal.nD Cert.ActivationsIdeal.τ).loc Cert.ActivationsIdeal.main_arg0)
      ∧ r.2.mem ((c.tc : Thread Cert.ActivationsIdeal.nD Cert.ActivationsIdeal.τ).loc Cert.ActivationsIdeal.main_arg1) = m ((c.tc : Thread Cert.ActivationsIdeal.nD Cert.ActivationsIdeal.τ).loc Cert.ActivationsIdeal.main_arg1)
      ∧ r.2.mem ((c.tc : Thread Cert.ActivationsIdeal.nD Cert.ActivationsIdeal.τ).loc Cert.ActivationsIdeal.main_arg2) = m ((c.tc : Thread Cert.ActivationsIdeal.nD Cert.ActivationsIdeal.τ).loc Cert.ActivationsIdeal.main_arg2)
      ∧ r.2.mem ((c.tc : Thread Cert.ActivationsIdeal.nD Cert.ActivationsIdeal.τ).loc Cert.ActivationsIdeal.main_arg3) = m ((c.tc : Thread Cert.ActivationsIdeal.nD Cert.ActivationsIdeal.τ).loc Cert.ActivationsIdeal.main_arg3)
      ∧ r.2.mem ((c.tc : Thread Cert.ActivationsIdeal.nD Cert.ActivationsIdeal.τ).loc Cert.ActivationsIdeal.main_arg4) = m ((c.tc : Thread Cert.ActivationsIdeal.nD Cert.ActivationsIdeal.τ).loc Cert.ActivationsIdeal.main_arg4)
      ∧ r.2.mem ((c.tc : Thread Cert.ActivationsIdeal.nD Cert.ActivationsIdeal.τ).loc Cert.ActivationsIdeal.main_arg5) = m ((c.tc : Thread Cert.ActivationsIdeal.nD Cert.ActivationsIdeal.τ).loc Cert.ActivationsIdeal.main_arg5))
      ∧ r.2.sem = fun _ => 0)

def quiescent_ActivationsIdeal_pre_finite [hActivationsIdeal : Cert.ActivationsIdeal.Facts] [hPre_finite : Cert.Pre_finite.Facts] : Prop :=
  ∀ (m : (ℓ : Loc Cert.ActivationsIdeal.nD Cert.ActivationsIdeal.τ Cert.ActivationsIdeal.sig) → Buf (Elt Ideal) ℓ) (g : Dev Cert.ActivationsIdeal.nD → PrngReg), Pre_ActivationsIdeal_finite m →
    θ_run (Cert.ActivationsIdeal.defs (F := Ideal)) (onTc (τ := Cert.ActivationsIdeal.τ) (Cert.ActivationsIdeal.main (F := Ideal))) ⟨m, fun _ => 0, g⟩ (fun r => (∀ c : Dev Cert.ActivationsIdeal.nD,
      r.2.mem ((c.tc : Thread Cert.ActivationsIdeal.nD Cert.ActivationsIdeal.τ).loc Cert.ActivationsIdeal.main_arg0) = m ((c.tc : Thread Cert.ActivationsIdeal.nD Cert.ActivationsIdeal.τ).loc Cert.ActivationsIdeal.main_arg0)
      ∧ r.2.mem ((c.tc : Thread Cert.ActivationsIdeal.nD Cert.ActivationsIdeal.τ).loc Cert.ActivationsIdeal.main_arg1) = m ((c.tc : Thread Cert.ActivationsIdeal.nD Cert.ActivationsIdeal.τ).loc Cert.ActivationsIdeal.main_arg1)
      ∧ r.2.mem ((c.tc : Thread Cert.ActivationsIdeal.nD Cert.ActivationsIdeal.τ).loc Cert.ActivationsIdeal.main_arg2) = m ((c.tc : Thread Cert.ActivationsIdeal.nD Cert.ActivationsIdeal.τ).loc Cert.ActivationsIdeal.main_arg2)
      ∧ r.2.mem ((c.tc : Thread Cert.ActivationsIdeal.nD Cert.ActivationsIdeal.τ).loc Cert.ActivationsIdeal.main_arg3) = m ((c.tc : Thread Cert.ActivationsIdeal.nD Cert.ActivationsIdeal.τ).loc Cert.ActivationsIdeal.main_arg3)
      ∧ r.2.mem ((c.tc : Thread Cert.ActivationsIdeal.nD Cert.ActivationsIdeal.τ).loc Cert.ActivationsIdeal.main_arg4) = m ((c.tc : Thread Cert.ActivationsIdeal.nD Cert.ActivationsIdeal.τ).loc Cert.ActivationsIdeal.main_arg4)
      ∧ r.2.mem ((c.tc : Thread Cert.ActivationsIdeal.nD Cert.ActivationsIdeal.τ).loc Cert.ActivationsIdeal.main_arg5) = m ((c.tc : Thread Cert.ActivationsIdeal.nD Cert.ActivationsIdeal.τ).loc Cert.ActivationsIdeal.main_arg5))
      ∧ r.2.sem = fun _ => 0)

def quiescent_ActivationsRefIdeal [hActivationsRefIdeal : Cert.ActivationsRefIdeal.Facts] : Prop :=
  ∀ (m : (ℓ : Loc Cert.ActivationsRefIdeal.nD Cert.ActivationsRefIdeal.τ Cert.ActivationsRefIdeal.sig) → Buf (Elt Ideal) ℓ) (g : Dev Cert.ActivationsRefIdeal.nD → PrngReg), Pre_ActivationsRefIdeal m →
    θ_run (Cert.ActivationsRefIdeal.defs (F := Ideal)) (onTc (τ := Cert.ActivationsRefIdeal.τ) (Cert.ActivationsRefIdeal.main (F := Ideal))) ⟨m, fun _ => 0, g⟩ (fun r => (∀ c : Dev Cert.ActivationsRefIdeal.nD,
      r.2.mem ((c.tc : Thread Cert.ActivationsRefIdeal.nD Cert.ActivationsRefIdeal.τ).loc Cert.ActivationsRefIdeal.main_arg0) = m ((c.tc : Thread Cert.ActivationsRefIdeal.nD Cert.ActivationsRefIdeal.τ).loc Cert.ActivationsRefIdeal.main_arg0)
      ∧ r.2.mem ((c.tc : Thread Cert.ActivationsRefIdeal.nD Cert.ActivationsRefIdeal.τ).loc Cert.ActivationsRefIdeal.main_arg1) = m ((c.tc : Thread Cert.ActivationsRefIdeal.nD Cert.ActivationsRefIdeal.τ).loc Cert.ActivationsRefIdeal.main_arg1)
      ∧ r.2.mem ((c.tc : Thread Cert.ActivationsRefIdeal.nD Cert.ActivationsRefIdeal.τ).loc Cert.ActivationsRefIdeal.main_arg2) = m ((c.tc : Thread Cert.ActivationsRefIdeal.nD Cert.ActivationsRefIdeal.τ).loc Cert.ActivationsRefIdeal.main_arg2)
      ∧ r.2.mem ((c.tc : Thread Cert.ActivationsRefIdeal.nD Cert.ActivationsRefIdeal.τ).loc Cert.ActivationsRefIdeal.main_arg3) = m ((c.tc : Thread Cert.ActivationsRefIdeal.nD Cert.ActivationsRefIdeal.τ).loc Cert.ActivationsRefIdeal.main_arg3)
      ∧ r.2.mem ((c.tc : Thread Cert.ActivationsRefIdeal.nD Cert.ActivationsRefIdeal.τ).loc Cert.ActivationsRefIdeal.main_arg4) = m ((c.tc : Thread Cert.ActivationsRefIdeal.nD Cert.ActivationsRefIdeal.τ).loc Cert.ActivationsRefIdeal.main_arg4)
      ∧ r.2.mem ((c.tc : Thread Cert.ActivationsRefIdeal.nD Cert.ActivationsRefIdeal.τ).loc Cert.ActivationsRefIdeal.main_arg5) = m ((c.tc : Thread Cert.ActivationsRefIdeal.nD Cert.ActivationsRefIdeal.τ).loc Cert.ActivationsRefIdeal.main_arg5))
      ∧ r.2.sem = fun _ => 0)

def quiescent_ActivationsRefIdeal_pre_finite [hActivationsRefIdeal : Cert.ActivationsRefIdeal.Facts] [hPre_finite : Cert.Pre_finite.Facts] : Prop :=
  ∀ (m : (ℓ : Loc Cert.ActivationsRefIdeal.nD Cert.ActivationsRefIdeal.τ Cert.ActivationsRefIdeal.sig) → Buf (Elt Ideal) ℓ) (g : Dev Cert.ActivationsRefIdeal.nD → PrngReg), Pre_ActivationsRefIdeal_finite m →
    θ_run (Cert.ActivationsRefIdeal.defs (F := Ideal)) (onTc (τ := Cert.ActivationsRefIdeal.τ) (Cert.ActivationsRefIdeal.main (F := Ideal))) ⟨m, fun _ => 0, g⟩ (fun r => (∀ c : Dev Cert.ActivationsRefIdeal.nD,
      r.2.mem ((c.tc : Thread Cert.ActivationsRefIdeal.nD Cert.ActivationsRefIdeal.τ).loc Cert.ActivationsRefIdeal.main_arg0) = m ((c.tc : Thread Cert.ActivationsRefIdeal.nD Cert.ActivationsRefIdeal.τ).loc Cert.ActivationsRefIdeal.main_arg0)
      ∧ r.2.mem ((c.tc : Thread Cert.ActivationsRefIdeal.nD Cert.ActivationsRefIdeal.τ).loc Cert.ActivationsRefIdeal.main_arg1) = m ((c.tc : Thread Cert.ActivationsRefIdeal.nD Cert.ActivationsRefIdeal.τ).loc Cert.ActivationsRefIdeal.main_arg1)
      ∧ r.2.mem ((c.tc : Thread Cert.ActivationsRefIdeal.nD Cert.ActivationsRefIdeal.τ).loc Cert.ActivationsRefIdeal.main_arg2) = m ((c.tc : Thread Cert.ActivationsRefIdeal.nD Cert.ActivationsRefIdeal.τ).loc Cert.ActivationsRefIdeal.main_arg2)
      ∧ r.2.mem ((c.tc : Thread Cert.ActivationsRefIdeal.nD Cert.ActivationsRefIdeal.τ).loc Cert.ActivationsRefIdeal.main_arg3) = m ((c.tc : Thread Cert.ActivationsRefIdeal.nD Cert.ActivationsRefIdeal.τ).loc Cert.ActivationsRefIdeal.main_arg3)
      ∧ r.2.mem ((c.tc : Thread Cert.ActivationsRefIdeal.nD Cert.ActivationsRefIdeal.τ).loc Cert.ActivationsRefIdeal.main_arg4) = m ((c.tc : Thread Cert.ActivationsRefIdeal.nD Cert.ActivationsRefIdeal.τ).loc Cert.ActivationsRefIdeal.main_arg4)
      ∧ r.2.mem ((c.tc : Thread Cert.ActivationsRefIdeal.nD Cert.ActivationsRefIdeal.τ).loc Cert.ActivationsRefIdeal.main_arg5) = m ((c.tc : Thread Cert.ActivationsRefIdeal.nD Cert.ActivationsRefIdeal.τ).loc Cert.ActivationsRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolForward [hPoolForward : Cert.PoolForward.Facts] : Prop :=
  ∀ (m : (ℓ : Loc Cert.PoolForward.nD Cert.PoolForward.τ Cert.PoolForward.sig) → Buf (Elt Bits) ℓ) (g : Dev Cert.PoolForward.nD → PrngReg), Pre_PoolForward m →
    θ_run (Cert.PoolForward.defs (F := Bits)) (onTc (τ := Cert.PoolForward.τ) (Cert.PoolForward.main (F := Bits))) ⟨m, fun _ => 0, g⟩ (fun r => (∀ c : Dev Cert.PoolForward.nD,
      r.2.mem ((c.tc : Thread Cert.PoolForward.nD Cert.PoolForward.τ).loc Cert.PoolForward.main_arg0) = m ((c.tc : Thread Cert.PoolForward.nD Cert.PoolForward.τ).loc Cert.PoolForward.main_arg0)
      ∧ r.2.mem ((c.tc : Thread Cert.PoolForward.nD Cert.PoolForward.τ).loc Cert.PoolForward.main_arg1) = m ((c.tc : Thread Cert.PoolForward.nD Cert.PoolForward.τ).loc Cert.PoolForward.main_arg1)
      ∧ r.2.mem ((c.tc : Thread Cert.PoolForward.nD Cert.PoolForward.τ).loc Cert.PoolForward.main_arg2) = m ((c.tc : Thread Cert.PoolForward.nD Cert.PoolForward.τ).loc Cert.PoolForward.main_arg2)
      ∧ r.2.mem ((c.tc : Thread Cert.PoolForward.nD Cert.PoolForward.τ).loc Cert.PoolForward.main_arg3) = m ((c.tc : Thread Cert.PoolForward.nD Cert.PoolForward.τ).loc Cert.PoolForward.main_arg3))
      ∧ r.2.sem = fun _ => 0)

def quiescent_PoolForwardIdeal [hPoolForwardIdeal : Cert.PoolForwardIdeal.Facts] : Prop :=
  ∀ (m : (ℓ : Loc Cert.PoolForwardIdeal.nD Cert.PoolForwardIdeal.τ Cert.PoolForwardIdeal.sig) → Buf (Elt Ideal) ℓ) (g : Dev Cert.PoolForwardIdeal.nD → PrngReg), Pre_PoolForwardIdeal m →
    θ_run (Cert.PoolForwardIdeal.defs (F := Ideal)) (onTc (τ := Cert.PoolForwardIdeal.τ) (Cert.PoolForwardIdeal.main (F := Ideal))) ⟨m, fun _ => 0, g⟩ (fun r => (∀ c : Dev Cert.PoolForwardIdeal.nD,
      r.2.mem ((c.tc : Thread Cert.PoolForwardIdeal.nD Cert.PoolForwardIdeal.τ).loc Cert.PoolForwardIdeal.main_arg0) = m ((c.tc : Thread Cert.PoolForwardIdeal.nD Cert.PoolForwardIdeal.τ).loc Cert.PoolForwardIdeal.main_arg0)
      ∧ r.2.mem ((c.tc : Thread Cert.PoolForwardIdeal.nD Cert.PoolForwardIdeal.τ).loc Cert.PoolForwardIdeal.main_arg1) = m ((c.tc : Thread Cert.PoolForwardIdeal.nD Cert.PoolForwardIdeal.τ).loc Cert.PoolForwardIdeal.main_arg1)
      ∧ r.2.mem ((c.tc : Thread Cert.PoolForwardIdeal.nD Cert.PoolForwardIdeal.τ).loc Cert.PoolForwardIdeal.main_arg2) = m ((c.tc : Thread Cert.PoolForwardIdeal.nD Cert.PoolForwardIdeal.τ).loc Cert.PoolForwardIdeal.main_arg2)
      ∧ r.2.mem ((c.tc : Thread Cert.PoolForwardIdeal.nD Cert.PoolForwardIdeal.τ).loc Cert.PoolForwardIdeal.main_arg3) = m ((c.tc : Thread Cert.PoolForwardIdeal.nD Cert.PoolForwardIdeal.τ).loc Cert.PoolForwardIdeal.main_arg3))
      ∧ r.2.sem = fun _ => 0)

def quiescent_PoolForwardRefIdeal [hPoolForwardRefIdeal : Cert.PoolForwardRefIdeal.Facts] : Prop :=
  ∀ (m : (ℓ : Loc Cert.PoolForwardRefIdeal.nD Cert.PoolForwardRefIdeal.τ Cert.PoolForwardRefIdeal.sig) → Buf (Elt Ideal) ℓ) (g : Dev Cert.PoolForwardRefIdeal.nD → PrngReg), Pre_PoolForwardRefIdeal m →
    θ_run (Cert.PoolForwardRefIdeal.defs (F := Ideal)) (onTc (τ := Cert.PoolForwardRefIdeal.τ) (Cert.PoolForwardRefIdeal.main (F := Ideal))) ⟨m, fun _ => 0, g⟩ (fun r => (∀ c : Dev Cert.PoolForwardRefIdeal.nD,
      r.2.mem ((c.tc : Thread Cert.PoolForwardRefIdeal.nD Cert.PoolForwardRefIdeal.τ).loc Cert.PoolForwardRefIdeal.main_arg0) = m ((c.tc : Thread Cert.PoolForwardRefIdeal.nD Cert.PoolForwardRefIdeal.τ).loc Cert.PoolForwardRefIdeal.main_arg0)
      ∧ r.2.mem ((c.tc : Thread Cert.PoolForwardRefIdeal.nD Cert.PoolForwardRefIdeal.τ).loc Cert.PoolForwardRefIdeal.main_arg1) = m ((c.tc : Thread Cert.PoolForwardRefIdeal.nD Cert.PoolForwardRefIdeal.τ).loc Cert.PoolForwardRefIdeal.main_arg1)
      ∧ r.2.mem ((c.tc : Thread Cert.PoolForwardRefIdeal.nD Cert.PoolForwardRefIdeal.τ).loc Cert.PoolForwardRefIdeal.main_arg2) = m ((c.tc : Thread Cert.PoolForwardRefIdeal.nD Cert.PoolForwardRefIdeal.τ).loc Cert.PoolForwardRefIdeal.main_arg2)
      ∧ r.2.mem ((c.tc : Thread Cert.PoolForwardRefIdeal.nD Cert.PoolForwardRefIdeal.τ).loc Cert.PoolForwardRefIdeal.main_arg3) = m ((c.tc : Thread Cert.PoolForwardRefIdeal.nD Cert.PoolForwardRefIdeal.τ).loc Cert.PoolForwardRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_QueryRows [hQueryRows : Cert.QueryRows.Facts] : Prop :=
  ∀ (m : (ℓ : Loc Cert.QueryRows.nD Cert.QueryRows.τ Cert.QueryRows.sig) → Buf (Elt Bits) ℓ) (g : Dev Cert.QueryRows.nD → PrngReg), Pre_QueryRows m →
    θ_run (Cert.QueryRows.defs (F := Bits)) (onTc (τ := Cert.QueryRows.τ) (Cert.QueryRows.main (F := Bits))) ⟨m, fun _ => 0, g⟩ (fun r => (∀ c : Dev Cert.QueryRows.nD,
      r.2.mem ((c.tc : Thread Cert.QueryRows.nD Cert.QueryRows.τ).loc Cert.QueryRows.main_arg0) = m ((c.tc : Thread Cert.QueryRows.nD Cert.QueryRows.τ).loc Cert.QueryRows.main_arg0)
      ∧ r.2.mem ((c.tc : Thread Cert.QueryRows.nD Cert.QueryRows.τ).loc Cert.QueryRows.main_arg1) = m ((c.tc : Thread Cert.QueryRows.nD Cert.QueryRows.τ).loc Cert.QueryRows.main_arg1)
      ∧ r.2.mem ((c.tc : Thread Cert.QueryRows.nD Cert.QueryRows.τ).loc Cert.QueryRows.main_arg2) = m ((c.tc : Thread Cert.QueryRows.nD Cert.QueryRows.τ).loc Cert.QueryRows.main_arg2))
      ∧ r.2.sem = fun _ => 0)

def quiescent_QueryRowsIdeal [hQueryRowsIdeal : Cert.QueryRowsIdeal.Facts] : Prop :=
  ∀ (m : (ℓ : Loc Cert.QueryRowsIdeal.nD Cert.QueryRowsIdeal.τ Cert.QueryRowsIdeal.sig) → Buf (Elt Ideal) ℓ) (g : Dev Cert.QueryRowsIdeal.nD → PrngReg), Pre_QueryRowsIdeal m →
    θ_run (Cert.QueryRowsIdeal.defs (F := Ideal)) (onTc (τ := Cert.QueryRowsIdeal.τ) (Cert.QueryRowsIdeal.main (F := Ideal))) ⟨m, fun _ => 0, g⟩ (fun r => (∀ c : Dev Cert.QueryRowsIdeal.nD,
      r.2.mem ((c.tc : Thread Cert.QueryRowsIdeal.nD Cert.QueryRowsIdeal.τ).loc Cert.QueryRowsIdeal.main_arg0) = m ((c.tc : Thread Cert.QueryRowsIdeal.nD Cert.QueryRowsIdeal.τ).loc Cert.QueryRowsIdeal.main_arg0)
      ∧ r.2.mem ((c.tc : Thread Cert.QueryRowsIdeal.nD Cert.QueryRowsIdeal.τ).loc Cert.QueryRowsIdeal.main_arg1) = m ((c.tc : Thread Cert.QueryRowsIdeal.nD Cert.QueryRowsIdeal.τ).loc Cert.QueryRowsIdeal.main_arg1)
      ∧ r.2.mem ((c.tc : Thread Cert.QueryRowsIdeal.nD Cert.QueryRowsIdeal.τ).loc Cert.QueryRowsIdeal.main_arg2) = m ((c.tc : Thread Cert.QueryRowsIdeal.nD Cert.QueryRowsIdeal.τ).loc Cert.QueryRowsIdeal.main_arg2))
      ∧ r.2.sem = fun _ => 0)

def quiescent_QueryRowsRefIdeal [hQueryRowsRefIdeal : Cert.QueryRowsRefIdeal.Facts] : Prop :=
  ∀ (m : (ℓ : Loc Cert.QueryRowsRefIdeal.nD Cert.QueryRowsRefIdeal.τ Cert.QueryRowsRefIdeal.sig) → Buf (Elt Ideal) ℓ) (g : Dev Cert.QueryRowsRefIdeal.nD → PrngReg), Pre_QueryRowsRefIdeal m →
    θ_run (Cert.QueryRowsRefIdeal.defs (F := Ideal)) (onTc (τ := Cert.QueryRowsRefIdeal.τ) (Cert.QueryRowsRefIdeal.main (F := Ideal))) ⟨m, fun _ => 0, g⟩ (fun r => (∀ c : Dev Cert.QueryRowsRefIdeal.nD,
      r.2.mem ((c.tc : Thread Cert.QueryRowsRefIdeal.nD Cert.QueryRowsRefIdeal.τ).loc Cert.QueryRowsRefIdeal.main_arg0) = m ((c.tc : Thread Cert.QueryRowsRefIdeal.nD Cert.QueryRowsRefIdeal.τ).loc Cert.QueryRowsRefIdeal.main_arg0)
      ∧ r.2.mem ((c.tc : Thread Cert.QueryRowsRefIdeal.nD Cert.QueryRowsRefIdeal.τ).loc Cert.QueryRowsRefIdeal.main_arg1) = m ((c.tc : Thread Cert.QueryRowsRefIdeal.nD Cert.QueryRowsRefIdeal.τ).loc Cert.QueryRowsRefIdeal.main_arg1)
      ∧ r.2.mem ((c.tc : Thread Cert.QueryRowsRefIdeal.nD Cert.QueryRowsRefIdeal.τ).loc Cert.QueryRowsRefIdeal.main_arg2) = m ((c.tc : Thread Cert.QueryRowsRefIdeal.nD Cert.QueryRowsRefIdeal.τ).loc Cert.QueryRowsRefIdeal.main_arg2))
      ∧ r.2.sem = fun _ => 0)

def quiescent_QueryWeights [hQueryWeights : Cert.QueryWeights.Facts] : Prop :=
  ∀ (m : (ℓ : Loc Cert.QueryWeights.nD Cert.QueryWeights.τ Cert.QueryWeights.sig) → Buf (Elt Bits) ℓ) (g : Dev Cert.QueryWeights.nD → PrngReg), Pre_QueryWeights m →
    θ_run (Cert.QueryWeights.defs (F := Bits)) (onTc (τ := Cert.QueryWeights.τ) (Cert.QueryWeights.main (F := Bits))) ⟨m, fun _ => 0, g⟩ (fun r => (∀ c : Dev Cert.QueryWeights.nD,
      r.2.mem ((c.tc : Thread Cert.QueryWeights.nD Cert.QueryWeights.τ).loc Cert.QueryWeights.main_arg0) = m ((c.tc : Thread Cert.QueryWeights.nD Cert.QueryWeights.τ).loc Cert.QueryWeights.main_arg0)
      ∧ r.2.mem ((c.tc : Thread Cert.QueryWeights.nD Cert.QueryWeights.τ).loc Cert.QueryWeights.main_arg1) = m ((c.tc : Thread Cert.QueryWeights.nD Cert.QueryWeights.τ).loc Cert.QueryWeights.main_arg1)
      ∧ r.2.mem ((c.tc : Thread Cert.QueryWeights.nD Cert.QueryWeights.τ).loc Cert.QueryWeights.main_arg2) = m ((c.tc : Thread Cert.QueryWeights.nD Cert.QueryWeights.τ).loc Cert.QueryWeights.main_arg2))
      ∧ r.2.sem = fun _ => 0)

def quiescent_QueryWeightsIdeal [hQueryWeightsIdeal : Cert.QueryWeightsIdeal.Facts] : Prop :=
  ∀ (m : (ℓ : Loc Cert.QueryWeightsIdeal.nD Cert.QueryWeightsIdeal.τ Cert.QueryWeightsIdeal.sig) → Buf (Elt Ideal) ℓ) (g : Dev Cert.QueryWeightsIdeal.nD → PrngReg), Pre_QueryWeightsIdeal m →
    θ_run (Cert.QueryWeightsIdeal.defs (F := Ideal)) (onTc (τ := Cert.QueryWeightsIdeal.τ) (Cert.QueryWeightsIdeal.main (F := Ideal))) ⟨m, fun _ => 0, g⟩ (fun r => (∀ c : Dev Cert.QueryWeightsIdeal.nD,
      r.2.mem ((c.tc : Thread Cert.QueryWeightsIdeal.nD Cert.QueryWeightsIdeal.τ).loc Cert.QueryWeightsIdeal.main_arg0) = m ((c.tc : Thread Cert.QueryWeightsIdeal.nD Cert.QueryWeightsIdeal.τ).loc Cert.QueryWeightsIdeal.main_arg0)
      ∧ r.2.mem ((c.tc : Thread Cert.QueryWeightsIdeal.nD Cert.QueryWeightsIdeal.τ).loc Cert.QueryWeightsIdeal.main_arg1) = m ((c.tc : Thread Cert.QueryWeightsIdeal.nD Cert.QueryWeightsIdeal.τ).loc Cert.QueryWeightsIdeal.main_arg1)
      ∧ r.2.mem ((c.tc : Thread Cert.QueryWeightsIdeal.nD Cert.QueryWeightsIdeal.τ).loc Cert.QueryWeightsIdeal.main_arg2) = m ((c.tc : Thread Cert.QueryWeightsIdeal.nD Cert.QueryWeightsIdeal.τ).loc Cert.QueryWeightsIdeal.main_arg2))
      ∧ r.2.sem = fun _ => 0)

def quiescent_QueryWeightsRefIdeal [hQueryWeightsRefIdeal : Cert.QueryWeightsRefIdeal.Facts] : Prop :=
  ∀ (m : (ℓ : Loc Cert.QueryWeightsRefIdeal.nD Cert.QueryWeightsRefIdeal.τ Cert.QueryWeightsRefIdeal.sig) → Buf (Elt Ideal) ℓ) (g : Dev Cert.QueryWeightsRefIdeal.nD → PrngReg), Pre_QueryWeightsRefIdeal m →
    θ_run (Cert.QueryWeightsRefIdeal.defs (F := Ideal)) (onTc (τ := Cert.QueryWeightsRefIdeal.τ) (Cert.QueryWeightsRefIdeal.main (F := Ideal))) ⟨m, fun _ => 0, g⟩ (fun r => (∀ c : Dev Cert.QueryWeightsRefIdeal.nD,
      r.2.mem ((c.tc : Thread Cert.QueryWeightsRefIdeal.nD Cert.QueryWeightsRefIdeal.τ).loc Cert.QueryWeightsRefIdeal.main_arg0) = m ((c.tc : Thread Cert.QueryWeightsRefIdeal.nD Cert.QueryWeightsRefIdeal.τ).loc Cert.QueryWeightsRefIdeal.main_arg0)
      ∧ r.2.mem ((c.tc : Thread Cert.QueryWeightsRefIdeal.nD Cert.QueryWeightsRefIdeal.τ).loc Cert.QueryWeightsRefIdeal.main_arg1) = m ((c.tc : Thread Cert.QueryWeightsRefIdeal.nD Cert.QueryWeightsRefIdeal.τ).loc Cert.QueryWeightsRefIdeal.main_arg1)
      ∧ r.2.mem ((c.tc : Thread Cert.QueryWeightsRefIdeal.nD Cert.QueryWeightsRefIdeal.τ).loc Cert.QueryWeightsRefIdeal.main_arg2) = m ((c.tc : Thread Cert.QueryWeightsRefIdeal.nD Cert.QueryWeightsRefIdeal.τ).loc Cert.QueryWeightsRefIdeal.main_arg2))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2))
      ∧ r.2.sem = fun _ => 0)

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m' ((c.tc : Thread Cert.WeightsRefIdeal.nD Cert.WeightsRefIdeal.τ).loc Cert.WeightsRefIdeal.main_arg0) = m ((c.tc : Thread Cert.WeightsIdeal.nD Cert.WeightsIdeal.τ).loc Cert.WeightsIdeal.main_arg0)
      ∧ m' ((c.tc : Thread Cert.WeightsRefIdeal.nD Cert.WeightsRefIdeal.τ).loc Cert.WeightsRefIdeal.main_arg1) = m ((c.tc : Thread Cert.WeightsIdeal.nD Cert.WeightsIdeal.τ).loc Cert.WeightsIdeal.main_arg1)
      ∧ m' ((c.tc : Thread Cert.WeightsRefIdeal.nD Cert.WeightsRefIdeal.τ).loc Cert.WeightsRefIdeal.main_arg2) = m ((c.tc : Thread Cert.WeightsIdeal.nD Cert.WeightsIdeal.τ).loc Cert.WeightsIdeal.main_arg2)
      ∧ m' ((c.tc : Thread Cert.WeightsRefIdeal.nD Cert.WeightsRefIdeal.τ).loc Cert.WeightsRefIdeal.main_arg3) = m ((c.tc : Thread Cert.WeightsIdeal.nD Cert.WeightsIdeal.τ).loc Cert.WeightsIdeal.main_arg3)
      ∧ m' ((c.tc : Thread Cert.WeightsRefIdeal.nD Cert.WeightsRefIdeal.τ).loc Cert.WeightsRefIdeal.main_arg4) = m ((c.tc : Thread Cert.WeightsIdeal.nD Cert.WeightsIdeal.τ).loc Cert.WeightsIdeal.main_arg4)
      ∧ m' ((c.tc : Thread Cert.WeightsRefIdeal.nD Cert.WeightsRefIdeal.τ).loc Cert.WeightsRefIdeal.main_arg5) = m ((c.tc : Thread Cert.WeightsIdeal.nD Cert.WeightsIdeal.τ).loc Cert.WeightsIdeal.main_arg5)) →
    ∃ (v0 : (c : Dev Cert.WeightsIdeal.nD) → Buf (Elt Ideal) ((c.tc : Thread Cert.WeightsIdeal.nD Cert.WeightsIdeal.τ).loc Cert.WeightsIdeal.main_v34_0)) (v1 : (c : Dev Cert.WeightsIdeal.nD) → Buf (Elt Ideal) ((c.tc : Thread Cert.WeightsIdeal.nD Cert.WeightsIdeal.τ).loc Cert.WeightsIdeal.main_v34_1)) (v2 : (c : Dev Cert.WeightsIdeal.nD) → Buf (Elt Ideal) ((c.tc : Thread Cert.WeightsIdeal.nD Cert.WeightsIdeal.τ).loc Cert.WeightsIdeal.main_v34_2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v34_0) = v0 c
          ∧ r.2.mem ((c.tc : Thread Cert.WeightsIdeal.nD Cert.WeightsIdeal.τ).loc Cert.WeightsIdeal.main_v34_1) = v1 c
          ∧ r.2.mem ((c.tc : Thread Cert.WeightsIdeal.nD Cert.WeightsIdeal.τ).loc Cert.WeightsIdeal.main_v34_2) = v2 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ θ_run (Cert.WeightsRefIdeal.defs (F := Ideal)) (onTc (τ := Cert.WeightsRefIdeal.τ) (Cert.WeightsRefIdeal.main (F := Ideal))) ⟨m', fun _ => 0, g'⟩ (fun r => ∀ c : Dev Cert.WeightsRefIdeal.nD,
          r.2.mem ((c.tc : Thread Cert.WeightsRefIdeal.nD Cert.WeightsRefIdeal.τ).loc Cert.WeightsRefIdeal.main_v63) = v0 c
          ∧ r.2.mem ((c.tc : Thread Cert.WeightsRefIdeal.nD Cert.WeightsRefIdeal.τ).loc Cert.WeightsRefIdeal.main_v64) = v1 c
          ∧ r.2.mem ((c.tc : Thread Cert.WeightsRefIdeal.nD Cert.WeightsRefIdeal.τ).loc Cert.WeightsRefIdeal.main_v65) = v2 c
          ∧ r.2.mem ((c.tc : Thread Cert.WeightsRefIdeal.nD Cert.WeightsRefIdeal.τ).loc Cert.WeightsRefIdeal.main_arg0) = m' ((c.tc : Thread Cert.WeightsRefIdeal.nD Cert.WeightsRefIdeal.τ).loc Cert.WeightsRefIdeal.main_arg0)
          ∧ r.2.mem ((c.tc : Thread Cert.WeightsRefIdeal.nD Cert.WeightsRefIdeal.τ).loc Cert.WeightsRefIdeal.main_arg1) = m' ((c.tc : Thread Cert.WeightsRefIdeal.nD Cert.WeightsRefIdeal.τ).loc Cert.WeightsRefIdeal.main_arg1)
          ∧ r.2.mem ((c.tc : Thread Cert.WeightsRefIdeal.nD Cert.WeightsRefIdeal.τ).loc Cert.WeightsRefIdeal.main_arg2) = m' ((c.tc : Thread Cert.WeightsRefIdeal.nD Cert.WeightsRefIdeal.τ).loc Cert.WeightsRefIdeal.main_arg2)
          ∧ r.2.mem ((c.tc : Thread Cert.WeightsRefIdeal.nD Cert.WeightsRefIdeal.τ).loc Cert.WeightsRefIdeal.main_arg3) = m' ((c.tc : Thread Cert.WeightsRefIdeal.nD Cert.WeightsRefIdeal.τ).loc Cert.WeightsRefIdeal.main_arg3)
          ∧ r.2.mem ((c.tc : Thread Cert.WeightsRefIdeal.nD Cert.WeightsRefIdeal.τ).loc Cert.WeightsRefIdeal.main_arg4) = m' ((c.tc : Thread Cert.WeightsRefIdeal.nD Cert.WeightsRefIdeal.τ).loc Cert.WeightsRefIdeal.main_arg4)
          ∧ r.2.mem ((c.tc : Thread Cert.WeightsRefIdeal.nD Cert.WeightsRefIdeal.τ).loc Cert.WeightsRefIdeal.main_arg5) = m' ((c.tc : Thread Cert.WeightsRefIdeal.nD Cert.WeightsRefIdeal.τ).loc Cert.WeightsRefIdeal.main_arg5))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v9_0)) (v1 : (c : Dev Cert.ForwardIdeal.nD) → Buf (Elt Ideal) ((c.tc : Thread Cert.ForwardIdeal.nD Cert.ForwardIdeal.τ).loc Cert.ForwardIdeal.main_v9_1)) (v2 : (c : Dev Cert.ForwardIdeal.nD) → Buf (Elt Ideal) ((c.tc : Thread Cert.ForwardIdeal.nD Cert.ForwardIdeal.τ).loc Cert.ForwardIdeal.main_v9_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v9_0) = v0 c
          ∧ r.2.mem ((c.tc : Thread Cert.ForwardIdeal.nD Cert.ForwardIdeal.τ).loc Cert.ForwardIdeal.main_v9_1) = v1 c
          ∧ r.2.mem ((c.tc : Thread Cert.ForwardIdeal.nD Cert.ForwardIdeal.τ).loc Cert.ForwardIdeal.main_v9_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v41) = v0 c
          ∧ r.2.mem ((c.tc : Thread Cert.ForwardRefIdeal.nD Cert.ForwardRefIdeal.τ).loc Cert.ForwardRefIdeal.main_v16) = v1 c
          ∧ r.2.mem ((c.tc : Thread Cert.ForwardRefIdeal.nD Cert.ForwardRefIdeal.τ).loc Cert.ForwardRefIdeal.main_v20) = v2 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4))

def preserves_Activations_ActivationsIdeal : Prop :=
  True

def algebraic_ActivationsIdeal_ActivationsRefIdeal_pre_finite [hActivationsIdeal : Cert.ActivationsIdeal.Facts] [hActivationsRefIdeal : Cert.ActivationsRefIdeal.Facts] [hPre_finite : Cert.Pre_finite.Facts] : Prop :=
  ∀ (m : (ℓ : Loc Cert.ActivationsIdeal.nD Cert.ActivationsIdeal.τ Cert.ActivationsIdeal.sig) → Buf (Elt Ideal) ℓ) (g : Dev Cert.ActivationsIdeal.nD → PrngReg)
    (m' : (ℓ : Loc Cert.ActivationsRefIdeal.nD Cert.ActivationsRefIdeal.τ Cert.ActivationsRefIdeal.sig) → Buf (Elt Ideal) ℓ) (g' : Dev Cert.ActivationsRefIdeal.nD → PrngReg), Pre_ActivationsIdeal_finite m →
    (∀ c : Dev Cert.ActivationsIdeal.nD,
      m' ((c.tc : Thread Cert.ActivationsRefIdeal.nD Cert.ActivationsRefIdeal.τ).loc Cert.ActivationsRefIdeal.main_arg0) = m ((c.tc : Thread Cert.ActivationsIdeal.nD Cert.ActivationsIdeal.τ).loc Cert.ActivationsIdeal.main_arg0)
      ∧ m' ((c.tc : Thread Cert.ActivationsRefIdeal.nD Cert.ActivationsRefIdeal.τ).loc Cert.ActivationsRefIdeal.main_arg1) = m ((c.tc : Thread Cert.ActivationsIdeal.nD Cert.ActivationsIdeal.τ).loc Cert.ActivationsIdeal.main_arg1)
      ∧ m' ((c.tc : Thread Cert.ActivationsRefIdeal.nD Cert.ActivationsRefIdeal.τ).loc Cert.ActivationsRefIdeal.main_arg2) = m ((c.tc : Thread Cert.ActivationsIdeal.nD Cert.ActivationsIdeal.τ).loc Cert.ActivationsIdeal.main_arg2)
      ∧ m' ((c.tc : Thread Cert.ActivationsRefIdeal.nD Cert.ActivationsRefIdeal.τ).loc Cert.ActivationsRefIdeal.main_arg3) = m ((c.tc : Thread Cert.ActivationsIdeal.nD Cert.ActivationsIdeal.τ).loc Cert.ActivationsIdeal.main_arg3)
      ∧ m' ((c.tc : Thread Cert.ActivationsRefIdeal.nD Cert.ActivationsRefIdeal.τ).loc Cert.ActivationsRefIdeal.main_arg4) = m ((c.tc : Thread Cert.ActivationsIdeal.nD Cert.ActivationsIdeal.τ).loc Cert.ActivationsIdeal.main_arg4)
      ∧ m' ((c.tc : Thread Cert.ActivationsRefIdeal.nD Cert.ActivationsRefIdeal.τ).loc Cert.ActivationsRefIdeal.main_arg5) = m ((c.tc : Thread Cert.ActivationsIdeal.nD Cert.ActivationsIdeal.τ).loc Cert.ActivationsIdeal.main_arg5)) →
    ∃ (v0 : (c : Dev Cert.ActivationsIdeal.nD) → Buf (Elt Ideal) ((c.tc : Thread Cert.ActivationsIdeal.nD Cert.ActivationsIdeal.τ).loc Cert.ActivationsIdeal.main_v30_0)) (v1 : (c : Dev Cert.ActivationsIdeal.nD) → Buf (Elt Ideal) ((c.tc : Thread Cert.ActivationsIdeal.nD Cert.ActivationsIdeal.τ).loc Cert.ActivationsIdeal.main_v30_1)) (v2 : (c : Dev Cert.ActivationsIdeal.nD) → Buf (Elt Ideal) ((c.tc : Thread Cert.ActivationsIdeal.nD Cert.ActivationsIdeal.τ).loc Cert.ActivationsIdeal.main_v30_2)) (v3 : (c : Dev Cert.ActivationsIdeal.nD) → Buf (Elt Ideal) ((c.tc : Thread Cert.ActivationsIdeal.nD Cert.ActivationsIdeal.τ).loc Cert.ActivationsIdeal.main_v30_3)) (v4 : (c : Dev Cert.ActivationsIdeal.nD) → Buf (Elt Ideal) ((c.tc : Thread Cert.ActivationsIdeal.nD Cert.ActivationsIdeal.τ).loc Cert.ActivationsIdeal.main_v30_4)) (v5 : (c : Dev Cert.ActivationsIdeal.nD) → Buf (Elt Ideal) ((c.tc : Thread Cert.ActivationsIdeal.nD Cert.ActivationsIdeal.τ).loc Cert.ActivationsIdeal.main_v30_5)) (v6 : (c : Dev Cert.ActivationsIdeal.nD) → Buf (Elt Ideal) ((c.tc : Thread Cert.ActivationsIdeal.nD Cert.ActivationsIdeal.τ).loc Cert.ActivationsIdeal.main_v30_6)),
      θ_run (Cert.ActivationsIdeal.defs (F := Ideal)) (onTc (τ := Cert.ActivationsIdeal.τ) (Cert.ActivationsIdeal.main (F := Ideal))) ⟨m, fun _ => 0, g⟩ (fun r => ∀ c : Dev Cert.ActivationsIdeal.nD,
          r.2.mem ((c.tc : Thread Cert.ActivationsIdeal.nD Cert.ActivationsIdeal.τ).loc Cert.ActivationsIdeal.main_v30_0) = v0 c
          ∧ r.2.mem ((c.tc : Thread Cert.ActivationsIdeal.nD Cert.ActivationsIdeal.τ).loc Cert.ActivationsIdeal.main_v30_1) = v1 c
          ∧ r.2.mem ((c.tc : Thread Cert.ActivationsIdeal.nD Cert.ActivationsIdeal.τ).loc Cert.ActivationsIdeal.main_v30_2) = v2 c
          ∧ r.2.mem ((c.tc : Thread Cert.ActivationsIdeal.nD Cert.ActivationsIdeal.τ).loc Cert.ActivationsIdeal.main_v30_3) = v3 c
          ∧ r.2.mem ((c.tc : Thread Cert.ActivationsIdeal.nD Cert.ActivationsIdeal.τ).loc Cert.ActivationsIdeal.main_v30_4) = v4 c
          ∧ r.2.mem ((c.tc : Thread Cert.ActivationsIdeal.nD Cert.ActivationsIdeal.τ).loc Cert.ActivationsIdeal.main_v30_5) = v5 c
          ∧ r.2.mem ((c.tc : Thread Cert.ActivationsIdeal.nD Cert.ActivationsIdeal.τ).loc Cert.ActivationsIdeal.main_v30_6) = v6 c
          ∧ r.2.mem ((c.tc : Thread Cert.ActivationsIdeal.nD Cert.ActivationsIdeal.τ).loc Cert.ActivationsIdeal.main_arg0) = m ((c.tc : Thread Cert.ActivationsIdeal.nD Cert.ActivationsIdeal.τ).loc Cert.ActivationsIdeal.main_arg0)
          ∧ r.2.mem ((c.tc : Thread Cert.ActivationsIdeal.nD Cert.ActivationsIdeal.τ).loc Cert.ActivationsIdeal.main_arg1) = m ((c.tc : Thread Cert.ActivationsIdeal.nD Cert.ActivationsIdeal.τ).loc Cert.ActivationsIdeal.main_arg1)
          ∧ r.2.mem ((c.tc : Thread Cert.ActivationsIdeal.nD Cert.ActivationsIdeal.τ).loc Cert.ActivationsIdeal.main_arg2) = m ((c.tc : Thread Cert.ActivationsIdeal.nD Cert.ActivationsIdeal.τ).loc Cert.ActivationsIdeal.main_arg2)
          ∧ r.2.mem ((c.tc : Thread Cert.ActivationsIdeal.nD Cert.ActivationsIdeal.τ).loc Cert.ActivationsIdeal.main_arg3) = m ((c.tc : Thread Cert.ActivationsIdeal.nD Cert.ActivationsIdeal.τ).loc Cert.ActivationsIdeal.main_arg3)
          ∧ r.2.mem ((c.tc : Thread Cert.ActivationsIdeal.nD Cert.ActivationsIdeal.τ).loc Cert.ActivationsIdeal.main_arg4) = m ((c.tc : Thread Cert.ActivationsIdeal.nD Cert.ActivationsIdeal.τ).loc Cert.ActivationsIdeal.main_arg4)
          ∧ r.2.mem ((c.tc : Thread Cert.ActivationsIdeal.nD Cert.ActivationsIdeal.τ).loc Cert.ActivationsIdeal.main_arg5) = m ((c.tc : Thread Cert.ActivationsIdeal.nD Cert.ActivationsIdeal.τ).loc Cert.ActivationsIdeal.main_arg5))
      ∧ θ_run (Cert.ActivationsRefIdeal.defs (F := Ideal)) (onTc (τ := Cert.ActivationsRefIdeal.τ) (Cert.ActivationsRefIdeal.main (F := Ideal))) ⟨m', fun _ => 0, g'⟩ (fun r => ∀ c : Dev Cert.ActivationsRefIdeal.nD,
          r.2.mem ((c.tc : Thread Cert.ActivationsRefIdeal.nD Cert.ActivationsRefIdeal.τ).loc Cert.ActivationsRefIdeal.main_v60) = v0 c
          ∧ r.2.mem ((c.tc : Thread Cert.ActivationsRefIdeal.nD Cert.ActivationsRefIdeal.τ).loc Cert.ActivationsRefIdeal.main_v84) = v1 c
          ∧ r.2.mem ((c.tc : Thread Cert.ActivationsRefIdeal.nD Cert.ActivationsRefIdeal.τ).loc Cert.ActivationsRefIdeal.main_v85) = v2 c
          ∧ r.2.mem ((c.tc : Thread Cert.ActivationsRefIdeal.nD Cert.ActivationsRefIdeal.τ).loc Cert.ActivationsRefIdeal.main_v86) = v3 c
          ∧ r.2.mem ((c.tc : Thread Cert.ActivationsRefIdeal.nD Cert.ActivationsRefIdeal.τ).loc Cert.ActivationsRefIdeal.main_v89) = v4 c
          ∧ r.2.mem ((c.tc : Thread Cert.ActivationsRefIdeal.nD Cert.ActivationsRefIdeal.τ).loc Cert.ActivationsRefIdeal.main_v92) = v5 c
          ∧ r.2.mem ((c.tc : Thread Cert.ActivationsRefIdeal.nD Cert.ActivationsRefIdeal.τ).loc Cert.ActivationsRefIdeal.main_v95) = v6 c
          ∧ r.2.mem ((c.tc : Thread Cert.ActivationsRefIdeal.nD Cert.ActivationsRefIdeal.τ).loc Cert.ActivationsRefIdeal.main_arg0) = m' ((c.tc : Thread Cert.ActivationsRefIdeal.nD Cert.ActivationsRefIdeal.τ).loc Cert.ActivationsRefIdeal.main_arg0)
          ∧ r.2.mem ((c.tc : Thread Cert.ActivationsRefIdeal.nD Cert.ActivationsRefIdeal.τ).loc Cert.ActivationsRefIdeal.main_arg1) = m' ((c.tc : Thread Cert.ActivationsRefIdeal.nD Cert.ActivationsRefIdeal.τ).loc Cert.ActivationsRefIdeal.main_arg1)
          ∧ r.2.mem ((c.tc : Thread Cert.ActivationsRefIdeal.nD Cert.ActivationsRefIdeal.τ).loc Cert.ActivationsRefIdeal.main_arg2) = m' ((c.tc : Thread Cert.ActivationsRefIdeal.nD Cert.ActivationsRefIdeal.τ).loc Cert.ActivationsRefIdeal.main_arg2)
          ∧ r.2.mem ((c.tc : Thread Cert.ActivationsRefIdeal.nD Cert.ActivationsRefIdeal.τ).loc Cert.ActivationsRefIdeal.main_arg3) = m' ((c.tc : Thread Cert.ActivationsRefIdeal.nD Cert.ActivationsRefIdeal.τ).loc Cert.ActivationsRefIdeal.main_arg3)
          ∧ r.2.mem ((c.tc : Thread Cert.ActivationsRefIdeal.nD Cert.ActivationsRefIdeal.τ).loc Cert.ActivationsRefIdeal.main_arg4) = m' ((c.tc : Thread Cert.ActivationsRefIdeal.nD Cert.ActivationsRefIdeal.τ).loc Cert.ActivationsRefIdeal.main_arg4)
          ∧ r.2.mem ((c.tc : Thread Cert.ActivationsRefIdeal.nD Cert.ActivationsRefIdeal.τ).loc Cert.ActivationsRefIdeal.main_arg5) = m' ((c.tc : Thread Cert.ActivationsRefIdeal.nD Cert.ActivationsRefIdeal.τ).loc Cert.ActivationsRefIdeal.main_arg5))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v6)) (v1 : (c : Dev Cert.PoolIdeal.nD) → Buf (Elt Ideal) ((c.tc : Thread Cert.PoolIdeal.nD Cert.PoolIdeal.τ).loc Cert.PoolIdeal.main_v5_1)) (v2 : (c : Dev Cert.PoolIdeal.nD) → Buf (Elt Ideal) ((c.tc : Thread Cert.PoolIdeal.nD Cert.PoolIdeal.τ).loc Cert.PoolIdeal.main_v5_2)) (v3 : (c : Dev Cert.PoolIdeal.nD) → Buf (Elt Ideal) ((c.tc : Thread Cert.PoolIdeal.nD Cert.PoolIdeal.τ).loc Cert.PoolIdeal.main_v5_3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_v5_1) = v1 c
          ∧ r.2.mem ((c.tc : Thread Cert.PoolIdeal.nD Cert.PoolIdeal.τ).loc Cert.PoolIdeal.main_v5_2) = v2 c
          ∧ r.2.mem ((c.tc : Thread Cert.PoolIdeal.nD Cert.PoolIdeal.τ).loc Cert.PoolIdeal.main_v5_3) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v168) = v0 c
          ∧ r.2.mem ((c.tc : Thread Cert.PoolRefIdeal.nD Cert.PoolRefIdeal.τ).loc Cert.PoolRefIdeal.main_v169) = v1 c
          ∧ r.2.mem ((c.tc : Thread Cert.PoolRefIdeal.nD Cert.PoolRefIdeal.τ).loc Cert.PoolRefIdeal.main_v104) = v2 c
          ∧ r.2.mem ((c.tc : Thread Cert.PoolRefIdeal.nD Cert.PoolRefIdeal.τ).loc Cert.PoolRefIdeal.main_v170) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_PoolForward_PoolForwardIdeal : Prop :=
  True

def algebraic_PoolForwardIdeal_PoolForwardRefIdeal [hPoolForwardIdeal : Cert.PoolForwardIdeal.Facts] [hPoolForwardRefIdeal : Cert.PoolForwardRefIdeal.Facts] : Prop :=
  ∀ (m : (ℓ : Loc Cert.PoolForwardIdeal.nD Cert.PoolForwardIdeal.τ Cert.PoolForwardIdeal.sig) → Buf (Elt Ideal) ℓ) (g : Dev Cert.PoolForwardIdeal.nD → PrngReg)
    (m' : (ℓ : Loc Cert.PoolForwardRefIdeal.nD Cert.PoolForwardRefIdeal.τ Cert.PoolForwardRefIdeal.sig) → Buf (Elt Ideal) ℓ) (g' : Dev Cert.PoolForwardRefIdeal.nD → PrngReg), Pre_PoolForwardIdeal m →
    (∀ c : Dev Cert.PoolForwardIdeal.nD,
      m' ((c.tc : Thread Cert.PoolForwardRefIdeal.nD Cert.PoolForwardRefIdeal.τ).loc Cert.PoolForwardRefIdeal.main_arg0) = m ((c.tc : Thread Cert.PoolForwardIdeal.nD Cert.PoolForwardIdeal.τ).loc Cert.PoolForwardIdeal.main_arg0)
      ∧ m' ((c.tc : Thread Cert.PoolForwardRefIdeal.nD Cert.PoolForwardRefIdeal.τ).loc Cert.PoolForwardRefIdeal.main_arg1) = m ((c.tc : Thread Cert.PoolForwardIdeal.nD Cert.PoolForwardIdeal.τ).loc Cert.PoolForwardIdeal.main_arg1)
      ∧ m' ((c.tc : Thread Cert.PoolForwardRefIdeal.nD Cert.PoolForwardRefIdeal.τ).loc Cert.PoolForwardRefIdeal.main_arg2) = m ((c.tc : Thread Cert.PoolForwardIdeal.nD Cert.PoolForwardIdeal.τ).loc Cert.PoolForwardIdeal.main_arg2)
      ∧ m' ((c.tc : Thread Cert.PoolForwardRefIdeal.nD Cert.PoolForwardRefIdeal.τ).loc Cert.PoolForwardRefIdeal.main_arg3) = m ((c.tc : Thread Cert.PoolForwardIdeal.nD Cert.PoolForwardIdeal.τ).loc Cert.PoolForwardIdeal.main_arg3)) →
    ∃ (v0 : (c : Dev Cert.PoolForwardIdeal.nD) → Buf (Elt Ideal) ((c.tc : Thread Cert.PoolForwardIdeal.nD Cert.PoolForwardIdeal.τ).loc Cert.PoolForwardIdeal.main_v5)),
      θ_run (Cert.PoolForwardIdeal.defs (F := Ideal)) (onTc (τ := Cert.PoolForwardIdeal.τ) (Cert.PoolForwardIdeal.main (F := Ideal))) ⟨m, fun _ => 0, g⟩ (fun r => ∀ c : Dev Cert.PoolForwardIdeal.nD,
          r.2.mem ((c.tc : Thread Cert.PoolForwardIdeal.nD Cert.PoolForwardIdeal.τ).loc Cert.PoolForwardIdeal.main_v5) = v0 c
          ∧ r.2.mem ((c.tc : Thread Cert.PoolForwardIdeal.nD Cert.PoolForwardIdeal.τ).loc Cert.PoolForwardIdeal.main_arg0) = m ((c.tc : Thread Cert.PoolForwardIdeal.nD Cert.PoolForwardIdeal.τ).loc Cert.PoolForwardIdeal.main_arg0)
          ∧ r.2.mem ((c.tc : Thread Cert.PoolForwardIdeal.nD Cert.PoolForwardIdeal.τ).loc Cert.PoolForwardIdeal.main_arg1) = m ((c.tc : Thread Cert.PoolForwardIdeal.nD Cert.PoolForwardIdeal.τ).loc Cert.PoolForwardIdeal.main_arg1)
          ∧ r.2.mem ((c.tc : Thread Cert.PoolForwardIdeal.nD Cert.PoolForwardIdeal.τ).loc Cert.PoolForwardIdeal.main_arg2) = m ((c.tc : Thread Cert.PoolForwardIdeal.nD Cert.PoolForwardIdeal.τ).loc Cert.PoolForwardIdeal.main_arg2)
          ∧ r.2.mem ((c.tc : Thread Cert.PoolForwardIdeal.nD Cert.PoolForwardIdeal.τ).loc Cert.PoolForwardIdeal.main_arg3) = m ((c.tc : Thread Cert.PoolForwardIdeal.nD Cert.PoolForwardIdeal.τ).loc Cert.PoolForwardIdeal.main_arg3))
      ∧ θ_run (Cert.PoolForwardRefIdeal.defs (F := Ideal)) (onTc (τ := Cert.PoolForwardRefIdeal.τ) (Cert.PoolForwardRefIdeal.main (F := Ideal))) ⟨m', fun _ => 0, g'⟩ (fun r => ∀ c : Dev Cert.PoolForwardRefIdeal.nD,
          r.2.mem ((c.tc : Thread Cert.PoolForwardRefIdeal.nD Cert.PoolForwardRefIdeal.τ).loc Cert.PoolForwardRefIdeal.main_v88) = v0 c
          ∧ r.2.mem ((c.tc : Thread Cert.PoolForwardRefIdeal.nD Cert.PoolForwardRefIdeal.τ).loc Cert.PoolForwardRefIdeal.main_arg0) = m' ((c.tc : Thread Cert.PoolForwardRefIdeal.nD Cert.PoolForwardRefIdeal.τ).loc Cert.PoolForwardRefIdeal.main_arg0)
          ∧ r.2.mem ((c.tc : Thread Cert.PoolForwardRefIdeal.nD Cert.PoolForwardRefIdeal.τ).loc Cert.PoolForwardRefIdeal.main_arg1) = m' ((c.tc : Thread Cert.PoolForwardRefIdeal.nD Cert.PoolForwardRefIdeal.τ).loc Cert.PoolForwardRefIdeal.main_arg1)
          ∧ r.2.mem ((c.tc : Thread Cert.PoolForwardRefIdeal.nD Cert.PoolForwardRefIdeal.τ).loc Cert.PoolForwardRefIdeal.main_arg2) = m' ((c.tc : Thread Cert.PoolForwardRefIdeal.nD Cert.PoolForwardRefIdeal.τ).loc Cert.PoolForwardRefIdeal.main_arg2)
          ∧ r.2.mem ((c.tc : Thread Cert.PoolForwardRefIdeal.nD Cert.PoolForwardRefIdeal.τ).loc Cert.PoolForwardRefIdeal.main_arg3) = m' ((c.tc : Thread Cert.PoolForwardRefIdeal.nD Cert.PoolForwardRefIdeal.τ).loc Cert.PoolForwardRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v4)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v0) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_QueryRows_QueryRowsIdeal : Prop :=
  True

def algebraic_QueryRowsIdeal_QueryRowsRefIdeal [hQueryRowsIdeal : Cert.QueryRowsIdeal.Facts] [hQueryRowsRefIdeal : Cert.QueryRowsRefIdeal.Facts] : Prop :=
  ∀ (m : (ℓ : Loc Cert.QueryRowsIdeal.nD Cert.QueryRowsIdeal.τ Cert.QueryRowsIdeal.sig) → Buf (Elt Ideal) ℓ) (g : Dev Cert.QueryRowsIdeal.nD → PrngReg)
    (m' : (ℓ : Loc Cert.QueryRowsRefIdeal.nD Cert.QueryRowsRefIdeal.τ Cert.QueryRowsRefIdeal.sig) → Buf (Elt Ideal) ℓ) (g' : Dev Cert.QueryRowsRefIdeal.nD → PrngReg), Pre_QueryRowsIdeal m →
    (∀ c : Dev Cert.QueryRowsIdeal.nD,
      m' ((c.tc : Thread Cert.QueryRowsRefIdeal.nD Cert.QueryRowsRefIdeal.τ).loc Cert.QueryRowsRefIdeal.main_arg0) = m ((c.tc : Thread Cert.QueryRowsIdeal.nD Cert.QueryRowsIdeal.τ).loc Cert.QueryRowsIdeal.main_arg0)
      ∧ m' ((c.tc : Thread Cert.QueryRowsRefIdeal.nD Cert.QueryRowsRefIdeal.τ).loc Cert.QueryRowsRefIdeal.main_arg1) = m ((c.tc : Thread Cert.QueryRowsIdeal.nD Cert.QueryRowsIdeal.τ).loc Cert.QueryRowsIdeal.main_arg1)
      ∧ m' ((c.tc : Thread Cert.QueryRowsRefIdeal.nD Cert.QueryRowsRefIdeal.τ).loc Cert.QueryRowsRefIdeal.main_arg2) = m ((c.tc : Thread Cert.QueryRowsIdeal.nD Cert.QueryRowsIdeal.τ).loc Cert.QueryRowsIdeal.main_arg2)) →
    ∃ (v0 : (c : Dev Cert.QueryRowsIdeal.nD) → Buf (Elt Ideal) ((c.tc : Thread Cert.QueryRowsIdeal.nD Cert.QueryRowsIdeal.τ).loc Cert.QueryRowsIdeal.main_v4)),
      θ_run (Cert.QueryRowsIdeal.defs (F := Ideal)) (onTc (τ := Cert.QueryRowsIdeal.τ) (Cert.QueryRowsIdeal.main (F := Ideal))) ⟨m, fun _ => 0, g⟩ (fun r => ∀ c : Dev Cert.QueryRowsIdeal.nD,
          r.2.mem ((c.tc : Thread Cert.QueryRowsIdeal.nD Cert.QueryRowsIdeal.τ).loc Cert.QueryRowsIdeal.main_v4) = v0 c
          ∧ r.2.mem ((c.tc : Thread Cert.QueryRowsIdeal.nD Cert.QueryRowsIdeal.τ).loc Cert.QueryRowsIdeal.main_arg0) = m ((c.tc : Thread Cert.QueryRowsIdeal.nD Cert.QueryRowsIdeal.τ).loc Cert.QueryRowsIdeal.main_arg0)
          ∧ r.2.mem ((c.tc : Thread Cert.QueryRowsIdeal.nD Cert.QueryRowsIdeal.τ).loc Cert.QueryRowsIdeal.main_arg1) = m ((c.tc : Thread Cert.QueryRowsIdeal.nD Cert.QueryRowsIdeal.τ).loc Cert.QueryRowsIdeal.main_arg1)
          ∧ r.2.mem ((c.tc : Thread Cert.QueryRowsIdeal.nD Cert.QueryRowsIdeal.τ).loc Cert.QueryRowsIdeal.main_arg2) = m ((c.tc : Thread Cert.QueryRowsIdeal.nD Cert.QueryRowsIdeal.τ).loc Cert.QueryRowsIdeal.main_arg2))
      ∧ θ_run (Cert.QueryRowsRefIdeal.defs (F := Ideal)) (onTc (τ := Cert.QueryRowsRefIdeal.τ) (Cert.QueryRowsRefIdeal.main (F := Ideal))) ⟨m', fun _ => 0, g'⟩ (fun r => ∀ c : Dev Cert.QueryRowsRefIdeal.nD,
          r.2.mem ((c.tc : Thread Cert.QueryRowsRefIdeal.nD Cert.QueryRowsRefIdeal.τ).loc Cert.QueryRowsRefIdeal.main_v3) = v0 c
          ∧ r.2.mem ((c.tc : Thread Cert.QueryRowsRefIdeal.nD Cert.QueryRowsRefIdeal.τ).loc Cert.QueryRowsRefIdeal.main_arg0) = m' ((c.tc : Thread Cert.QueryRowsRefIdeal.nD Cert.QueryRowsRefIdeal.τ).loc Cert.QueryRowsRefIdeal.main_arg0)
          ∧ r.2.mem ((c.tc : Thread Cert.QueryRowsRefIdeal.nD Cert.QueryRowsRefIdeal.τ).loc Cert.QueryRowsRefIdeal.main_arg1) = m' ((c.tc : Thread Cert.QueryRowsRefIdeal.nD Cert.QueryRowsRefIdeal.τ).loc Cert.QueryRowsRefIdeal.main_arg1)
          ∧ r.2.mem ((c.tc : Thread Cert.QueryRowsRefIdeal.nD Cert.QueryRowsRefIdeal.τ).loc Cert.QueryRowsRefIdeal.main_arg2) = m' ((c.tc : Thread Cert.QueryRowsRefIdeal.nD Cert.QueryRowsRefIdeal.τ).loc Cert.QueryRowsRefIdeal.main_arg2))

def preserves_QueryWeights_QueryWeightsIdeal : Prop :=
  True

def algebraic_QueryWeightsIdeal_QueryWeightsRefIdeal [hQueryWeightsIdeal : Cert.QueryWeightsIdeal.Facts] [hQueryWeightsRefIdeal : Cert.QueryWeightsRefIdeal.Facts] : Prop :=
  ∀ (m : (ℓ : Loc Cert.QueryWeightsIdeal.nD Cert.QueryWeightsIdeal.τ Cert.QueryWeightsIdeal.sig) → Buf (Elt Ideal) ℓ) (g : Dev Cert.QueryWeightsIdeal.nD → PrngReg)
    (m' : (ℓ : Loc Cert.QueryWeightsRefIdeal.nD Cert.QueryWeightsRefIdeal.τ Cert.QueryWeightsRefIdeal.sig) → Buf (Elt Ideal) ℓ) (g' : Dev Cert.QueryWeightsRefIdeal.nD → PrngReg), Pre_QueryWeightsIdeal m →
    (∀ c : Dev Cert.QueryWeightsIdeal.nD,
      m' ((c.tc : Thread Cert.QueryWeightsRefIdeal.nD Cert.QueryWeightsRefIdeal.τ).loc Cert.QueryWeightsRefIdeal.main_arg0) = m ((c.tc : Thread Cert.QueryWeightsIdeal.nD Cert.QueryWeightsIdeal.τ).loc Cert.QueryWeightsIdeal.main_arg0)
      ∧ m' ((c.tc : Thread Cert.QueryWeightsRefIdeal.nD Cert.QueryWeightsRefIdeal.τ).loc Cert.QueryWeightsRefIdeal.main_arg1) = m ((c.tc : Thread Cert.QueryWeightsIdeal.nD Cert.QueryWeightsIdeal.τ).loc Cert.QueryWeightsIdeal.main_arg1)
      ∧ m' ((c.tc : Thread Cert.QueryWeightsRefIdeal.nD Cert.QueryWeightsRefIdeal.τ).loc Cert.QueryWeightsRefIdeal.main_arg2) = m ((c.tc : Thread Cert.QueryWeightsIdeal.nD Cert.QueryWeightsIdeal.τ).loc Cert.QueryWeightsIdeal.main_arg2)) →
    ∃ (v0 : (c : Dev Cert.QueryWeightsIdeal.nD) → Buf (Elt Ideal) ((c.tc : Thread Cert.QueryWeightsIdeal.nD Cert.QueryWeightsIdeal.τ).loc Cert.QueryWeightsIdeal.main_v4)),
      θ_run (Cert.QueryWeightsIdeal.defs (F := Ideal)) (onTc (τ := Cert.QueryWeightsIdeal.τ) (Cert.QueryWeightsIdeal.main (F := Ideal))) ⟨m, fun _ => 0, g⟩ (fun r => ∀ c : Dev Cert.QueryWeightsIdeal.nD,
          r.2.mem ((c.tc : Thread Cert.QueryWeightsIdeal.nD Cert.QueryWeightsIdeal.τ).loc Cert.QueryWeightsIdeal.main_v4) = v0 c
          ∧ r.2.mem ((c.tc : Thread Cert.QueryWeightsIdeal.nD Cert.QueryWeightsIdeal.τ).loc Cert.QueryWeightsIdeal.main_arg0) = m ((c.tc : Thread Cert.QueryWeightsIdeal.nD Cert.QueryWeightsIdeal.τ).loc Cert.QueryWeightsIdeal.main_arg0)
          ∧ r.2.mem ((c.tc : Thread Cert.QueryWeightsIdeal.nD Cert.QueryWeightsIdeal.τ).loc Cert.QueryWeightsIdeal.main_arg1) = m ((c.tc : Thread Cert.QueryWeightsIdeal.nD Cert.QueryWeightsIdeal.τ).loc Cert.QueryWeightsIdeal.main_arg1)
          ∧ r.2.mem ((c.tc : Thread Cert.QueryWeightsIdeal.nD Cert.QueryWeightsIdeal.τ).loc Cert.QueryWeightsIdeal.main_arg2) = m ((c.tc : Thread Cert.QueryWeightsIdeal.nD Cert.QueryWeightsIdeal.τ).loc Cert.QueryWeightsIdeal.main_arg2))
      ∧ θ_run (Cert.QueryWeightsRefIdeal.defs (F := Ideal)) (onTc (τ := Cert.QueryWeightsRefIdeal.τ) (Cert.QueryWeightsRefIdeal.main (F := Ideal))) ⟨m', fun _ => 0, g'⟩ (fun r => ∀ c : Dev Cert.QueryWeightsRefIdeal.nD,
          r.2.mem ((c.tc : Thread Cert.QueryWeightsRefIdeal.nD Cert.QueryWeightsRefIdeal.τ).loc Cert.QueryWeightsRefIdeal.main_v4) = v0 c
          ∧ r.2.mem ((c.tc : Thread Cert.QueryWeightsRefIdeal.nD Cert.QueryWeightsRefIdeal.τ).loc Cert.QueryWeightsRefIdeal.main_arg0) = m' ((c.tc : Thread Cert.QueryWeightsRefIdeal.nD Cert.QueryWeightsRefIdeal.τ).loc Cert.QueryWeightsRefIdeal.main_arg0)
          ∧ r.2.mem ((c.tc : Thread Cert.QueryWeightsRefIdeal.nD Cert.QueryWeightsRefIdeal.τ).loc Cert.QueryWeightsRefIdeal.main_arg1) = m' ((c.tc : Thread Cert.QueryWeightsRefIdeal.nD Cert.QueryWeightsRefIdeal.τ).loc Cert.QueryWeightsRefIdeal.main_arg1)
          ∧ r.2.mem ((c.tc : Thread Cert.QueryWeightsRefIdeal.nD Cert.QueryWeightsRefIdeal.τ).loc Cert.QueryWeightsRefIdeal.main_arg2) = m' ((c.tc : Thread Cert.QueryWeightsRefIdeal.nD Cert.QueryWeightsRefIdeal.τ).loc Cert.QueryWeightsRefIdeal.main_arg2))

def preserves_Output_OutputIdeal : Prop :=
  True

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)) →
    ∃ (v0 : (c : Dev Cert.OutputIdeal.nD) → Buf (Elt Ideal) ((c.tc : Thread Cert.OutputIdeal.nD Cert.OutputIdeal.τ).loc Cert.OutputIdeal.main_v5)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v5) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v1) = v0 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2))

def Claim : Prop :=
  ∃ (hWeights : Cert.Weights.Facts) (hWeightsIdeal : Cert.WeightsIdeal.Facts) (hWeightsRefIdeal : Cert.WeightsRefIdeal.Facts) (hForward : Cert.Forward.Facts) (hForwardIdeal : Cert.ForwardIdeal.Facts) (hForwardRefIdeal : Cert.ForwardRefIdeal.Facts) (hActivations : Cert.Activations.Facts) (hActivationsIdeal : Cert.ActivationsIdeal.Facts) (hActivationsRefIdeal : Cert.ActivationsRefIdeal.Facts) (hPool : Cert.Pool.Facts) (hPoolIdeal : Cert.PoolIdeal.Facts) (hPoolRefIdeal : Cert.PoolRefIdeal.Facts) (hPoolForward : Cert.PoolForward.Facts) (hPoolForwardIdeal : Cert.PoolForwardIdeal.Facts) (hPoolForwardRefIdeal : Cert.PoolForwardRefIdeal.Facts) (hQuery : Cert.Query.Facts) (hQueryIdeal : Cert.QueryIdeal.Facts) (hQueryRefIdeal : Cert.QueryRefIdeal.Facts) (hQueryRows : Cert.QueryRows.Facts) (hQueryRowsIdeal : Cert.QueryRowsIdeal.Facts) (hQueryRowsRefIdeal : Cert.QueryRowsRefIdeal.Facts) (hQueryWeights : Cert.QueryWeights.Facts) (hQueryWeightsIdeal : Cert.QueryWeightsIdeal.Facts) (hQueryWeightsRefIdeal : Cert.QueryWeightsRefIdeal.Facts) (hOutput : Cert.Output.Facts) (hOutputIdeal : Cert.OutputIdeal.Facts) (hOutputRefIdeal : Cert.OutputRefIdeal.Facts) (hPre_finite : Cert.Pre_finite.Facts) (hPre_pool_finite : Cert.Pre_pool_finite.Facts),
    quiescent_Weights (hWeights := hWeights)
    ∧ quiescent_WeightsIdeal (hWeightsIdeal := hWeightsIdeal)
    ∧ quiescent_WeightsRefIdeal (hWeightsRefIdeal := hWeightsRefIdeal)
    ∧ quiescent_Forward (hForward := hForward)
    ∧ quiescent_ForwardIdeal (hForwardIdeal := hForwardIdeal)
    ∧ quiescent_ForwardRefIdeal (hForwardRefIdeal := hForwardRefIdeal)
    ∧ quiescent_Activations (hActivations := hActivations)
    ∧ quiescent_ActivationsIdeal (hActivationsIdeal := hActivationsIdeal)
    ∧ quiescent_ActivationsIdeal_pre_finite (hActivationsIdeal := hActivationsIdeal) (hPre_finite := hPre_finite)
    ∧ quiescent_ActivationsRefIdeal (hActivationsRefIdeal := hActivationsRefIdeal)
    ∧ quiescent_ActivationsRefIdeal_pre_finite (hActivationsRefIdeal := hActivationsRefIdeal) (hPre_finite := hPre_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_PoolForward (hPoolForward := hPoolForward)
    ∧ quiescent_PoolForwardIdeal (hPoolForwardIdeal := hPoolForwardIdeal)
    ∧ quiescent_PoolForwardRefIdeal (hPoolForwardRefIdeal := hPoolForwardRefIdeal)
    ∧ quiescent_Query (hQuery := hQuery)
    ∧ quiescent_QueryIdeal (hQueryIdeal := hQueryIdeal)
    ∧ quiescent_QueryRefIdeal (hQueryRefIdeal := hQueryRefIdeal)
    ∧ quiescent_QueryRows (hQueryRows := hQueryRows)
    ∧ quiescent_QueryRowsIdeal (hQueryRowsIdeal := hQueryRowsIdeal)
    ∧ quiescent_QueryRowsRefIdeal (hQueryRowsRefIdeal := hQueryRowsRefIdeal)
    ∧ quiescent_QueryWeights (hQueryWeights := hQueryWeights)
    ∧ quiescent_QueryWeightsIdeal (hQueryWeightsIdeal := hQueryWeightsIdeal)
    ∧ quiescent_QueryWeightsRefIdeal (hQueryWeightsRefIdeal := hQueryWeightsRefIdeal)
    ∧ quiescent_Output (hOutput := hOutput)
    ∧ quiescent_OutputIdeal (hOutputIdeal := hOutputIdeal)
    ∧ quiescent_OutputRefIdeal (hOutputRefIdeal := hOutputRefIdeal)
    ∧ preserves_Weights_WeightsIdeal
    ∧ algebraic_WeightsIdeal_WeightsRefIdeal (hWeightsIdeal := hWeightsIdeal) (hWeightsRefIdeal := hWeightsRefIdeal)
    ∧ preserves_Forward_ForwardIdeal
    ∧ algebraic_ForwardIdeal_ForwardRefIdeal (hForwardIdeal := hForwardIdeal) (hForwardRefIdeal := hForwardRefIdeal)
    ∧ preserves_Activations_ActivationsIdeal
    ∧ algebraic_ActivationsIdeal_ActivationsRefIdeal_pre_finite (hActivationsIdeal := hActivationsIdeal) (hActivationsRefIdeal := hActivationsRefIdeal) (hPre_finite := hPre_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_PoolForward_PoolForwardIdeal
    ∧ algebraic_PoolForwardIdeal_PoolForwardRefIdeal (hPoolForwardIdeal := hPoolForwardIdeal) (hPoolForwardRefIdeal := hPoolForwardRefIdeal)
    ∧ preserves_Query_QueryIdeal
    ∧ algebraic_QueryIdeal_QueryRefIdeal (hQueryIdeal := hQueryIdeal) (hQueryRefIdeal := hQueryRefIdeal)
    ∧ preserves_QueryRows_QueryRowsIdeal
    ∧ algebraic_QueryRowsIdeal_QueryRowsRefIdeal (hQueryRowsIdeal := hQueryRowsIdeal) (hQueryRowsRefIdeal := hQueryRowsRefIdeal)
    ∧ preserves_QueryWeights_QueryWeightsIdeal
    ∧ algebraic_QueryWeightsIdeal_QueryWeightsRefIdeal (hQueryWeightsIdeal := hQueryWeightsIdeal) (hQueryWeightsRefIdeal := hQueryWeightsRefIdeal)
    ∧ preserves_Output_OutputIdeal
    ∧ algebraic_OutputIdeal_OutputRefIdeal (hOutputIdeal := hOutputIdeal) (hOutputRefIdeal := hOutputRefIdeal)
-- ==== Pre_finite.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8320x1024 .f32) (main_arg1 : FVec F S1024 .f32) (main_arg2 : FVec F S1024x2816 .f32) (main_arg3 : FVec F S1024x2816 .f32) (main_arg4 : FVec F S2816x1024 .f32) (main_arg5 : FVec F S8320x1024 .f32) : IVec S8320x1024 1 × IVec S1024 1 × IVec S1024x2816 1 × IVec S1024x2816 1 × IVec S2816x1024 1 × IVec S8320x1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8320x1024 .f32 := Host.absf main_arg5
  let main_cst_4 : FVec F S_ .f32 := constant S_ .f32 0x7F800000#32
  let main_v16 : FVec F S8320x1024 .f32 := broadcastInDim S8320x1024 ![] bcast_S_S8320x1024 main_cst_4
  let main_v17 : IVec S8320x1024 1 := cmpf .olt main_v15 main_v16
  (main_v2, main_v5, main_v8, main_v11, main_v14, main_v17)
-- ==== Pre_pool_finite.lean ====
abbrev S8208x1024 : Shape := ⟨2, ![8208, 1024]⟩
abbrev S1024 : Shape := ⟨1, ![1024]⟩
abbrev S4x256x256 : Shape := ⟨3, ![4, 256, 256]⟩
abbrev S_ : Shape := ⟨0, ![]⟩

class Facts : Prop where
  bcast_S_S8208x1024 : S_.BroadcastsInDim S8208x1024 (![] : Fin 0 → Fin S8208x1024.rank)
  bcast_S_S1024 : S_.BroadcastsInDim S1024 (![] : Fin 0 → Fin S1024.rank)
  bcast_S_S4x256x256 : S_.BroadcastsInDim S4x256x256 (![] : Fin 0 → Fin S4x256x256.rank)

variable [Facts]

def fn {F : FTy → Type} [FloatOps F] (main_arg0 : FVec F S8208x1024 .f32) (main_arg1 : FVec F S1024 .f32) (main_arg2 : FVec F S4x256x256 .f32) (main_arg3 : FVec F S1024 .f32) (main_arg4 : FVec F S8208x1024 .f32) : IVec S8208x1024 1 × IVec S1024 1 × IVec S4x256x256 1 × IVec S1024 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8208x1024 .f32 := Host.absf main_arg4
  let main_cst_3 : FVec F S_ .f32 := constant S_ .f32 0x7F800000#32
  let main_v13 : FVec F S8208x1024 .f32 := broadcastInDim S8208x1024 ![] bcast_S_S8208x1024 main_cst_3
  let main_v14 : IVec S8208x1024 1 := cmpf .olt main_v12 main_v13
  (main_v2, main_v5, main_v8, main_v11, main_v14)
-- ==== Weights.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩
abbrev S8320x4x704 : Shape := ⟨3, ![8320, 4, 704]⟩
abbrev S4x8320x704 : Shape := ⟨3, ![4, 8320, 704]⟩
abbrev S4x704x1024 : Shape := ⟨3, ![4, 704, 1024]⟩
abbrev S1664x1024 : Shape := ⟨2, ![1664, 1024]⟩
abbrev S1x1664x704 : Shape := ⟨3, ![1, 1664, 704]⟩
abbrev S1x704x1024 : Shape := ⟨3, ![1, 704, 1024]⟩
abbrev S704x1024 : Shape := ⟨2, ![704, 1024]⟩
abbrev S1664x704 : Shape := ⟨2, ![1664, 704]⟩

abbrev nBuf : Space → Nat
  | .hbm => 62
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1024, .f32⟩
  | .hbm, ⟨18, _⟩ => ⟨S8320x1024, .f32⟩
  | .hbm, ⟨19, _⟩ => ⟨S1x1024, .f32⟩
  | .hbm, ⟨20, _⟩ => ⟨S8320x1024, .f32⟩
  | .hbm, ⟨21, _⟩ => ⟨S8320x1024, .f32⟩
  | .hbm, ⟨22, _⟩ => ⟨S_, .f32⟩
  | .hbm, ⟨23, _⟩ => ⟨S8320x1024, .f32⟩
  | .hbm, ⟨24, _⟩ => ⟨S8320x1024, .f32⟩
  | .hbm, ⟨25, _⟩ => ⟨S8320x2816, .f32⟩
  | .hbm, ⟨26, _⟩ => ⟨S8320x2816, .f32⟩
  | .hbm, ⟨27, _⟩ => ⟨S8320x2816, .f32⟩
  | .hbm, ⟨28, _⟩ => ⟨S8320x2816, .f32⟩
  | .hbm, ⟨29, _⟩ => ⟨S_, .f32⟩
  | .hbm, ⟨30, _⟩ => ⟨S8320x2816, .f32⟩
  | .hbm, ⟨31, _⟩ => ⟨S8320x2816, .f32⟩
  | .hbm, ⟨32, _⟩ => ⟨S_, .f32⟩
  | .hbm, ⟨33, _⟩ => ⟨S8320x2816, .f32⟩
  | .hbm, ⟨34, _⟩ => ⟨S8320x2816, .f32⟩
  | .hbm, ⟨35, _⟩ => ⟨S_, .f32⟩
  | .hbm, ⟨36, _⟩ => ⟨S8320x2816, .f32⟩
  | .hbm, ⟨37, _⟩ => ⟨S8320x2816, .f32⟩
  | .hbm, ⟨38, _⟩ => ⟨S8320x2816, .f32⟩
  | .hbm, ⟨39, _⟩ => ⟨S8320x2816, .f32⟩
  | .hbm, ⟨40, _⟩ => ⟨S8320x2816, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S8320x2816, .f32⟩
  | .hbm, ⟨45, _⟩ => ⟨S8320x2816, .f32⟩
  | .hbm, ⟨46, _⟩ => ⟨S8320x2816, .f32⟩
  | .hbm, ⟨47, _⟩ => ⟨S8320x2816, .f32⟩
  | .hbm, ⟨48, _⟩ => ⟨S8320x1024, .bf16⟩
  | .hbm, ⟨49, _⟩ => ⟨S8320x1024, .bf16⟩
  | .hbm, ⟨50, _⟩ => ⟨S8320x2816, .bf16⟩
  | .hbm, ⟨51, _⟩ => ⟨S8320x4x704, .bf16⟩
  | .hbm, ⟨52, _⟩ => ⟨S4x8320x704, .bf16⟩
  | .hbm, ⟨53, _⟩ => ⟨S8320x2816, .bf16⟩
  | .hbm, ⟨54, _⟩ => ⟨S8320x4x704, .bf16⟩
  | .hbm, ⟨55, _⟩ => ⟨S4x8320x704, .bf16⟩
  | .hbm, ⟨56, _⟩ => ⟨S8320x2816, .bf16⟩
  | .hbm, ⟨57, _⟩ => ⟨S8320x4x704, .bf16⟩
  | .hbm, ⟨58, _⟩ => ⟨S4x8320x704, .bf16⟩
  | .hbm, ⟨59, _⟩ => ⟨S4x704x1024, .f32⟩
  | .hbm, ⟨60, _⟩ => ⟨S4x704x1024, .f32⟩
  | .hbm, ⟨61, _⟩ => ⟨S4x704x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1x1664x704, .bf16⟩
  | .local _ .vmem, ⟨5, _⟩ => ⟨S1x1664x704, .bf16⟩
  | .local _ .vmem, ⟨6, _⟩ => ⟨S1x1664x704, .bf16⟩
  | .local _ .vmem, ⟨7, _⟩ => ⟨S1x1664x704, .bf16⟩
  | .local _ .vmem, ⟨8, _⟩ => ⟨S1x1664x704, .bf16⟩
  | .local _ .vmem, ⟨9, _⟩ => ⟨S1x1664x704, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34_0 : Ref sig .tc := ⟨.hbm, 59, rfl⟩
abbrev main_v34_1 : Ref sig .tc := ⟨.hbm, 60, rfl⟩
abbrev main_v34_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1664x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1664x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1664x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== WeightsRefIdeal.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩
abbrev S4x704x1024 : Shape := ⟨3, ![4, 704, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S1x1024, .f32⟩
  | .hbm, ⟨24, _⟩ => ⟨S8320x1024, .f32⟩
  | .hbm, ⟨25, _⟩ => ⟨S8320x1024, .f32⟩
  | .hbm, ⟨26, _⟩ => ⟨S8320x2816, .f32⟩
  | .hbm, ⟨27, _⟩ => ⟨S8320x2816, .f32⟩
  | .hbm, ⟨28, _⟩ => ⟨S8320x2816, .f32⟩
  | .hbm, ⟨29, _⟩ => ⟨S_, .f32⟩
  | .hbm, ⟨30, _⟩ => ⟨S8320x2816, .f32⟩
  | .hbm, ⟨31, _⟩ => ⟨S8320x2816, .f32⟩
  | .hbm, ⟨32, _⟩ => ⟨S_, .f32⟩
  | .hbm, ⟨33, _⟩ => ⟨S8320x2816, .f32⟩
  | .hbm, ⟨34, _⟩ => ⟨S8320x2816, .f32⟩
  | .hbm, ⟨35, _⟩ => ⟨S_, .f32⟩
  | .hbm, ⟨36, _⟩ => ⟨S8320x2816, .f32⟩
  | .hbm, ⟨37, _⟩ => ⟨S8320x2816, .f32⟩
  | .hbm, ⟨38, _⟩ => ⟨S8320x2816, .f32⟩
  | .hbm, ⟨39, _⟩ => ⟨S8320x2816, .f32⟩
  | .hbm, ⟨40, _⟩ => ⟨S8320x2816, .f32⟩
  | .hbm, ⟨41, _⟩ => ⟨S8320x2816, .f32⟩
  | .hbm, ⟨42, _⟩ => ⟨S8320x1024, .f32⟩
  | .hbm, ⟨43, _⟩ => ⟨S_, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S_, .f32⟩
  | .hbm, ⟨49, _⟩ => ⟨S8320x1024, .f32⟩
  | .hbm, ⟨50, _⟩ => ⟨S8320x1024, .f32⟩
  | .hbm, ⟨51, _⟩ => ⟨S1024x2816, .f32⟩
  | .hbm, ⟨52, _⟩ => ⟨S2816x1024, .f32⟩
  | .hbm, ⟨53, _⟩ => ⟨S8320x2816, .f32⟩
  | .hbm, ⟨54, _⟩ => ⟨S8320x2816, .f32⟩
  | .hbm, ⟨55, _⟩ => ⟨S8320x2816, .f32⟩
  | .hbm, ⟨56, _⟩ => ⟨S2816x1024, .f32⟩
  | .hbm, ⟨57, _⟩ => ⟨S1024x2816, .f32⟩
  | .hbm, ⟨58, _⟩ => ⟨S8320x1024, .f32⟩
  | .hbm, ⟨59, _⟩ => ⟨S8320x2816, .f32⟩
  | .hbm, ⟨60, _⟩ => ⟨S8320x2816, .f32⟩
  | .hbm, ⟨61, _⟩ => ⟨S8320x2816, .f32⟩
  | .hbm, ⟨62, _⟩ => ⟨S8320x2816, .f32⟩
  | .hbm, ⟨63, _⟩ => ⟨S2816x1024, .f32⟩
  | .hbm, ⟨64, _⟩ => ⟨S1024x2816, .f32⟩
  | .hbm, ⟨65, _⟩ => ⟨S8320x1024, .f32⟩
  | .hbm, ⟨66, _⟩ => ⟨S8320x1024, .f32⟩
  | .hbm, ⟨67, _⟩ => ⟨S8320x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8320x1024, .f32⟩
  | .hbm, ⟨72, _⟩ => ⟨S8320x1024, .f32⟩
  | .hbm, ⟨73, _⟩ => ⟨S_, .f32⟩
  | .hbm, ⟨74, _⟩ => ⟨S1024, .f32⟩
  | .hbm, ⟨75, _⟩ => ⟨S8320x1024, .f32⟩
  | .hbm, ⟨76, _⟩ => ⟨S_, .f32⟩
  | .hbm, ⟨77, _⟩ => ⟨S8320, .f32⟩
  | .hbm, ⟨78, _⟩ => ⟨S8320x1, .f32⟩
  | .hbm, ⟨79, _⟩ => ⟨S8320x1024, .f32⟩
  | .hbm, ⟨80, _⟩ => ⟨S8320x1024, .f32⟩
  | .hbm, ⟨81, _⟩ => ⟨S8320x1024, .f32⟩
  | .hbm, ⟨82, _⟩ => ⟨S8320x1, .f32⟩
  | .hbm, ⟨83, _⟩ => ⟨S_, .f32⟩
  | .hbm, ⟨84, _⟩ => ⟨S8320x1, .f32⟩
  | .hbm, ⟨85, _⟩ => ⟨S8320x1, .f32⟩
  | .hbm, ⟨86, _⟩ => ⟨S_, .f32⟩
  | .hbm, ⟨87, _⟩ => ⟨S8320, .f32⟩
  | .hbm, ⟨88, _⟩ => ⟨S8320x1024, .f32⟩
  | .hbm, ⟨89, _⟩ => ⟨S8320x1024, .f32⟩
  | .hbm, ⟨90, _⟩ => ⟨S8320x1024, .f32⟩
  | .hbm, ⟨91, _⟩ => ⟨S8320x1024, .f32⟩
  | .hbm, ⟨92, _⟩ => ⟨S8320x1024, .f32⟩
  | .hbm, ⟨93, _⟩ => ⟨S2816x1024, .f32⟩
  | .hbm, ⟨94, _⟩ => ⟨S2816x1024, .f32⟩
  | .hbm, ⟨95, _⟩ => ⟨S4x704x1024, .f32⟩
  | .hbm, ⟨96, _⟩ => ⟨S4x704x1024, .f32⟩
  | .hbm, ⟨97, _⟩ => ⟨S4x704x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Forward.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S4x8320x704 : Shape := ⟨3, ![4, 8320, 704]⟩
abbrev S640x1024 : Shape := ⟨2, ![640, 1024]⟩
abbrev S2x704x1024 : Shape := ⟨3, ![2, 704, 1024]⟩
abbrev S2x640x704 : Shape := ⟨3, ![2, 640, 704]⟩
abbrev S640 : Shape := ⟨1, ![640]⟩
abbrev S640x1 : Shape := ⟨2, ![640, 1]⟩
abbrev S1x704x1024 : Shape := ⟨3, ![1, 704, 1024]⟩
abbrev S704x1024 : Shape := ⟨2, ![704, 1024]⟩
abbrev S640x704 : Shape := ⟨2, ![640, 704]⟩
abbrev S1x640x704 : Shape := ⟨3, ![1, 640, 704]⟩

abbrev nBuf : Space → Nat
  | .hbm => 17
  | .vmem => 17
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S4x704x1024, .bf16⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S1x1024, .f32⟩
  | .hbm, ⟨14, _⟩ => ⟨S8320x1024, .f32⟩
  | .hbm, ⟨15, _⟩ => ⟨S4x8320x704, .bf16⟩
  | .hbm, ⟨16, _⟩ => ⟨S4x8320x704, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S2x704x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S2x704x1024, .bf16⟩
  | .local _ .vmem, ⟨7, _⟩ => ⟨S2x704x1024, .bf16⟩
  | .local _ .vmem, ⟨8, _⟩ => ⟨S2x704x1024, .bf16⟩
  | .local _ .vmem, ⟨9, _⟩ => ⟨S640x1024, .f32⟩
  | .local _ .vmem, ⟨10, _⟩ => ⟨S640x1024, .f32⟩
  | .local _ .vmem, ⟨11, _⟩ => ⟨S2x640x704, .bf16⟩
  | .local _ .vmem, ⟨12, _⟩ => ⟨S2x640x704, .bf16⟩
  | .local _ .vmem, ⟨13, _⟩ => ⟨S2x640x704, .bf16⟩
  | .local _ .vmem, ⟨14, _⟩ => ⟨S2x640x704, .bf16⟩
  | .local _ .vmem, ⟨15, _⟩ => ⟨S640x1024, .bf16⟩
  | .local _ .vmem, ⟨16, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![13, 2], ![false, false]⟩

def k0_cond2 (i : grid0.Coords) : BitVec 1 :=
  let arg1 : BitVec 32 := BitVec.ofNat 32 (i 1).val
  let c1_i32 : BitVec 32 := 1#32
  let v64 : BitVec 1 := Scalar.cmpi .eq arg1 c1_i32
  let v65 : BitVec 32 := Scalar.extui v64
  let c0_i32_46 : BitVec 32 := 0#32
  let v66 : BitVec 1 := Scalar.cmpi .ne v65 c0_i32_46
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x640x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x640x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ForwardRefIdeal.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩
abbrev S8320x4x704 : Shape := ⟨3, ![8320, 4, 704]⟩
abbrev S4x8320x704 : Shape := ⟨3, ![4, 8320, 704]⟩

abbrev nBuf : Space → Nat
  | .hbm => 62
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S1x1024, .f32⟩
  | .hbm, ⟨19, _⟩ => ⟨S8320x1024, .f32⟩
  | .hbm, ⟨20, _⟩ => ⟨S8320x1024, .f32⟩
  | .hbm, ⟨21, _⟩ => ⟨S8320x2816, .f32⟩
  | .hbm, ⟨22, _⟩ => ⟨S8320x2816, .bf16⟩
  | .hbm, ⟨23, _⟩ => ⟨S8320x4x704, .bf16⟩
  | .hbm, ⟨24, _⟩ => ⟨S4x8320x704, .bf16⟩
  | .hbm, ⟨25, _⟩ => ⟨S8320x2816, .f32⟩
  | .hbm, ⟨26, _⟩ => ⟨S8320x2816, .bf16⟩
  | .hbm, ⟨27, _⟩ => ⟨S8320x4x704, .bf16⟩
  | .hbm, ⟨28, _⟩ => ⟨S4x8320x704, .bf16⟩
  | .hbm, ⟨29, _⟩ => ⟨S8320x1024, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S_, .f32⟩
  | .hbm, ⟨34, _⟩ => ⟨S8320x1, .f32⟩
  | .hbm, ⟨35, _⟩ => ⟨S8320x1, .f32⟩
  | .hbm, ⟨36, _⟩ => ⟨S_, .f32⟩
  | .hbm, ⟨37, _⟩ => ⟨S8320x1, .f32⟩
  | .hbm, ⟨38, _⟩ => ⟨S8320x1, .f32⟩
  | .hbm, ⟨39, _⟩ => ⟨S8320x1, .f32⟩
  | .hbm, ⟨40, _⟩ => ⟨S8320x1024, .f32⟩
  | .hbm, ⟨41, _⟩ => ⟨S8320x1024, .f32⟩
  | .hbm, ⟨42, _⟩ => ⟨S1x1024, .f32⟩
  | .hbm, ⟨43, _⟩ => ⟨S8320x1024, .f32⟩
  | .hbm, ⟨44, _⟩ => ⟨S8320x1024, .f32⟩
  | .hbm, ⟨45, _⟩ => ⟨S8320x2816, .f32⟩
  | .hbm, ⟨46, _⟩ => ⟨S8320x2816, .f32⟩
  | .hbm, ⟨47, _⟩ => ⟨S8320x2816, .f32⟩
  | .hbm, ⟨48, _⟩ => ⟨S_, .f32⟩
  | .hbm, ⟨49, _⟩ => ⟨S8320x2816, .f32⟩
  | .hbm, ⟨50, _⟩ => ⟨S8320x2816, .f32⟩
  | .hbm, ⟨51, _⟩ => ⟨S_, .f32⟩
  | .hbm, ⟨52, _⟩ => ⟨S8320x2816, .f32⟩
  | .hbm, ⟨53, _⟩ => ⟨S8320x2816, .f32⟩
  | .hbm, ⟨54, _⟩ => ⟨S8320x2816, .f32⟩
  | .hbm, ⟨55, _⟩ => ⟨S8320x2816, .f32⟩
  | .hbm, ⟨56, _⟩ => ⟨S8320x2816, .f32⟩
  | .hbm, ⟨57, _⟩ => ⟨S8320x1024, .f32⟩
  | .hbm, ⟨58, _⟩ => ⟨S_, .f32⟩
  | .hbm, ⟨59, _⟩ => ⟨S8320x1024, .f32⟩
  | .hbm, ⟨60, _⟩ => ⟨S8320x1024, .f32⟩
  | .hbm, ⟨61, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Activations.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩
abbrev S8320x4x704 : Shape := ⟨3, ![8320, 4, 704]⟩
abbrev S4x8320x704 : Shape := ⟨3, ![4, 8320, 704]⟩
abbrev S320x1024 : Shape := ⟨2, ![320, 1024]⟩
abbrev S2x320x704 : Shape := ⟨3, ![2, 320, 704]⟩
abbrev S2x704x1024 : Shape := ⟨3, ![2, 704, 1024]⟩
abbrev S320 : Shape := ⟨1, ![320]⟩
abbrev S320x1 : Shape := ⟨2, ![320, 1]⟩
abbrev S1x320x704 : Shape := ⟨3, ![1, 320, 704]⟩
abbrev S320x704 : Shape := ⟨2, ![320, 704]⟩
abbrev S1x704x1024 : Shape := ⟨3, ![1, 704, 1024]⟩
abbrev S704x1024 : Shape := ⟨2, ![704, 1024]⟩

abbrev nBuf : Space → Nat
  | .hbm => 46
  | .vmem => 29
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .bf16⟩
  | .hbm, ⟨11, _⟩ => ⟨S4x704x1024, .bf16⟩
  | .hbm, ⟨12, _⟩ => ⟨S2816x1024, .bf16⟩
  | .hbm, ⟨13, _⟩ => ⟨S4x704x1024, .bf16⟩
  | .hbm, ⟨14, _⟩ => ⟨S8320x1024, .f32⟩
  | .hbm, ⟨15, _⟩ => ⟨S_, .f32⟩
  | .hbm, ⟨16, _⟩ => ⟨S8320, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S1x1024, .f32⟩
  | .hbm, ⟨28, _⟩ => ⟨S8320x1024, .f32⟩
  | .hbm, ⟨29, _⟩ => ⟨S8320x1024, .f32⟩
  | .hbm, ⟨30, _⟩ => ⟨S1x1024, .f32⟩
  | .hbm, ⟨31, _⟩ => ⟨S8320x2816, .f32⟩
  | .hbm, ⟨32, _⟩ => ⟨S8320x2816, .bf16⟩
  | .hbm, ⟨33, _⟩ => ⟨S8320x4x704, .bf16⟩
  | .hbm, ⟨34, _⟩ => ⟨S4x8320x704, .bf16⟩
  | .hbm, ⟨35, _⟩ => ⟨S8320x2816, .f32⟩
  | .hbm, ⟨36, _⟩ => ⟨S8320x2816, .bf16⟩
  | .hbm, ⟨37, _⟩ => ⟨S8320x4x704, .bf16⟩
  | .hbm, ⟨38, _⟩ => ⟨S4x8320x704, .bf16⟩
  | .hbm, ⟨39, _⟩ => ⟨S8320x1024, .f32⟩
  | .hbm, ⟨40, _⟩ => ⟨S1x1024, .f32⟩
  | .hbm, ⟨41, _⟩ => ⟨S8320x1024, .bf16⟩
  | .hbm, ⟨42, _⟩ => ⟨S8320x1024, .bf16⟩
  | .hbm, ⟨43, _⟩ => ⟨S4x8320x704, .bf16⟩
  | .hbm, ⟨44, _⟩ => ⟨S4x8320x704, .bf16⟩
  | .hbm, ⟨45, _⟩ => ⟨S4x8320x704, .bf16⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S320x1024, .f32⟩
  | .local _ .vmem, ⟨4, _⟩ => ⟨S320x1024, .f32⟩
  | .local _ .vmem, ⟨5, _⟩ => ⟨S2x320x704, .bf16⟩
  | .local _ .vmem, ⟨6, _⟩ => ⟨S2x320x704, .bf16⟩
  | .local _ .vmem, ⟨7, _⟩ => ⟨S2x320x704, .bf16⟩
  | .local _ .vmem, ⟨8, _⟩ => ⟨S2x320x704, .bf16⟩
  | .local _ .vmem, ⟨9, _⟩ => ⟨S2x704x1024, .bf16⟩
  | .local _ .vmem, ⟨10, _⟩ => ⟨S2x704x1024, .bf16⟩
  | .local _ .vmem, ⟨11, _⟩ => ⟨S2x704x1024, .bf16⟩
  | .local _ .vmem, ⟨12, _⟩ => ⟨S2x704x1024, .bf16⟩
  | .local _ .vmem, ⟨13, _⟩ => ⟨S2x704x1024, .bf16⟩
  | .local _ .vmem, ⟨14, _⟩ => ⟨S2x704x1024, .bf16⟩
  | .local _ .vmem, ⟨15, _⟩ => ⟨S320x1024, .f32⟩
  | .local _ .vmem, ⟨16, _⟩ => ⟨S320x1024, .f32⟩
  | .local _ .vmem, ⟨17, _⟩ => ⟨S1x1024, .f32⟩
  | .local _ .vmem, ⟨18, _⟩ => ⟨S320x1024, .bf16⟩
  | .local _ .vmem, ⟨19, _⟩ => ⟨S320x1024, .bf16⟩
  | .local _ .vmem, ⟨20, _⟩ => ⟨S320x1024, .bf16⟩
  | .local _ .vmem, ⟨21, _⟩ => ⟨S320x1024, .bf16⟩
  | .local _ .vmem, ⟨22, _⟩ => ⟨S2x320x704, .bf16⟩
  | .local _ .vmem, ⟨23, _⟩ => ⟨S2x320x704, .bf16⟩
  | .local _ .vmem, ⟨24, _⟩ => ⟨S2x320x704, .bf16⟩
  | .local _ .vmem, ⟨25, _⟩ => ⟨S2x320x704, .bf16⟩
  | .local _ .vmem, ⟨26, _⟩ => ⟨S2x320x704, .bf16⟩
  | .local _ .vmem, ⟨27, _⟩ => ⟨S2x320x704, .bf16⟩
  | .local _ .vmem, ⟨28, _⟩ => ⟨S320x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev main_v30_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![26, 2], ![false, false]⟩

def k0_cond3 (i : grid0.Coords) : BitVec 1 :=
  let arg1 : BitVec 32 := BitVec.ofNat 32 (i 1).val
  let c1_i32 : BitVec 32 := 1#32
  let v110 : BitVec 1 := Scalar.cmpi .eq arg1 c1_i32
  let v111 : BitVec 32 := Scalar.extui v110
  let c0_i32_73 : BitVec 32 := 0#32
  let v112 : BitVec 1 := Scalar.cmpi .ne v111 c0_i32_73
  v112

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x320x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x320x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S320x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x320x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x320x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x320x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ActivationsRefIdeal.lean ====
abbrev S8320x1024 : Shape := ⟨2, ![8320, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S8320x2816 : Shape := ⟨2, ![8320, 2816]⟩
abbrev S8320x4x704 : Shape := ⟨3, ![8320, 4, 704]⟩
abbrev S4x8320x704 : Shape := ⟨3, ![4, 8320, 704]⟩

abbrev nBuf : Space → Nat
  | .hbm => 147
  | .vmem => 0
  | .smem => 0
  | _ => 0

abbrev hbmTy0_0 (i : Nat) : BufTy := match i % 128 with
  | 0 => ⟨S8320x1024, .f32⟩
  | 1 => ⟨S1024, .f32⟩
  | 2 => ⟨S1024x2816, .f32⟩
  | 3 => ⟨S1024x2816, .f32⟩
  | 4 => ⟨S2816x1024, .f32⟩
  | 5 => ⟨S8320x1024, .f32⟩
  | 6 => ⟨S8320x1024, .f32⟩
  | 7 => ⟨S_, .f32⟩
  | 8 => ⟨S8320, .f32⟩
  | 9 => ⟨S8320x1, .f32⟩
  | 10 => ⟨S_, .f32⟩
  | 11 => ⟨S8320x1, .f32⟩
  | 12 => ⟨S8320x1, .f32⟩
  | 13 => ⟨S_, .f32⟩
  | 14 => ⟨S8320x1, .f32⟩
  | 15 => ⟨S8320x1, .f32⟩
  | 16 => ⟨S8320x1, .f32⟩
  | 17 => ⟨S8320x1, .f32⟩
  | 18 => ⟨S_, .f32⟩
  | 19 => ⟨S8320x1, .f32⟩
  | 20 => ⟨S8320x1, .f32⟩
  | 21 => ⟨S8320x1024, .f32⟩
  | 22 => ⟨S8320x1024, .f32⟩
  | 23 => ⟨S1x1024, .f32⟩
  | 24 => ⟨S8320x1024, .f32⟩
  | 25 => ⟨S8320x1024, .f32⟩
  | 26 => ⟨S8320x2816, .f32⟩
  | 27 => ⟨S8320x2816, .f32⟩
  | 28 => ⟨S8320x2816, .f32⟩
  | 29 => ⟨S_, .f32⟩
  | 30 => ⟨S8320x2816, .f32⟩
  | 31 => ⟨S8320x2816, .f32⟩
  | 32 => ⟨S_, .f32⟩
  | 33 => ⟨S8320x2816, .f32⟩
  | 34 => ⟨S8320x2816, .f32⟩
  | 35 => ⟨S_, .f32⟩
  | 36 => ⟨S8320x2816, .f32⟩
  | 37 => ⟨S8320x2816, .f32⟩
  | 38 => ⟨S8320x2816, .f32⟩
  | 39 => ⟨S8320x2816, .f32⟩
  | 40 => ⟨S8320x2816, .f32⟩
  | 41 => ⟨S8320x2816, .f32⟩
  | 42 => ⟨S8320x1024, .f32⟩
  | 43 => ⟨S_, .f32⟩
  | 44 => ⟨S8320x1024, .f32⟩
  | 45 => ⟨S8320x1024, .f32⟩
  | 46 => ⟨S8320x1024, .f32⟩
  | 47 => ⟨S8320x1024, .f32⟩
  | 48 => ⟨S_, .f32⟩
  | 49 => ⟨S8320x1024, .f32⟩
  | 50 => ⟨S8320x1024, .f32⟩
  | 51 => ⟨S1024x2816, .f32⟩
  | 52 => ⟨S2816x1024, .f32⟩
  | 53 => ⟨S8320x2816, .f32⟩
  | 54 => ⟨S8320x2816, .f32⟩
  | 55 => ⟨S8320x2816, .f32⟩
  | 56 => ⟨S2816x1024, .f32⟩
  | 57 => ⟨S1024x2816, .f32⟩
  | 58 => ⟨S8320x1024, .f32⟩
  | 59 => ⟨S8320x2816, .f32⟩
  | 60 => ⟨S8320x2816, .f32⟩
  | 61 => ⟨S8320x2816, .f32⟩
  | 62 => ⟨S8320x2816, .f32⟩
  | 63 => ⟨S2816x1024, .f32⟩
  | 64 => ⟨S1024x2816, .f32⟩
  | 65 => ⟨S8320x1024, .f32⟩
  | 66 => ⟨S8320x1024, .f32⟩
  | 67 => ⟨S8320x1024, .f32⟩
  | 68 => ⟨S_, .f32⟩
  | 69 => ⟨S1024, .f32⟩
  | 70 => ⟨S1x1024, .f32⟩
  | 71 => ⟨S8320x1024, .f32⟩
  | 72 => ⟨S8320x1024, .f32⟩
  | 73 => ⟨S_, .f32⟩
  | 74 => ⟨S1024, .f32⟩
  | 75 => ⟨S8320x1024, .f32⟩
  | 76 => ⟨S_, .f32⟩
  | 77 => ⟨S8320, .f32⟩
  | 78 => ⟨S8320x1, .f32⟩
  | 79 => ⟨S8320x1024, .f32⟩
  | 80 => ⟨S8320x1024, .f32⟩
  | 81 => ⟨S8320x1024, .f32⟩
  | 82 => ⟨S8320x1, .f32⟩
  | 83 => ⟨S_, .f32⟩
  | 84 => ⟨S8320x1, .f32⟩
  | 85 => ⟨S8320x1, .f32⟩
  | 86 => ⟨S_, .f32⟩
  | 87 => ⟨S8320, .f32⟩
  | 88 => ⟨S8320x1024, .f32⟩
  | 89 => ⟨S8320x1024, .f32⟩
  | 90 => ⟨S8320x1024, .f32⟩
  | 91 => ⟨S8320x1024, .f32⟩
  | 92 => ⟨S8320x1024, .f32⟩
  | 93 => ⟨S8320x1024, .f32⟩
  | 94 => ⟨S_, .f32⟩
  | 95 => ⟨S8320, .f32⟩
  | 96 => ⟨S8320x1, .f32⟩
  | 97 => ⟨S_, .f32⟩
  | 98 => ⟨S8320x1, .f32⟩
  | 99 => ⟨S8320x1, .f32⟩
  | 100 => ⟨S_, .f32⟩
  | 101 => ⟨S8320x1, .f32⟩
  | 102 => ⟨S8320x1, .f32⟩
  | 103 => ⟨S8320x1, .f32⟩
  | 104 => ⟨S8320x1024, .f32⟩
  | 105 => ⟨S8320x1024, .f32⟩
  | 106 => ⟨S1x1024, .f32⟩
  | 107 => ⟨S8320x1024, .f32⟩
  | 108 => ⟨S8320x1024, .f32⟩
  | 109 => ⟨S_, .f32⟩
  | 110 => ⟨S8320x1024, .f32⟩
  | 111 => ⟨S8320x1024, .f32⟩
  | 112 => ⟨S8320x2816, .f32⟩
  | 113 => ⟨S8320x2816, .f32⟩
  | 114 => ⟨S8320x2816, .f32⟩
  | 115 => ⟨S8320x2816, .f32⟩
  | 116 => ⟨S_, .f32⟩
  | 117 => ⟨S8320x2816, .f32⟩
  | 118 => ⟨S8320x2816, .f32⟩
  | 119 => ⟨S_, .f32⟩
  | 120 => ⟨S8320x2816, .f32⟩
  | 121 => ⟨S8320x2816, .f32⟩
  | 122 => ⟨S_, .f32⟩
  | 123 => ⟨S8320x2816, .f32⟩
  | 124 => ⟨S8320x2816, .f32⟩
  | 125 => ⟨S8320x2816, .f32⟩
  | 126 => ⟨S8320x2816, .f32⟩
  | 127 => ⟨S8320x2816, .f32⟩
  | _ => ⟨S8320x1024, .f32⟩

abbrev hbmTy0_1 (i : Nat) : BufTy := match i % 128 with
  | 0 => ⟨S8320x2816, .f32⟩
  | 1 => ⟨S8320x2816, .f32⟩
  | 2 => ⟨S8320x2816, .f32⟩
  | 3 => ⟨S8320x2816, .f32⟩
  | 4 => ⟨S8320x2816, .f32⟩
  | 5 => ⟨S8320x2816, .f32⟩
  | 6 => ⟨S8320x2816, .f32⟩
  | 7 => ⟨S1x1024, .f32⟩
  | 8 => ⟨S8320x1024, .bf16⟩
  | 9 => ⟨S8320x1024, .bf16⟩
  | 10 => ⟨S8320x2816, .bf16⟩
  | 11 => ⟨S8320x4x704, .bf16⟩
  | 12 => ⟨S4x8320x704, .bf16⟩
  | 13 => ⟨S8320x2816, .bf16⟩
  | 14 => ⟨S8320x4x704, .bf16⟩
  | 15 => ⟨S4x8320x704, .bf16⟩
  | 16 => ⟨S8320x2816, .bf16⟩
  | 17 => ⟨S8320x4x704, .bf16⟩
  | 18 => ⟨S4x8320x704, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_v78_2 : Ref sig .tc := ⟨.hbm, 121, rfl⟩
abbrev main_call2_cst_1 : Ref sig .tc := ⟨.hbm, 122, rfl⟩
abbrev main_call2_v6 : Ref sig .tc := ⟨.hbm, 123, rfl⟩
abbrev main_call2_v7 : Ref sig .tc := ⟨.hbm, 124, rfl⟩
abbrev main_v78_1 : Ref sig .tc := ⟨.hbm, 125, rfl⟩
abbrev main_v78_0 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩

abbrev nD : Nat := 1
abbrev τ : Topo := Topo.v7x

variable {F : FTy → Type} [FloatOps F]
-- ==== Pool.lean ====
abbrev S8208x1024 : Shape := ⟨2, ![8208, 1024]⟩
abbrev S1024 : Shape := ⟨1, ![1024]⟩
abbrev S4x256x256 : Shape := ⟨3, ![4, 256, 256]⟩
abbrev S_ : Shape := ⟨0, ![]⟩
abbrev S8320x1024 : Shape := ⟨2, ![8320, 1024]⟩
abbrev S1x1024 : Shape := ⟨2, ![1, 1024]⟩
abbrev S640x1024 : Shape := ⟨2, ![640, 1024]⟩
abbrev S16x1024 : Shape := ⟨2, ![16, 1024]⟩
abbrev S656x1024 : Shape := ⟨2, ![656, 1024]⟩
abbrev S656 : Shape := ⟨1, ![656]⟩
abbrev S656x1 : Shape := ⟨2, ![656, 1]⟩
abbrev S656x256 : Shape := ⟨2, ![656, 256]⟩
abbrev S640x256 : Shape := ⟨2, ![640, 256]⟩
abbrev S640x1 : Shape := ⟨2, ![640, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S640 : Shape := ⟨1, ![640]⟩

abbrev nBuf : Space → Nat
  | .hbm => 19
  | .vmem => 17
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S8208x1024, .f32⟩
  | .hbm, ⟨5, _⟩ => ⟨S_, .i32⟩
  | .hbm, ⟨6, _⟩ => ⟨S_, .f32⟩
  | .hbm, ⟨7, _⟩ => ⟨S8320x1024, .f32⟩
  | .hbm, ⟨8, _⟩ => ⟨S1x1024, .f32⟩
  | .hbm, ⟨9, _⟩ => ⟨S4x256x256, .bf16⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S8320x1024, .f32⟩
  | .hbm, ⟨14, _⟩ => ⟨S8320x1024, .f32⟩
  | .hbm, ⟨15, _⟩ => ⟨S1x1024, .f32⟩
  | .hbm, ⟨16, _⟩ => ⟨S4x256x256, .f32⟩
  | .hbm, ⟨17, _⟩ => ⟨S1x1024, .f32⟩
  | .hbm, ⟨18, _⟩ => ⟨S8208x1024, .f32⟩
  | .local _ .vmem, ⟨0, _⟩ => ⟨S640x1024, .f32⟩
  | .local _ .vmem, ⟨1, _⟩ => ⟨S640x1024, .f32⟩
  | .local _ .vmem, ⟨2, _⟩ => ⟨S16x1024, .f32⟩
  | .local _ .vmem, ⟨3, _⟩ => ⟨S16x1024, .f32⟩
  | .local _ .vmem, ⟨4, _⟩ => ⟨S640x1024, .f32⟩
  | .local _ .vmem, ⟨5, _⟩ => ⟨S640x1024, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S640x1024, .f32⟩
  | .local _ .vmem, ⟨12, _⟩ => ⟨S640x1024, .f32⟩
  | .local _ .vmem, ⟨13, _⟩ => ⟨S1x1024, .f32⟩
  | .local _ .vmem, ⟨14, _⟩ => ⟨S4x256x256, .f32⟩
  | .local _ .vmem, ⟨15, _⟩ => ⟨S1x1024, .f32⟩
  | .local _ .vmem, ⟨16, _⟩ => ⟨S640x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c519_i32 : BitVec 32 := 519#32
  let v2 : BitVec 32 := Scalar.minsi v1 c519_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PoolRefIdeal.lean ====
abbrev S8208x1024 : Shape := ⟨2, ![8208, 1024]⟩
abbrev S1024 : Shape := ⟨1, ![1024]⟩
abbrev S4x256x256 : Shape := ⟨3, ![4, 256, 256]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x256 : Shape := ⟨2, ![8208, 256]⟩
abbrev S8208x1x256 : Shape := ⟨3, ![8208, 1, 256]⟩
abbrev S8208x4x256 : Shape := ⟨3, ![8208, 4, 256]⟩
abbrev S4x256x8208 : Shape := ⟨3, ![4, 256, 8208]⟩
abbrev S4x8208x256 : Shape := ⟨3, ![4, 8208, 256]⟩
abbrev S8223x256 : Shape := ⟨2, ![8223, 256]⟩
abbrev S8215x256 : Shape := ⟨2, ![8215, 256]⟩
abbrev S8211x256 : Shape := ⟨2, ![8211, 256]⟩
abbrev S8209x256 : Shape := ⟨2, ![8209, 256]⟩

abbrev nBuf : Space → Nat
  | .hbm => 215
  | .vmem => 0
  | .smem => 0
  | _ => 0

abbrev hbmTy0_0 (i : Nat) : BufTy := match i % 128 with
  | 0 => ⟨S8208x1024, .f32⟩
  | 1 => ⟨S1024, .f32⟩
  | 2 => ⟨S4x256x256, .f32⟩
  | 3 => ⟨S1024, .f32⟩
  | 4 => ⟨S8208x1024, .f32⟩
  | 5 => ⟨S8208x1024, .f32⟩
  | 6 => ⟨S_, .f32⟩
  | 7 => ⟨S8208, .f32⟩
  | 8 => ⟨S8208x1, .f32⟩
  | 9 => ⟨S_, .f32⟩
  | 10 => ⟨S8208x1, .f32⟩
  | 11 => ⟨S8208x1, .f32⟩
  | 12 => ⟨S_, .f32⟩
  | 13 => ⟨S8208x1, .f32⟩
  | 14 => ⟨S8208x1, .f32⟩
  | 15 => ⟨S8208x1, .f32⟩
  | 16 => ⟨S8208x1, .f32⟩
  | 17 => ⟨S_, .f32⟩
  | 18 => ⟨S8208x1, .f32⟩
  | 19 => ⟨S8208x1, .f32⟩
  | 20 => ⟨S8208x1024, .f32⟩
  | 21 => ⟨S8208x1024, .f32⟩
  | 22 => ⟨S1x1024, .f32⟩
  | 23 => ⟨S8208x1024, .f32⟩
  | 24 => ⟨S8208x1024, .f32⟩
  | 25 => ⟨S8208x256, .f32⟩
  | 26 => ⟨S_, .f32⟩
  | 27 => ⟨S_, .f32⟩
  | 28 => ⟨S8208x256, .f32⟩
  | 29 => ⟨S8208, .i32⟩
  | 30 => ⟨S_, .i32⟩
  | 31 => ⟨S8208, .i32⟩
  | 32 => ⟨S8208, .i32⟩
  | 33 => ⟨S_, .i32⟩
  | 34 => ⟨S8208, .i32⟩
  | 35 => ⟨S8208, .i32⟩
  | 36 => ⟨S_, .i32⟩
  | 37 => ⟨S8208, .i32⟩
  | 38 => ⟨S8208, .i32⟩
  | 39 => ⟨S8208, .i32⟩
  | 40 => ⟨S8208, .f32⟩
  | 41 => ⟨S8208x1, .f32⟩
  | 42 => ⟨S8208x256, .f32⟩
  | 43 => ⟨S8208x256, .f32⟩
  | 44 => ⟨S8208x256, .f32⟩
  | 45 => ⟨S8208x256, .f32⟩
  | 46 => ⟨S_, .f32⟩
  | 47 => ⟨S_, .f32⟩
  | 48 => ⟨S8208x256, .f32⟩
  | 49 => ⟨S8208, .i32⟩
  | 50 => ⟨S_, .i32⟩
  | 51 => ⟨S8208, .i32⟩
  | 52 => ⟨S8208, .i32⟩
  | 53 => ⟨S_, .i32⟩
  | 54 => ⟨S8208, .i32⟩
  | 55 => ⟨S8208, .i32⟩
  | 56 => ⟨S_, .i32⟩
  | 57 => ⟨S8208, .i32⟩
  | 58 => ⟨S8208, .i32⟩
  | 59 => ⟨S8208, .i32⟩
  | 60 => ⟨S8208, .f32⟩
  | 61 => ⟨S8208x1, .f32⟩
  | 62 => ⟨S8208x256, .f32⟩
  | 63 => ⟨S8208x256, .f32⟩
  | 64 => ⟨S8208x256, .f32⟩
  | 65 => ⟨S8208x256, .f32⟩
  | 66 => ⟨S_, .f32⟩
  | 67 => ⟨S_, .f32⟩
  | 68 => ⟨S8208x256, .f32⟩
  | 69 => ⟨S8208, .i32⟩
  | 70 => ⟨S_, .i32⟩
  | 71 => ⟨S8208, .i32⟩
  | 72 => ⟨S8208, .i32⟩
  | 73 => ⟨S_, .i32⟩
  | 74 => ⟨S8208, .i32⟩
  | 75 => ⟨S8208, .i32⟩
  | 76 => ⟨S_, .i32⟩
  | 77 => ⟨S8208, .i32⟩
  | 78 => ⟨S8208, .i32⟩
  | 79 => ⟨S8208, .i32⟩
  | 80 => ⟨S8208, .f32⟩
  | 81 => ⟨S8208x1, .f32⟩
  | 82 => ⟨S8208x256, .f32⟩
  | 83 => ⟨S8208x256, .f32⟩
  | 84 => ⟨S8208x256, .f32⟩
  | 85 => ⟨S8208x256, .f32⟩
  | 86 => ⟨S_, .f32⟩
  | 87 => ⟨S_, .f32⟩
  | 88 => ⟨S8208x256, .f32⟩
  | 89 => ⟨S8208, .i32⟩
  | 90 => ⟨S_, .i32⟩
  | 91 => ⟨S8208, .i32⟩
  | 92 => ⟨S8208, .i32⟩
  | 93 => ⟨S_, .i32⟩
  | 94 => ⟨S8208, .i32⟩
  | 95 => ⟨S8208, .i32⟩
  | 96 => ⟨S_, .i32⟩
  | 97 => ⟨S8208, .i32⟩
  | 98 => ⟨S8208, .i32⟩
  | 99 => ⟨S8208, .i32⟩
  | 100 => ⟨S8208, .f32⟩
  | 101 => ⟨S8208x1, .f32⟩
  | 102 => ⟨S8208x256, .f32⟩
  | 103 => ⟨S8208x256, .f32⟩
  | 104 => ⟨S8208x256, .f32⟩
  | 105 => ⟨S8208x1x256, .f32⟩
  | 106 => ⟨S8208x1x256, .f32⟩
  | 107 => ⟨S8208x1x256, .f32⟩
  | 108 => ⟨S8208x1x256, .f32⟩
  | 109 => ⟨S8208x4x256, .f32⟩
  | 110 => ⟨S4x256x8208, .f32⟩
  | 111 => ⟨S8208x4x256, .f32⟩
  | 112 => ⟨S8208x1024, .f32⟩
  | 113 => ⟨S1x1024, .f32⟩
  | 114 => ⟨S8208x1024, .f32⟩
  | 115 => ⟨S8208x1024, .f32⟩
  | 116 => ⟨S8208x1024, .f32⟩
  | 117 => ⟨S8208x1024, .f32⟩
  | 118 => ⟨S8208x1024, .f32⟩
  | 119 => ⟨S_, .f32⟩
  | 120 => ⟨S1024, .f32⟩
  | 121 => ⟨S1x1024, .f32⟩
  | 122 => ⟨S8208x1024, .f32⟩
  | 123 => ⟨S8208x1024, .f32⟩
  | 124 => ⟨S_, .f32⟩
  | 125 => ⟨S1024, .f32⟩
  | 126 => ⟨S8208x4x256, .f32⟩
  | 127 => ⟨S4x256x8208, .f32⟩
  | _ => ⟨S8208x1024, .f32⟩

abbrev hbmTy0_1 (i : Nat) : BufTy := match i % 128 with
  | 0 => ⟨S4x8208x256, .f32⟩
  | 1 => ⟨S8208x4x256, .f32⟩
  | 2 => ⟨S4x256x256, .f32⟩
  | 3 => ⟨S4x256x256, .f32⟩
  | 4 => ⟨S8208x1x256, .f32⟩
  | 5 => ⟨S8208x256, .f32⟩
  | 6 => ⟨S8208x1x256, .f32⟩
  | 7 => ⟨S8208x256, .f32⟩
  | 8 => ⟨S8208x1x256, .f32⟩
  | 9 => ⟨S8208x256, .f32⟩
  | 10 => ⟨S8208x1x256, .f32⟩
  | 11 => ⟨S8208x256, .f32⟩
  | 12 => ⟨S8208x256, .f32⟩
  | 13 => ⟨S8208x256, .f32⟩
  | 14 => ⟨S8208x256, .f32⟩
  | 15 => ⟨S_, .f32⟩
  | 16 => ⟨S8223x256, .f32⟩
  | 17 => ⟨S_, .f32⟩
  | 18 => ⟨S_, .f32⟩
  | 19 => ⟨S8208x256, .f32⟩
  | 20 => ⟨S8208x256, .f32⟩
  | 21 => ⟨S_, .f32⟩
  | 22 => ⟨S8208x1024, .f32⟩
  | 23 => ⟨S8208x256, .f32⟩
  | 24 => ⟨S8208x256, .f32⟩
  | 25 => ⟨S8208x256, .f32⟩
  | 26 => ⟨S_, .f32⟩
  | 27 => ⟨S8215x256, .f32⟩
  | 28 => ⟨S_, .f32⟩
  | 29 => ⟨S_, .f32⟩
  | 30 => ⟨S8208x256, .f32⟩
  | 31 => ⟨S8208x256, .f32⟩
  | 32 => ⟨S_, .f32⟩
  | 33 => ⟨S8208x1024, .f32⟩
  | 34 => ⟨S8208x1024, .f32⟩
  | 35 => ⟨S8208x256, .f32⟩
  | 36 => ⟨S8208x256, .f32⟩
  | 37 => ⟨S8208x256, .f32⟩
  | 38 => ⟨S_, .f32⟩
  | 39 => ⟨S8211x256, .f32⟩
  | 40 => ⟨S_, .f32⟩
  | 41 => ⟨S_, .f32⟩
  | 42 => ⟨S8208x256, .f32⟩
  | 43 => ⟨S8208x256, .f32⟩
  | 44 => ⟨S_, .f32⟩
  | 45 => ⟨S8208x1024, .f32⟩
  | 46 => ⟨S8208x1024, .f32⟩
  | 47 => ⟨S8208x256, .f32⟩
  | 48 => ⟨S8208x256, .f32⟩
  | 49 => ⟨S8208x256, .f32⟩
  | 50 => ⟨S_, .f32⟩
  | 51 => ⟨S8209x256, .f32⟩
  | 52 => ⟨S_, .f32⟩
  | 53 => ⟨S_, .f32⟩
  | 54 => ⟨S8208x256, .f32⟩
  | 55 => ⟨S8208x256, .f32⟩
  | 56 => ⟨S_, .f32⟩
  | 57 => ⟨S8208x1024, .f32⟩
  | 58 => ⟨S8208x1024, .f32⟩
  | 59 => ⟨S8208x1024, .f32⟩
  | 60 => ⟨S_, .f32⟩
  | 61 => ⟨S1024, .f32⟩
  | 62 => ⟨S1x1024, .f32⟩
  | 63 => ⟨S8208x1024, .f32⟩
  | 64 => ⟨S8208x1024, .f32⟩
  | 65 => ⟨S_, .f32⟩
  | 66 => ⟨S1024, .f32⟩
  | 67 => ⟨S8208x1024, .f32⟩
  | 68 => ⟨S_, .f32⟩
  | 69 => ⟨S8208, .f32⟩
  | 70 => ⟨S8208x1, .f32⟩
  | 71 => ⟨S8208x1024, .f32⟩
  | 72 => ⟨S8208x1024, .f32⟩
  | 73 => ⟨S8208x1024, .f32⟩
  | 74 => ⟨S8208x1, .f32⟩
  | 75 => ⟨S_, .f32⟩
  | 76 => ⟨S8208x1, .f32⟩
  | 77 => ⟨S8208x1, .f32⟩
  | 78 => ⟨S_, .f32⟩
  | 79 => ⟨S8208, .f32⟩
  | 80 => ⟨S8208x1024, .f32⟩
  | 81 => ⟨S8208x1024, .f32⟩
  | 82 => ⟨S8208x1024, .f32⟩
  | 83 => ⟨S8208x1024, .f32⟩
  | 84 => ⟨S8208x1024, .f32⟩
  | 85 => ⟨S1x1024, .f32⟩
  | 86 => ⟨S1x1024, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_15 : Ref sig .tc := ⟨.hbm, 90, rfl⟩
abbrev main_v68 : Ref sig .tc := ⟨.hbm, 91, rfl⟩
abbrev main_v69 : Ref sig .tc := ⟨.hbm, 92, rfl⟩
abbrev main_c_16 : Ref sig .tc := ⟨.hbm, 93, rfl⟩
abbrev main_v70 : Ref sig .tc := ⟨.hbm, 94, rfl⟩
abbrev main_v71 : Ref sig .tc := ⟨.hbm, 95, rfl⟩
abbrev main_c_17 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_18 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_20 : Ref sig .tc := ⟨.hbm, 143, rfl⟩
abbrev main_v116 : Ref sig .tc := ⟨.hbm, 144, rfl⟩
abbrev main_cst_21 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_22 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_23 : Ref sig .tc := ⟨.hbm, 154, rfl⟩
abbrev main_v124 : Ref sig .tc := ⟨.hbm, 155, rfl⟩
abbrev main_cst_24 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_25 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_26 : Ref sig .tc := ⟨.hbm, 166, rfl⟩
abbrev main_v133 : Ref sig .tc := ⟨.hbm, 167, rfl⟩
abbrev main_cst_27 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_28 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_29 : Ref sig .tc := ⟨.hbm, 178, rfl⟩
abbrev main_v142 : Ref sig .tc := ⟨.hbm, 179, rfl⟩
abbrev main_cst_30 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_31 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_32 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_33 : Ref sig .tc := ⟨.hbm, 193, rfl⟩
abbrev main_v153 : Ref sig .tc := ⟨.hbm, 194, rfl⟩
abbrev main_v154 : Ref sig .tc := ⟨.hbm, 195, rfl⟩
abbrev main_cst_34 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_35 : Ref sig .tc := ⟨.hbm, 203, rfl⟩
abbrev main_v161 : Ref sig .tc := ⟨.hbm, 204, rfl⟩
abbrev main_v162 : Ref sig .tc := ⟨.hbm, 205, rfl⟩
abbrev main_cst_36 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩

abbrev nD : Nat := 1
abbrev τ : Topo := Topo.v7x

variable {F : FTy → Type} [FloatOps F]
-- ==== PoolForward.lean ====
abbrev S8208x1024 : Shape := ⟨2, ![8208, 1024]⟩
abbrev S1024 : Shape := ⟨1, ![1024]⟩
abbrev S4x256x256 : Shape := ⟨3, ![4, 256, 256]⟩
abbrev S_ : Shape := ⟨0, ![]⟩
abbrev S8320x1024 : Shape := ⟨2, ![8320, 1024]⟩
abbrev S1x1024 : Shape := ⟨2, ![1, 1024]⟩
abbrev S640x1024 : Shape := ⟨2, ![640, 1024]⟩
abbrev S16x1024 : Shape := ⟨2, ![16, 1024]⟩
abbrev S656x1024 : Shape := ⟨2, ![656, 1024]⟩
abbrev S656 : Shape := ⟨1, ![656]⟩
abbrev S656x1 : Shape := ⟨2, ![656, 1]⟩
abbrev S656x256 : Shape := ⟨2, ![656, 256]⟩
abbrev S640x256 : Shape := ⟨2, ![640, 256]⟩
abbrev S640x1 : Shape := ⟨2, ![640, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 12
  | .vmem => 9
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8320x1024, .f32⟩
  | .hbm, ⟨7, _⟩ => ⟨S1x1024, .f32⟩
  | .hbm, ⟨8, _⟩ => ⟨S4x256x256, .bf16⟩
  | .hbm, ⟨9, _⟩ => ⟨S1x1024, .f32⟩
  | .hbm, ⟨10, _⟩ => ⟨S8320x1024, .f32⟩
  | .hbm, ⟨11, _⟩ => ⟨S8208x1024, .f32⟩
  | .local _ .vmem, ⟨0, _⟩ => ⟨S640x1024, .f32⟩
  | .local _ .vmem, ⟨1, _⟩ => ⟨S640x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolForwardRefIdeal.lean ====
abbrev S8208x1024 : Shape := ⟨2, ![8208, 1024]⟩
abbrev S1024 : Shape := ⟨1, ![1024]⟩
abbrev S4x256x256 : Shape := ⟨3, ![4, 256, 256]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x256 : Shape := ⟨2, ![8208, 256]⟩
abbrev S8208x1x256 : Shape := ⟨3, ![8208, 1, 256]⟩
abbrev S8208x4x256 : Shape := ⟨3, ![8208, 4, 256]⟩
abbrev S4x256x8208 : Shape := ⟨3, ![4, 256, 8208]⟩

abbrev nBuf : Space → Nat
  | .hbm => 112
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S8208x1024, .f32⟩
  | .hbm, ⟨5, _⟩ => ⟨S_, .f32⟩
  | .hbm, ⟨6, _⟩ => ⟨S8208, .f32⟩
  | .hbm, ⟨7, _⟩ => ⟨S8208x1, .f32⟩
  | .hbm, ⟨8, _⟩ => ⟨S_, .f32⟩
  | .hbm, ⟨9, _⟩ => ⟨S8208x1, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S8208x1024, .f32⟩
  | .hbm, ⟨16, _⟩ => ⟨S8208x1024, .f32⟩
  | .hbm, ⟨17, _⟩ => ⟨S1x1024, .f32⟩
  | .hbm, ⟨18, _⟩ => ⟨S8208x1024, .f32⟩
  | .hbm, ⟨19, _⟩ => ⟨S8208x1024, .f32⟩
  | .hbm, ⟨20, _⟩ => ⟨S8208x256, .f32⟩
  | .hbm, ⟨21, _⟩ => ⟨S_, .f32⟩
  | .hbm, ⟨22, _⟩ => ⟨S_, .f32⟩
  | .hbm, ⟨23, _⟩ => ⟨S8208x256, .f32⟩
  | .hbm, ⟨24, _⟩ => ⟨S8208, .i32⟩
  | .hbm, ⟨25, _⟩ => ⟨S_, .i32⟩
  | .hbm, ⟨26, _⟩ => ⟨S8208, .i32⟩
  | .hbm, ⟨27, _⟩ => ⟨S8208, .i32⟩
  | .hbm, ⟨28, _⟩ => ⟨S_, .i32⟩
  | .hbm, ⟨29, _⟩ => ⟨S8208, .i32⟩
  | .hbm, ⟨30, _⟩ => ⟨S8208, .i32⟩
  | .hbm, ⟨31, _⟩ => ⟨S_, .i32⟩
  | .hbm, ⟨32, _⟩ => ⟨S8208, .i32⟩
  | .hbm, ⟨33, _⟩ => ⟨S8208, .i32⟩
  | .hbm, ⟨34, _⟩ => ⟨S8208, .i32⟩
  | .hbm, ⟨35, _⟩ => ⟨S8208, .f32⟩
  | .hbm, ⟨36, _⟩ => ⟨S8208x1, .f32⟩
  | .hbm, ⟨37, _⟩ => ⟨S8208x256, .f32⟩
  | .hbm, ⟨38, _⟩ => ⟨S8208x256, .f32⟩
  | .hbm, ⟨39, _⟩ => ⟨S8208x256, .f32⟩
  | .hbm, ⟨40, _⟩ => ⟨S8208x256, .f32⟩
  | .hbm, ⟨41, _⟩ => ⟨S_, .f32⟩
  | .hbm, ⟨42, _⟩ => ⟨S_, .f32⟩
  | .hbm, ⟨43, _⟩ => ⟨S8208x256, .f32⟩
  | .hbm, ⟨44, _⟩ => ⟨S8208, .i32⟩
  | .hbm, ⟨45, _⟩ => ⟨S_, .i32⟩
  | .hbm, ⟨46, _⟩ => ⟨S8208, .i32⟩
  | .hbm, ⟨47, _⟩ => ⟨S8208, .i32⟩
  | .hbm, ⟨48, _⟩ => ⟨S_, .i32⟩
  | .hbm, ⟨49, _⟩ => ⟨S8208, .i32⟩
  | .hbm, ⟨50, _⟩ => ⟨S8208, .i32⟩
  | .hbm, ⟨51, _⟩ => ⟨S_, .i32⟩
  | .hbm, ⟨52, _⟩ => ⟨S8208, .i32⟩
  | .hbm, ⟨53, _⟩ => ⟨S8208, .i32⟩
  | .hbm, ⟨54, _⟩ => ⟨S8208, .i32⟩
  | .hbm, ⟨55, _⟩ => ⟨S8208, .f32⟩
  | .hbm, ⟨56, _⟩ => ⟨S8208x1, .f32⟩
  | .hbm, ⟨57, _⟩ => ⟨S8208x256, .f32⟩
  | .hbm, ⟨58, _⟩ => ⟨S8208x256, .f32⟩
  | .hbm, ⟨59, _⟩ => ⟨S8208x256, .f32⟩
  | .hbm, ⟨60, _⟩ => ⟨S8208x256, .f32⟩
  | .hbm, ⟨61, _⟩ => ⟨S_, .f32⟩
  | .hbm, ⟨62, _⟩ => ⟨S_, .f32⟩
  | .hbm, ⟨63, _⟩ => ⟨S8208x256, .f32⟩
  | .hbm, ⟨64, _⟩ => ⟨S8208, .i32⟩
  | .hbm, ⟨65, _⟩ => ⟨S_, .i32⟩
  | .hbm, ⟨66, _⟩ => ⟨S8208, .i32⟩
  | .hbm, ⟨67, _⟩ => ⟨S8208, .i32⟩
  | .hbm, ⟨68, _⟩ => ⟨S_, .i32⟩
  | .hbm, ⟨69, _⟩ => ⟨S8208, .i32⟩
  | .hbm, ⟨70, _⟩ => ⟨S8208, .i32⟩
  | .hbm, ⟨71, _⟩ => ⟨S_, .i32⟩
  | .hbm, ⟨72, _⟩ => ⟨S8208, .i32⟩
  | .hbm, ⟨73, _⟩ => ⟨S8208, .i32⟩
  | .hbm, ⟨74, _⟩ => ⟨S8208, .i32⟩
  | .hbm, ⟨75, _⟩ => ⟨S8208, .f32⟩
  | .hbm, ⟨76, _⟩ => ⟨S8208x1, .f32⟩
  | .hbm, ⟨77, _⟩ => ⟨S8208x256, .f32⟩
  | .hbm, ⟨78, _⟩ => ⟨S8208x256, .f32⟩
  | .hbm, ⟨79, _⟩ => ⟨S8208x256, .f32⟩
  | .hbm, ⟨80, _⟩ => ⟨S8208x256, .f32⟩
  | .hbm, ⟨81, _⟩ => ⟨S_, .f32⟩
  | .hbm, ⟨82, _⟩ => ⟨S_, .f32⟩
  | .hbm, ⟨83, _⟩ => ⟨S8208x256, .f32⟩
  | .hbm, ⟨84, _⟩ => ⟨S8208, .i32⟩
  | .hbm, ⟨85, _⟩ => ⟨S_, .i32⟩
  | .hbm, ⟨86, _⟩ => ⟨S8208, .i32⟩
  | .hbm, ⟨87, _⟩ => ⟨S8208, .i32⟩
  | .hbm, ⟨88, _⟩ => ⟨S_, .i32⟩
  | .hbm, ⟨89, _⟩ => ⟨S8208, .i32⟩
  | .hbm, ⟨90, _⟩ => ⟨S8208, .i32⟩
  | .hbm, ⟨91, _⟩ => ⟨S_, .i32⟩
  | .hbm, ⟨92, _⟩ => ⟨S8208, .i32⟩
  | .hbm, ⟨93, _⟩ => ⟨S8208, .i32⟩
  | .hbm, ⟨94, _⟩ => ⟨S8208, .i32⟩
  | .hbm, ⟨95, _⟩ => ⟨S8208, .f32⟩
  | .hbm, ⟨96, _⟩ => ⟨S8208x1, .f32⟩
  | .hbm, ⟨97, _⟩ => ⟨S8208x256, .f32⟩
  | .hbm, ⟨98, _⟩ => ⟨S8208x256, .f32⟩
  | .hbm, ⟨99, _⟩ => ⟨S8208x256, .f32⟩
  | .hbm, ⟨100, _⟩ => ⟨S8208x1x256, .f32⟩
  | .hbm, ⟨101, _⟩ => ⟨S8208x1x256, .f32⟩
  | .hbm, ⟨102, _⟩ => ⟨S8208x1x256, .f32⟩
  | .hbm, ⟨103, _⟩ => ⟨S8208x1x256, .f32⟩
  | .hbm, ⟨104, _⟩ => ⟨S8208x4x256, .f32⟩
  | .hbm, ⟨105, _⟩ => ⟨S4x256x8208, .f32⟩
  | .hbm, ⟨106, _⟩ => ⟨S8208x4x256, .f32⟩
  | .hbm, ⟨107, _⟩ => ⟨S8208x1024, .f32⟩
  | .hbm, ⟨108, _⟩ => ⟨S1x1024, .f32⟩
  | .hbm, ⟨109, _⟩ => ⟨S8208x1024, .f32⟩
  | .hbm, ⟨110, _⟩ => ⟨S8208x1024, .f32⟩
  | .hbm, ⟨111, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_c_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_14 : Ref sig .tc := ⟨.hbm, 85, rfl⟩
abbrev main_v65 : Ref sig .tc := ⟨.hbm, 86, rfl⟩
abbrev main_v66 : Ref sig .tc := ⟨.hbm, 87, rfl⟩
abbrev main_c_15 : Ref sig .tc := ⟨.hbm, 88, rfl⟩
abbrev main_v67 : Ref sig .tc := ⟨.hbm, 89, rfl⟩
abbrev main_v68 : Ref sig .tc := ⟨.hbm, 90, rfl⟩
abbrev main_c_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Query.lean ====
abbrev S8320x1024 : Shape := ⟨2, ![8320, 1024]⟩
abbrev S1024x384 : Shape := ⟨2, ![1024, 384]⟩
abbrev S1x8320x1024 : Shape := ⟨3, ![1, 8320, 1024]⟩
abbrev S1x1024x384 : Shape := ⟨3, ![1, 1024, 384]⟩
abbrev S8320x384 : Shape := ⟨2, ![8320, 384]⟩
abbrev S1x640x1024 : Shape := ⟨3, ![1, 640, 1024]⟩
abbrev S640x384 : Shape := ⟨2, ![640, 384]⟩
abbrev S640x1024 : Shape := ⟨2, ![640, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x384, .f32⟩
  | .hbm, ⟨2, _⟩ => ⟨S8320x1024, .bf16⟩
  | .hbm, ⟨3, _⟩ => ⟨S1x8320x1024, .bf16⟩
  | .hbm, ⟨4, _⟩ => ⟨S1024x384, .bf16⟩
  | .hbm, ⟨5, _⟩ => ⟨S1x1024x384, .bf16⟩
  | .hbm, ⟨6, _⟩ => ⟨S8320x384, .f32⟩
  | .local _ .vmem, ⟨0, _⟩ => ⟨S1x640x1024, .bf16⟩
  | .local _ .vmem, ⟨1, _⟩ => ⟨S1x640x1024, .bf16⟩
  | .local _ .vmem, ⟨2, _⟩ => ⟨S1x1024x384, .bf16⟩
  | .local _ .vmem, ⟨3, _⟩ => ⟨S640x384, .f32⟩
  | .local _ .vmem, ⟨4, _⟩ => ⟨S640x384, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueryRefIdeal.lean ====
abbrev S8320x1024 : Shape := ⟨2, ![8320, 1024]⟩
abbrev S1024x384 : Shape := ⟨2, ![1024, 384]⟩
abbrev S8320x384 : Shape := ⟨2, ![8320, 384]⟩

abbrev nBuf : Space → Nat
  | .hbm => 3
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x384, .f32⟩
  | .hbm, ⟨2, _⟩ => ⟨S8320x384, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QueryRows.lean ====
abbrev S8320x1024 : Shape := ⟨2, ![8320, 1024]⟩
abbrev S1024x384 : Shape := ⟨2, ![1024, 384]⟩
abbrev S8320x384 : Shape := ⟨2, ![8320, 384]⟩
abbrev S1x8320x384 : Shape := ⟨3, ![1, 8320, 384]⟩
abbrev S1x1024x384 : Shape := ⟨3, ![1, 1024, 384]⟩
abbrev S1x640x384 : Shape := ⟨3, ![1, 640, 384]⟩
abbrev S640x1024 : Shape := ⟨2, ![640, 1024]⟩
abbrev S640x384 : Shape := ⟨2, ![640, 384]⟩

abbrev nBuf : Space → Nat
  | .hbm => 8
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x384, .f32⟩
  | .hbm, ⟨2, _⟩ => ⟨S8320x384, .f32⟩
  | .hbm, ⟨3, _⟩ => ⟨S8320x384, .bf16⟩
  | .hbm, ⟨4, _⟩ => ⟨S1x8320x384, .bf16⟩
  | .hbm, ⟨5, _⟩ => ⟨S1024x384, .bf16⟩
  | .hbm, ⟨6, _⟩ => ⟨S1x1024x384, .bf16⟩
  | .hbm, ⟨7, _⟩ => ⟨S8320x1024, .f32⟩
  | .local _ .vmem, ⟨0, _⟩ => ⟨S1x640x384, .bf16⟩
  | .local _ .vmem, ⟨1, _⟩ => ⟨S1x640x384, .bf16⟩
  | .local _ .vmem, ⟨2, _⟩ => ⟨S1x1024x384, .bf16⟩
  | .local _ .vmem, ⟨3, _⟩ => ⟨S640x1024, .f32⟩
  | .local _ .vmem, ⟨4, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x640x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueryRowsRefIdeal.lean ====
abbrev S8320x1024 : Shape := ⟨2, ![8320, 1024]⟩
abbrev S1024x384 : Shape := ⟨2, ![1024, 384]⟩
abbrev S8320x384 : Shape := ⟨2, ![8320, 384]⟩
abbrev S384x1024 : Shape := ⟨2, ![384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x384, .f32⟩
  | .hbm, ⟨2, _⟩ => ⟨S8320x384, .f32⟩
  | .hbm, ⟨3, _⟩ => ⟨S8320x384, .f32⟩
  | .hbm, ⟨4, _⟩ => ⟨S384x1024, .f32⟩
  | .hbm, ⟨5, _⟩ => ⟨S1024x384, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QueryWeights.lean ====
abbrev S8320x1024 : Shape := ⟨2, ![8320, 1024]⟩
abbrev S1024x384 : Shape := ⟨2, ![1024, 384]⟩
abbrev S8320x384 : Shape := ⟨2, ![8320, 384]⟩
abbrev S1x8320x1024 : Shape := ⟨3, ![1, 8320, 1024]⟩
abbrev S1x8320x384 : Shape := ⟨3, ![1, 8320, 384]⟩
abbrev S1x1024x384 : Shape := ⟨3, ![1, 1024, 384]⟩
abbrev S1x640x1024 : Shape := ⟨3, ![1, 640, 1024]⟩
abbrev S1x640x384 : Shape := ⟨3, ![1, 640, 384]⟩
abbrev S640x1024 : Shape := ⟨2, ![640, 1024]⟩
abbrev S640x384 : Shape := ⟨2, ![640, 384]⟩

abbrev nBuf : Space → Nat
  | .hbm => 8
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x384, .f32⟩
  | .hbm, ⟨2, _⟩ => ⟨S8320x384, .f32⟩
  | .hbm, ⟨3, _⟩ => ⟨S8320x1024, .bf16⟩
  | .hbm, ⟨4, _⟩ => ⟨S1x8320x1024, .bf16⟩
  | .hbm, ⟨5, _⟩ => ⟨S8320x384, .bf16⟩
  | .hbm, ⟨6, _⟩ => ⟨S1x8320x384, .bf16⟩
  | .hbm, ⟨7, _⟩ => ⟨S1x1024x384, .f32⟩
  | .local _ .vmem, ⟨0, _⟩ => ⟨S1x640x1024, .bf16⟩
  | .local _ .vmem, ⟨1, _⟩ => ⟨S1x640x1024, .bf16⟩
  | .local _ .vmem, ⟨2, _⟩ => ⟨S1x640x384, .bf16⟩
  | .local _ .vmem, ⟨3, _⟩ => ⟨S1x640x384, .bf16⟩
  | .local _ .vmem, ⟨4, _⟩ => ⟨S1x1024x384, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== QueryWeightsRefIdeal.lean ====
abbrev S8320x1024 : Shape := ⟨2, ![8320, 1024]⟩
abbrev S1024x384 : Shape := ⟨2, ![1024, 384]⟩
abbrev S8320x384 : Shape := ⟨2, ![8320, 384]⟩
abbrev S384x1024 : Shape := ⟨2, ![384, 1024]⟩
abbrev S1x1024x384 : Shape := ⟨3, ![1, 1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x384, .f32⟩
  | .hbm, ⟨2, _⟩ => ⟨S8320x384, .f32⟩
  | .hbm, ⟨3, _⟩ => ⟨S8320x384, .f32⟩
  | .hbm, ⟨4, _⟩ => ⟨S384x1024, .f32⟩
  | .hbm, ⟨5, _⟩ => ⟨S1024x384, .f32⟩
  | .hbm, ⟨6, _⟩ => ⟨S8320x1024, .f32⟩
  | .hbm, ⟨7, _⟩ => ⟨S1x1024x384, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Output.lean ====
abbrev S8320x1024 : Shape := ⟨2, ![8320, 1024]⟩
abbrev S8320x512 : Shape := ⟨2, ![8320, 512]⟩
abbrev S512x1024 : Shape := ⟨2, ![512, 1024]⟩
abbrev S8320x8x64 : Shape := ⟨3, ![8320, 8, 64]⟩
abbrev S8x8320x64 : Shape := ⟨3, ![8, 8320, 64]⟩
abbrev S8x64x1024 : Shape := ⟨3, ![8, 64, 1024]⟩
abbrev S8x640x64 : Shape := ⟨3, ![8, 640, 64]⟩
abbrev S640x1024 : Shape := ⟨2, ![640, 1024]⟩
abbrev S1x640x64 : Shape := ⟨3, ![1, 640, 64]⟩
abbrev S640x64 : Shape := ⟨2, ![640, 64]⟩
abbrev S1x64x1024 : Shape := ⟨3, ![1, 64, 1024]⟩
abbrev S64x1024 : Shape := ⟨2, ![64, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S512x1024, .f32⟩
  | .hbm, ⟨3, _⟩ => ⟨S8320x8x64, .f32⟩
  | .hbm, ⟨4, _⟩ => ⟨S8x8320x64, .f32⟩
  | .hbm, ⟨5, _⟩ => ⟨S8x8320x64, .bf16⟩
  | .hbm, ⟨6, _⟩ => ⟨S8x64x1024, .f32⟩
  | .hbm, ⟨7, _⟩ => ⟨S8x64x1024, .bf16⟩
  | .hbm, ⟨8, _⟩ => ⟨S8320x1024, .f32⟩
  | .local _ .vmem, ⟨0, _⟩ => ⟨S8x640x64, .bf16⟩
  | .local _ .vmem, ⟨1, _⟩ => ⟨S8x640x64, .bf16⟩
  | .local _ .vmem, ⟨2, _⟩ => ⟨S8x64x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x640x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutputRefIdeal.lean ====
abbrev S8320x1024 : Shape := ⟨2, ![8320, 1024]⟩
abbrev S8320x512 : Shape := ⟨2, ![8320, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S512x1024, .f32⟩
  | .hbm, ⟨3, _⟩ => ⟨S8320x1024, .f32⟩
  | .hbm, ⟨4, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.WeightsEntry.lean ====
/-
  What the weight-gradient kernel finds in its five operands: the arrays that the reference computes on its way to
  the gradients (normalised rows, incoming gradient, gated features and the two gate gradients), the last three laid
  out in four shards of 704 features.
-/
module

public import proofs.«01_k».proof.Proof.Gen.WeightsIdeal.Value
public import proofs.«01_k».proof.Proof.Gen.WeightsRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.WeightsIdeal.Entry

open Cert.WeightsIdeal Cert.WeightsIdeal.Gen Idealize.ShloMosaic Idealize.ShloMosaic.TcCoe Idealize.SL.Sem
open Cert.WeightsRefIdeal.Read (val_main_v15 val_main_v19 val_main_v26 val_main_v30 val_main_v35)

variable (m : (ℓ : Loc nD τ sig) → Buf (Elt Ideal) ℓ) (c : Dev nD)

/-- The contents of argument 0 … 5 of the program. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The five operands: normalised rows, incoming gradient, gated features, and the gradients of the gate's two factors. -/
abbrev hn : S8320x1024.Idx → EReal := V m c main_v23
abbrev dy : S8320x1024.Idx → EReal := V m c main_v24
abbrev ga : S4x8320x704.Idx → EReal := V m c main_v27
abbrev dg : S4x8320x704.Idx → EReal := V m c main_v30
abbrev du : S4x8320x704.Idx → EReal := V m c main_v33

/-- The normalised rows. -/
theorem hn_eq : hn m c = val_main_v15 (F := Ideal) (a0 m c) (a1 m c) := by
  unfold hn
  entry_read
  rfl

/-- The incoming gradient, halved. -/
theorem dy_eq : dy m c = val_main_v26 (F := Ideal) (a5 m c) := by
  unfold dy
  entry_read
  unfold val_main_v26 Cert.WeightsRefIdeal.Read.val_main_v24
  rw [shapeCast_self]
  rfl

/-- Rows of 2816 features laid out in four shards of 704 features. -/
abbrev shards (t : FVec Ideal S8320x2816 .f32) : FVec Ideal S4x8320x704 .bf16 :=
  transpose S4x8320x704 [1, 0, 2] (shapeCast S8320x4x704 (truncf .bf16 t bitsLt_bf16_f32) shapeCasts_S8320x2816_S8320x4x704)
    transposes_S8320x4x704_S4x8320x704_1_0_2

theorem shards_apply (t : FVec Ideal S8320x2816 .f32) (q : Fin 4) (r : Fin 8320) (f : Fin 704) :
    shards t (ix3 q r f) = t (ix2 r ⟨q.val * 704 + f.val, by omega⟩) := by
  unfold shards
  pointwise

/-- The gated features. -/
theorem ga_eq : ga m c = shards (val_main_v19 (F := Ideal) (a0 m c) (a1 m c) (a2 m c) (a3 m c)) := by
  unfold ga
  entry_read
  rfl

/-- The gradient of the gate's second factor. -/
theorem du_eq : du m c = shards (val_main_v30 (F := Ideal) (a0 m c) (a1 m c) (a2 m c) (a4 m c) (a5 m c)) := by
  unfold val_main_v30 Cert.WeightsRefIdeal.Read.val_main_v29 val_main_v26 Cert.WeightsRefIdeal.Read.val_main_v24
  rw [shapeCast_self]
  unfold du V
  simp only [List.flatten, List.append, hostOps0, hostOps0_1, hostOps0_2, hostOps0_3, hostOps0_4, StableHlo.TRef.binary, StableHlo.TRef.nullary, StableHlo.TRef.unary, StableHlo.TRef.toBuf, StableHlo.TRef.ofBuf, cast_eq]
  after_results_simp <;> rfl

/-- The gradient of the gate's first factor. -/
theorem dg_eq : dg m c = shards (val_main_v35 (F := Ideal) (a0 m c) (a1 m c) (a2 m c) (a3 m c) (a4 m c) (a5 m c)) := by
  unfold val_main_v35 Cert.WeightsRefIdeal.Read.val_main_call1_v1 Cert.WeightsRefIdeal.Read.val_main_call1_v2 Cert.WeightsRefIdeal.Read.val_main_call1_v0 Cert.WeightsRefIdeal.Read.val_main_v31 Cert.WeightsRefIdeal.Read.val_main_v29 val_main_v26 Cert.WeightsRefIdeal.Read.val_main_v24
  rw [shapeCast_self]
  unfold dg V
  simp only [List.flatten, List.append, hostOps0, hostOps0_1, hostOps0_2, hostOps0_3, hostOps0_4, StableHlo.TRef.binary, StableHlo.TRef.nullary, StableHlo.TRef.unary, StableHlo.TRef.toBuf, StableHlo.TRef.ofBuf, cast_eq]
  after_results_simp <;> rfl

end Cert.WeightsIdeal.Entry
-- ==== Proof.WeightsBlocks.lean ====
/-
  One grid point of the weight-gradient kernel: it adds to a block of each gradient the product of one block of 1664
  rows, and over the five points of a run the block sums all 8320 rows.
-/
module

public import proofs.«01_k».proof.Proof.WeightsEntry

@[expose] public section

set_option maxRecDepth 16384

noncomputable section

namespace Cert.WeightsIdeal.Blocks

open Cert.WeightsIdeal Cert.WeightsIdeal.Gen Cert.WeightsIdeal.Value Cert.WeightsIdeal.Entry Idealize.ShloMosaic Idealize.ShloMosaic.TcCoe Idealize.SL.Sem

variable (m : (ℓ : Loc nD τ sig) → Buf (Elt Ideal) ℓ) (c : Dev nD)

/-! ## What a point stores -/

theorem pay6_apply (x : Vec Ideal S1664x1024 .bf16) (acc : Vec Ideal S1x704x1024 .f32) (d : Vec Ideal S1x1664x704 .bf16)
    (i : S1x704x1024.Idx) :
    k0_pay6 x acc d i = acc i + ∑ r : Fin 1664, d (ix3 0 r (i 1)) * x (ix2 r (i 2)) := by
  idx_vars i
  obtain rfl : i0 = 0 := Subsingleton.elim _ _
  pointwise [k0_pay6, k0_pay5]

theorem pay7_apply (x : Vec Ideal S1664x1024 .bf16) (acc : Vec Ideal S1x704x1024 .f32) (d : Vec Ideal S1x1664x704 .bf16)
    (i : S1x704x1024.Idx) :
    k0_pay7 x acc d i = acc i + ∑ r : Fin 1664, d (ix3 0 r (i 1)) * x (ix2 r (i 2)) := by
  idx_vars i
  obtain rfl : i0 = 0 := Subsingleton.elim _ _
  pointwise [k0_pay7, k0_pay5]

theorem pay1_apply (y : Vec Ideal S1664x1024 .bf16) (acc : Vec Ideal S1x704x1024 .f32) (a : Vec Ideal S1x1664x704 .bf16)
    (i : S1x704x1024.Idx) :
    k0_pay1 (k0_pay8 acc) a y i = acc i + ∑ r : Fin 1664, a (ix3 0 r (i 1)) * y (ix2 r (i 2)) := by
  idx_vars i
  obtain rfl : i0 = 0 := Subsingleton.elim _ _
  pointwise [k0_pay1, k0_pay8]

theorem pay2_apply (i : S1x704x1024.Idx) : k0_pay2 (F := Ideal) i = 0 := by pointwise [k0_pay2]
theorem pay3_apply (i : S1x704x1024.Idx) : k0_pay3 (F := Ideal) i = 0 := by pointwise [k0_pay3]
theorem pay4_apply (i : S1x704x1024.Idx) : k0_pay4 (F := Ideal) i = 0 := by pointwise [k0_pay4]

/-! ## Where the blocks lie -/

theorem idx : ∀ t, (win0_0.index t = ![t.val % 5, 0] ∧ win0_1.index t = ![t.val % 5, 0])
    ∧ win0_2.index t = ![t.val / 5, t.val % 5, 0] ∧ win0_3.index t = ![t.val / 5, t.val % 5, 0]
    ∧ win0_4.index t = ![t.val / 5, t.val % 5, 0] :=
  (by decide +kernel : ∀ t : Fin grid0.N, _)

theorem blk0 (t : Fin cfg0.N) (r : Fin 1664) (k : Fin 1024) :
    iblk m c 0 t (ix2 r k) = hn m c (ix2 ⟨t.val % 5 * 1664 + r.val, by omega⟩ k) := by
  blk_ext [iblk, idx t]

theorem blk1 (t : Fin cfg0.N) (r : Fin 1664) (k : Fin 1024) :
    iblk m c 1 t (ix2 r k) = dy m c (ix2 ⟨t.val % 5 * 1664 + r.val, by omega⟩ k) := by
  blk_ext [iblk, idx t]

theorem div_lt (t : Fin cfg0.N) : t.val / 5 < 4 := by
  have := lt_of_lt_of_eq t.isLt (show cfg0.N = 20 from N_0); omega

theorem blk2 (t : Fin cfg0.N) (r : Fin 1664) (f : Fin 704) :
    iblk m c 2 t (ix3 0 r f) = ga m c (ix3 ⟨t.val / 5, div_lt t⟩ ⟨t.val % 5 * 1664 + r.val, by omega⟩ f) := by
  blk_ext [iblk, idx t]

theorem blk3 (t : Fin cfg0.N) (r : Fin 1664) (f : Fin 704) :
    iblk m c 3 t (ix3 0 r f) = dg m c (ix3 ⟨t.val / 5, div_lt t⟩ ⟨t.val % 5 * 1664 + r.val, by omega⟩ f) := by
  blk_ext [iblk, idx t]

theorem blk4 (t : Fin cfg0.N) (r : Fin 1664) (f : Fin 704) :
    iblk m c 4 t (ix3 0 r f) = du m c (ix3 ⟨t.val / 5, div_lt t⟩ ⟨t.val % 5 * 1664 + r.val, by omega⟩ f) := by
  blk_ext [iblk, idx t]

/-! ## The fold of a run -/

/-- What one run of five points leaves, when point `t` adds the products of its block of 1664 rows: the sum over all rows. -/
theorem fold (A : S4x8320x704.Idx → EReal) (X : S8320x1024.Idx → EReal)
    (a : (n : ℕ) → n < cfg0.N → S1x704x1024.Idx → EReal) (g : (n : ℕ) → n < cfg0.N → (S1x704x1024.Idx → EReal) → S1x704x1024.Idx → EReal)
    (ha : ∀ (t : Fin cfg0.N) i, a t.val t.isLt i = 0 + ∑ r : Fin 1664,
      A (ix3 ⟨t.val / 5, div_lt t⟩ ⟨t.val % 5 * 1664 + r.val, by omega⟩ (i 1)) * X (ix2 ⟨t.val % 5 * 1664 + r.val, by omega⟩ (i 2)))
    (hg : ∀ (t : Fin cfg0.N) acc i, g t.val t.isLt acc i = acc i + ∑ r : Fin 1664,
      A (ix3 ⟨t.val / 5, div_lt t⟩ ⟨t.val % 5 * 1664 + r.val, by omega⟩ (i 1)) * X (ix2 ⟨t.val % 5 * 1664 + r.val, by omega⟩ (i 2)))
    (q : Fin 4) (h : 5 * q.val + 4 < cfg0.N) (i : S1x704x1024.Idx) :
    Pipeline.accAt a g (5 * q.val) 4 h i = ∑ r : Fin 8320, A (ix3 q r (i 1)) * X (ix2 r (i 2)) := by
  have hN : cfg0.N = 20 := N_0
  have key := Pipeline.accAt_add_apply a g (fun _ => 0)
    (fun n i => ∑ r : Fin 1664, A (ix3 ⟨n / 5 % 4, by omega⟩ ⟨n % 5 * 1664 + r.val, by omega⟩ (i 1))
      * X (ix2 ⟨n % 5 * 1664 + r.val, by omega⟩ (i 2))) (5 * q.val) 4
    (fun h i => by
      have e : 5 * q.val / 5 % 4 = 5 * q.val / 5 := by omega
      simp only [e]
      exact ha ⟨_, h⟩ i)
    (fun n h acc i _ _ => by
      have e : n / 5 % 4 = n / 5 := by omega
      simp only [e]
      exact hg ⟨n, h⟩ acc i) 4 le_rfl h i
  rw [key, zero_add, Finset.sum_range]
  refine Fin.sum_mul_add_congr (S := 5) (n := 1664) fun s r hl => ?_
  have e1 : (5 * q.val + s.val) / 5 % 4 = q.val := by omega
  have e2 : (5 * q.val + s.val) % 5 = s.val := by omega
  simp only [e1, e2]

/-- The run of five points that holds shard `q`. -/
theorem acc5 (q : Fin 4) (h : 5 * q.val + 4 < cfg0.N) (i : S1x704x1024.Idx) :
    (Pipeline.accAt (reset5 m c) (step5 m c) (5 * q.val) 4 h i : EReal)
      = ∑ r : Fin 8320, dg m c (ix3 q r (i 1)) * hn m c (ix2 r (i 2)) :=
  fold (dg m c) (hn m c) (reset5 m c) (step5 m c)
    (fun t i => by
      unfold reset5
      rw [pay6_apply, pay2_apply]
      exact congrArg (_ + ·) (Finset.sum_congr rfl fun r _ => congrArg₂ (· * ·) (blk3 m c t r (i 1)) (blk0 m c t r (i 2))))
    (fun t acc i => by
      unfold step5
      rw [pay6_apply]
      exact congrArg (_ + ·) (Finset.sum_congr rfl fun r _ => congrArg₂ (· * ·) (blk3 m c t r (i 1)) (blk0 m c t r (i 2)))) q h i

theorem G5_apply (q : Fin 4) (f : Fin 704) (k : Fin 1024) :
    (G5 m c (ix3 q f k) : EReal) = ∑ r : Fin 8320, dg m c (ix3 q r f) * hn m c (ix2 r k) := by
  have hN : cfg0.N = 20 := N_0
  have hr : run5Of (ix3 q f k) = q.val := by
    show 1 * (q.val / 1 - 0) + 1 * (f.val / 704 - 0) + 1 * (k.val / 1024 - 0) = q.val
    omega
  have e1 : (loc5Of (ix3 q f k)) 1 = f := Fin.ext (Nat.mod_eq_of_lt f.isLt)
  have e2 : (loc5Of (ix3 q f k)) 2 = k := Fin.ext (Nat.mod_eq_of_lt k.isLt)
  have key := acc5 m c q (by omega) (loc5Of (ix3 q f k))
  rw [e1, e2] at key
  rw [← key]
  have same : ∀ (b : ℕ) (_ : b = 5 * q.val) (h : b + 4 < cfg0.N) (h' : 5 * q.val + 4 < cfg0.N),
      Pipeline.accAt (reset5 m c) (step5 m c) b 4 h = Pipeline.accAt (reset5 m c) (step5 m c) (5 * q.val) 4 h' := by
    intro b hb h h'; subst hb; rfl
  unfold G5
  rw [dif_pos (by rw [hr]; omega)]
  exact congrFun (same _ (by rw [hr]) _ _) _

/-- The run of five points that holds shard `q`. -/
theorem acc6 (q : Fin 4) (h : 5 * q.val + 4 < cfg0.N) (i : S1x704x1024.Idx) :
    (Pipeline.accAt (reset6 m c) (step6 m c) (5 * q.val) 4 h i : EReal)
      = ∑ r : Fin 8320, du m c (ix3 q r (i 1)) * hn m c (ix2 r (i 2)) :=
  fold (du m c) (hn m c) (reset6 m c) (step6 m c)
    (fun t i => by
      unfold reset6
      rw [pay7_apply, pay3_apply]
      exact congrArg (_ + ·) (Finset.sum_congr rfl fun r _ => congrArg₂ (· * ·) (blk4 m c t r (i 1)) (blk0 m c t r (i 2))))
    (fun t acc i => by
      unfold step6
      rw [pay7_apply]
      exact congrArg (_ + ·) (Finset.sum_congr rfl fun r _ => congrArg₂ (· * ·) (blk4 m c t r (i 1)) (blk0 m c t r (i 2)))) q h i

theorem G6_apply (q : Fin 4) (f : Fin 704) (k : Fin 1024) :
    (G6 m c (ix3 q f k) : EReal) = ∑ r : Fin 8320, du m c (ix3 q r f) * hn m c (ix2 r k) := by
  have hN : cfg0.N = 20 := N_0
  have hr : run6Of (ix3 q f k) = q.val := by
    show 1 * (q.val / 1 - 0) + 1 * (f.val / 704 - 0) + 1 * (k.val / 1024 - 0) = q.val
    omega
  have e1 : (loc6Of (ix3 q f k)) 1 = f := Fin.ext (Nat.mod_eq_of_lt f.isLt)
  have e2 : (loc6Of (ix3 q f k)) 2 = k := Fin.ext (Nat.mod_eq_of_lt k.isLt)
  have key := acc6 m c q (by omega) (loc6Of (ix3 q f k))
  rw [e1, e2] at key
  rw [← key]
  have same : ∀ (b : ℕ) (_ : b = 5 * q.val) (h : b + 4 < cfg0.N) (h' : 5 * q.val + 4 < cfg0.N),
      Pipeline.accAt (reset6 m c) (step6 m c) b 4 h = Pipeline.accAt (reset6 m c) (step6 m c) (5 * q.val) 4 h' := by
    intro b hb h h'; subst hb; rfl
  unfold G6
  rw [dif_pos (by rw [hr]; omega)]
  exact congrFun (same _ (by rw [hr]) _ _) _

/-- The run of five points that holds shard `q`. -/
theorem acc7 (q : Fin 4) (h : 5 * q.val + 4 < cfg0.N) (i : S1x704x1024.Idx) :
    (Pipeline.accAt (reset7 m c) (step7 m c) (5 * q.val) 4 h i : EReal)
      = ∑ r : Fin 8320, ga m c (ix3 q r (i 1)) * dy m c (ix2 r (i 2)) :=
  fold (ga m c) (dy m c) (reset7 m c) (step7 m c)
    (fun t i => by
      unfold reset7
      rw [pay1_apply, pay4_apply]
      exact congrArg (_ + ·) (Finset.sum_congr rfl fun r _ => congrArg₂ (· * ·) (blk2 m c t r (i 1)) (blk1 m c t r (i 2))))
    (fun t acc i => by
      unfold step7
      rw [pay1_apply]
      exact congrArg (_ + ·) (Finset.sum_congr rfl fun r _ => congrArg₂ (· * ·) (blk2 m c t r (i 1)) (blk1 m c t r (i 2)))) q h i

theorem G7_apply (q : Fin 4) (f : Fin 704) (k : Fin 1024) :
    (G7 m c (ix3 q f k) : EReal) = ∑ r : Fin 8320, ga m c (ix3 q r f) * dy m c (ix2 r k) := by
  have hN : cfg0.N = 20 := N_0
  have hr : run7Of (ix3 q f k) = q.val := by
    show 1 * (q.val / 1 - 0) + 1 * (f.val / 704 - 0) + 1 * (k.val / 1024 - 0) = q.val
    omega
  have e1 : (loc7Of (ix3 q f k)) 1 = f := Fin.ext (Nat.mod_eq_of_lt f.isLt)
  have e2 : (loc7Of (ix3 q f k)) 2 = k := Fin.ext (Nat.mod_eq_of_lt k.isLt)
  have key := acc7 m c q (by omega) (loc7Of (ix3 q f k))
  rw [e1, e2] at key
  rw [← key]
  have same : ∀ (b : ℕ) (_ : b = 5 * q.val) (h : b + 4 < cfg0.N) (h' : 5 * q.val + 4 < cfg0.N),
      Pipeline.accAt (reset7 m c) (step7 m c) b 4 h = Pipeline.accAt (reset7 m c) (step7 m c) (5 * q.val) 4 h' := by
    intro b hb h h'; subst hb; rfl
  unfold G7
  rw [dif_pos (by rw [hr]; omega)]
  exact congrFun (same _ (by rw [hr]) _ _) _

end Cert.WeightsIdeal.Blocks
-- ==== Proof.WeightsValue.lean ====
/-
  The weight gradients: what the kernel leaves in its three results is what the reference computes.
-/
module

public import proofs.«01_k».proof.Proof.WeightsBlocks

@[expose] public section

set_option maxRecDepth 16384

noncomputable section

namespace Cert.WeightsIdeal.Tie

open Cert.WeightsIdeal Cert.WeightsIdeal.Gen Cert.WeightsIdeal.Value Cert.WeightsIdeal.Entry Cert.WeightsIdeal.Blocks
open Idealize.ShloMosaic Idealize.ShloMosaic.TcCoe Idealize.SL.Sem
open Cert.WeightsRefIdeal.Read

variable (m : (ℓ : Loc nD τ sig) → Buf (Elt Ideal) ℓ) (c : Dev nD)

/-- The gradient of the gate's first weight. -/
theorem wg : G5 m c = val_main_v63 (F := Ideal) (a0 m c) (a1 m c) (a2 m c) (a3 m c) (a4 m c) (a5 m c) := by
  funext i
  idx_vars i
  rw [G5_apply, dg_eq, hn_eq]
  simp only [shards_apply]
  pointwise [val_main_v63, val_main_v61, val_main_v37, val_main_v36]

/-- The gradient of the gate's second weight. -/
theorem wu : G6 m c = val_main_v64 (F := Ideal) (a0 m c) (a1 m c) (a2 m c) (a4 m c) (a5 m c) := by
  funext i
  idx_vars i
  rw [G6_apply, du_eq, hn_eq]
  simp only [shards_apply]
  pointwise [val_main_v64, val_main_v62, val_main_v33, val_main_v32]

/-- The gradient of the last weight: the reference multiplies the two factors in the other order. -/
theorem wd : G7 m c = val_main_v65 (F := Ideal) (a0 m c) (a1 m c) (a2 m c) (a3 m c) (a5 m c) := by
  funext i
  idx_vars i
  rw [G7_apply, ga_eq, dy_eq]
  simp only [shards_apply]
  pointwise [val_main_v65, val_main_v28, val_main_v27]
  exact Finset.sum_congr (M := EReal) rfl fun r _ => mul_comm (G := EReal) _ _

end Cert.WeightsIdeal.Tie
-- ==== Proof.WeightsClaims.lean ====
/-
  The claims about the weight gradients: the reference's frame, and the equality of the two programs' results.
-/
module

public import proofs.«01_k».proof.Defs
public import proofs.«01_k».proof.Proof.WeightsValue
public import proofs.«01_k».proof.Proof.Gen.WeightsRefIdeal.Run
public import Idealize.ShloMosaic.Lib.Quiescent

@[expose] public section

noncomputable section

namespace Cert.Proof.Weights

open Idealize.ShloMosaic Idealize.SL.Sem

theorem frame_reference : Cert.quiescent_WeightsRefIdeal := by
  intro m g _
  refine θ_run_mono (Cert.WeightsRefIdeal.Value.run (F := Ideal) m g) fun r h => ⟨fun c => ?_, sem_eq_zero_of_no_sems (by decide) _⟩
  obtain ⟨_, _, _, h0, h1, h2, h3, h4, h5⟩ := h c
  exact ⟨h0, h1, h2, h3, h4, h5⟩

theorem algebraic : Cert.algebraic_WeightsIdeal_WeightsRefIdeal := by
  intro m g m' g' _ hagree
  refine ⟨_, _, _, Cert.WeightsIdeal.Value.run (F := Ideal) m g, ?_⟩
  refine θ_run_mono (Cert.WeightsRefIdeal.Value.run (F := Ideal) m' g') fun r h c => ?_
  obtain ⟨r0, r1, r2, h0, h1, h2, h3, h4, h5⟩ := h c
  obtain ⟨e0, e1, e2, e3, e4, e5⟩ := hagree c
  refine ⟨r0.trans ((Cert.WeightsRefIdeal.Read.val_main_v63_eq m' c).trans ?_), r1.trans ((Cert.WeightsRefIdeal.Read.val_main_v64_eq _ _ _ _ _).trans ?_),
    r2.trans ((Cert.WeightsRefIdeal.Read.val_main_v65_eq _ _ _ _ _).trans ?_), h0, h1, h2, h3, h4, h5⟩
  · rw [e0, e1, e2, e3, e4, e5]; exact (Cert.WeightsIdeal.Tie.wg m c).symm
  · rw [e0, e1, e2, e4, e5]; exact (Cert.WeightsIdeal.Tie.wu m c).symm
  · rw [e0, e1, e2, e3, e5]; exact (Cert.WeightsIdeal.Tie.wd m c).symm

end Cert.Proof.Weights
-- ==== Proof.ForwardBlocks.lean ====
/-
  One grid point of the feed-forward kernel, element by element: the row normalisation, the two products with one
  shard of the gate's weights, and the product with one shard of the last weight.
-/
module

public import proofs.«01_k».proof.Proof.Gen.ForwardIdeal.Value
public import proofs.«01_k».proof.Proof.Gen.ForwardRefIdeal.Read
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.ForwardIdeal.Blocks

open Cert.ForwardIdeal Cert.ForwardIdeal.Gen Cert.ForwardIdeal.Value Idealize.ShloMosaic Idealize.ShloMosaic.TcCoe Idealize.SL.Sem
open Cert.ForwardRefIdeal.Read

/-! ## The reference's stages, named -/

section stages
variable (h : FVec Ideal S8320x1024 .f32) (γ : FVec Ideal S1024 .f32) (wg wu : FVec Ideal S1024x2816 .f32) (wd : FVec Ideal S2816x1024 .f32)

/-- Normalised rows; the two products of the gate; the gated features. -/
abbrev rows : S8320x1024.Idx → EReal := val_main_v12 (F := Ideal) h γ
abbrev gate : Cert.ForwardRefIdeal.S8320x2816.Idx → EReal := val_main_v13 (F := Ideal) h γ wg
abbrev up : Cert.ForwardRefIdeal.S8320x2816.Idx → EReal := val_main_v17 (F := Ideal) h γ wu
abbrev gated : Cert.ForwardRefIdeal.S8320x2816.Idx → EReal := val_main_v37 (F := Ideal) h γ wg wu

theorem gate_apply (r : Fin 8320) (f : Fin 2816) :
    gate h γ wg (ix2 r f) = ∑ k : Fin 1024, rows h γ (ix2 r k) * (wg (ix2 k f) : EReal) := by
  unfold gate
  pointwise [val_main_v13]

theorem up_apply (r : Fin 8320) (f : Fin 2816) :
    up h γ wu (ix2 r f) = ∑ k : Fin 1024, rows h γ (ix2 r k) * (wu (ix2 k f) : EReal) := by
  unfold up
  pointwise [val_main_v17]

/-- The gate at one element: `g / (1 + e^(-g)) · u`. -/
def cell (g u : EReal) : EReal := g * Ideal.div 1 (1 + Ideal.exp (-g)) * u

theorem gated_apply (i : Cert.ForwardRefIdeal.S8320x2816.Idx) : gated h γ wg wu i = cell (gate h γ wg i) (up h γ wu i) := by
  have e1 : val_main_v34 (F := Ideal) h γ wg = val_main_v13 h γ wg := rfl
  have e2 : val_main_v36 (F := Ideal) h γ wu = val_main_v17 h γ wu := rfl
  unfold gated gate up cell
  pointwise [val_main_v37, val_main_v35, val_main_call0_v5, val_main_call0_v4, val_main_call0_v3, val_main_call0_v2, val_main_call0_v1, val_main_call0_v0,
    val_main_call0_cst, val_main_call0_cst_0, e1, e2]

theorem result_apply (r : Fin 8320) (k : Fin 1024) :
    (val_main_v41 (F := Ideal) h γ wg wu wd (ix2 r k) : EReal)
      = h (ix2 r k) + Ideal.ofBits .f32 0x3F000000#32 * ∑ f : Fin 2816, gated h γ wg wu (ix2 r f) * (wd (ix2 f k) : EReal) := by
  unfold gated
  pointwise [val_main_v41, val_main_v40, val_main_v39, val_main_v38, val_main_cst_5]

theorem saved_gate_apply (q : Fin 4) (r : Fin 8320) (f : Fin 704) :
    (val_main_v16 (F := Ideal) h γ wg (ix3 q r f) : EReal) = gate h γ wg (ix2 r ⟨q.val * 704 + f.val, by omega⟩) := by
  unfold gate
  pointwise [val_main_v16, val_main_v15, val_main_v14]

theorem saved_up_apply (q : Fin 4) (r : Fin 8320) (f : Fin 704) :
    (val_main_v20 (F := Ideal) h γ wu (ix3 q r f) : EReal) = up h γ wu (ix2 r ⟨q.val * 704 + f.val, by omega⟩) := by
  unfold up
  pointwise [val_main_v20, val_main_v19, val_main_v18]

/-- The kernel normalises a block of rows as the reference normalises all rows. -/
theorem norm_apply (X : Vec Ideal S640x1024 .f32) (G : Vec Ideal S1x1024 .f32) (r : Fin 640) (R : Fin 8320)
    (hX : ∀ k : Fin 1024, X (ix2 r k) = h (ix2 R k)) (hG : ∀ k : Fin 1024, G (ix2 0 k) = γ (ix1 k)) (k : Fin 1024) :
    (k0_pay3 X G (ix2 r k) : EReal) = rows h γ (ix2 R k) := by
  unfold rows
  pointwise [k0_pay3, val_main_v12, val_main_v11, val_main_v10, val_main_v9, val_main_v8, val_main_v7, val_main_v6, val_main_v5, val_main_v4, val_main_v3,
    val_main_v2, val_main_v1, val_main_v0, val_main_cst, val_main_cst_0, val_main_cst_1]
  simp only [hX, hG]

end stages

/-! ## What a point stores, element by element -/

theorem pay5_apply (x : Vec Ideal S640x1024 .bf16) (w : Vec Ideal S1x704x1024 .bf16) (r : Fin 640) (f : Fin 704) :
    (k0_pay5 x w (ix2 r f) : EReal) = ∑ k : Fin 1024, (x (ix2 r k) * w (ix3 0 f k) : EReal) := by
  pointwise [k0_pay5]
theorem pay6_apply (x : Vec Ideal S640x1024 .bf16) (w : Vec Ideal S1x704x1024 .bf16) (r : Fin 640) (f : Fin 704) :
    (k0_pay6 x w (ix2 r f) : EReal) = ∑ k : Fin 1024, (x (ix2 r k) * w (ix3 0 f k) : EReal) := by
  pointwise [k0_pay6]
theorem pay11_eq (x : Vec Ideal S640x1024 .bf16) (w : Vec Ideal S1x704x1024 .bf16) : k0_pay11 x w = k0_pay5 x w := rfl
theorem pay12_eq (x : Vec Ideal S640x1024 .bf16) (w : Vec Ideal S1x704x1024 .bf16) : k0_pay12 x w = k0_pay6 x w := rfl
theorem pay13_eq (x : Vec Ideal S640x1024 .bf16) (w : Vec Ideal S1x704x1024 .bf16) : k0_pay13 x w = k0_pay7 x w := rfl
theorem pay14_eq (x : Vec Ideal S640x1024 .bf16) (w : Vec Ideal S1x704x1024 .bf16) : k0_pay14 x w = k0_pay8 x w := rfl
theorem pay7_apply (x : Vec Ideal S640x1024 .bf16) (w : Vec Ideal S1x704x1024 .bf16) (r : Fin 640) (f : Fin 704) :
    k0_pay7 x w (ix3 0 r f) = k0_pay5 x w (ix2 r f) := by
  pointwise [k0_pay7]
theorem pay8_apply (x : Vec Ideal S640x1024 .bf16) (w : Vec Ideal S1x704x1024 .bf16) (r : Fin 640) (f : Fin 704) :
    k0_pay8 x w (ix3 0 r f) = k0_pay6 x w (ix2 r f) := by
  pointwise [k0_pay8]
theorem pay9_apply (x : Vec Ideal S640x1024 .bf16) (w v : Vec Ideal S1x704x1024 .bf16) (r : Fin 640) (f : Fin 704) :
    (k0_pay9 x w v (ix2 r f) : EReal) = cell (k0_pay5 x w (ix2 r f)) (k0_pay6 x v (ix2 r f)) := by
  unfold cell
  pointwise [k0_pay9]
  exact congrArg (fun z : EReal => _ * Ideal.div 1 (1 + Ideal.exp z) * _) (zero_sub _)

/-- The two shards' products with the last weight, added to what was held. -/
theorem pay15_apply (x : Vec Ideal S640x1024 .bf16) (w0 v0 d0 w1 v1 d1 : Vec Ideal S1x704x1024 .bf16) (acc : Vec Ideal S640x1024 .f32)
    (r : Fin 640) (k : Fin 1024) :
    (k0_pay1 (k0_pay15 x (k0_pay9 x w0 v0) (k0_pay10 d0) (constant S640x1024 .f32 0x00000000#32) w1 v1 d1 acc) (ix2 r k) : EReal)
      = acc (ix2 r k) + (∑ f : Fin 704, cell (k0_pay5 x w0 (ix2 r f)) (k0_pay6 x v0 (ix2 r f)) * (d0 (ix3 0 f k) : EReal)
        + ∑ f : Fin 704, cell (k0_pay5 x w1 (ix2 r f)) (k0_pay6 x v1 (ix2 r f)) * (d1 (ix3 0 f k) : EReal)) := by
  simp only [← pay9_apply]
  pointwise [k0_pay1, k0_pay15, k0_pay10, k0_pay9, pay11_eq, pay12_eq]

theorem pay2_apply (h acc : Vec Ideal S640x1024 .f32) (r : Fin 640) (k : Fin 1024) :
    (k0_pay2 h acc (ix2 r k) : EReal) = h (ix2 r k) + Ideal.ofBits .f32 0x3F000000#32 * (acc (ix2 r k) : EReal) := by
  pointwise [k0_pay2]
theorem pay4_apply (i : S640x1024.Idx) : (k0_pay4 (F := Ideal) i : EReal) = 0 := by pointwise [k0_pay4]

end Cert.ForwardIdeal.Blocks
-- ==== Proof.ForwardPoints.lean ====
/-
  What a grid point of the feed-forward kernel leaves behind.  A block of 640 rows is visited at two points in turn; the
  first normalises the rows and clears the sum, each works through two of the four shards of the weights, and the second
  adds half of the sum to the rows.
-/
module

public import proofs.«01_k».proof.Proof.ForwardBlocks

@[expose] public section

set_option maxRecDepth 16384

noncomputable section

namespace Cert.ForwardIdeal.Points

open Cert.ForwardIdeal Cert.ForwardIdeal.Gen Cert.ForwardIdeal.Value Cert.ForwardIdeal.Blocks Idealize.ShloMosaic Idealize.ShloMosaic.TcCoe Idealize.SL.Sem

variable (m : (ℓ : Loc nD τ sig) → Buf (Elt Ideal) ℓ) (c : Dev nD)

/-- One of the two shards that a block of a weight holds. -/
def sh (s : Fin 2) (b : Vec Ideal S2x704x1024 .bf16) : Vec Ideal S1x704x1024 .bf16 := fun i => b (ix3 s (i 1) (i 2))

theorem ld0 (b : Vec Ideal S2x704x1024 .bf16) (h) : View.ld b (Rect.unit ![0, 0, 0] ![1, 704, 1024] h) = sh 0 b := by
  funext i
  idx_vars i
  obtain rfl : i0 = 0 := Subsingleton.elim _ _
  pointwise [sh]

theorem ld1 (b : Vec Ideal S2x704x1024 .bf16) (h) : View.ld b (Rect.unit ![1, 0, 0] ![1, 704, 1024] h) = sh 1 b := by
  funext i
  idx_vars i
  obtain rfl : i0 = 0 := Subsingleton.elim _ _
  pointwise [sh]

/-- Reading back a block that was stored shard by shard. -/
theorem stored (w0 w1 : Vec Ideal S1x640x704 .bf16) (r : Fin 640) (f : Fin 704) (s : Fin 2) :
    View.canon (Val := Elt Ideal) (s := S2x640x704) (e := .bf16)
      [⟨Rect.unit ![1, 0, 0] ![1, 640, 704] inb_S2x640x704_S1x640x704_1_0_0, w1⟩, ⟨Rect.unit ![0, 0, 0] ![1, 640, 704] inb_S2x640x704_S1x640x704_0_0_0, w0⟩] (ix3 s r f)
      = if s = 0 then w0 (ix3 0 r f) else w1 (ix3 0 r f) := by
  canon_tiles x h
  all_goals
    idx_vars x
    obtain rfl : x0 = 0 := Subsingleton.elim _ _
    obtain rfl : r = x1 := Fin.ext (by omega)
    obtain rfl : f = x2 := Fin.ext (by omega)
  · rw [if_neg (by omega)]
  · rw [if_pos (by omega)]

/-- The sum after a point that found `x` as the normalised rows and `z` as the sum. -/
abbrev next (x : Vec Ideal S640x1024 .bf16) (b2 b3 b4 : Vec Ideal S2x704x1024 .bf16) (z : Vec Ideal S640x1024 .f32) : Vec Ideal S640x1024 .f32 :=
  k0_pay1 (k0_pay15 x (k0_pay9 x (sh 0 b2) (sh 0 b3)) (k0_pay10 (sh 0 b4)) (constant S640x1024 .f32 0x00000000#32) (sh 1 b2) (sh 1 b3) (sh 1 b4) z)

abbrev St : Type := Vec Ideal S640x1024 .f32 × Vec Ideal S2x640x704 .bf16 × Vec Ideal S2x640x704 .bf16 × Vec Ideal S640x1024 .bf16 × Vec Ideal S640x1024 .f32

section A
variable (t : Fin cfg0.N) (acc : St) (h0 : t.val % 2 = 0) (h1 : ¬t.val % 2 = 1)
include h0 h1

theorem A_hn : (stAt0 m c t.val t.isLt acc).2.2.2.1 = k0_pay3 (iblk m c 0 t) (iblk m c 1 t) := by
  rw [stAt0_A m c t acc h0 h1]; dsimp only
  frame_out

theorem A_acc : (stAt0 m c t.val t.isLt acc).2.2.2.2
    = next (k0_pay3 (iblk m c 0 t) (iblk m c 1 t)) (iblk m c 2 t) (iblk m c 3 t) (iblk m c 4 t) (k0_pay4 (F := Ideal)) := by
  rw [stAt0_A m c t acc h0 h1]; dsimp only
  frame_out
  simp only [ld0, ld1]

theorem A_6 (s : Fin 2) (r : Fin 640) (f : Fin 704) : ((stAt0 m c t.val t.isLt acc).2.1 (ix3 s r f) : EReal)
    = k0_pay5 (k0_pay3 (iblk m c 0 t) (iblk m c 1 t)) (sh s (iblk m c 2 t)) (ix2 r f) := by
  rw [stAt0_A m c t acc h0 h1]; dsimp only
  frame_out
  simp only [ld0, ld1, pay13_eq]
  refine (stored _ _ r f s).trans ?_
  match s with
  | 0 => exact pay7_apply _ _ r f
  | 1 => exact pay7_apply _ _ r f

theorem A_7 (s : Fin 2) (r : Fin 640) (f : Fin 704) : ((stAt0 m c t.val t.isLt acc).2.2.1 (ix3 s r f) : EReal)
    = k0_pay6 (k0_pay3 (iblk m c 0 t) (iblk m c 1 t)) (sh s (iblk m c 3 t)) (ix2 r f) := by
  rw [stAt0_A m c t acc h0 h1]; dsimp only
  frame_out
  simp only [ld0, ld1, pay14_eq]
  refine (stored _ _ r f s).trans ?_
  match s with
  | 0 => exact pay8_apply _ _ r f
  | 1 => exact pay8_apply _ _ r f
end A

section B
variable (t : Fin cfg0.N) (acc : St) (h0 : ¬t.val % 2 = 0) (h1 : t.val % 2 = 1)
include h0 h1

theorem B_5 : (stAt0 m c t.val t.isLt acc).1
    = k0_pay2 (iblk m c 0 t) (next acc.2.2.2.1 (iblk m c 2 t) (iblk m c 3 t) (iblk m c 4 t) acc.2.2.2.2) := by
  rw [stAt0_B m c t acc h0 h1]; dsimp only
  frame_out
  simp only [ld0, ld1, read_unread_whole]

theorem B_6 (s : Fin 2) (r : Fin 640) (f : Fin 704) : ((stAt0 m c t.val t.isLt acc).2.1 (ix3 s r f) : EReal)
    = k0_pay5 acc.2.2.2.1 (sh s (iblk m c 2 t)) (ix2 r f) := by
  rw [stAt0_B m c t acc h0 h1]; dsimp only
  frame_out
  simp only [ld0, ld1, pay13_eq, read_unread_whole]
  refine (stored _ _ r f s).trans ?_
  match s with
  | 0 => exact pay7_apply _ _ r f
  | 1 => exact pay7_apply _ _ r f

theorem B_7 (s : Fin 2) (r : Fin 640) (f : Fin 704) : ((stAt0 m c t.val t.isLt acc).2.2.1 (ix3 s r f) : EReal)
    = k0_pay6 acc.2.2.2.1 (sh s (iblk m c 3 t)) (ix2 r f) := by
  rw [stAt0_B m c t acc h0 h1]; dsimp only
  frame_out
  simp only [ld0, ld1, pay14_eq, read_unread_whole]
  refine (stored _ _ r f s).trans ?_
  match s with
  | 0 => exact pay8_apply _ _ r f
  | 1 => exact pay8_apply _ _ r f
end B

end Cert.ForwardIdeal.Points
-- ==== Proof.ForwardEntry.lean ====
/-
  The blocks that a point of the feed-forward kernel reads, as parts of the program's arguments, and what it computes
  from them: columns of the two products of the gate, and partial sums of the product with the last weight.
-/
module

public import proofs.«01_k».proof.Proof.ForwardPoints

@[expose] public section

set_option maxRecDepth 16384

noncomputable section

namespace Cert.ForwardIdeal.Entry

open Cert.ForwardIdeal Cert.ForwardIdeal.Gen Cert.ForwardIdeal.Value Cert.ForwardIdeal.Blocks Cert.ForwardIdeal.Points
open Idealize.ShloMosaic Idealize.ShloMosaic.TcCoe Idealize.SL.Sem

variable (m : (ℓ : Loc nD τ sig) → Buf (Elt Ideal) ℓ) (c : Dev nD)

/-- The contents of argument 0 … 4 of the program: rows, scale of the norm, and the three weights. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

/-- The kernel's operands: the rows, the scale as one row, and the weights in four shards of 704 features. -/
abbrev hh : S8320x1024.Idx → EReal := V m c main_arg0
abbrev gs : S1x1024.Idx → EReal := V m c main_v8
abbrev w2 : S4x704x1024.Idx → EReal := V m c main_v3
abbrev w3 : S4x704x1024.Idx → EReal := V m c main_v5
abbrev w4 : S4x704x1024.Idx → EReal := V m c main_v7

theorem hh_eq : hh m c = a0 m c := by
  unfold hh
  entry_read
  rfl

theorem gs_apply (k : Fin 1024) : gs m c (ix2 0 k) = a1 m c (ix1 k) := by
  unfold gs
  entry_read
  pointwise

theorem w2_apply (q : Fin 4) (f : Fin 704) (k : Fin 1024) : w2 m c (ix3 q f k) = a2 m c (ix2 k ⟨q.val * 704 + f.val, by omega⟩) := by
  unfold w2
  entry_read
  pointwise

theorem w3_apply (q : Fin 4) (f : Fin 704) (k : Fin 1024) : w3 m c (ix3 q f k) = a3 m c (ix2 k ⟨q.val * 704 + f.val, by omega⟩) := by
  unfold w3
  entry_read
  pointwise

theorem w4_apply (q : Fin 4) (f : Fin 704) (k : Fin 1024) : w4 m c (ix3 q f k) = a4 m c (ix2 ⟨q.val * 704 + f.val, by omega⟩ k) := by
  unfold w4
  entry_read
  pointwise

theorem idx : ∀ t, (win0_0.index t = ![t.val / 2, 0] ∧ win0_1.index t = ![0, 0])
    ∧ win0_2.index t = ![t.val % 2, 0, 0] ∧ win0_3.index t = ![t.val % 2, 0, 0]
    ∧ win0_4.index t = ![t.val % 2, 0, 0] :=
  (by decide +kernel : ∀ t : Fin grid0.N, _)

theorem div_lt (t : Fin cfg0.N) : t.val / 2 < 13 := by
  have := lt_of_lt_of_eq t.isLt (show cfg0.N = 26 from N_0); omega

/-- The row of the whole array at place `r` of point `t`'s block. -/
abbrev row (t : Fin cfg0.N) (r : Fin 640) : Fin 8320 := ⟨t.val / 2 * 640 + r.val, by have := div_lt t; omega⟩

/-- The shard at place `s` of point `t`'s block of a weight. -/
abbrev shard (t : Fin cfg0.N) (s : Fin 2) : Fin 4 := ⟨t.val % 2 * 2 + s.val, by omega⟩

theorem blk0 (t : Fin cfg0.N) (r : Fin 640) (k : Fin 1024) : iblk m c 0 t (ix2 r k) = hh m c (ix2 (row t r) k) := by
  blk_ext [iblk, idx t]

theorem blk1 (t : Fin cfg0.N) (k : Fin 1024) : iblk m c 1 t (ix2 0 k) = gs m c (ix2 0 k) := by
  blk_ext [iblk, idx t]

theorem blk2 (t : Fin cfg0.N) (s : Fin 2) (f : Fin 704) (k : Fin 1024) : iblk m c 2 t (ix3 s f k) = w2 m c (ix3 (shard t s) f k) := by
  blk_ext [iblk, idx t]

theorem blk3 (t : Fin cfg0.N) (s : Fin 2) (f : Fin 704) (k : Fin 1024) : iblk m c 3 t (ix3 s f k) = w3 m c (ix3 (shard t s) f k) := by
  blk_ext [iblk, idx t]

theorem blk4 (t : Fin cfg0.N) (s : Fin 2) (f : Fin 704) (k : Fin 1024) : iblk m c 4 t (ix3 s f k) = w4 m c (ix3 (shard t s) f k) := by
  blk_ext [iblk, idx t]

/-- The normalised rows of a block. -/
theorem norm_blk (t : Fin cfg0.N) (r : Fin 640) (k : Fin 1024) :
    (k0_pay3 (iblk m c 0 t) (iblk m c 1 t) (ix2 r k) : EReal) = rows (a0 m c) (a1 m c) (ix2 (row t r) k) :=
  norm_apply (a0 m c) (a1 m c) (iblk m c 0 t) (iblk m c 1 t) r (row t r)
    (fun k => (blk0 m c t r k).trans (congrFun (hh_eq m c) _)) (fun k => (blk1 m c t k).trans (gs_apply m c k)) k

section products
variable (t : Fin cfg0.N) (X : Vec Ideal S640x1024 .bf16) (r : Fin 640)
  (hX : ∀ k : Fin 1024, (X (ix2 r k) : EReal) = rows (a0 m c) (a1 m c) (ix2 (row t r) k))
include hX

theorem gate_blk (s : Fin 2) (f : Fin 704) : (k0_pay5 X (sh s (iblk m c 2 t)) (ix2 r f) : EReal)
    = gate (a0 m c) (a1 m c) (a2 m c) (ix2 (row t r) ⟨(shard t s).val * 704 + f.val, by omega⟩) := by
  rw [pay5_apply, gate_apply]
  exact Finset.sum_congr (M := EReal) rfl fun k _ => congrArg₂ (fun a b : EReal => a * b) (hX k) ((blk2 m c t s f k).trans (w2_apply m c _ f k))

theorem up_blk (s : Fin 2) (f : Fin 704) : (k0_pay6 X (sh s (iblk m c 3 t)) (ix2 r f) : EReal)
    = up (a0 m c) (a1 m c) (a3 m c) (ix2 (row t r) ⟨(shard t s).val * 704 + f.val, by omega⟩) := by
  rw [pay6_apply, up_apply]
  exact Finset.sum_congr (M := EReal) rfl fun k _ => congrArg₂ (fun a b : EReal => a * b) (hX k) ((blk3 m c t s f k).trans (w3_apply m c _ f k))

/-- The part of row `R`'s product with the last weight that comes from shard `q`. -/
def part (R : Fin 8320) (k : Fin 1024) (q : Fin 4) : EReal :=
  ∑ f : Fin 704, gated (a0 m c) (a1 m c) (a2 m c) (a3 m c) (ix2 R ⟨q.val * 704 + f.val, by omega⟩)
    * (a4 m c (ix2 ⟨q.val * 704 + f.val, by omega⟩ k) : EReal)

theorem next_blk (z : Vec Ideal S640x1024 .f32) (k : Fin 1024) :
    (next X (iblk m c 2 t) (iblk m c 3 t) (iblk m c 4 t) z (ix2 r k) : EReal)
      = z (ix2 r k) + (part m c (row t r) k (shard t 0) + part m c (row t r) k (shard t 1)) := by
  have one : ∀ s : Fin 2, (∑ f : Fin 704, cell (k0_pay5 X (sh s (iblk m c 2 t)) (ix2 r f)) (k0_pay6 X (sh s (iblk m c 3 t)) (ix2 r f))
      * (sh s (iblk m c 4 t) (ix3 0 f k) : EReal)) = part m c (row t r) k (shard t s) := by
    intro s
    refine Finset.sum_congr (M := EReal) rfl fun f _ => ?_
    rw [gate_blk m c t X r hX s f, up_blk m c t X r hX s f, ← gated_apply]
    exact congrArg (fun b : EReal => _ * b) ((blk4 m c t s f k).trans (w4_apply m c _ f k))
  unfold next
  rw [pay15_apply, one 0, one 1]
end products

end Cert.ForwardIdeal.Entry
-- ==== Proof.ForwardValue.lean ====
/-
  The feed-forward's forward pass: what the kernel leaves in its three results is what the reference computes.
-/
module

public import proofs.«01_k».proof.Proof.ForwardEntry

@[expose] public section

set_option maxRecDepth 16384

noncomputable section

namespace Cert.ForwardIdeal.Tie

open Cert.ForwardIdeal Cert.ForwardIdeal.Gen Cert.ForwardIdeal.Value Cert.ForwardIdeal.Blocks Cert.ForwardIdeal.Points Cert.ForwardIdeal.Entry
open Idealize.ShloMosaic Idealize.ShloMosaic.TcCoe Idealize.SL.Sem
open Cert.ForwardRefIdeal.Read

variable (m : (ℓ : Loc nD τ sig) → Buf (Elt Ideal) ℓ) (c : Dev nD)

/-! ## The state after a point -/

/-- The outputs and the two scratches after point `n`. -/
abbrev st (n : ℕ) (h : 0 + n < cfg0.N) : St := Pipeline.accAt (fun n h => stAt0 m c n h junk0) (stAt0 m c) 0 n h

theorem step_congr (a b : ℕ) (e : a = b) (ha : a < cfg0.N) (hb : b < cfg0.N) (x : St) : stAt0 m c a ha x = stAt0 m c b hb x := by
  subst e; rfl

/-- At a first point of a block of rows the state is what that point stores, over some earlier state. -/
theorem st_any : ∀ (n : ℕ) (h : 0 + n < cfg0.N) (hn : n < cfg0.N), ∃ acc : St, st m c n h = stAt0 m c n hn acc
  | 0, _, hn => ⟨junk0, step_congr m c _ _ (Nat.zero_add 0) _ hn _⟩
  | n + 1, h, hn => ⟨st m c n (by omega), step_congr m c _ _ (Nat.zero_add (n + 1)) _ hn _⟩

theorem st_succ (n : ℕ) (h : 0 + (n + 1) < cfg0.N) (hn : n + 1 < cfg0.N) :
    st m c (n + 1) h = stAt0 m c (n + 1) hn (st m c n (by omega)) :=
  step_congr m c _ _ (Nat.zero_add (n + 1)) _ hn _

section rows
variable (i : Fin 13)

theorem hN : cfg0.N = 26 := N_0

/-- The two points of block `i` of rows. -/
abbrev p0 : Fin cfg0.N := ⟨2 * i.val, by have := hN; omega⟩
abbrev p1 : Fin cfg0.N := ⟨2 * i.val + 1, by have := hN; omega⟩

/-- Place `r` of block `i` of rows. -/
abbrev rowOf (r : Fin 640) : Fin 8320 := ⟨i.val * 640 + r.val, by omega⟩

theorem row0 (r : Fin 640) : row (p0 i) r = rowOf i r := Fin.ext (by show 2 * i.val / 2 * 640 + r.val = i.val * 640 + r.val; omega)
theorem row1 (r : Fin 640) : row (p1 i) r = rowOf i r := Fin.ext (by show (2 * i.val + 1) / 2 * 640 + r.val = i.val * 640 + r.val; omega)
theorem shard0 (s : Fin 2) : shard (p0 i) s = ⟨s.val, by omega⟩ := Fin.ext (by show 2 * i.val % 2 * 2 + s.val = s.val; omega)
theorem shard1 (s : Fin 2) : shard (p1 i) s = ⟨2 + s.val, by omega⟩ := Fin.ext (by show (2 * i.val + 1) % 2 * 2 + s.val = 2 + s.val; omega)

theorem even0 : (p0 i).val % 2 = 0 := by show 2 * i.val % 2 = 0; omega
theorem even0' : ¬(p0 i).val % 2 = 1 := by show ¬2 * i.val % 2 = 1; omega
theorem odd1 : (p1 i).val % 2 = 1 := by show (2 * i.val + 1) % 2 = 1; omega
theorem odd1' : ¬(p1 i).val % 2 = 0 := by show ¬(2 * i.val + 1) % 2 = 0; omega

/-- After the first point the scratch holds the normalised rows. -/
theorem first_hn (h) (r : Fin 640) (k : Fin 1024) :
    ((st m c (2 * i.val) h).2.2.2.1 (ix2 r k) : EReal) = rows (a0 m c) (a1 m c) (ix2 (rowOf i r) k) := by
  obtain ⟨acc, e⟩ := st_any m c (2 * i.val) h (p0 i).isLt
  rw [e, A_hn m c (p0 i) acc (even0 i) (even0' i), norm_blk, row0]

/-- After the first point the sum holds two of the four parts. -/
theorem first_acc (h) (r : Fin 640) (k : Fin 1024) :
    ((st m c (2 * i.val) h).2.2.2.2 (ix2 r k) : EReal) = part m c (rowOf i r) k 0 + part m c (rowOf i r) k 1 := by
  obtain ⟨acc, e⟩ := st_any m c (2 * i.val) h (p0 i).isLt
  rw [e, A_acc m c (p0 i) acc (even0 i) (even0' i), next_blk m c (p0 i) _ r (fun k => norm_blk m c (p0 i) r k), row0, shard0, shard0, pay4_apply, zero_add]
  rfl

theorem first_gate (h) (s : Fin 2) (r : Fin 640) (f : Fin 704) : ((st m c (2 * i.val) h).2.1 (ix3 s r f) : EReal)
    = gate (a0 m c) (a1 m c) (a2 m c) (ix2 (rowOf i r) ⟨s.val * 704 + f.val, by omega⟩) := by
  obtain ⟨acc, e⟩ := st_any m c (2 * i.val) h (p0 i).isLt
  rw [e, A_6 m c (p0 i) acc (even0 i) (even0' i), gate_blk m c (p0 i) _ r (fun k => norm_blk m c (p0 i) r k), row0]
  exact congrArg (fun z => gate (a0 m c) (a1 m c) (a2 m c) (ix2 (rowOf i r) z)) (Fin.ext (by show (2 * i.val % 2 * 2 + s.val) * 704 + f.val = s.val * 704 + f.val; omega))

theorem first_up (h) (s : Fin 2) (r : Fin 640) (f : Fin 704) : ((st m c (2 * i.val) h).2.2.1 (ix3 s r f) : EReal)
    = up (a0 m c) (a1 m c) (a3 m c) (ix2 (rowOf i r) ⟨s.val * 704 + f.val, by omega⟩) := by
  obtain ⟨acc, e⟩ := st_any m c (2 * i.val) h (p0 i).isLt
  rw [e, A_7 m c (p0 i) acc (even0 i) (even0' i), up_blk m c (p0 i) _ r (fun k => norm_blk m c (p0 i) r k), row0]
  exact congrArg (fun z => up (a0 m c) (a1 m c) (a3 m c) (ix2 (rowOf i r) z)) (Fin.ext (by show (2 * i.val % 2 * 2 + s.val) * 704 + f.val = s.val * 704 + f.val; omega))

/-- What the second point finds as the normalised rows. -/
theorem held (h) (r : Fin 640) (k : Fin 1024) :
    ((st m c (2 * i.val) h).2.2.2.1 (ix2 r k) : EReal) = rows (a0 m c) (a1 m c) (ix2 (row (p1 i) r) k) := by
  rw [first_hn, row1]

theorem second_gate (h) (s : Fin 2) (r : Fin 640) (f : Fin 704) : ((st m c (2 * i.val + 1) h).2.1 (ix3 s r f) : EReal)
    = gate (a0 m c) (a1 m c) (a2 m c) (ix2 (rowOf i r) ⟨(2 + s.val) * 704 + f.val, by omega⟩) := by
  rw [st_succ m c (2 * i.val) h (p1 i).isLt, B_6 m c (p1 i) _ (odd1' i) (odd1 i), gate_blk m c (p1 i) _ r (held m c i _ r), row1]
  exact congrArg (fun z => gate (a0 m c) (a1 m c) (a2 m c) (ix2 (rowOf i r) z)) (Fin.ext (by show ((2 * i.val + 1) % 2 * 2 + s.val) * 704 + f.val = (2 + s.val) * 704 + f.val; omega))

theorem second_up (h) (s : Fin 2) (r : Fin 640) (f : Fin 704) : ((st m c (2 * i.val + 1) h).2.2.1 (ix3 s r f) : EReal)
    = up (a0 m c) (a1 m c) (a3 m c) (ix2 (rowOf i r) ⟨(2 + s.val) * 704 + f.val, by omega⟩) := by
  rw [st_succ m c (2 * i.val) h (p1 i).isLt, B_7 m c (p1 i) _ (odd1' i) (odd1 i), up_blk m c (p1 i) _ r (held m c i _ r), row1]
  exact congrArg (fun z => up (a0 m c) (a1 m c) (a3 m c) (ix2 (rowOf i r) z)) (Fin.ext (by show ((2 * i.val + 1) % 2 * 2 + s.val) * 704 + f.val = (2 + s.val) * 704 + f.val; omega))

/-- The second point adds half of the four parts to the rows. -/
theorem second_out (h) (r : Fin 640) (k : Fin 1024) : ((st m c (2 * i.val + 1) h).1 (ix2 r k) : EReal)
    = hh m c (ix2 (rowOf i r) k) + Ideal.ofBits .f32 0x3F000000#32
      * ((part m c (rowOf i r) k 0 + part m c (rowOf i r) k 1) + (part m c (rowOf i r) k 2 + part m c (rowOf i r) k 3)) := by
  rw [st_succ m c (2 * i.val) h (p1 i).isLt, B_5 m c (p1 i) _ (odd1' i) (odd1 i), pay2_apply, next_blk m c (p1 i) _ r (held m c i _ r),
    first_acc, blk0, row1, shard1, shard1]
  rfl
end rows

/-! ## The three results -/

/-- Four parts of 704 features make up the sum over all 2816. -/
theorem parts (R : Fin 8320) (k : Fin 1024) :
    (part m c R k 0 + part m c R k 1) + (part m c R k 2 + part m c R k 3)
      = ∑ f : Fin 2816, gated (a0 m c) (a1 m c) (a2 m c) (a3 m c) (ix2 R f) * (a4 m c (ix2 f k) : EReal) := by
  rw [← add_assoc, ← Fin.sum_univ_four (fun q => part m c R k q)]
  unfold part
  exact Fin.sum_mul_add_congr (S := 4) (n := 704) fun s r hl => rfl

theorem st_congr (a b : ℕ) (e : a = b) (ha : 0 + a < cfg0.N) (hb : 0 + b < cfg0.N) : st m c a ha = st m c b hb := by
  subst e; rfl

theorem out : G5 m c = val_main_v41 (F := Ideal) (a0 m c) (a1 m c) (a2 m c) (a3 m c) (a4 m c) := by
  funext i
  idx_vars i
  have hN : cfg0.N = 26 := N_0
  have hp : pt5Of (ix2 i0 i1) = 2 * (i0.val / 640) + 1 := by
    show 2 * (1 * (i0.val / 640 - 0) + 1 * (i1.val / 1024 - 0)) + 1 = _
    omega
  have hl : loc5Of (ix2 i0 i1) = ix2 ⟨i0.val % 640, by omega⟩ i1 := by
    funext a
    match a with
    | ⟨0, _⟩ => rfl
    | ⟨1, _⟩ => exact Fin.ext (Nat.mod_eq_of_lt i1.isLt)
  have hr : rowOf ⟨i0.val / 640, by omega⟩ ⟨i0.val % 640, by omega⟩ = i0 := Fin.ext (by show i0.val / 640 * 640 + i0.val % 640 = i0.val; omega)
  have key := second_out m c ⟨i0.val / 640, by omega⟩ (by show 0 + (2 * (i0.val / 640) + 1) < cfg0.N; omega) ⟨i0.val % 640, by omega⟩ i1
  rw [hr, parts, hh_eq] at key
  unfold G5
  rw [dif_pos (by rw [hp]; omega), hl]
  refine Eq.trans ?_ (key.trans (result_apply (a0 m c) (a1 m c) (a2 m c) (a3 m c) (a4 m c) i0 i1).symm)
  exact congrFun (congrArg Prod.fst (st_congr m c _ _ hp _ _)) _

theorem saved_gate : G6 m c = val_main_v16 (F := Ideal) (a0 m c) (a1 m c) (a2 m c) := by
  funext i
  idx_vars i
  have hN : cfg0.N = 26 := N_0
  have hp : pt6Of (ix3 i0 i1 i2) = 2 * (i1.val / 640) + i0.val / 2 := by
    show 1 * (i0.val / 2 - 0) + 2 * (i1.val / 640 - 0) + 26 * (i2.val / 704 - 0) = _
    omega
  have hl : loc6Of (ix3 i0 i1 i2) = ix3 ⟨i0.val % 2, by omega⟩ ⟨i1.val % 640, by omega⟩ i2 := by
    funext a
    match a with
    | ⟨0, _⟩ => rfl
    | ⟨1, _⟩ => rfl
    | ⟨2, _⟩ => exact Fin.ext (Nat.mod_eq_of_lt i2.isLt)
  have hr : rowOf ⟨i1.val / 640, by omega⟩ ⟨i1.val % 640, by omega⟩ = i1 := Fin.ext (by show i1.val / 640 * 640 + i1.val % 640 = i1.val; omega)
  unfold G6
  rw [dif_pos (by rw [hp]; omega), hl]
  refine Eq.trans ?_ (saved_gate_apply (a0 m c) (a1 m c) (a2 m c) i0 i1 i2).symm
  rcases (by omega : i0.val / 2 = 0 ∨ i0.val / 2 = 1) with h0 | h0
  · have key := first_gate m c ⟨i1.val / 640, by omega⟩ (by show 0 + 2 * (i1.val / 640) < cfg0.N; omega) ⟨i0.val % 2, by omega⟩ ⟨i1.val % 640, by omega⟩ i2
    rw [hr] at key
    refine (congrFun (congrArg (fun x : St => x.2.1) (st_congr m c _ _ (by rw [hp, h0]; rfl) _ _)) _).trans (key.trans ?_)
    exact congrArg (fun z => gate (a0 m c) (a1 m c) (a2 m c) (ix2 i1 z)) (Fin.ext (by show i0.val % 2 * 704 + i2.val = i0.val * 704 + i2.val; omega))
  · have key := second_gate m c ⟨i1.val / 640, by omega⟩ (by show 0 + (2 * (i1.val / 640) + 1) < cfg0.N; omega) ⟨i0.val % 2, by omega⟩ ⟨i1.val % 640, by omega⟩ i2
    rw [hr] at key
    refine (congrFun (congrArg (fun x : St => x.2.1) (st_congr m c _ _ (by rw [hp, h0]) _ _)) _).trans (key.trans ?_)
    exact congrArg (fun z => gate (a0 m c) (a1 m c) (a2 m c) (ix2 i1 z)) (Fin.ext (by show (2 + i0.val % 2) * 704 + i2.val = i0.val * 704 + i2.val; omega))

theorem saved_up : G7 m c = val_main_v20 (F := Ideal) (a0 m c) (a1 m c) (a3 m c) := by
  funext i
  idx_vars i
  have hN : cfg0.N = 26 := N_0
  have hp : pt7Of (ix3 i0 i1 i2) = 2 * (i1.val / 640) + i0.val / 2 := by
    show 1 * (i0.val / 2 - 0) + 2 * (i1.val / 640 - 0) + 26 * (i2.val / 704 - 0) = _
    omega
  have hl : loc7Of (ix3 i0 i1 i2) = ix3 ⟨i0.val % 2, by omega⟩ ⟨i1.val % 640, by omega⟩ i2 := by
    funext a
    match a with
    | ⟨0, _⟩ => rfl
    | ⟨1, _⟩ => rfl
    | ⟨2, _⟩ => exact Fin.ext (Nat.mod_eq_of_lt i2.isLt)
  have hr : rowOf ⟨i1.val / 640, by omega⟩ ⟨i1.val % 640, by omega⟩ = i1 := Fin.ext (by show i1.val / 640 * 640 + i1.val % 640 = i1.val; omega)
  unfold G7
  rw [dif_pos (by rw [hp]; omega), hl]
  refine Eq.trans ?_ (saved_up_apply (a0 m c) (a1 m c) (a3 m c) i0 i1 i2).symm
  rcases (by omega : i0.val / 2 = 0 ∨ i0.val / 2 = 1) with h0 | h0
  · have key := first_up m c ⟨i1.val / 640, by omega⟩ (by show 0 + 2 * (i1.val / 640) < cfg0.N; omega) ⟨i0.val % 2, by omega⟩ ⟨i1.val % 640, by omega⟩ i2
    rw [hr] at key
    refine (congrFun (congrArg (fun x : St => x.2.2.1) (st_congr m c _ _ (by rw [hp, h0]; rfl) _ _)) _).trans (key.trans ?_)
    exact congrArg (fun z => up (a0 m c) (a1 m c) (a3 m c) (ix2 i1 z)) (Fin.ext (by show i0.val % 2 * 704 + i2.val = i0.val * 704 + i2.val; omega))
  · have key := second_up m c ⟨i1.val / 640, by omega⟩ (by show 0 + (2 * (i1.val / 640) + 1) < cfg0.N; omega) ⟨i0.val % 2, by omega⟩ ⟨i1.val % 640, by omega⟩ i2
    rw [hr] at key
    refine (congrFun (congrArg (fun x : St => x.2.2.1) (st_congr m c _ _ (by rw [hp, h0]) _ _)) _).trans (key.trans ?_)
    exact congrArg (fun z => up (a0 m c) (a1 m c) (a3 m c) (ix2 i1 z)) (Fin.ext (by show (2 + i0.val % 2) * 704 + i2.val = i0.val * 704 + i2.val; omega))

end Cert.ForwardIdeal.Tie
-- ==== Proof.ForwardClaims.lean ====
/-
  The claims about the forward pass: the reference's frame, and the equality of the two programs' results.
-/
module

public import proofs.«01_k».proof.Defs
public import proofs.«01_k».proof.Proof.ForwardValue
public import proofs.«01_k».proof.Proof.Gen.ForwardRefIdeal.Run
public import Idealize.ShloMosaic.Lib.Quiescent

@[expose] public section

noncomputable section

namespace Cert.Proof.Forward

open Idealize.ShloMosaic Idealize.SL.Sem

theorem frame_reference : Cert.quiescent_ForwardRefIdeal := by
  intro m g _
  refine θ_run_mono (Cert.ForwardRefIdeal.Value.run (F := Ideal) m g) fun r h => ⟨fun c => ?_, sem_eq_zero_of_no_sems (by decide) _⟩
  obtain ⟨_, _, _, h0, h1, h2, h3, h4⟩ := h c
  exact ⟨h0, h1, h2, h3, h4⟩

theorem algebraic : Cert.algebraic_ForwardIdeal_ForwardRefIdeal := by
  intro m g m' g' _ hagree
  refine ⟨_, _, _, Cert.ForwardIdeal.Value.run (F := Ideal) m g, ?_⟩
  refine θ_run_mono (Cert.ForwardRefIdeal.Value.run (F := Ideal) m' g') fun r h c => ?_
  obtain ⟨r0, r1, r2, h0, h1, h2, h3, h4⟩ := h c
  obtain ⟨e0, e1, e2, e3, e4⟩ := hagree c
  refine ⟨r0.trans ((Cert.ForwardRefIdeal.Read.val_main_v41_eq _ _ _ _ _).trans ?_), r1.trans ((Cert.ForwardRefIdeal.Read.val_main_v16_eq _ _ _).trans ?_),
    r2.trans ((Cert.ForwardRefIdeal.Read.val_main_v20_eq _ _ _).trans ?_), h0, h1, h2, h3, h4⟩
  · rw [e0, e1, e2, e3, e4]; exact (Cert.ForwardIdeal.Tie.out m c).symm
  · rw [e0, e1, e2]; exact (Cert.ForwardIdeal.Tie.saved_gate m c).symm
  · rw [e0, e1, e3]; exact (Cert.ForwardIdeal.Tie.saved_up m c).symm

end Cert.Proof.Forward
-- ==== Proof.ActivationsBody.lean ====
/-
  One point of the kernel of the activation gradients, run on any buffers that hold its arguments: what every output and
  the running sum hold afterwards.  There are three kinds of points: the very first, the first of a later block of rows,
  and the second of a block of rows.
-/
module

public import proofs.«01_k».proof.Proof.Gen.ActivationsIdeal.Frame
public import proofs.«01_k».proof.Proof.Gen.ActivationsIdeal.Skeleton
public import Idealize.ShloMosaic.Lib.Pipeline.ReadBack
public import Idealize.ShloMosaic.Lib.Pipeline.ValueKit.Acc

@[expose] public section

set_option maxRecDepth 16384

noncomputable section

namespace Cert.ActivationsIdeal.Body

open Cert.ActivationsIdeal Cert.ActivationsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first and the second shard of a block of activations, -/
abbrev lo (b : Vec F S2x320x704 .bf16) : Vec F S1x320x704 .bf16 := View.ld b (Rect.unit (s := S2x320x704) ![0, 0, 0] S1x320x704.size inb_S2x320x704_S1x320x704_0_0_0)
abbrev hi (b : Vec F S2x320x704 .bf16) : Vec F S1x320x704 .bf16 := View.ld b (Rect.unit (s := S2x320x704) ![1, 0, 0] S1x320x704.size inb_S2x320x704_S1x320x704_1_0_0)
/-- and of a block of weights. -/
abbrev wlo (b : Vec F S2x704x1024 .bf16) : Vec F S1x704x1024 .bf16 := View.ld b (Rect.unit (s := S2x704x1024) ![0, 0, 0] S1x704x1024.size inb_S2x704x1024_S1x704x1024_0_0_0)
abbrev whi (b : Vec F S2x704x1024 .bf16) : Vec F S1x704x1024 .bf16 := View.ld b (Rect.unit (s := S2x704x1024) ![1, 0, 0] S1x704x1024.size inb_S2x704x1024_S1x704x1024_1_0_0)
/-- A block put together from its two shards. -/
abbrev pair (p q : Vec F S1x320x704 .bf16) : Vec F S2x320x704 .bf16 :=
  View.canon (Val := Elt F) (s := S2x320x704) (e := .bf16)
    [⟨Rect.unit ![1, 0, 0] S1x320x704.size inb_S2x320x704_S1x320x704_1_0_0, q⟩, ⟨Rect.unit ![0, 0, 0] S1x320x704.size inb_S2x320x704_S1x320x704_0_0_0, p⟩]

/-- The gated activations of a block, -/
def act (g u : Vec F S2x320x704 .bf16) : Vec F S2x320x704 .bf16 :=
  pair (k0_pay15 (lo g) (lo u)) (k0_pay27 (k0_pay21 (hi g)) (k0_pay22 (hi u)))
/-- the gradient of its gates, -/
def dgate (dy : Vec F S320x1024 .bf16) (g u : Vec F S2x320x704 .bf16) (wd : Vec F S2x704x1024 .bf16) : Vec F S2x320x704 .bf16 :=
  pair (k0_pay18 (k0_pay10 (lo g)) (k0_pay11 (lo u)) (k0_pay12 dy (wlo wd)) (k0_pay13 (lo g)))
    (k0_pay30 (k0_pay21 (hi g)) (k0_pay22 (hi u)) (k0_pay23 dy) (whi wd))
/-- the gradient of what they multiply, -/
def dup (dy : Vec F S320x1024 .bf16) (g : Vec F S2x320x704 .bf16) (wd : Vec F S2x704x1024 .bf16) : Vec F S2x320x704 .bf16 :=
  pair (k0_pay19 (k0_pay12 dy (wlo wd)) (k0_pay14 (lo g))) (k0_pay31 (k0_pay21 (hi g)) (k0_pay23 dy) (whi wd))
/-- and the gradient of the normalised rows, the part of the block's two shards added to `z`. -/
def total (dy : Vec F S320x1024 .bf16) (g u : Vec F S2x320x704 .bf16) (wg wu wd : Vec F S2x704x1024 .bf16) (z : Vec F S320x1024 .f32) : Vec F S320x1024 .f32 :=
  k0_pay1 (k0_pay20 (k0_pay10 (lo g)) (k0_pay11 (lo u)) (k0_pay12 dy (wlo wd)) (k0_pay13 (lo g)) (k0_pay14 (lo g)) (wlo wg) (wlo wu))
    (k0_pay28 (k0_pay21 (hi g)) (k0_pay23 dy) (whi wd)) (k0_pay32 (k0_pay21 (hi g)) (k0_pay22 (hi u)) (k0_pay23 dy) (whi wd) (whi wg)) (whi wu) z

set_option maxHeartbeats 1000000

/-- The very first point: the rows are normalised and the two sums cleared. -/
theorem run_first (c : Dev nD) (i : grid0.Coords) (arg2 : Memref sig .tc .vmem S320x1024 .f32) (harg2 : arg2.IsWhole) (arg3 : Memref sig .tc .vmem S1x1024 .f32) (harg3 : arg3.IsWhole) (arg4 : Memref sig .tc .vmem S320x1024 .f32) (harg4 : arg4.IsWhole) (arg5 : Memref sig .tc .vmem S2x320x704 .bf16) (harg5 : arg5.IsWhole) (arg6 : Memref sig .tc .vmem S2x320x704 .bf16) (harg6 : arg6.IsWhole) (arg7 : Memref sig .tc .vmem S2x704x1024 .bf16) (harg7 : arg7.IsWhole) (arg8 : Memref sig .tc .vmem S2x704x1024 .bf16) (harg8 : arg8.IsWhole) (arg9 : Memref sig .tc .vmem S2x704x1024 .bf16) (harg9 : arg9.IsWhole) (arg10 : Memref sig .tc .vmem S320x1024 .f32) (harg10 : arg10.IsWhole) (arg11 : Memref sig .tc .vmem S1x1024 .f32) (harg11 : arg11.IsWhole) (arg12 : Memref sig .tc .vmem S320x1024 .bf16) (harg12 : arg12.IsWhole) (arg13 : Memref sig .tc .vmem S320x1024 .bf16) (harg13 : arg13.IsWhole) (arg14 : Memref sig .tc .vmem S2x320x704 .bf16) (harg14 : arg14.IsWhole) (arg15 : Memref sig .tc .vmem S2x320x704 .bf16) (harg15 : arg15.IsWhole) (arg16 : Memref sig .tc .vmem S2x320x704 .bf16) (harg16 : arg16.IsWhole) (arg17 : Memref sig .tc .vmem S320x1024 .f32) (harg17 : arg17.IsWhole)
    (hc1 : k0_cond1 i = 1#1) (hc2 : k0_cond2 i = 1#1) (hc3 : ¬k0_cond3 i = 1#1)
    (x0 : Vec F S320x1024 .f32) (x1 : Vec F S1x1024 .f32) (x2 : Vec F S320x1024 .f32) (x3 x4 : Vec F S2x320x704 .bf16) (x5 x6 x7 : Vec F S2x704x1024 .bf16) (x8 : Vec F S320x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay9 (F := F)) ∗ owns (c : Thread nD τ) arg12 fullShare (k0_pay6 x0 x1) ∗ owns (c : Thread nD τ) arg13 fullShare (k0_pay7 x2) ∗ owns (c : Thread nD τ) arg14 fullShare (dgate (k0_pay7 x2) x3 x4 x7) ∗ owns (c : Thread nD τ) arg15 fullShare (dup (k0_pay7 x2) x3 x7) ∗ owns (c : Thread nD τ) arg16 fullShare (act x3 x4) ∗ owns (c : Thread nD τ) arg17 fullShare (total (k0_pay7 x2) x3 x4 x5 x6 x7 (k0_pay8 (F := F)))) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_act_eq_skeleton]; unfold cc0_ffn_bwd_act_skel
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine Eq.trans (View.read_writes_eq_canon _ _ _ ?_) ?_; · exact View.cover_of_tiledL _ S1x1024.size (by sl_kernel_rfl)
    frame_out <;> rfl
  isplitl [H12]
  · iexists _; isplitr; swap; · iexact H12
    ipureintro
    refine Eq.trans (View.read_writes_eq_canon _ _ _ ?_) ?_; · exact View.cover_of_tiledL _ S320x1024.size (by sl_kernel_rfl)
    frame_out <;> rfl
  isplitl [H13]
  · iexists _; isplitr; swap; · iexact H13
    ipureintro
    refine Eq.trans (View.read_writes_eq_canon _ _ _ ?_) ?_; · exact View.cover_of_tiledL _ S320x1024.size (by sl_kernel_rfl)
    frame_out <;> rfl
  isplitl [H14]
  · iexists _; isplitr; swap; · iexact H14
    ipureintro
    refine Eq.trans (View.read_writes_eq_canon _ _ _ ?_) ?_; · exact View.cover_of_tiledL _ S1x320x704.size (by sl_kernel_rfl)
    frame_out <;> rfl
  isplitl [H15]
  · iexists _; isplitr; swap; · iexact H15
    ipureintro
    refine Eq.trans (View.read_writes_eq_canon _ _ _ ?_) ?_; · exact View.cover_of_tiledL _ S1x320x704.size (by sl_kernel_rfl)
    frame_out <;> rfl
  isplitl [H16]
  · iexists _; isplitr; swap; · iexact H16
    ipureintro
    refine Eq.trans (View.read_writes_eq_canon _ _ _ ?_) ?_; · exact View.cover_of_tiledL _ S1x320x704.size (by sl_kernel_rfl)
    frame_out <;> rfl
  iexists _; isplitr; swap; · iexact H17
  ipureintro
  refine Eq.trans (View.read_writes_eq_canon _ _ _ ?_) ?_; · exact View.cover_of_tiledL _ S320x1024.size (by sl_kernel_rfl)
  frame_out <;> rfl

/-- The first point of a later block of rows: the sum over the rows is left alone. -/
theorem run_even (c : Dev nD) (i : grid0.Coords) (arg2 : Memref sig .tc .vmem S320x1024 .f32) (harg2 : arg2.IsWhole) (arg3 : Memref sig .tc .vmem S1x1024 .f32) (harg3 : arg3.IsWhole) (arg4 : Memref sig .tc .vmem S320x1024 .f32) (harg4 : arg4.IsWhole) (arg5 : Memref sig .tc .vmem S2x320x704 .bf16) (harg5 : arg5.IsWhole) (arg6 : Memref sig .tc .vmem S2x320x704 .bf16) (harg6 : arg6.IsWhole) (arg7 : Memref sig .tc .vmem S2x704x1024 .bf16) (harg7 : arg7.IsWhole) (arg8 : Memref sig .tc .vmem S2x704x1024 .bf16) (harg8 : arg8.IsWhole) (arg9 : Memref sig .tc .vmem S2x704x1024 .bf16) (harg9 : arg9.IsWhole) (arg10 : Memref sig .tc .vmem S320x1024 .f32) (harg10 : arg10.IsWhole) (arg11 : Memref sig .tc .vmem S1x1024 .f32) (harg11 : arg11.IsWhole) (arg12 : Memref sig .tc .vmem S320x1024 .bf16) (harg12 : arg12.IsWhole) (arg13 : Memref sig .tc .vmem S320x1024 .bf16) (harg13 : arg13.IsWhole) (arg14 : Memref sig .tc .vmem S2x320x704 .bf16) (harg14 : arg14.IsWhole) (arg15 : Memref sig .tc .vmem S2x320x704 .bf16) (harg15 : arg15.IsWhole) (arg16 : Memref sig .tc .vmem S2x320x704 .bf16) (harg16 : arg16.IsWhole) (arg17 : Memref sig .tc .vmem S320x1024 .f32) (harg17 : arg17.IsWhole)
    (hc1 : k0_cond1 i = 1#1) (hc2 : ¬k0_cond2 i = 1#1) (hc3 : ¬k0_cond3 i = 1#1)
    (x0 : Vec F S320x1024 .f32) (x1 : Vec F S1x1024 .f32) (x2 : Vec F S320x1024 .f32) (x3 x4 : Vec F S2x320x704 .bf16) (x5 x6 x7 : Vec F S2x704x1024 .bf16) (x8 : Vec F S320x1024 .f32) (x9 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay6 x0 x1) ∗ owns (c : Thread nD τ) arg13 fullShare (k0_pay7 x2) ∗ owns (c : Thread nD τ) arg14 fullShare (dgate (k0_pay7 x2) x3 x4 x7) ∗ owns (c : Thread nD τ) arg15 fullShare (dup (k0_pay7 x2) x3 x7) ∗ owns (c : Thread nD τ) arg16 fullShare (act x3 x4) ∗ owns (c : Thread nD τ) arg17 fullShare (total (k0_pay7 x2) x3 x4 x5 x6 x7 (k0_pay8 (F := F)))) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_act_eq_skeleton]; unfold cc0_ffn_bwd_act_skel
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine Eq.trans (View.read_writes_eq_canon _ _ _ ?_) ?_; · exact View.cover_of_tiledL _ S320x1024.size (by sl_kernel_rfl)
    frame_out <;> rfl
  isplitl [H13]
  · iexists _; isplitr; swap; · iexact H13
    ipureintro
    refine Eq.trans (View.read_writes_eq_canon _ _ _ ?_) ?_; · exact View.cover_of_tiledL _ S320x1024.size (by sl_kernel_rfl)
    frame_out <;> rfl
  isplitl [H14]
  · iexists _; isplitr; swap; · iexact H14
    ipureintro
    refine Eq.trans (View.read_writes_eq_canon _ _ _ ?_) ?_; · exact View.cover_of_tiledL _ S1x320x704.size (by sl_kernel_rfl)
    frame_out <;> rfl
  isplitl [H15]
  · iexists _; isplitr; swap; · iexact H15
    ipureintro
    refine Eq.trans (View.read_writes_eq_canon _ _ _ ?_) ?_; · exact View.cover_of_tiledL _ S1x320x704.size (by sl_kernel_rfl)
    frame_out <;> rfl
  isplitl [H16]
  · iexists _; isplitr; swap; · iexact H16
    ipureintro
    refine Eq.trans (View.read_writes_eq_canon _ _ _ ?_) ?_; · exact View.cover_of_tiledL _ S1x320x704.size (by sl_kernel_rfl)
    frame_out <;> rfl
  iexists _; isplitr; swap; · iexact H17
  ipureintro
  refine Eq.trans (View.read_writes_eq_canon _ _ _ ?_) ?_; · exact View.cover_of_tiledL _ S320x1024.size (by sl_kernel_rfl)
  frame_out <;> rfl

/-- The second point of a block of rows: the gradients of the rows and of the scale are finished. -/
theorem run_odd (c : Dev nD) (i : grid0.Coords) (arg2 : Memref sig .tc .vmem S320x1024 .f32) (harg2 : arg2.IsWhole) (arg3 : Memref sig .tc .vmem S1x1024 .f32) (harg3 : arg3.IsWhole) (arg4 : Memref sig .tc .vmem S320x1024 .f32) (harg4 : arg4.IsWhole) (arg5 : Memref sig .tc .vmem S2x320x704 .bf16) (harg5 : arg5.IsWhole) (arg6 : Memref sig .tc .vmem S2x320x704 .bf16) (harg6 : arg6.IsWhole) (arg7 : Memref sig .tc .vmem S2x704x1024 .bf16) (harg7 : arg7.IsWhole) (arg8 : Memref sig .tc .vmem S2x704x1024 .bf16) (harg8 : arg8.IsWhole) (arg9 : Memref sig .tc .vmem S2x704x1024 .bf16) (harg9 : arg9.IsWhole) (arg10 : Memref sig .tc .vmem S320x1024 .f32) (harg10 : arg10.IsWhole) (arg11 : Memref sig .tc .vmem S1x1024 .f32) (harg11 : arg11.IsWhole) (arg12 : Memref sig .tc .vmem S320x1024 .bf16) (harg12 : arg12.IsWhole) (arg13 : Memref sig .tc .vmem S320x1024 .bf16) (harg13 : arg13.IsWhole) (arg14 : Memref sig .tc .vmem S2x320x704 .bf16) (harg14 : arg14.IsWhole) (arg15 : Memref sig .tc .vmem S2x320x704 .bf16) (harg15 : arg15.IsWhole) (arg16 : Memref sig .tc .vmem S2x320x704 .bf16) (harg16 : arg16.IsWhole) (arg17 : Memref sig .tc .vmem S320x1024 .f32) (harg17 : arg17.IsWhole)
    (hc1 : ¬k0_cond1 i = 1#1) (hc2 : ¬k0_cond2 i = 1#1) (hc3 : k0_cond3 i = 1#1)
    (x0 : Vec F S320x1024 .f32) (x1 : Vec F S1x1024 .f32) (x2 : Vec F S320x1024 .f32) (x3 x4 : Vec F S2x320x704 .bf16) (x5 x6 x7 : Vec F S2x704x1024 .bf16) (x9 : Vec F S1x1024 .f32) (hn dy : Vec F S320x1024 .bf16) (z : Vec F S320x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare hn ∗ owns (c : Thread nD τ) arg13 fullShare dy ∗ (∃ d, owns (c : Thread nD τ) arg14 fullShare d) ∗ (∃ d, owns (c : Thread nD τ) arg15 fullShare d) ∗ (∃ d, owns (c : Thread nD τ) arg16 fullShare d) ∗ owns (c : Thread nD τ) arg17 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay5 x0 (total dy x3 x4 x5 x6 x7 z) x2 x1) ∗ owns (c : Thread nD τ) arg11 fullShare (k0_pay4 x0 (total dy x3 x4 x5 x6 x7 z) x9) ∗ owns (c : Thread nD τ) arg12 fullShare hn ∗ owns (c : Thread nD τ) arg13 fullShare dy ∗ owns (c : Thread nD τ) arg14 fullShare (dgate dy x3 x4 x7) ∗ owns (c : Thread nD τ) arg15 fullShare (dup dy x3 x7) ∗ owns (c : Thread nD τ) arg16 fullShare (act x3 x4) ∗ owns (c : Thread nD τ) arg17 fullShare (total dy x3 x4 x5 x6 x7 z)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_act_eq_skeleton]; unfold cc0_ffn_bwd_act_skel
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%f17, %e17, H17⟩, Hk⟩
  obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg11.eq_unread e11; obtain rfl := harg12.eq_unread e12; obtain rfl := harg13.eq_unread e13; obtain rfl := harg17.eq_unread e17
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine Eq.trans (View.read_writes_eq_canon _ _ _ ?_) ?_; · exact View.cover_of_tiledL _ S320x1024.size (by sl_kernel_rfl)
    frame_out <;> rfl
  isplitl [H11]
  · iexists _; isplitr; swap; · iexact H11
    ipureintro
    refine Eq.trans (View.read_writes_eq_canon _ _ _ ?_) ?_; · exact View.cover_of_tiledL _ S1x1024.size (by sl_kernel_rfl)
    frame_out <;> rfl
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine Eq.trans (View.read_writes_eq_canon _ _ _ ?_) ?_; · exact View.cover_of_tiledL _ S1x320x704.size (by sl_kernel_rfl)
    frame_out <;> rfl
  isplitl [H15]
  · iexists _; isplitr; swap; · iexact H15
    ipureintro
    refine Eq.trans (View.read_writes_eq_canon _ _ _ ?_) ?_; · exact View.cover_of_tiledL _ S1x320x704.size (by sl_kernel_rfl)
    frame_out <;> rfl
  isplitl [H16]
  · iexists _; isplitr; swap; · iexact H16
    ipureintro
    refine Eq.trans (View.read_writes_eq_canon _ _ _ ?_) ?_; · exact View.cover_of_tiledL _ S1x320x704.size (by sl_kernel_rfl)
    frame_out <;> rfl
  iexists _; isplitr; swap; · iexact H17
  ipureintro
  refine Eq.trans (View.read_writes_eq_canon _ _ _ ?_) ?_; · exact View.cover_of_tiledL _ S320x1024.size (by sl_kernel_rfl)
  frame_out <;> rfl

end Cert.ActivationsIdeal.Body

end
-- ==== Proof.ActivationsRun.lean ====
/-
  The run of the kernel of the activation gradients over its whole grid: 26 blocks of rows, each at two points that hold two
  of the four shards each.  What every buffer holds after a point is said in closed form from the blocks of the arguments,
  and the points of the module before this one are joined to the run of the program.
-/
module

public import proofs.«01_k».proof.Proof.ActivationsBody
public import proofs.«01_k».proof.Proof.Gen.ActivationsIdeal.Launch
public import proofs.«01_k».proof.Proof.Gen.ActivationsIdeal.Points
public import Idealize.ShloMosaic.Lib.Pipeline.FrameBody
public import Idealize.ShloMosaic.Lib.Pipeline.TableIdle
public import Idealize.ShloMosaic.Lib.Quiescent
public import Idealize.ShloMosaic.Lib.Claim

@[expose] public section

set_option maxRecDepth 16384

noncomputable section

namespace Cert.ActivationsIdeal.Run

open Cert.ActivationsIdeal Cert.ActivationsIdeal.Gen Cert.ActivationsIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The blocks of the eight arguments at a point. -/
abbrev b0 (c : Dev nD) (t : Fin cfg0.N) : Vec F S320x1024 .f32 := iblk m c 0 t
abbrev b1 (c : Dev nD) (t : Fin cfg0.N) : Vec F S1x1024 .f32 := iblk m c 1 t
abbrev b2 (c : Dev nD) (t : Fin cfg0.N) : Vec F S320x1024 .f32 := iblk m c 2 t
abbrev b3 (c : Dev nD) (t : Fin cfg0.N) : Vec F S2x320x704 .bf16 := iblk m c 3 t
abbrev b4 (c : Dev nD) (t : Fin cfg0.N) : Vec F S2x320x704 .bf16 := iblk m c 4 t
abbrev b5 (c : Dev nD) (t : Fin cfg0.N) : Vec F S2x704x1024 .bf16 := iblk m c 5 t
abbrev b6 (c : Dev nD) (t : Fin cfg0.N) : Vec F S2x704x1024 .bf16 := iblk m c 6 t
abbrev b7 (c : Dev nD) (t : Fin cfg0.N) : Vec F S2x704x1024 .bf16 := iblk m c 7 t

/-- The point before, and the first point of the same block of rows. -/
def prev (t : Fin cfg0.N) : Fin cfg0.N := ⟨t.val - 1, by omega⟩
def fst (t : Fin cfg0.N) : Fin cfg0.N := ⟨t.val / 2 * 2, by omega⟩

theorem fst_even (t : Fin cfg0.N) (h : t.val % 2 = 0) : fst t = t := Fin.ext (by show t.val / 2 * 2 = t.val; omega)
theorem fst_odd (t : Fin cfg0.N) (h : t.val % 2 = 1) : fst t = prev t := Fin.ext (by show t.val / 2 * 2 = t.val - 1; omega)
theorem fst_prev (t : Fin cfg0.N) (h : t.val % 2 = 1) : fst (prev t) = fst t := Fin.ext (by show (t.val - 1) / 2 * 2 = t.val / 2 * 2; omega)

/-- The normalised rows and the gradient of the block's output, both kept from the first point of the block, -/
def hnAt (c : Dev nD) (t : Fin cfg0.N) : Vec F S320x1024 .bf16 := k0_pay6 (b0 m c (fst t)) (b1 m c (fst t))
def dyAt (c : Dev nD) (t : Fin cfg0.N) : Vec F S320x1024 .bf16 := k0_pay7 (b2 m c (fst t))
/-- what a point adds to the gradient of the normalised rows, -/
def accStep (c : Dev nD) (t : Fin cfg0.N) (z : Vec F S320x1024 .f32) : Vec F S320x1024 .f32 :=
  total (dyAt m c t) (b3 m c t) (b4 m c t) (b5 m c t) (b6 m c t) (b7 m c t) z
/-- that gradient after a point, -/
def accAt (c : Dev nD) (t : Fin cfg0.N) : Vec F S320x1024 .f32 :=
  if t.val % 2 = 0 then accStep m c t k0_pay8 else accStep m c t (accStep m c (fst t) k0_pay8)
/-- and the gradient of the scale, which grows at the second point of every block of rows. -/
def gamAt (c : Dev nD) : ℕ → Vec F S1x1024 .f32
  | 0 => k0_pay9
  | n + 1 => if h : n + 1 < cfg0.N ∧ (n + 1) % 2 = 1 then k0_pay4 (b0 m c ⟨n + 1, h.1⟩) (accAt m c ⟨n + 1, h.1⟩) (gamAt c n) else gamAt c n

theorem hnAt_prev (c : Dev nD) (t : Fin cfg0.N) (h : t.val % 2 = 1) : hnAt m c (prev t) = hnAt m c t := by
  unfold hnAt; rw [fst_prev t h]
theorem dyAt_prev (c : Dev nD) (t : Fin cfg0.N) (h : t.val % 2 = 1) : dyAt m c (prev t) = dyAt m c t := by
  unfold dyAt; rw [fst_prev t h]
theorem accAt_even (c : Dev nD) (t : Fin cfg0.N) (h : t.val % 2 = 0) : accAt m c t = accStep m c t k0_pay8 := if_pos h
theorem accAt_odd (c : Dev nD) (t : Fin cfg0.N) (h : t.val % 2 = 1) : accAt m c t = accStep m c t (accAt m c (prev t)) := by
  rw [accAt_even m c (prev t) (by show (t.val - 1) % 2 = 0; omega), ← fst_odd t h]
  exact if_neg (by omega)
theorem gamAt_even (c : Dev nD) (t : Fin cfg0.N) (h0 : t.val ≠ 0) (h : t.val % 2 = 0) : gamAt m c t.val = gamAt m c (t.val - 1) := by
  obtain ⟨n, hn⟩ := t
  cases n with
  | zero => exact absurd rfl h0
  | succ n => exact dif_neg (by rintro ⟨_, h'⟩; simp only at h; omega)
theorem gamAt_odd (c : Dev nD) (t : Fin cfg0.N) (h : t.val % 2 = 1) :
    gamAt m c t.val = k0_pay4 (b0 m c t) (accAt m c t) (gamAt m c (t.val - 1)) := by
  obtain ⟨n, hn⟩ := t
  cases n with
  | zero => exact absurd h (by show ¬(0 % 2 = 1); decide)
  | succ n => exact dif_pos ⟨hn, h⟩

/-- The buffer of the running sum. -/
abbrev accM : Memref sig .tc .vmem S320x1024 .f32 := Memref.whole cc0_scratch0

/-- What is held between two points: the running sum, at anything before the first. -/
def PhiS (c : Dev nD) : (n : ℕ) → n ≤ cfg0.N → sProp 𝕄
  | 0, _ => Pipeline.ΦA spec0 c
  | n + 1, hn => iprop(owns (c : Thread nD τ) accM fullShare (accAt m c ⟨n, hn⟩) ∗ (∃ r, prngReg c r))

theorem PhiS_pos (c : Dev nD) (t : Fin cfg0.N) (h : t.val ≠ 0) :
    PhiS m c t.val (Nat.le_of_lt t.isLt) = iprop(owns (c : Thread nD τ) accM fullShare (accAt m c (prev t)) ∗ (∃ r, prngReg c r)) := by
  obtain ⟨n, hn⟩ := t
  cases n with
  | zero => exact absurd rfl h
  | succ n => rfl

theorem PhiS_any (c : Dev nD) : Pipeline.ΦA spec0 c = (iprop((∃ d, owns (c : Thread nD τ) accM fullShare d) ∗ (∃ r, prngReg c r)) : sProp 𝕄) := by
  unfold Pipeline.ΦA; rw [scopedRest0_eq]; simp only [accM, owns_whole]; rfl

/-- What each window's buffer and the running sum hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay5 (b0 m c t) (accAt m c t) (b2 m c t) (b1 m c t)
    | ⟨9, _⟩ => gamAt m c t.val
    | ⟨10, _⟩ => hnAt m c t
    | ⟨11, _⟩ => dyAt m c t
    | ⟨12, _⟩ => dgate (dyAt m c t) (b3 m c t) (b4 m c t) (b7 m c t)
    | ⟨13, _⟩ => dup (dyAt m c t) (b3 m c t) (b7 m c t)
    | ⟨14, _⟩ => act (b3 m c t) (b4 m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- What each window's buffer holds after a point. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay5 (b0 m c t) (accAt m c t) (b2 m c t) (b1 m c t) := by dsimp only [dats]
theorem after_9 (c : Dev nD) (t : Fin cfg0.N) : (dats m 0 c).after 9 t = gamAt m c t.val := by dsimp only [dats]
theorem after_10 (c : Dev nD) (t : Fin cfg0.N) : (dats m 0 c).after 10 t = hnAt m c t := by dsimp only [dats]
theorem after_11 (c : Dev nD) (t : Fin cfg0.N) : (dats m 0 c).after 11 t = dyAt m c t := by dsimp only [dats]
theorem after_12 (c : Dev nD) (t : Fin cfg0.N) : (dats m 0 c).after 12 t = dgate (dyAt m c t) (b3 m c t) (b4 m c t) (b7 m c t) := by dsimp only [dats]
theorem after_13 (c : Dev nD) (t : Fin cfg0.N) : (dats m 0 c).after 13 t = dup (dyAt m c t) (b3 m c t) (b7 m c t) := by dsimp only [dats]
theorem after_14 (c : Dev nD) (t : Fin cfg0.N) : (dats m 0 c).after 14 t = act (b3 m c t) (b4 m c t) := by dsimp only [dats]

/-- What an argument's buffer holds when a point begins: its block. -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## Which points do what -/

theorem cond1_iff : ∀ t : Fin cfg0.N, k0_cond1 (grid0.coords t) = 1#1 ↔ t.val % 2 = 0 := (by decide +kernel : ∀ t : Fin grid0.N, _)
theorem cond2_iff : ∀ t : Fin cfg0.N, k0_cond2 (grid0.coords t) = 1#1 ↔ t.val = 0 := (by decide +kernel : ∀ t : Fin grid0.N, _)
theorem cond3_iff : ∀ t : Fin cfg0.N, k0_cond3 (grid0.coords t) = 1#1 ↔ t.val % 2 = 1 := (by decide +kernel : ∀ t : Fin grid0.N, _)

theorem idle_8 : ∀ t : Fin cfg0.N, cfg0.idle 8 (cfg0.grid.coords t) = decide (t.val % 2 = 0) := (by decide +kernel : ∀ t : Fin grid0.N, _)
theorem idle_9 : ∀ t : Fin cfg0.N, cfg0.idle 9 (cfg0.grid.coords t) = decide (t.val % 2 = 0 ∧ t.val ≠ 0) := (by decide +kernel : ∀ t : Fin grid0.N, _)
theorem idle_10 : ∀ t : Fin cfg0.N, cfg0.idle 10 (cfg0.grid.coords t) = decide (t.val % 2 = 1) := (by decide +kernel : ∀ t : Fin grid0.N, _)
theorem idle_11 : ∀ t : Fin cfg0.N, cfg0.idle 11 (cfg0.grid.coords t) = decide (t.val % 2 = 1) := (by decide +kernel : ∀ t : Fin grid0.N, _)

theorem flush_no (w : Fin cfg0.W) (t : Fin cfg0.N) {P : Prop} (h : (cfg0.win w).flush t = true ↔ P) (hn : ¬P) : (cfg0.win w).flush t = false := by
  cases e : (cfg0.win w).flush t with
  | false => rfl
  | true => exact absurd (h.mp e) hn

theorem fresh_9 (n : ℕ) (h : n ≤ cfg0.N) (h0 : n ≠ 0) (hl : n ≠ 52) : cfg0.fresh 9 n = false :=
  (cfg0.fresh_tab 9 (fun n => decide (n = 0 ∨ n = 52)) (by decide) (by decide +kernel) n h).trans (decide_eq_false (by omega))
theorem fresh_10 (n : ℕ) (h : n ≤ cfg0.N) (h0 : n % 2 = 1) : cfg0.fresh 10 n = false :=
  (cfg0.fresh_tab 10 (fun n => decide (n % 2 = 0)) (by decide) (by decide +kernel) n h).trans (decide_eq_false (by omega))
theorem fresh_11 (n : ℕ) (h : n ≤ cfg0.N) (h0 : n % 2 = 1) : cfg0.fresh 11 n = false :=
  (cfg0.fresh_tab 11 (fun n => decide (n % 2 = 0)) (by decide) (by decide +kernel) n h).trans (decide_eq_false (by omega))

/-- The sums found by a second point are those the point before left. -/
theorem before_9 (c : Dev nD) (t : Fin cfg0.N) (h : t.val % 2 = 1) (d) : (dats m 0 c).before 9 t d = gamAt m c (t.val - 1) := by
  have hN : t.val < 52 := lt_of_lt_of_eq t.isLt N_0
  rw [(dats m 0 c).before_out_traj 9 rfl (fun _ _ => rfl) (fun t h0 hi _ => ?_) t.val t rfl d, fresh_9 _ (Nat.le_of_lt t.isLt) (by omega) (by omega), if_neg Bool.false_ne_true, after_9]
  rw [idle_9, decide_eq_true_iff] at hi
  rw [after_9, after_9]; exact gamAt_even m c t h0 hi.1
theorem before_10 (c : Dev nD) (t : Fin cfg0.N) (h : t.val % 2 = 1) (d) : (dats m 0 c).before 10 t d = hnAt m c t := by
  rw [(dats m 0 c).before_out_traj 10 rfl (fun _ _ => rfl) (fun t h0 hi _ => ?_) t.val t rfl d, fresh_10 _ (Nat.le_of_lt t.isLt) h, if_neg Bool.false_ne_true, after_10]
  · exact hnAt_prev m c t h
  rw [idle_10, decide_eq_true_iff] at hi
  rw [after_10, after_10]; exact (hnAt_prev m c t hi).symm
theorem before_11 (c : Dev nD) (t : Fin cfg0.N) (h : t.val % 2 = 1) (d) : (dats m 0 c).before 11 t d = dyAt m c t := by
  rw [(dats m 0 c).before_out_traj 11 rfl (fun _ _ => rfl) (fun t h0 hi _ => ?_) t.val t rfl d, fresh_11 _ (Nat.le_of_lt t.isLt) h, if_neg Bool.false_ne_true, after_11]
  · exact dyAt_prev m c t h
  rw [idle_11, decide_eq_true_iff] at hi
  rw [after_11, after_11]; exact (dyAt_prev m c t hi).symm

/-! ## One point, as the run asks for it -/

/-- A window the point writes leaves what is said of it, -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
/-- and so does one that is written back. -/
theorem leaves_back (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- What a point starts from -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 1600000 in
/-- The very first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 52 := lt_of_lt_of_eq t.isLt N_0
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(owns (c : Thread nD τ) accM fullShare (accAt m c t) ∗ (∃ r, prngReg c r)) from rfl, PhiS_castSucc m c t]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 12 t rfl, after_12]
  rw [leaves_live m c 13 t rfl, after_13]
  rw [leaves_live m c 14 t rfl, after_14]
  have h : t.val % 2 = 0 := by omega
  rw [(dats m 0 c).leavesExact_idle 8 t ((idle_8 t).trans (decide_eq_true h)) (flush_no 8 t (flush0_8 t) (by omega))]
  rw [leaves_live m c 9 t ((idle_9 t).trans (decide_eq_false (by omega))), after_9]
  rw [leaves_live m c 10 t ((idle_10 t).trans (decide_eq_false (by omega))), after_10]
  rw [leaves_live m c 11 t ((idle_11 t).trans (decide_eq_false (by omega))), after_11]
  rw [show PhiS m c t.val (Nat.le_of_lt t.isLt) = Pipeline.ΦA spec0 c from by obtain ⟨n, hn⟩ := t; cases n with | zero => rfl | succ n => exact absurd h0 (Nat.succ_ne_zero n)]; rw [PhiS_any]
  rw [accAt_even m c t h]; unfold accStep hnAt dyAt; rw [fst_even t h]
  rw [show gamAt m c t.val = k0_pay9 from by rw [h0]; rfl]
  iintro ⟨⟨⟨%dA, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_first c (grid0.coords t) _ _ _ _ _ _ _ _ _ _ _ _ _ _ _ _ _ _ _ _ _ _ _ _ _ _ _ _ _ _ _ _ ((cond1_iff t).mpr h) ((cond2_iff t).mpr h0) (fun e => by have := (cond3_iff t).mp e; omega) (iblk m c 0 t) (iblk m c 1 t) (iblk m c 2 t) (iblk m c 3 t) (iblk m c 4 t) (iblk m c 5 t) (iblk m c 6 t) (iblk m c 7 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HA]; · iexists _; iexact HA
  iintro ⟨H0, H1, H2, H3, H4, H5, H6, H7, H8, H9, H10, H11, H12, H13, H14, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  isplitl [H13]; · iexact H13
  iexact H14

set_option maxHeartbeats 1600000 in
/-- The first point of a later block of rows. -/
theorem sound_even (c : Dev nD) (t : Fin cfg0.N) (h0 : t.val ≠ 0) (h : t.val % 2 = 0) :
    bodyPre m c t ⊢ wp frame (wpE (defs₀ (F := F)) Variants.none c none) Set.univ (bodyAt0 t) (fun _ => bodyPost m c t) := by
  have hN : t.val < 52 := lt_of_lt_of_eq t.isLt N_0
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(owns (c : Thread nD τ) accM fullShare (accAt m c t) ∗ (∃ r, prngReg c r)) from rfl, PhiS_castSucc m c t]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 12 t rfl, after_12]
  rw [leaves_live m c 13 t rfl, after_13]
  rw [leaves_live m c 14 t rfl, after_14]
  rw [(dats m 0 c).leavesExact_idle 8 t ((idle_8 t).trans (decide_eq_true h)) (flush_no 8 t (flush0_8 t) (by omega))]
  rw [(dats m 0 c).leavesExact_idle 9 t ((idle_9 t).trans (decide_eq_true ⟨h, h0⟩)) (flush_no 9 t (flush0_9 t) (by omega))]
  rw [leaves_live m c 10 t ((idle_10 t).trans (decide_eq_false (by omega))), after_10]
  rw [leaves_live m c 11 t ((idle_11 t).trans (decide_eq_false (by omega))), after_11]
  rw [PhiS_pos m c t h0]
  rw [accAt_even m c t h]; unfold accStep hnAt dyAt; rw [fst_even t h]
  iintro ⟨⟨HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_even c (grid0.coords t) _ _ _ _ _ _ _ _ _ _ _ _ _ _ _ _ _ _ _ _ _ _ _ _ _ _ _ _ _ _ _ _ ((cond1_iff t).mpr h) (fun e => h0 ((cond2_iff t).mp e)) (fun e => by have := (cond3_iff t).mp e; omega) (iblk m c 0 t) (iblk m c 1 t) (iblk m c 2 t) (iblk m c 3 t) (iblk m c 4 t) (iblk m c 5 t) (iblk m c 6 t) (iblk m c 7 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HA]; · iexists _; iexact HA
  iintro ⟨H0, H1, H2, H3, H4, H5, H6, H7, H8, H9, H10, H11, H12, H13, H14, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  isplitl [H13]; · iexact H13
  iexact H14

set_option maxHeartbeats 1600000 in
/-- The second point of a block of rows. -/
theorem sound_odd (c : Dev nD) (t : Fin cfg0.N) (h : t.val % 2 = 1) :
    bodyPre m c t ⊢ wp frame (wpE (defs₀ (F := F)) Variants.none c none) Set.univ (bodyAt0 t) (fun _ => bodyPost m c t) := by
  have hN : t.val < 52 := lt_of_lt_of_eq t.isLt N_0
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(owns (c : Thread nD τ) accM fullShare (accAt m c t) ∗ (∃ r, prngReg c r)) from rfl, PhiS_castSucc m c t]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 12 t rfl, after_12]
  rw [leaves_live m c 13 t rfl, after_13]
  rw [leaves_live m c 14 t rfl, after_14]
  have h0 : t.val ≠ 0 := by omega
  rw [leaves_live m c 8 t ((idle_8 t).trans (decide_eq_false (by omega))), after_8]
  rw [leaves_live m c 9 t ((idle_9 t).trans (decide_eq_false (by omega))), after_9]
  rw [leaves_back m c 10 t ((idle_10 t).trans (decide_eq_true h)) ((flush0_10 t).mpr h), after_10]
  rw [leaves_back m c 11 t ((idle_11 t).trans (decide_eq_true h)) ((flush0_11 t).mpr h), after_11]
  rw [PhiS_pos m c t h0]
  simp only [before_9 m c t h, before_10 m c t h, before_11 m c t h]
  rw [gamAt_odd m c t h, accAt_odd m c t h]; unfold accStep
  iintro ⟨⟨HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_odd c (grid0.coords t) _ _ _ _ _ _ _ _ _ _ _ _ _ _ _ _ _ _ _ _ _ _ _ _ _ _ _ _ _ _ _ _ (fun e => by have := (cond1_iff t).mp e; omega) (fun e => h0 ((cond2_iff t).mp e)) ((cond3_iff t).mpr h) (iblk m c 0 t) (iblk m c 1 t) (iblk m c 2 t) (iblk m c 3 t) (iblk m c 4 t) (iblk m c 5 t) (iblk m c 6 t) (iblk m c 7 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HA]; · iexact HA
  iintro ⟨H0, H1, H2, H3, H4, H5, H6, H7, H8, H9, H10, H11, H12, H13, H14, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The point the run calls is the kernel's own text. -/
theorem defs₀_row (t : Fin cfg0.N) : defs₀ (F := F) .tc cfg0.body (cfg0.bodyArgs t (cfg0.slots t)) = bodyAt0 t := by
  unfold defs₀; rw [Defs.onTc_tc]

theorem sound (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h : t.val % 2 = 0
  · exact sound_even m c t h0 h
  · exact sound_odd m c t (by omega)

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = iprop(owns (c : Thread nD τ) accM fullShare (accAt m c ⟨51, (by decide : 51 < grid0.N)⟩) ∗ (∃ r, prngReg c r)) from rfl, PhiS_any]
  iintro ⟨HA, Hg⟩
  isplitl [HA]
  · iexists _; iexact HA
  iexact Hg

/-! ## The run of the program -/

set_option backward.isDefEq.respectTransparency.types false in
/-- Every run of the program ends, with every array at what the points left in it and no signal left over. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- The arguments end as they began, and no signal is left over. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.ActivationsIdeal.Run

end
-- ==== Proof.ActivationsFrames.lean ====
/-
  The frames of the kernel of the activation gradients, in both arithmetics, from the one run; and its reference's.
-/
module

public import proofs.«01_k».proof.Defs
public import proofs.«01_k».proof.Proof.ActivationsRun
public import proofs.«01_k».proof.Proof.Gen.Activations
public import proofs.«01_k».proof.Proof.Gen.Pre_finite
public import proofs.«01_k».proof.Proof.Gen.ActivationsRefIdeal.Run
public import Idealize.ShloMosaic.Lib.Quiescent

@[expose] public section

noncomputable section

namespace Cert.Proof.Activations

open Idealize.ShloMosaic Idealize.ShloMosaic.Tactic Idealize.SL.Sem

theorem frame_ideal : Cert.quiescent_ActivationsIdeal := fun m g _ => Cert.ActivationsIdeal.Run.frame (F := Ideal) m g

theorem frame_ideal_finite : Cert.quiescent_ActivationsIdeal_pre_finite := fun m g _ => Cert.ActivationsIdeal.Run.frame (F := Ideal) m g

/-- The two programs are one text, so the run read in machine arithmetic is the kernel's. -/
theorem frame_kernel : Cert.quiescent_Activations := fun m g _ =>
  Eq.mp (by sl_kernel_rfl) (Cert.ActivationsIdeal.Run.frame (F := Bits) m g)

theorem frame_reference : Cert.quiescent_ActivationsRefIdeal := by
  intro m g _
  refine θ_run_mono (Cert.ActivationsRefIdeal.Value.run (F := Ideal) m g) fun r h => ⟨fun c => ?_, sem_eq_zero_of_no_sems (by decide) _⟩
  obtain ⟨_, _, _, _, _, _, _, h0, h1, h2, h3, h4, h5⟩ := h c
  exact ⟨h0, h1, h2, h3, h4, h5⟩

theorem frame_reference_finite : Cert.quiescent_ActivationsRefIdeal_pre_finite := by
  intro m g _
  refine θ_run_mono (Cert.ActivationsRefIdeal.Value.run (F := Ideal) m g) fun r h => ⟨fun c => ?_, sem_eq_zero_of_no_sems (by decide) _⟩
  obtain ⟨_, _, _, _, _, _, _, h0, h1, h2, h3, h4, h5⟩ := h c
  exact ⟨h0, h1, h2, h3, h4, h5⟩

end Cert.Proof.Activations
-- ==== Proof.ActivationsReal.lean ====
/-
  Sums, products and the gate's slope over extended reals that are real numbers, and two identities between ways of
  writing a gradient: the slope of the gate, and the gradient of a row's normalisation.
-/
module

public import Idealize.ShloMosaic.Lib.Pointwise

@[expose] public section

noncomputable section

namespace Cert.ActivationsIdeal.Real

open Idealize.ShloMosaic

/-- An extended real that is a real number. -/
def IsReal (x : EReal) : Prop := ∃ r : ℝ, x = (r : EReal)

theorem IsReal.coe (r : ℝ) : IsReal (r : EReal) := ⟨r, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sub {x y : EReal} : IsReal x → IsReal y → IsReal (x - y)
  | ⟨a, ha⟩, ⟨b, hb⟩ => ⟨a - b, by rw [ha, hb, EReal.coe_sub]⟩
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]
theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- The quotient of two real numbers, the second not zero. -/
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem exp_coe (a : ℝ) : Ideal.exp (a : EReal) = ((Real.exp a : ℝ) : EReal) := rfl

/-- The logistic function. -/
def sigmoid (g : EReal) : EReal := Ideal.div 1 (1 + Ideal.exp (-g))

theorem sigmoid_coe (a : ℝ) : sigmoid (a : EReal) = ((1 / (1 + Real.exp (-a)) : ℝ) : EReal) := by
  unfold sigmoid
  rw [← EReal.coe_neg, exp_coe, ← EReal.coe_one, ← EReal.coe_add, div_coe _ _ (by positivity)]

theorem IsReal.sigmoid {g : EReal} : IsReal g → IsReal (sigmoid g)
  | ⟨a, ha⟩ => ⟨_, by rw [ha, sigmoid_coe]⟩

/-- The slope of `g · sigmoid g`, times `t`, written as a product and written as a sum of two products. -/
theorem slope {t g : EReal} (ht : IsReal t) (hg : IsReal g) :
    t * (sigmoid g * (1 + g * (1 - sigmoid g))) = t * sigmoid g + (g * t) * (sigmoid g * (1 - sigmoid g)) := by
  obtain ⟨b, hb⟩ := hg.sigmoid
  obtain ⟨t, rfl⟩ := ht
  obtain ⟨g, rfl⟩ := hg
  rw [hb]
  norm_cast
  ring

/-! ## The normalisation of a row -/

theorem c1024 : Ideal.ofBits .f32 0x44800000#32 = ((1024 : ℝ) : EReal) := by
  simp [Ideal.ofBits, Ideal.ieee, -EReal.coe_mul]; norm_num

theorem cneg : Ideal.ofBits .f32 0xBF000000#32 = ((-(1 / 2) : ℝ) : EReal) := by
  simp [Ideal.ofBits, Ideal.ieee, -EReal.coe_mul, -EReal.coe_neg]; norm_num

theorem chalf : IsReal (Ideal.ofBits .f32 0x3F000000#32) :=
  ⟨1 / 2, by simp [Ideal.ofBits, Ideal.ieee, -EReal.coe_mul]; norm_num⟩

theorem ceps : ∃ e : ℝ, 0 < e ∧ Ideal.ofBits .f32 0x358637BD#32 = (e : EReal) :=
  ⟨8796093 / 8796093022208, by norm_num, by simp [Ideal.ofBits, Ideal.ieee, -EReal.coe_mul]; norm_num⟩

/-- A row's mean square plus the small constant, and the reciprocal of its root. -/
def mean (x : Fin 1024 → EReal) : EReal :=
  Ideal.div (∑ k, x k * x k) (Ideal.ofBits .f32 0x44800000#32) + Ideal.ofBits .f32 0x358637BD#32
def rstd (x : Fin 1024 → EReal) : EReal := Ideal.rsqrt (mean x)

theorem mean_pos {x : Fin 1024 → EReal} (hx : ∀ k, IsReal (x k)) : ∃ v : ℝ, 0 < v ∧ mean x = (v : EReal) := by
  choose a ha using hx
  obtain ⟨e, he, h⟩ := ceps
  refine ⟨(∑ k, a k * a k) / 1024 + e, by have := Finset.sum_nonneg fun k (_ : k ∈ Finset.univ) => mul_self_nonneg (a k); positivity, ?_⟩
  unfold mean
  simp only [ha, ← EReal.coe_mul]
  rw [coe_sum, c1024, div_coe _ _ (by norm_num), h, EReal.coe_add]

theorem rsqrt_coe (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (by linarith), if_neg h.ne']

theorem IsReal.rstd {x : Fin 1024 → EReal} (hx : ∀ k, IsReal (x k)) : IsReal (rstd x) := by
  obtain ⟨v, hv, e⟩ := mean_pos hx
  exact ⟨_, by unfold Real.rstd; rw [e, rsqrt_coe v hv]⟩

/-- The gradient of a row's normalisation, as a projection of `d` and as the sum of the gradients through the row's three
    uses. -/
theorem norm_back {x d : Fin 1024 → EReal} {r : EReal} (hx : ∀ k, IsReal (x k)) (hd : ∀ k, IsReal (d k)) (hr : IsReal r) (k : Fin 1024) :
    r + rstd x * (d k - x k * rstd x * Ideal.div (∑ j, d j * (x j * rstd x)) (Ideal.ofBits .f32 0x44800000#32))
      = ((r + d k * rstd x) + x k * Ideal.div ((∑ j, x j * d j) * (Ideal.ofBits .f32 0xBF000000#32 * Ideal.div (rstd x) (mean x))) (Ideal.ofBits .f32 0x44800000#32))
        + Ideal.div ((∑ j, x j * d j) * (Ideal.ofBits .f32 0xBF000000#32 * Ideal.div (rstd x) (mean x))) (Ideal.ofBits .f32 0x44800000#32) * x k := by
  obtain ⟨v, hv, e⟩ := mean_pos hx
  have es : rstd x = (((Real.sqrt v)⁻¹ : ℝ) : EReal) := by unfold rstd; rw [e, rsqrt_coe v hv]
  choose a ha using hx
  choose b hb using hd
  obtain ⟨r, rfl⟩ := hr
  have hs : 0 < Real.sqrt v := Real.sqrt_pos.mpr hv
  have hq : v = Real.sqrt v * Real.sqrt v := (Real.mul_self_sqrt hv.le).symm
  have sum : (∑ j, b j * (a j * (Real.sqrt v)⁻¹)) = (Real.sqrt v)⁻¹ * ∑ j, a j * b j := by
    rw [Finset.mul_sum]; exact Finset.sum_congr rfl fun j _ => by ring
  simp only [es, e, ha, hb, c1024, cneg, ← EReal.coe_mul, ← EReal.coe_sub, ← EReal.coe_add, coe_sum, div_coe _ _ (by norm_num : (1024 : ℝ) ≠ 0),
    div_coe _ _ hv.ne', sum]
  refine congrArg _ ?_
  generalize (∑ j, a j * b j) = S
  generalize Real.sqrt v = q at hs hq
  subst hq
  field_simp
  ring

end Cert.ActivationsIdeal.Real
-- ==== Proof.ActivationsStages.lean ====
/-
  The reference of the gradient through the feed-forward, element by element.  The last stages read real numbers only, so
  that they may be written in either of two ways.
-/
module

public import proofs.«01_k».proof.Proof.ActivationsReal
public import proofs.«01_k».proof.Proof.Gen.ActivationsRefIdeal.Read
public import Idealize.ShloMosaic.Lib.Claim

@[expose] public section

set_option maxRecDepth 16384

noncomputable section

namespace Cert.ActivationsIdeal.Stages

open Cert.ActivationsRefIdeal Cert.ActivationsRefIdeal.Read Cert.ActivationsIdeal.Real
open Idealize.ShloMosaic Idealize.ShloMosaic.TcCoe

variable (h : FVec Ideal S8320x1024 .f32) (γ : FVec Ideal S1024 .f32) (wg wu : FVec Ideal S1024x2816 .f32) (wd : FVec Ideal S2816x1024 .f32)
  (dh : FVec Ideal S8320x1024 .f32)

/-- Row `r`. -/
def row (r : Fin 8320) (k : Fin 1024) : EReal := h (ix2 r k)

/-- The reference's stages: normalised rows, half the rows' gradient, the gate's two products, the gradient of the gated
    features, the features, and the gradients of the two products and of the normalised rows. -/
abbrev hn : S8320x1024.Idx → EReal := val_main_v73 (F := Ideal) h γ
abbrev dy : S8320x1024.Idx → EReal := val_main_v75 (F := Ideal) dh
abbrev gate : S8320x2816.Idx → EReal := val_main_v76 (F := Ideal) h γ wg
abbrev up : S8320x2816.Idx → EReal := val_main_v77 (F := Ideal) h γ wu
abbrev da : S8320x2816.Idx → EReal := val_main_v80 (F := Ideal) wd dh
abbrev act : S8320x2816.Idx → EReal := val_main_v79 (F := Ideal) h γ wg wu
abbrev du : S8320x2816.Idx → EReal := val_main_v81 (F := Ideal) h γ wg wd dh
abbrev dg : S8320x2816.Idx → EReal := val_main_v83 (F := Ideal) h γ wg wu wd dh
abbrev dhn : S8320x1024.Idx → EReal := val_main_v39 (F := Ideal) h γ wg wu wd dh

theorem hn_apply (r : Fin 8320) (k : Fin 1024) : hn h γ (ix2 r k) = row h r k * rstd (row h r) * (γ (ix1 k) : EReal) := by
  unfold hn rstd mean row
  pointwise [val_main_v73, val_main_v72, val_main_v71, val_main_v70, val_main_v69, val_main_v68, val_main_v67, val_main_v66, val_main_v65, val_main_v64,
    val_main_v63, val_main_v62, val_main_v61, val_main_cst_10, val_main_cst_11, val_main_cst_12]

theorem dy_apply (r : Fin 8320) (k : Fin 1024) : dy dh (ix2 r k) = Ideal.ofBits .f32 0x3F000000#32 * (dh (ix2 r k) : EReal) := by
  unfold dy
  pointwise [val_main_v75, val_main_v74, val_main_cst_13]

theorem gate_apply (r : Fin 8320) (f : Fin 2816) : gate h γ wg (ix2 r f) = ∑ k : Fin 1024, hn h γ (ix2 r k) * (wg (ix2 k f) : EReal) := by
  unfold gate
  pointwise [val_main_v76]

theorem up_apply (r : Fin 8320) (f : Fin 2816) : up h γ wu (ix2 r f) = ∑ k : Fin 1024, hn h γ (ix2 r k) * (wu (ix2 k f) : EReal) := by
  unfold up
  pointwise [val_main_v77]

theorem da_apply (r : Fin 8320) (f : Fin 2816) : da wd dh (ix2 r f) = ∑ k : Fin 1024, dy dh (ix2 r k) * (wd (ix2 f k) : EReal) := by
  unfold da
  pointwise [val_main_v80]

theorem sig_apply (i : S8320x2816.Idx) : (val_main_v78_2 (F := Ideal) h γ wg i : EReal) = sigmoid (gate h γ wg i) := by
  unfold gate sigmoid
  pointwise [val_main_v78_2, val_main_call2_v4, val_main_call2_v3, val_main_call2_v2, val_main_call2_v1, val_main_call2_v0,
    val_main_call2_cst, val_main_call2_cst_0]

theorem act_apply (i : S8320x2816.Idx) : act h γ wg wu i = gate h γ wg i * sigmoid (gate h γ wg i) * up h γ wu i := by
  rw [← sig_apply]
  unfold act gate up
  pointwise [val_main_v79, val_main_v78_0]

theorem du_apply (i : S8320x2816.Idx) : du h γ wg wd dh i = gate h γ wg i * sigmoid (gate h γ wg i) * da wd dh i := by
  rw [← sig_apply]
  unfold du gate da
  pointwise [val_main_v81, val_main_v78_0]

theorem dg_apply (i : S8320x2816.Idx) : dg h γ wg wu wd dh i
    = da wd dh i * up h γ wu i * sigmoid (gate h γ wg i)
      + gate h γ wg i * (da wd dh i * up h γ wu i) * (sigmoid (gate h γ wg i) * (1 - sigmoid (gate h γ wg i))) := by
  rw [← sig_apply]
  unfold dg gate da up
  pointwise [val_main_v83, val_main_call3_v2, val_main_call3_v1, val_main_call3_v0, val_main_v82, val_main_v78_1, val_main_call2_v7, val_main_call2_v6,
    val_main_call2_cst_1]

/-! The reference computes the saved stages a second time. -/

theorem hn_twice : val_main_v15 (F := Ideal) h γ = val_main_v73 h γ := rfl
theorem dy_twice : val_main_v26 (F := Ideal) dh = val_main_v75 dh := by
  funext i
  idx_vars i
  pointwise [val_main_v26, val_main_v25, val_main_v24, val_main_cst_4, val_main_v75, val_main_v74, val_main_cst_13]
theorem gate_twice : val_main_v16 (F := Ideal) h γ wg = val_main_v76 h γ wg := by
  unfold val_main_v16 val_main_v76; rw [hn_twice]
theorem up_twice : val_main_v18 (F := Ideal) h γ wu = val_main_v77 h γ wu := by
  unfold val_main_v18 val_main_v77; rw [hn_twice]
theorem da_twice : val_main_v29 (F := Ideal) wd dh = val_main_v80 wd dh := by
  unfold val_main_v29 val_main_v80; rw [dy_twice]
theorem sig_twice : val_main_v17_2 (F := Ideal) h γ wg = val_main_v78_2 h γ wg := by
  unfold val_main_v17_2 val_main_v78_2 val_main_call0_v3 val_main_call2_v3 val_main_call0_v1 val_main_call2_v1 val_main_call0_v0 val_main_call2_v0
  rw [gate_twice]; rfl
theorem slope_twice : val_main_v17_1 (F := Ideal) h γ wg = val_main_v78_1 h γ wg := by
  unfold val_main_v17_1 val_main_v78_1 val_main_call0_v7 val_main_call2_v7
  rw [sig_twice]; rfl
theorem both_twice : val_main_v31 (F := Ideal) h γ wu wd dh = val_main_v82 h γ wu wd dh := by
  unfold val_main_v31 val_main_v82; rw [da_twice, up_twice]
theorem dg_twice : val_main_v35 (F := Ideal) h γ wg wu wd dh = val_main_v83 h γ wg wu wd dh := by
  unfold val_main_v35 val_main_v83 val_main_call1_v1 val_main_call3_v1 val_main_call1_v2 val_main_call3_v2 val_main_call1_v0 val_main_call3_v0
  rw [both_twice, sig_twice, gate_twice, slope_twice]
theorem du_twice : val_main_v30 (F := Ideal) h γ wg wd dh = val_main_v81 h γ wg wd dh := by
  unfold val_main_v30 val_main_v81 val_main_v17_0 val_main_v78_0
  rw [da_twice, sig_twice, gate_twice]

theorem dhn_apply (r : Fin 8320) (k : Fin 1024) : dhn h γ wg wu wd dh (ix2 r k)
    = (∑ f : Fin 2816, du h γ wg wd dh (ix2 r f) * (wu (ix2 k f) : EReal)) + ∑ f : Fin 2816, dg h γ wg wu wd dh (ix2 r f) * (wg (ix2 k f) : EReal) := by
  unfold dhn du dg
  pointwise [val_main_v39, val_main_v38, val_main_v34, dg_twice, du_twice]

theorem rstd_apply (r : Fin 8320) : (val_main_v7 (F := Ideal) h (ix2 r 0) : EReal) = rstd (row h r) := by
  unfold rstd mean row
  pointwise [val_main_v7, val_main_v6, val_main_v5, val_main_v4, val_main_v3, val_main_v2, val_main_v1, val_main_v0, val_main_cst, val_main_cst_0, val_main_cst_1]

theorem mean_apply (r : Fin 8320) : (val_main_v6 (F := Ideal) h (ix2 r 0) : EReal) = mean (row h r) := by
  unfold mean row
  pointwise [val_main_v6, val_main_v5, val_main_v4, val_main_v3, val_main_v2, val_main_v1, val_main_v0, val_main_cst, val_main_cst_0, val_main_cst_1]

theorem gam_apply (k : Fin 1024) : (val_main_v84 (F := Ideal) h γ wg wu wd dh (ix2 0 k) : EReal)
    = ∑ r : Fin 8320, row h r k * rstd (row h r) * dhn h γ wg wu wd dh (ix2 r k) := by
  simp only [← rstd_apply]
  unfold dhn row
  pointwise [val_main_v84, val_main_v45, val_main_v42, val_main_v41, val_main_v40, val_main_v12, val_main_v11, val_main_cst_5, val_main_cst_6]
  exact Fin.sum_univ_one _

/-- The gradient of the normalised rows times the scale. -/
def scaled (r : Fin 8320) (k : Fin 1024) : EReal := dhn h γ wg wu wd dh (ix2 r k) * (γ (ix1 k) : EReal)

/-- What the gradient gets through a row's mean square, before the factor `x`. -/
def through (x d : Fin 1024 → EReal) : EReal :=
  Ideal.div ((∑ j, x j * d j) * (Ideal.ofBits .f32 0xBF000000#32 * Ideal.div (rstd x) (mean x))) (Ideal.ofBits .f32 0x44800000#32)

theorem out_apply (r : Fin 8320) (k : Fin 1024) : (val_main_v60 (F := Ideal) h γ wg wu wd dh (ix2 r k) : EReal)
    = (((dh (ix2 r k) : EReal) + scaled h γ wg wu wd dh r k * rstd (row h r)) + row h r k * through (row h r) (scaled h γ wg wu wd dh r))
      + through (row h r) (scaled h γ wg wu wd dh r) * row h r k := by
  unfold through
  rw [← rstd_apply, ← mean_apply]
  unfold scaled dhn row
  pointwise [val_main_v60, val_main_v59, val_main_v58, val_main_v57, val_main_v56, val_main_v55, val_main_v54, val_main_v53, val_main_v52, val_main_v51,
    val_main_v50, val_main_v49, val_main_v48, val_main_v47, val_main_v46, val_main_v44, val_main_v43, val_main_v13, val_main_v10, val_main_v9, val_main_v8,
    val_main_cst_2, val_main_cst_7, val_main_cst_8, val_main_cst_9]
  simp only [Fin.sum_univ_one]

theorem shard_dg_apply (q : Fin 4) (r : Fin 8320) (f : Fin 704) :
    (val_main_v89 (F := Ideal) h γ wg wu wd dh (ix3 q r f) : EReal) = dg h γ wg wu wd dh (ix2 r ⟨q.val * 704 + f.val, by omega⟩) := by
  unfold dg
  pointwise [val_main_v89, val_main_v88, val_main_v87]
theorem shard_du_apply (q : Fin 4) (r : Fin 8320) (f : Fin 704) :
    (val_main_v92 (F := Ideal) h γ wg wd dh (ix3 q r f) : EReal) = du h γ wg wd dh (ix2 r ⟨q.val * 704 + f.val, by omega⟩) := by
  unfold du
  pointwise [val_main_v92, val_main_v91, val_main_v90]
theorem shard_act_apply (q : Fin 4) (r : Fin 8320) (f : Fin 704) :
    (val_main_v95 (F := Ideal) h γ wg wu (ix3 q r f) : EReal) = act h γ wg wu (ix2 r ⟨q.val * 704 + f.val, by omega⟩) := by
  unfold act
  pointwise [val_main_v95, val_main_v94, val_main_v93]
theorem hn_out (i : S8320x1024.Idx) : (val_main_v85 (F := Ideal) h γ i : EReal) = hn h γ i := rfl
theorem dy_out (i : S8320x1024.Idx) : (val_main_v86 (F := Ideal) dh i : EReal) = dy dh i := rfl

/-! ## Real numbers throughout -/

section real
variable {h γ wg wu wd dh}
variable (hh : ∀ i, IsReal (h i)) (hγ : ∀ i, IsReal (γ i)) (hg : ∀ i, IsReal (wg i)) (hu : ∀ i, IsReal (wu i)) (hd : ∀ i, IsReal (wd i))
  (hdh : ∀ i, IsReal (dh i))
include hh hγ in
theorem hn_real (r : Fin 8320) (k : Fin 1024) : IsReal (hn h γ (ix2 r k)) := by
  rw [hn_apply]
  exact ((hh _).mul (IsReal.rstd fun k => hh _)).mul (hγ _)
include hdh in
theorem dy_real (r : Fin 8320) (k : Fin 1024) : IsReal (dy dh (ix2 r k)) := by
  rw [dy_apply]; exact chalf.mul (hdh _)
include hh hγ hg in
theorem gate_real (r : Fin 8320) (f : Fin 2816) : IsReal (gate h γ wg (ix2 r f)) := by
  rw [gate_apply]; exact IsReal.sum _ fun k => (hn_real hh hγ r k).mul (hg _)
include hh hγ hu in
theorem up_real (r : Fin 8320) (f : Fin 2816) : IsReal (up h γ wu (ix2 r f)) := by
  rw [up_apply]; exact IsReal.sum _ fun k => (hn_real hh hγ r k).mul (hu _)
include hd hdh in
theorem da_real (r : Fin 8320) (f : Fin 2816) : IsReal (da wd dh (ix2 r f)) := by
  rw [da_apply]; exact IsReal.sum _ fun k => (dy_real hdh r k).mul (hd _)
include hh hγ hg hu hd hdh

/-- The gradient of the gate's product, with the gate's slope as one product. -/
theorem dg_slope (r : Fin 8320) (f : Fin 2816) : dg h γ wg wu wd dh (ix2 r f)
    = da wd dh (ix2 r f) * up h γ wu (ix2 r f)
      * (sigmoid (gate h γ wg (ix2 r f)) * (1 + gate h γ wg (ix2 r f) * (1 - sigmoid (gate h γ wg (ix2 r f))))) := by
  rw [slope ((da_real hd hdh r f).mul (up_real hh hγ hu r f)) (gate_real hh hγ hg r f), dg_apply]

theorem dhn_real (r : Fin 8320) (k : Fin 1024) : IsReal (dhn h γ wg wu wd dh (ix2 r k)) := by
  rw [dhn_apply]
  refine IsReal.add (IsReal.sum _ fun f => IsReal.mul ?_ (hu _)) (IsReal.sum _ fun f => IsReal.mul ?_ (hg _))
  · rw [du_apply]
    exact ((gate_real hh hγ hg r f).mul (gate_real hh hγ hg r f).sigmoid).mul (da_real hd hdh r f)
  · rw [dg_slope hh hγ hg hu hd hdh]
    exact ((da_real hd hdh r f).mul (up_real hh hγ hu r f)).mul ((gate_real hh hγ hg r f).sigmoid.mul
      (IsReal.add (IsReal.coe 1) ((gate_real hh hγ hg r f).mul ((IsReal.coe 1).sub (gate_real hh hγ hg r f).sigmoid))))

/-- The gradient of the rows, as a projection. -/
theorem out_project (r : Fin 8320) (k : Fin 1024) : (val_main_v60 (F := Ideal) h γ wg wu wd dh (ix2 r k) : EReal)
    = (dh (ix2 r k) : EReal) + rstd (row h r) * (scaled h γ wg wu wd dh r k - row h r k * rstd (row h r)
      * Ideal.div (∑ j, scaled h γ wg wu wd dh r j * (row h r j * rstd (row h r))) (Ideal.ofBits .f32 0x44800000#32)) := by
  rw [out_apply]
  exact (norm_back (fun k => hh _) (fun k => (dhn_real hh hγ hg hu hd hdh r k).mul (hγ _)) (hdh _) k).symm
end real

end Cert.ActivationsIdeal.Stages
-- ==== Proof.ActivationsEntry.lean ====
/-
  The blocks that a point of the feed-forward's gradient reads, as parts of the program's arguments.
-/
module

public import proofs.«01_k».proof.Proof.ActivationsRun
public import proofs.«01_k».proof.Proof.ActivationsStages
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ActivationsIdeal.Entry

open Cert.ActivationsIdeal Cert.ActivationsIdeal.Gen Cert.ActivationsIdeal.Run
open Idealize.ShloMosaic Idealize.ShloMosaic.TcCoe Idealize.SL.Sem

variable (m : (ℓ : Loc nD τ sig) → Buf (Elt Ideal) ℓ) (c : Dev nD)

/-- The contents of argument 0 … 5 of the program: rows, scale of the norm, the three weights, and the rows' gradient. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The kernel's operands: rows, scale as one row, the rows' gradient, the two products of the gate and the three
    weights, each of the five in four shards of 704 features. -/
abbrev hh : S8320x1024.Idx → EReal := V m c main_arg0
abbrev gs : S1x1024.Idx → EReal := V m c main_v21
abbrev dd : S8320x1024.Idx → EReal := V m c main_arg5
abbrev gg : S4x8320x704.Idx → EReal := V m c main_v25
abbrev uu : S4x8320x704.Idx → EReal := V m c main_v29
abbrev w2 : S4x704x1024.Idx → EReal := V m c main_v3
abbrev w3 : S4x704x1024.Idx → EReal := V m c main_v5
abbrev w4 : S4x704x1024.Idx → EReal := V m c main_v7

theorem hh_eq : hh m c = a0 m c := by
  unfold hh
  entry_read
  rfl

theorem dd_eq : dd m c = a5 m c := by
  unfold dd
  entry_read
  rfl

theorem gs_apply (k : Fin 1024) : gs m c (ix2 0 k) = a1 m c (ix1 k) := by
  unfold gs
  entry_read
  pointwise

theorem w2_apply (q : Fin 4) (f : Fin 704) (k : Fin 1024) : w2 m c (ix3 q f k) = a2 m c (ix2 k ⟨q.val * 704 + f.val, by omega⟩) := by
  unfold w2
  entry_read
  pointwise

theorem w3_apply (q : Fin 4) (f : Fin 704) (k : Fin 1024) : w3 m c (ix3 q f k) = a3 m c (ix2 k ⟨q.val * 704 + f.val, by omega⟩) := by
  unfold w3
  entry_read
  pointwise

theorem w4_apply (q : Fin 4) (f : Fin 704) (k : Fin 1024) : w4 m c (ix3 q f k) = a4 m c (ix2 ⟨q.val * 704 + f.val, by omega⟩ k) := by
  unfold w4
  entry_read
  pointwise

/-- The features of shard `q` among all 2816. -/
abbrev feat (q : Fin 4) (f : Fin 704) : Fin 2816 := ⟨q.val * 704 + f.val, by omega⟩

/-- Rows of 2816 features laid out in four shards of 704 features. -/
abbrev shards (t : FVec Ideal S8320x2816 .f32) : FVec Ideal S4x8320x704 .bf16 :=
  transpose S4x8320x704 [1, 0, 2] (shapeCast S8320x4x704 (truncf .bf16 t bitsLt_bf16_f32) shapeCasts_S8320x2816_S8320x4x704)
    transposes_S8320x4x704_S4x8320x704_1_0_2

theorem shards_apply (t : FVec Ideal S8320x2816 .f32) (q : Fin 4) (r : Fin 8320) (f : Fin 704) : shards t (ix3 q r f) = t (ix2 r (feat q f)) := by
  unfold shards
  pointwise

/-- The products of the gate. -/
theorem gg_eq : gg m c = shards (Cert.ActivationsRefIdeal.Read.val_main_v76 (F := Ideal) (a0 m c) (a1 m c) (a2 m c)) := by
  unfold gg
  entry_read
  rfl
theorem uu_eq : uu m c = shards (Cert.ActivationsRefIdeal.Read.val_main_v77 (F := Ideal) (a0 m c) (a1 m c) (a3 m c)) := by
  unfold uu
  entry_read
  rfl

theorem idx : ∀ t, (win0_0.index t = ![t.val / 2, 0] ∧ win0_1.index t = ![0, 0] ∧ win0_2.index t = ![t.val / 2, 0])
    ∧ (win0_3.index t = ![t.val % 2, t.val / 2, 0] ∧ win0_4.index t = ![t.val % 2, t.val / 2, 0])
    ∧ win0_5.index t = ![t.val % 2, 0, 0] ∧ win0_6.index t = ![t.val % 2, 0, 0] ∧ win0_7.index t = ![t.val % 2, 0, 0] :=
  (by decide +kernel : ∀ t : Fin grid0.N, _)

theorem div_lt (t : Fin cfg0.N) : t.val / 2 < 26 := by
  have := lt_of_lt_of_eq t.isLt (show cfg0.N = 52 from N_0); omega

/-- The row of the whole array at place `r` of point `t`'s block. -/
abbrev row (t : Fin cfg0.N) (r : Fin 320) : Fin 8320 := ⟨t.val / 2 * 320 + r.val, by have := div_lt t; omega⟩

/-- The shard at place `s` of point `t`'s block of a weight. -/
abbrev shard (t : Fin cfg0.N) (s : Fin 2) : Fin 4 := ⟨t.val % 2 * 2 + s.val, by omega⟩

theorem blk0 (t : Fin cfg0.N) (r : Fin 320) (k : Fin 1024) : b0 m c t (ix2 r k) = hh m c (ix2 (row t r) k) := by
  blk_ext [iblk, idx t]
theorem blk1 (t : Fin cfg0.N) (k : Fin 1024) : b1 m c t (ix2 0 k) = gs m c (ix2 0 k) := by
  blk_ext [iblk, idx t]
theorem blk2 (t : Fin cfg0.N) (r : Fin 320) (k : Fin 1024) : b2 m c t (ix2 r k) = dd m c (ix2 (row t r) k) := by
  blk_ext [iblk, idx t]
theorem blk3 (t : Fin cfg0.N) (s : Fin 2) (r : Fin 320) (f : Fin 704) : b3 m c t (ix3 s r f) = gg m c (ix3 (shard t s) (row t r) f) := by
  blk_ext [iblk, idx t]
theorem blk4 (t : Fin cfg0.N) (s : Fin 2) (r : Fin 320) (f : Fin 704) : b4 m c t (ix3 s r f) = uu m c (ix3 (shard t s) (row t r) f) := by
  blk_ext [iblk, idx t]
theorem blk5 (t : Fin cfg0.N) (s : Fin 2) (f : Fin 704) (k : Fin 1024) : b5 m c t (ix3 s f k) = w2 m c (ix3 (shard t s) f k) := by
  blk_ext [iblk, idx t]
theorem blk6 (t : Fin cfg0.N) (s : Fin 2) (f : Fin 704) (k : Fin 1024) : b6 m c t (ix3 s f k) = w3 m c (ix3 (shard t s) f k) := by
  blk_ext [iblk, idx t]
theorem blk7 (t : Fin cfg0.N) (s : Fin 2) (f : Fin 704) (k : Fin 1024) : b7 m c t (ix3 s f k) = w4 m c (ix3 (shard t s) f k) := by
  blk_ext [iblk, idx t]

end Cert.ActivationsIdeal.Entry
-- ==== Proof.ActivationsBlocks.lean ====
/-
  One grid point of the feed-forward's gradient, element by element: the features and their gradients for two shards, the
  part of the normalised rows' gradient that comes from them, and what the last point of a block of rows makes of the sum.
-/
module

public import proofs.«01_k».proof.Proof.ActivationsBody
public import proofs.«01_k».proof.Proof.ActivationsReal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ActivationsIdeal.Blocks

open Cert.ActivationsIdeal Cert.ActivationsIdeal.Gen Cert.ActivationsIdeal.Body Cert.ActivationsIdeal.Real
open Idealize.ShloMosaic Idealize.ShloMosaic.TcCoe Idealize.SL.Sem

/-! ## The shards of a block -/

theorem lo_apply (b : Vec Ideal S2x320x704 .bf16) (r : Fin 320) (f : Fin 704) : lo b (ix3 0 r f) = b (ix3 0 r f) := by
  unfold lo
  pointwise
theorem hi_apply (b : Vec Ideal S2x320x704 .bf16) (r : Fin 320) (f : Fin 704) : hi b (ix3 0 r f) = b (ix3 1 r f) := by
  unfold hi
  pointwise
theorem wlo_apply (b : Vec Ideal S2x704x1024 .bf16) (f : Fin 704) (k : Fin 1024) : wlo b (ix3 0 f k) = b (ix3 0 f k) := by
  unfold wlo
  pointwise
theorem whi_apply (b : Vec Ideal S2x704x1024 .bf16) (f : Fin 704) (k : Fin 1024) : whi b (ix3 0 f k) = b (ix3 1 f k) := by
  unfold whi
  pointwise

/-- Reading back a block put together from two shards. -/
theorem pair_apply (p q : Vec Ideal S1x320x704 .bf16) (s : Fin 2) (r : Fin 320) (f : Fin 704) :
    pair p q (ix3 s r f) = if s = 0 then p (ix3 0 r f) else q (ix3 0 r f) := by
  unfold pair
  canon_tiles x h
  all_goals
    idx_vars x
    obtain rfl : x0 = 0 := Subsingleton.elim _ _
    obtain rfl : r = x1 := Fin.ext (by omega)
    obtain rfl : f = x2 := Fin.ext (by omega)
  · rw [if_neg (by omega)]
  · rw [if_pos (by omega)]

/-! ## The features and their gradients -/

/-- The gradient of the gated features of shard `s`. -/
def dact (dy : Vec Ideal S320x1024 .bf16) (wd : Vec Ideal S2x704x1024 .bf16) (s : Fin 2) (r : Fin 320) (f : Fin 704) : EReal :=
  ∑ k : Fin 1024, (dy (ix2 r k) : EReal) * (wd (ix3 s f k) : EReal)

/-- The gradient of the gate's product, from `d`, the gradient of the feature. -/
def slopeAt (d g u : EReal) : EReal := d * u * (sigmoid g * (1 + g * (1 - sigmoid g)))

section shards
variable (dy : Vec Ideal S320x1024 .bf16) (g u : Vec Ideal S1x320x704 .bf16) (w wg wu : Vec Ideal S1x704x1024 .bf16) (r : Fin 320) (f : Fin 704) (k : Fin 1024)

/-- The same for one shard on its own. -/
def one : EReal := ∑ k : Fin 1024, (dy (ix2 r k) : EReal) * (w (ix3 0 f k) : EReal)

theorem pay12_apply : (k0_pay12 dy w (ix2 r f) : EReal) = one dy w r f := by
  unfold one
  pointwise [k0_pay12]
theorem pay24_apply : (k0_pay24 (k0_pay23 dy) w (ix2 r f) : EReal) = one dy w r f := by
  unfold one
  pointwise [k0_pay24, k0_pay23]
theorem pay13_apply : (k0_pay13 g (ix2 r f) : EReal) = sigmoid (g (ix3 0 r f)) := by
  unfold sigmoid
  pointwise [k0_pay13, k0_pay10]
  exact congrArg (fun z : EReal => Ideal.div 1 (1 + Ideal.exp z)) (zero_sub _)
theorem pay25_apply : (k0_pay25 (k0_pay21 g) (ix2 r f) : EReal) = sigmoid (g (ix3 0 r f)) := by
  unfold sigmoid
  pointwise [k0_pay25, k0_pay21]
  exact congrArg (fun z : EReal => Ideal.div 1 (1 + Ideal.exp z)) (zero_sub _)
theorem pay14_apply : (k0_pay14 g (ix2 r f) : EReal) = (g (ix3 0 r f) : EReal) * sigmoid (g (ix3 0 r f)) := by
  rw [← pay13_apply g r f]
  pointwise [k0_pay14, k0_pay10]
theorem pay26_apply : (k0_pay26 (k0_pay21 g) (ix2 r f) : EReal) = (g (ix3 0 r f) : EReal) * sigmoid (g (ix3 0 r f)) := by
  rw [← pay25_apply g r f]
  pointwise [k0_pay26, k0_pay21]
theorem pay15_apply : (k0_pay15 g u (ix3 0 r f) : EReal) = (g (ix3 0 r f) : EReal) * sigmoid (g (ix3 0 r f)) * (u (ix3 0 r f) : EReal) := by
  rw [← pay14_apply g r f]
  pointwise [k0_pay15, k0_pay11]
theorem pay27_apply : (k0_pay27 (k0_pay21 g) (k0_pay22 u) (ix3 0 r f) : EReal)
    = (g (ix3 0 r f) : EReal) * sigmoid (g (ix3 0 r f)) * (u (ix3 0 r f) : EReal) := by
  rw [← pay26_apply g r f]
  pointwise [k0_pay27, k0_pay22]
theorem pay16_apply : (k0_pay16 (k0_pay12 dy w) (k0_pay14 g) (ix2 r f) : EReal) = one dy w r f * ((g (ix3 0 r f) : EReal) * sigmoid (g (ix3 0 r f))) := by
  rw [← pay14_apply g r f, ← pay12_apply dy w r f]
  pointwise [k0_pay16]
theorem pay28_apply : (k0_pay28 (k0_pay21 g) (k0_pay23 dy) w (ix2 r f) : EReal) = one dy w r f * ((g (ix3 0 r f) : EReal) * sigmoid (g (ix3 0 r f))) := by
  rw [← pay26_apply g r f, ← pay24_apply dy w r f]
  pointwise [k0_pay28]
theorem pay17_apply : (k0_pay17 (k0_pay10 g) (k0_pay11 u) (k0_pay12 dy w) (k0_pay13 g) (ix2 r f) : EReal)
    = slopeAt (one dy w r f) (g (ix3 0 r f)) (u (ix3 0 r f)) := by
  unfold slopeAt
  rw [← pay13_apply g r f, ← pay12_apply dy w r f]
  pointwise [k0_pay17, k0_pay10, k0_pay11]
theorem pay29_apply : (k0_pay29 (k0_pay21 g) (k0_pay22 u) (k0_pay23 dy) w (ix2 r f) : EReal)
    = slopeAt (one dy w r f) (g (ix3 0 r f)) (u (ix3 0 r f)) := by
  unfold slopeAt
  rw [← pay25_apply g r f, ← pay24_apply dy w r f]
  pointwise [k0_pay29, k0_pay21, k0_pay22]
theorem pay18_apply : k0_pay18 (k0_pay10 g) (k0_pay11 u) (k0_pay12 dy w) (k0_pay13 g) (ix3 0 r f)
    = k0_pay17 (k0_pay10 g) (k0_pay11 u) (k0_pay12 dy w) (k0_pay13 g) (ix2 r f) := by
  pointwise [k0_pay18]
theorem pay30_apply : k0_pay30 (k0_pay21 g) (k0_pay22 u) (k0_pay23 dy) w (ix3 0 r f)
    = k0_pay29 (k0_pay21 g) (k0_pay22 u) (k0_pay23 dy) w (ix2 r f) := by
  pointwise [k0_pay30]
theorem pay19_apply : k0_pay19 (k0_pay12 dy w) (k0_pay14 g) (ix3 0 r f) = k0_pay16 (k0_pay12 dy w) (k0_pay14 g) (ix2 r f) := by
  pointwise [k0_pay19]
theorem pay31_apply : k0_pay31 (k0_pay21 g) (k0_pay23 dy) w (ix3 0 r f) = k0_pay28 (k0_pay21 g) (k0_pay23 dy) w (ix2 r f) := by
  pointwise [k0_pay31]
theorem pay20_apply (v10 v13 v18 v25 v26 : FVec Ideal S320x704 .f32) : (k0_pay20 v10 v13 v18 v25 v26 wg wu (ix2 r k) : EReal)
    = (∑ f : Fin 704, (k0_pay17 v10 v13 v18 v25 (ix2 r f) : EReal) * (wg (ix3 0 f k) : EReal))
      + ∑ f : Fin 704, (k0_pay16 v18 v26 (ix2 r f) : EReal) * (wu (ix3 0 f k) : EReal) := by
  pointwise [k0_pay20]
theorem pay32_apply (v58 v61 : FVec Ideal S320x704 .f32) (v63 : FVec Ideal S320x1024 .bf16) : (k0_pay32 v58 v61 v63 w wg (ix2 r k) : EReal)
    = ∑ f : Fin 704, (k0_pay29 v58 v61 v63 w (ix2 r f) : EReal) * (wg (ix3 0 f k) : EReal) := by
  pointwise [k0_pay32]
theorem pay1_apply (v55 v99 z : Vec Ideal S320x1024 .f32) (v81 : FVec Ideal S320x704 .bf16) : (k0_pay1 v55 v81 v99 wu z (ix2 r k) : EReal)
    = (z (ix2 r k) : EReal) + ((v55 (ix2 r k) : EReal) + ((v99 (ix2 r k) : EReal) + ∑ f : Fin 704, (v81 (ix2 r f) : EReal) * (wu (ix3 0 f k) : EReal))) := by
  pointwise [k0_pay1]
end shards

section point
variable (dy : Vec Ideal S320x1024 .bf16) (g u : Vec Ideal S2x320x704 .bf16) (wg wu wd : Vec Ideal S2x704x1024 .bf16)

theorem one_lo (r : Fin 320) (f : Fin 704) : one dy (wlo wd) r f = dact dy wd 0 r f := by
  exact Finset.sum_congr (M := EReal) rfl fun k _ => by rw [wlo_apply]
theorem one_hi (r : Fin 320) (f : Fin 704) : one dy (whi wd) r f = dact dy wd 1 r f := by
  exact Finset.sum_congr (M := EReal) rfl fun k _ => by rw [whi_apply]

theorem act_apply (s : Fin 2) (r : Fin 320) (f : Fin 704) : (act g u (ix3 s r f) : EReal)
    = (g (ix3 s r f) : EReal) * sigmoid (g (ix3 s r f)) * (u (ix3 s r f) : EReal) := by
  unfold act
  refine (pair_apply _ _ s r f).trans ?_
  match s with
  | 0 => exact (pay15_apply (lo g) (lo u) r f).trans (by rw [lo_apply, lo_apply])
  | 1 => exact (pay27_apply (hi g) (hi u) r f).trans (by rw [hi_apply, hi_apply])

/-- The gradient of the product that is gated. -/
theorem dup_apply (s : Fin 2) (r : Fin 320) (f : Fin 704) : (dup dy g wd (ix3 s r f) : EReal)
    = dact dy wd s r f * ((g (ix3 s r f) : EReal) * sigmoid (g (ix3 s r f))) := by
  unfold dup
  refine (pair_apply _ _ s r f).trans ?_
  match s with
  | 0 => exact ((pay19_apply dy (lo g) (wlo wd) r f).trans (pay16_apply dy (lo g) (wlo wd) r f)).trans (by rw [lo_apply, one_lo])
  | 1 => exact ((pay31_apply dy (hi g) (whi wd) r f).trans (pay28_apply dy (hi g) (whi wd) r f)).trans (by rw [hi_apply, one_hi])

/-- The gradient of the gate's product. -/
theorem dgate_apply (s : Fin 2) (r : Fin 320) (f : Fin 704) : (dgate dy g u wd (ix3 s r f) : EReal)
    = slopeAt (dact dy wd s r f) (g (ix3 s r f)) (u (ix3 s r f)) := by
  unfold dgate
  refine (pair_apply _ _ s r f).trans ?_
  match s with
  | 0 => exact ((pay18_apply dy (lo g) (lo u) (wlo wd) r f).trans (pay17_apply dy (lo g) (lo u) (wlo wd) r f)).trans (by rw [lo_apply, lo_apply, one_lo])
  | 1 => exact ((pay30_apply dy (hi g) (hi u) (whi wd) r f).trans (pay29_apply dy (hi g) (hi u) (whi wd) r f)).trans (by rw [hi_apply, hi_apply, one_hi])

/-- What shard `s` adds to the gradient of the normalised rows. -/
def share (s : Fin 2) (r : Fin 320) (k : Fin 1024) : EReal :=
  (∑ f : Fin 704, (dgate dy g u wd (ix3 s r f) : EReal) * (wg (ix3 s f k) : EReal))
    + ∑ f : Fin 704, (dup dy g wd (ix3 s r f) : EReal) * (wu (ix3 s f k) : EReal)

theorem share_lo (r : Fin 320) (k : Fin 1024) :
    (∑ f : Fin 704, slopeAt (one dy (wlo wd) r f) (lo g (ix3 0 r f)) (lo u (ix3 0 r f)) * (wlo wg (ix3 0 f k) : EReal))
      + (∑ f : Fin 704, one dy (wlo wd) r f * ((lo g (ix3 0 r f) : EReal) * sigmoid (lo g (ix3 0 r f))) * (wlo wu (ix3 0 f k) : EReal))
      = share dy g u wg wu wd 0 r k :=
  congrArg₂ (fun a b : EReal => a + b)
    (Finset.sum_congr (M := EReal) rfl fun f _ => by rw [lo_apply, lo_apply, wlo_apply, one_lo, dgate_apply])
    (Finset.sum_congr (M := EReal) rfl fun f _ => by rw [lo_apply, wlo_apply, one_lo, dup_apply])
theorem share_hi (r : Fin 320) (k : Fin 1024) :
    (∑ f : Fin 704, slopeAt (one dy (whi wd) r f) (hi g (ix3 0 r f)) (hi u (ix3 0 r f)) * (whi wg (ix3 0 f k) : EReal))
      + (∑ f : Fin 704, one dy (whi wd) r f * ((hi g (ix3 0 r f) : EReal) * sigmoid (hi g (ix3 0 r f))) * (whi wu (ix3 0 f k) : EReal))
      = share dy g u wg wu wd 1 r k :=
  congrArg₂ (fun a b : EReal => a + b)
    (Finset.sum_congr (M := EReal) rfl fun f _ => by rw [hi_apply, hi_apply, whi_apply, one_hi, dgate_apply])
    (Finset.sum_congr (M := EReal) rfl fun f _ => by rw [hi_apply, whi_apply, one_hi, dup_apply])

theorem total_apply (z : Vec Ideal S320x1024 .f32) (r : Fin 320) (k : Fin 1024) : (total dy g u wg wu wd z (ix2 r k) : EReal)
    = (z (ix2 r k) : EReal) + (share dy g u wg wu wd 0 r k + share dy g u wg wu wd 1 r k) := by
  unfold total
  rw [pay1_apply, pay20_apply, pay32_apply]
  simp only [pay17_apply, pay16_apply, pay29_apply, pay28_apply]
  exact congrArg (fun y : EReal => _ + y) (congrArg₂ (fun a b : EReal => a + b) (share_lo dy g u wg wu wd r k) (share_hi dy g u wg wu wd r k))
end point

/-! ## Rows -/

section rows
variable (x acc d : Vec Ideal S320x1024 .f32) (γ : Vec Ideal S1x1024 .f32) (r : Fin 320) (k : Fin 1024)

theorem pay2_apply : (k0_pay2 x (ix2 r 0) : EReal) = rstd (fun j => (x (ix2 r j) : EReal)) := by
  unfold rstd mean
  pointwise [k0_pay2]
theorem pay3_apply : (k0_pay3 x (ix2 r k) : EReal) = (x (ix2 r k) : EReal) * rstd (fun j => (x (ix2 r j) : EReal)) := by
  rw [← pay2_apply]
  pointwise [k0_pay3]
theorem pay6_apply : (k0_pay6 x γ (ix2 r k) : EReal) = (x (ix2 r k) : EReal) * rstd (fun j => (x (ix2 r j) : EReal)) * (γ (ix2 0 k) : EReal) := by
  unfold rstd mean
  pointwise [k0_pay6]
theorem pay7_apply : (k0_pay7 d (ix2 r k) : EReal) = Ideal.ofBits .f32 0x3F000000#32 * (d (ix2 r k) : EReal) := by
  pointwise [k0_pay7]
theorem pay8_apply : (k0_pay8 (F := Ideal) (ix2 r k) : EReal) = 0 := by
  pointwise [k0_pay8]
theorem pay9_apply : (k0_pay9 (F := Ideal) (ix2 0 k) : EReal) = 0 := by
  pointwise [k0_pay9]
theorem pay4_apply (z : Vec Ideal S1x1024 .f32) : (k0_pay4 x acc z (ix2 0 k) : EReal)
    = (z (ix2 0 k) : EReal) + ∑ r : Fin 320, (acc (ix2 r k) : EReal) * ((x (ix2 r k) : EReal) * rstd (fun j => (x (ix2 r j) : EReal))) := by
  refine Eq.trans (b := (z (ix2 0 k) : EReal) + ∑ r : Fin 320, (acc (ix2 r k) : EReal) * (k0_pay3 x (ix2 r k) : EReal)) (by pointwise [k0_pay4]) ?_
  exact congrArg (fun y : EReal => _ + y) (Finset.sum_congr (M := EReal) rfl fun r _ => by rw [pay3_apply])
theorem pay5_apply : (k0_pay5 x acc d γ (ix2 r k) : EReal)
    = (d (ix2 r k) : EReal) + rstd (fun j => (x (ix2 r j) : EReal)) * ((acc (ix2 r k) : EReal) * (γ (ix2 0 k) : EReal)
      - (x (ix2 r k) : EReal) * rstd (fun j => (x (ix2 r j) : EReal)) * Ideal.div (∑ j : Fin 1024, (acc (ix2 r j) : EReal) * (γ (ix2 0 j) : EReal)
        * ((x (ix2 r j) : EReal) * rstd (fun j => (x (ix2 r j) : EReal)))) (Ideal.ofBits .f32 0x44800000#32)) := by
  refine Eq.trans (b := (d (ix2 r k) : EReal) + (k0_pay2 x (ix2 r 0) : EReal) * ((acc (ix2 r k) : EReal) * (γ (ix2 0 k) : EReal)
      - (k0_pay3 x (ix2 r k) : EReal) * Ideal.div (∑ j : Fin 1024, (acc (ix2 r j) : EReal) * (γ (ix2 0 j) : EReal) * (k0_pay3 x (ix2 r j) : EReal))
        (Ideal.ofBits .f32 0x44800000#32))) (by pointwise [k0_pay5]) ?_
  have e : (∑ j : Fin 1024, (acc (ix2 r j) : EReal) * (γ (ix2 0 j) : EReal) * (k0_pay3 x (ix2 r j) : EReal))
      = ∑ j : Fin 1024, (acc (ix2 r j) : EReal) * (γ (ix2 0 j) : EReal) * ((x (ix2 r j) : EReal) * rstd (fun j => (x (ix2 r j) : EReal))) :=
    Finset.sum_congr (M := EReal) rfl fun j _ => by rw [pay3_apply]
  rw [e, pay2_apply, pay3_apply]
end rows

end Cert.ActivationsIdeal.Blocks
-- ==== Proof.ActivationsPoints.lean ====
/-
  What a grid point of the feed-forward's gradient leaves behind, as rows of the reference's stages.  A block of 320 rows is
  visited at two points in turn, each of which works through two of the four shards; the second finishes the block.
-/
module

public import proofs.«01_k».proof.Proof.ActivationsEntry
public import proofs.«01_k».proof.Proof.ActivationsBlocks

@[expose] public section

set_option maxRecDepth 16384

noncomputable section

namespace Cert.ActivationsIdeal.Points

open Cert.ActivationsIdeal Cert.ActivationsIdeal.Gen Cert.ActivationsIdeal.Run Cert.ActivationsIdeal.Entry Cert.ActivationsIdeal.Real
open Cert.ActivationsIdeal.Blocks Cert.ActivationsIdeal.Body
open Idealize.ShloMosaic Idealize.ShloMosaic.TcCoe Idealize.SL.Sem

variable (m : (ℓ : Loc nD τ sig) → Buf (Elt Ideal) ℓ) (c : Dev nD)

/-- The reference's stages at the program's arguments. -/
abbrev HN : S8320x1024.Idx → EReal := Stages.hn (a0 m c) (a1 m c)
abbrev DY : S8320x1024.Idx → EReal := Stages.dy (a5 m c)
abbrev GATE : S8320x2816.Idx → EReal := Stages.gate (a0 m c) (a1 m c) (a2 m c)
abbrev UP : S8320x2816.Idx → EReal := Stages.up (a0 m c) (a1 m c) (a3 m c)
abbrev DA : S8320x2816.Idx → EReal := Stages.da (a4 m c) (a5 m c)
abbrev ACT : S8320x2816.Idx → EReal := Stages.act (a0 m c) (a1 m c) (a2 m c) (a3 m c)
abbrev DU : S8320x2816.Idx → EReal := Stages.du (a0 m c) (a1 m c) (a2 m c) (a4 m c) (a5 m c)
abbrev DG : S8320x2816.Idx → EReal := Stages.dg (a0 m c) (a1 m c) (a2 m c) (a3 m c) (a4 m c) (a5 m c)
abbrev DHN : S8320x1024.Idx → EReal := Stages.dhn (a0 m c) (a1 m c) (a2 m c) (a3 m c) (a4 m c) (a5 m c)
abbrev X (R : Fin 8320) : Fin 1024 → EReal := Stages.row (a0 m c) R

theorem HN_apply (R : Fin 8320) (k : Fin 1024) : HN m c (ix2 R k) = X m c R k * rstd (X m c R) * (a1 m c (ix1 k) : EReal) := Stages.hn_apply _ _ R k
theorem DY_apply (R : Fin 8320) (k : Fin 1024) : DY m c (ix2 R k) = Ideal.ofBits .f32 0x3F000000#32 * (a5 m c (ix2 R k) : EReal) := Stages.dy_apply _ R k
theorem DA_apply (R : Fin 8320) (f : Fin 2816) : DA m c (ix2 R f) = ∑ k : Fin 1024, DY m c (ix2 R k) * (a4 m c (ix2 f k) : EReal) := Stages.da_apply _ _ R f
theorem ACT_apply (R : Fin 8320) (f : Fin 2816) : ACT m c (ix2 R f) = GATE m c (ix2 R f) * sigmoid (GATE m c (ix2 R f)) * UP m c (ix2 R f) :=
  Stages.act_apply _ _ _ _ _
theorem DU_apply (R : Fin 8320) (f : Fin 2816) : DU m c (ix2 R f) = GATE m c (ix2 R f) * sigmoid (GATE m c (ix2 R f)) * DA m c (ix2 R f) :=
  Stages.du_apply _ _ _ _ _ _
theorem DHN_apply (R : Fin 8320) (k : Fin 1024) : DHN m c (ix2 R k)
    = (∑ f : Fin 2816, DU m c (ix2 R f) * (a3 m c (ix2 k f) : EReal)) + ∑ f : Fin 2816, DG m c (ix2 R f) * (a2 m c (ix2 k f) : EReal) :=
  Stages.dhn_apply _ _ _ _ _ _ R k

theorem row_fst (t : Fin cfg0.N) (r : Fin 320) : Entry.row (fst t) r = Entry.row t r :=
  Fin.ext (by show t.val / 2 * 2 / 2 * 320 + r.val = t.val / 2 * 320 + r.val; omega)
theorem row_prev (t : Fin cfg0.N) (h : t.val % 2 = 1) (r : Fin 320) : Entry.row (prev t) r = Entry.row t r :=
  Fin.ext (by show (t.val - 1) / 2 * 320 + r.val = t.val / 2 * 320 + r.val; omega)

section point
variable (t : Fin cfg0.N)

theorem x_blk (r : Fin 320) : (fun j : Fin 1024 => (b0 m c t (ix2 r j) : EReal)) = X m c (Entry.row t r) :=
  funext fun j => (blk0 m c t r j).trans (congrFun (hh_eq m c) _)
theorem x_at (r : Fin 320) (k : Fin 1024) : (b0 m c t (ix2 r k) : EReal) = X m c (Entry.row t r) k := congrFun (x_blk m c t r) k
theorem γ_at (k : Fin 1024) : (b1 m c t (ix2 0 k) : EReal) = (a1 m c (ix1 k) : EReal) := (blk1 m c t k).trans (gs_apply m c k)
theorem d_at (r : Fin 320) (k : Fin 1024) : (b2 m c t (ix2 r k) : EReal) = (a5 m c (ix2 (Entry.row t r) k) : EReal) :=
  (blk2 m c t r k).trans (congrFun (dd_eq m c) _)
theorem g_at (s : Fin 2) (r : Fin 320) (f : Fin 704) : (b3 m c t (ix3 s r f) : EReal) = GATE m c (ix2 (Entry.row t r) (feat (shard t s) f)) :=
  (blk3 m c t s r f).trans ((congrFun (gg_eq m c) _).trans (shards_apply _ _ _ _))
theorem u_at (s : Fin 2) (r : Fin 320) (f : Fin 704) : (b4 m c t (ix3 s r f) : EReal) = UP m c (ix2 (Entry.row t r) (feat (shard t s) f)) :=
  (blk4 m c t s r f).trans ((congrFun (uu_eq m c) _).trans (shards_apply _ _ _ _))
theorem wg_at (s : Fin 2) (f : Fin 704) (k : Fin 1024) : (b5 m c t (ix3 s f k) : EReal) = (a2 m c (ix2 k (feat (shard t s) f)) : EReal) :=
  (blk5 m c t s f k).trans (w2_apply m c _ f k)
theorem wu_at (s : Fin 2) (f : Fin 704) (k : Fin 1024) : (b6 m c t (ix3 s f k) : EReal) = (a3 m c (ix2 k (feat (shard t s) f)) : EReal) :=
  (blk6 m c t s f k).trans (w3_apply m c _ f k)
theorem wd_at (s : Fin 2) (f : Fin 704) (k : Fin 1024) : (b7 m c t (ix3 s f k) : EReal) = (a4 m c (ix2 (feat (shard t s) f) k) : EReal) :=
  (blk7 m c t s f k).trans (w4_apply m c _ f k)

theorem hnAt_apply (r : Fin 320) (k : Fin 1024) : (hnAt m c t (ix2 r k) : EReal) = HN m c (ix2 (Entry.row t r) k) := by
  unfold hnAt
  rw [pay6_apply, x_blk, x_at, γ_at, row_fst, HN_apply]

theorem dyAt_apply (r : Fin 320) (k : Fin 1024) : (dyAt m c t (ix2 r k) : EReal) = DY m c (ix2 (Entry.row t r) k) := by
  unfold dyAt
  rw [pay7_apply, d_at, row_fst, DY_apply]

theorem dact_at (s : Fin 2) (r : Fin 320) (f : Fin 704) :
    dact (dyAt m c t) (b7 m c t) s r f = DA m c (ix2 (Entry.row t r) (feat (shard t s) f)) := by
  rw [DA_apply]
  exact Finset.sum_congr (M := EReal) rfl fun k _ => by rw [dyAt_apply, wd_at]

theorem act_at (s : Fin 2) (r : Fin 320) (f : Fin 704) :
    (act (b3 m c t) (b4 m c t) (ix3 s r f) : EReal) = ACT m c (ix2 (Entry.row t r) (feat (shard t s) f)) := by
  rw [act_apply, g_at, u_at, ACT_apply]

theorem dup_at (s : Fin 2) (r : Fin 320) (f : Fin 704) :
    (dup (dyAt m c t) (b3 m c t) (b7 m c t) (ix3 s r f) : EReal) = DU m c (ix2 (Entry.row t r) (feat (shard t s) f)) := by
  rw [dup_apply, g_at, dact_at, DU_apply, mul_comm]
end point

/-- The arguments are real numbers throughout. -/
structure Reals : Prop where
  h : ∀ i, IsReal (a0 m c i)
  γ : ∀ i, IsReal (a1 m c i)
  g : ∀ i, IsReal (a2 m c i)
  u : ∀ i, IsReal (a3 m c i)
  d : ∀ i, IsReal (a4 m c i)
  dh : ∀ i, IsReal (a5 m c i)

variable {m c}
variable (re : Reals m c)
include re

section point
variable (t : Fin cfg0.N)

theorem dgate_at (s : Fin 2) (r : Fin 320) (f : Fin 704) :
    (dgate (dyAt m c t) (b3 m c t) (b4 m c t) (b7 m c t) (ix3 s r f) : EReal) = DG m c (ix2 (Entry.row t r) (feat (shard t s) f)) := by
  rw [dgate_apply, g_at, u_at, dact_at]
  exact (Stages.dg_slope re.h re.γ re.g re.u re.d re.dh _ _).symm
end point

omit re in
variable (m c) in
/-- The part of the normalised rows' gradient that comes from shard `q`. -/
def part (R : Fin 8320) (k : Fin 1024) (q : Fin 4) : EReal :=
  (∑ f : Fin 704, DG m c (ix2 R (feat q f)) * (a2 m c (ix2 k (feat q f)) : EReal)) + ∑ f : Fin 704, DU m c (ix2 R (feat q f)) * (a3 m c (ix2 k (feat q f)) : EReal)

omit re in
/-- The four parts make up the sum over all 2816 features. -/
theorem parts (R : Fin 8320) (k : Fin 1024) :
    (part m c R k 0 + part m c R k 1) + (part m c R k 2 + part m c R k 3) = DHN m c (ix2 R k) := by
  rw [← add_assoc, ← Fin.sum_univ_four (fun q => part m c R k q), DHN_apply, add_comm]
  unfold part
  rw [Finset.sum_add_distrib]
  exact congrArg₂ (fun a b : EReal => a + b) (Fin.sum_mul_add_congr (S := 4) (n := 704) fun s r hl => rfl)
    (Fin.sum_mul_add_congr (S := 4) (n := 704) fun s r hl => rfl)

theorem accStep_at (t : Fin cfg0.N) (z : Vec Ideal S320x1024 .f32) (r : Fin 320) (k : Fin 1024) : (accStep m c t z (ix2 r k) : EReal)
    = (z (ix2 r k) : EReal) + (part m c (Entry.row t r) k (shard t 0) + part m c (Entry.row t r) k (shard t 1)) := by
  have one : ∀ s : Fin 2, share (dyAt m c t) (b3 m c t) (b4 m c t) (b5 m c t) (b6 m c t) (b7 m c t) s r k = part m c (Entry.row t r) k (shard t s) := fun s =>
    congrArg₂ (fun a b : EReal => a + b) (Finset.sum_congr (M := EReal) rfl fun f _ => by rw [dgate_at re, wg_at])
      (Finset.sum_congr (M := EReal) rfl fun f _ => by rw [dup_at, wu_at])
  unfold accStep
  rw [total_apply, one, one]

theorem acc_even (t : Fin cfg0.N) (h : t.val % 2 = 0) (r : Fin 320) (k : Fin 1024) :
    (accAt m c t (ix2 r k) : EReal) = part m c (Entry.row t r) k 0 + part m c (Entry.row t r) k 1 := by
  rw [accAt_even m c t h, accStep_at re, pay8_apply, zero_add]
  exact congrArg₂ (fun p q : Fin 4 => part m c (Entry.row t r) k p + part m c (Entry.row t r) k q)
    (Fin.ext (by show t.val % 2 * 2 + 0 = 0; omega)) (Fin.ext (by show t.val % 2 * 2 + 1 = 1; omega))

/-- After the second point of a block the sum is the gradient of the normalised rows. -/
theorem acc_odd (t : Fin cfg0.N) (h : t.val % 2 = 1) (r : Fin 320) (k : Fin 1024) : (accAt m c t (ix2 r k) : EReal) = DHN m c (ix2 (Entry.row t r) k) := by
  rw [accAt_odd m c t h, accStep_at re, acc_even re (prev t) (by show (t.val - 1) % 2 = 0; omega), row_prev t h, ← parts]
  exact congrArg₂ (fun p q : Fin 4 => part m c (Entry.row t r) k 0 + part m c (Entry.row t r) k 1 + (part m c (Entry.row t r) k p + part m c (Entry.row t r) k q))
    (Fin.ext (by show t.val % 2 * 2 + 0 = 2; omega)) (Fin.ext (by show t.val % 2 * 2 + 1 = 3; omega))

/-- The rows' gradient that the second point of a block stores. -/
theorem out_at (t : Fin cfg0.N) (h : t.val % 2 = 1) (r : Fin 320) (k : Fin 1024) :
    (k0_pay5 (b0 m c t) (accAt m c t) (b2 m c t) (b1 m c t) (ix2 r k) : EReal)
      = Cert.ActivationsRefIdeal.Read.val_main_v60 (F := Ideal) (a0 m c) (a1 m c) (a2 m c) (a3 m c) (a4 m c) (a5 m c) (ix2 (Entry.row t r) k) := by
  rw [Stages.out_project re.h re.γ re.g re.u re.d re.dh, pay5_apply, x_blk]
  have e : ∀ j : Fin 1024, (accAt m c t (ix2 r j) : EReal) * (b1 m c t (ix2 0 j) : EReal)
      = Stages.scaled (a0 m c) (a1 m c) (a2 m c) (a3 m c) (a4 m c) (a5 m c) (Entry.row t r) j := fun j => by
    rw [acc_odd re t h, γ_at]; rfl
  have s : (∑ j : Fin 1024, (accAt m c t (ix2 r j) : EReal) * (b1 m c t (ix2 0 j) : EReal) * ((b0 m c t (ix2 r j) : EReal) * rstd (X m c (Entry.row t r))))
      = ∑ j : Fin 1024, Stages.scaled (a0 m c) (a1 m c) (a2 m c) (a3 m c) (a4 m c) (a5 m c) (Entry.row t r) j * (X m c (Entry.row t r) j * rstd (X m c (Entry.row t r))) :=
    Finset.sum_congr (M := EReal) rfl fun j _ => by rw [e, x_at]
  rw [s, e, d_at, x_at]

/-! ## The gradient of the scale -/

omit re in
variable (m c) in
/-- What row `R` adds to the gradient of the scale. -/
def gterm (k : Fin 1024) (R : Fin 8320) : EReal := X m c R k * rstd (X m c R) * DHN m c (ix2 R k)

omit re in
variable (m c) in
/-- What block `i` of 320 rows adds. -/
def gblock (k : Fin 1024) (i : ℕ) : EReal := if h : i < 26 then ∑ r : Fin 320, gterm m c k ⟨i * 320 + r.val, by omega⟩ else 0

theorem gam_step (t : Fin cfg0.N) (h : t.val % 2 = 1) (k : Fin 1024) :
    (gamAt m c t.val (ix2 0 k) : EReal) = (gamAt m c (t.val - 1) (ix2 0 k) : EReal) + gblock m c k (t.val / 2) := by
  rw [gamAt_odd m c t h, pay4_apply]
  refine congrArg (fun y : EReal => _ + y) ?_
  unfold gblock
  rw [dif_pos (div_lt t)]
  exact Finset.sum_congr (M := EReal) rfl fun r _ => by rw [acc_odd re t h, x_blk, x_at, mul_comm]; rfl

/-- After the second point of block `n` the sum is over the blocks up to it. -/
theorem gam_upto (k : Fin 1024) : ∀ n : ℕ, n < 26 → (gamAt m c (2 * n + 1) (ix2 0 k) : EReal) = ∑ i ∈ Finset.range (n + 1), gblock m c k i
  | 0, _ => by
    have s := gam_step re ⟨1, by have : cfg0.N = 52 := N_0; omega⟩ rfl k
    rw [Finset.sum_range_one]
    refine s.trans ?_
    show (k0_pay9 (F := Ideal) (ix2 0 k) : EReal) + gblock m c k (1 / 2) = _
    rw [pay9_apply, zero_add]
  | n + 1, h => by
    have hN : cfg0.N = 52 := N_0
    have s := gam_step re ⟨2 * (n + 1) + 1, by omega⟩ (by show (2 * (n + 1) + 1) % 2 = 1; omega) k
    have e := gamAt_even m c ⟨2 * (n + 1), by omega⟩ (by show 2 * (n + 1) ≠ 0; omega) (by show 2 * (n + 1) % 2 = 0; omega)
    rw [Finset.sum_range_succ, ← gam_upto k n (by omega)]
    refine s.trans (congrArg₂ (fun a b : EReal => a + b) ?_ (congrArg (gblock m c k) (by show (2 * (n + 1) + 1) / 2 = n + 1; omega)))
    exact congrFun e (ix2 0 k)

/-- The gradient of the scale that the last point leaves. -/
theorem gam_last (k : Fin 1024) : (gamAt m c 51 (ix2 0 k) : EReal)
    = Cert.ActivationsRefIdeal.Read.val_main_v84 (F := Ideal) (a0 m c) (a1 m c) (a2 m c) (a3 m c) (a4 m c) (a5 m c) (ix2 0 k) := by
  rw [Stages.gam_apply]
  refine (gam_upto re k 25 (by omega)).trans ?_
  rw [Finset.sum_range]
  refine Eq.trans (Finset.sum_congr (M := EReal) rfl fun i _ => dif_pos i.isLt) ?_
  exact Fin.sum_mul_add_congr (S := 26) (n := 320) fun s r hl => rfl

end Cert.ActivationsIdeal.Points
-- ==== Proof.ActivationsValue.lean ====
/-
  The seven results of the feed-forward's gradient: what the kernel leaves in each is what the reference computes.
-/
module

public import proofs.«01_k».proof.Proof.ActivationsPoints

@[expose] public section

set_option maxRecDepth 16384

noncomputable section

namespace Cert.ActivationsIdeal.Tie

open Cert.ActivationsIdeal Cert.ActivationsIdeal.Gen Cert.ActivationsIdeal.Run Cert.ActivationsIdeal.Entry Cert.ActivationsIdeal.Points
open Cert.ActivationsIdeal.Body
open Idealize.ShloMosaic Idealize.ShloMosaic.TcCoe Idealize.SL.Sem
open Cert.ActivationsRefIdeal.Read

variable (m : (ℓ : Loc nD τ sig) → Buf (Elt Ideal) ℓ) (c : Dev nD)

theorem out_idx : ∀ t, (win0_8.index t = ![t.val / 2, 0] ∧ win0_9.index t = ![0, 0] ∧ win0_10.index t = ![t.val / 2, 0] ∧ win0_11.index t = ![t.val / 2, 0])
    ∧ win0_12.index t = ![t.val % 2, t.val / 2, 0] ∧ win0_13.index t = ![t.val % 2, t.val / 2, 0] ∧ win0_14.index t = ![t.val % 2, t.val / 2, 0] :=
  (by decide +kernel : ∀ t : Fin grid0.N, _)

/-! Where a point's block of rows, or of shards of rows, lies in each result. -/

theorem place_8 (t : Fin cfg0.N) (r : Fin 320) (k : Fin 1024) : (win0_8.blk t).view.emb (ix2 r k) = ix2 (Entry.row t r) k := by
  funext a
  refine Fin.ext ?_
  blk_simp [out_idx t]
  match a with
  | ⟨0, _⟩ => rfl
  | ⟨1, _⟩ => show 0 * 1024 + k.val = k.val; omega
theorem place_10 (t : Fin cfg0.N) (r : Fin 320) (k : Fin 1024) : (win0_10.blk t).view.emb (ix2 r k) = ix2 (Entry.row t r) k := by
  funext a
  refine Fin.ext ?_
  blk_simp [out_idx t]
  match a with
  | ⟨0, _⟩ => rfl
  | ⟨1, _⟩ => show 0 * 1024 + k.val = k.val; omega
theorem place_11 (t : Fin cfg0.N) (r : Fin 320) (k : Fin 1024) : (win0_11.blk t).view.emb (ix2 r k) = ix2 (Entry.row t r) k := by
  funext a
  refine Fin.ext ?_
  blk_simp [out_idx t]
  match a with
  | ⟨0, _⟩ => rfl
  | ⟨1, _⟩ => show 0 * 1024 + k.val = k.val; omega
theorem place_12 (t : Fin cfg0.N) (s : Fin 2) (r : Fin 320) (f : Fin 704) :
    (win0_12.blk t).view.emb (ix3 s r f) = ix3 (shard t s) (Entry.row t r) f := by
  funext a
  refine Fin.ext ?_
  blk_simp [out_idx t]
  match a with
  | ⟨0, _⟩ => rfl
  | ⟨1, _⟩ => rfl
  | ⟨2, _⟩ => show 0 * 704 + f.val = f.val; omega
theorem place_13 (t : Fin cfg0.N) (s : Fin 2) (r : Fin 320) (f : Fin 704) :
    (win0_13.blk t).view.emb (ix3 s r f) = ix3 (shard t s) (Entry.row t r) f := by
  funext a
  refine Fin.ext ?_
  blk_simp [out_idx t]
  match a with
  | ⟨0, _⟩ => rfl
  | ⟨1, _⟩ => rfl
  | ⟨2, _⟩ => show 0 * 704 + f.val = f.val; omega
theorem place_14 (t : Fin cfg0.N) (s : Fin 2) (r : Fin 320) (f : Fin 704) :
    (win0_14.blk t).view.emb (ix3 s r f) = ix3 (shard t s) (Entry.row t r) f := by
  funext a
  refine Fin.ext ?_
  blk_simp [out_idx t]
  match a with
  | ⟨0, _⟩ => rfl
  | ⟨1, _⟩ => rfl
  | ⟨2, _⟩ => show 0 * 704 + f.val = f.val; omega

/-- The gradient of the rows. -/
theorem out_end (re : Reals m c) : (dats m 0 c).arrAt 8 cfg0.N = val_main_v60 (F := Ideal) (a0 m c) (a1 m c) (a2 m c) (a3 m c) (a4 m c) (a5 m c) := by
  refine (dats m 0 c).arrAt_eq_of_covers 8 _ (by decide +kernel) fun t hf y => ?_
  blk_simp
  rw [after_8]
  change S320x1024.Idx at y
  idx_vars y
  exact (out_at re t ((flush0_8 t).mp hf) y0 y1).trans (congrArg (val_main_v60 (F := Ideal) (a0 m c) (a1 m c) (a2 m c) (a3 m c) (a4 m c) (a5 m c)) (place_8 t y0 y1).symm)

/-- The normalised rows. -/
theorem hn_end : (dats m 0 c).arrAt 10 cfg0.N = val_main_v85 (F := Ideal) (a0 m c) (a1 m c) := by
  refine (dats m 0 c).arrAt_eq_of_covers 10 _ (by decide +kernel) fun t hf y => ?_
  blk_simp
  rw [after_10]
  change S320x1024.Idx at y
  idx_vars y
  exact (hnAt_apply m c t y0 y1).trans (congrArg (val_main_v85 (F := Ideal) (a0 m c) (a1 m c)) (place_10 t y0 y1).symm)

/-- Half the incoming gradient. -/
theorem dy_end : (dats m 0 c).arrAt 11 cfg0.N = val_main_v86 (F := Ideal) (a5 m c) := by
  refine (dats m 0 c).arrAt_eq_of_covers 11 _ (by decide +kernel) fun t hf y => ?_
  blk_simp
  rw [after_11]
  change S320x1024.Idx at y
  idx_vars y
  exact (dyAt_apply m c t y0 y1).trans (congrArg (val_main_v86 (F := Ideal) (a5 m c)) (place_11 t y0 y1).symm)

/-- The gradient of the gate's product. -/
theorem dg_end (re : Reals m c) : (dats m 0 c).arrAt 12 cfg0.N = val_main_v89 (F := Ideal) (a0 m c) (a1 m c) (a2 m c) (a3 m c) (a4 m c) (a5 m c) := by
  refine (dats m 0 c).arrAt_eq_of_covers 12 _ (by decide +kernel) fun t hf y => ?_
  blk_simp
  rw [after_12]
  change S2x320x704.Idx at y
  idx_vars y
  exact ((dgate_at re t y0 y1 y2).trans (Stages.shard_dg_apply _ _ _ _ _ _ (shard t y0) (Entry.row t y1) y2).symm).trans (congrArg (val_main_v89 (F := Ideal) (a0 m c) (a1 m c) (a2 m c) (a3 m c) (a4 m c) (a5 m c)) (place_12 t y0 y1 y2).symm)

/-- The gradient of the product that is gated. -/
theorem du_end : (dats m 0 c).arrAt 13 cfg0.N = val_main_v92 (F := Ideal) (a0 m c) (a1 m c) (a2 m c) (a4 m c) (a5 m c) := by
  refine (dats m 0 c).arrAt_eq_of_covers 13 _ (by decide +kernel) fun t hf y => ?_
  blk_simp
  rw [after_13]
  change S2x320x704.Idx at y
  idx_vars y
  exact ((dup_at m c t y0 y1 y2).trans (Stages.shard_du_apply _ _ _ _ _ (shard t y0) (Entry.row t y1) y2).symm).trans (congrArg (val_main_v92 (F := Ideal) (a0 m c) (a1 m c) (a2 m c) (a4 m c) (a5 m c)) (place_13 t y0 y1 y2).symm)

/-- The gated features. -/
theorem act_end : (dats m 0 c).arrAt 14 cfg0.N = val_main_v95 (F := Ideal) (a0 m c) (a1 m c) (a2 m c) (a3 m c) := by
  refine (dats m 0 c).arrAt_eq_of_covers 14 _ (by decide +kernel) fun t hf y => ?_
  blk_simp
  rw [after_14]
  change S2x320x704.Idx at y
  idx_vars y
  exact ((act_at m c t y0 y1 y2).trans (Stages.shard_act_apply _ _ _ _ (shard t y0) (Entry.row t y1) y2).symm).trans (congrArg (val_main_v95 (F := Ideal) (a0 m c) (a1 m c) (a2 m c) (a3 m c)) (place_14 t y0 y1 y2).symm)

/-- The gradient of the scale. -/
theorem gam_end (re : Reals m c) : (dats m 0 c).arrAt 9 cfg0.N = val_main_v84 (F := Ideal) (a0 m c) (a1 m c) (a2 m c) (a3 m c) (a4 m c) (a5 m c) := by
  refine (dats m 0 c).arrAt_eq_of_after_last 9 ⟨51, by have : cfg0.N = 52 := N_0; omega⟩ (by decide +kernel) _ fun j => ?_
  rw [after_9]
  change S1x1024.Idx at j
  idx_vars j
  obtain rfl : j0 = 0 := Subsingleton.elim _ _
  exact gam_last re j1

end Cert.ActivationsIdeal.Tie
-- ==== Proof.ActivationsClaims.lean ====
/-
  The gradient through the feed-forward: with arguments that are real numbers the kernel's results are the reference's.
-/
module

public import proofs.«01_k».proof.Defs
public import proofs.«01_k».proof.Proof.ActivationsValue
public import proofs.«01_k».proof.Proof.Gen.Pre_finite
public import proofs.«01_k».proof.Proof.Gen.ActivationsRefIdeal.Run
public import Idealize.ShloMosaic.Lib.Claim
public import Idealize.ShloMosaic.Lib.WordCmp
public import Idealize.ShloMosaic.Lib.Quiescent

@[expose] public section

noncomputable section

namespace Cert.Proof.Activations

open Idealize.ShloMosaic Idealize.SL.Sem Cert.ActivationsIdeal.Real

/-- An extended real whose size is less than something is a real number. -/
theorem real_of_less {x y : EReal} (h : Ideal.cmp .olt (max x (-x)) y = 1#1) : IsReal x := by
  have hlt : max x (-x) < y := by
    have := (WordCmp.ofBool_eq_one_iff _).1 h
    exact of_decide_eq_true this
  induction x using EReal.rec with
  | bot => exact absurd (lt_of_le_of_lt (le_max_right _ _) hlt) (by rw [EReal.neg_bot]; exact not_top_lt)
  | top => exact absurd (lt_of_le_of_lt (le_max_left _ _) hlt) not_top_lt
  | coe r => exact ⟨r, rfl⟩

/-- The precondition says that every element of every argument is a real number. -/
theorem reals (m) (h : Cert.Pre_ActivationsIdeal_finite m) (c : Dev Cert.ActivationsIdeal.nD) : Cert.ActivationsIdeal.Points.Reals m c := by
  obtain ⟨h0, h1, h2, h3, h4, h5⟩ := h c
  exact ⟨fun i => real_of_less (congrFun h0 i), fun i => real_of_less (congrFun h1 i), fun i => real_of_less (congrFun h2 i),
    fun i => real_of_less (congrFun h3 i), fun i => real_of_less (congrFun h4 i), fun i => real_of_less (congrFun h5 i)⟩

theorem algebraic : Cert.algebraic_ActivationsIdeal_ActivationsRefIdeal_pre_finite := by
  intro m g m' g' hpre hagree
  have re := reals m hpre
  refine ⟨_, _, _, _, _, _, _, θ_run_mono (θ_run_and (Cert.ActivationsIdeal.Run.run (F := Ideal) m g) (Cert.ActivationsIdeal.Run.frame (F := Ideal) m g))
    fun r h c => ⟨((h.1 c).1 8).trans (Cert.ActivationsIdeal.Tie.out_end m c (re c)), ((h.1 c).1 9).trans (Cert.ActivationsIdeal.Tie.gam_end m c (re c)),
      ((h.1 c).1 10).trans (Cert.ActivationsIdeal.Tie.hn_end m c), ((h.1 c).1 11).trans (Cert.ActivationsIdeal.Tie.dy_end m c),
      ((h.1 c).1 12).trans (Cert.ActivationsIdeal.Tie.dg_end m c (re c)), ((h.1 c).1 13).trans (Cert.ActivationsIdeal.Tie.du_end m c),
      ((h.1 c).1 14).trans (Cert.ActivationsIdeal.Tie.act_end m c), h.2.1 c⟩, ?_⟩
  refine θ_run_mono (Cert.ActivationsRefIdeal.Value.run (F := Ideal) m' g') fun r h c => ?_
  obtain ⟨r0, r1, r2, r3, r4, r5, r6, hargs⟩ := h c
  obtain ⟨e0, e1, e2, e3, e4, e5⟩ := hagree c
  refine ⟨r0.trans ((Cert.ActivationsRefIdeal.Read.val_main_v60_eq _ _).trans ?_), r1.trans ((Cert.ActivationsRefIdeal.Read.val_main_v84_eq _ _).trans ?_),
    r2.trans ((Cert.ActivationsRefIdeal.Read.val_main_v85_eq _ _).trans ?_), r3.trans ((Cert.ActivationsRefIdeal.Read.val_main_v86_eq _).trans ?_),
    r4.trans ((Cert.ActivationsRefIdeal.Read.val_main_v89_eq _ _).trans ?_), r5.trans ((Cert.ActivationsRefIdeal.Read.val_main_v92_eq _ _ _ _ _).trans ?_),
    r6.trans ((Cert.ActivationsRefIdeal.Read.val_main_v95_eq _ _ _ _).trans ?_), hargs⟩
  all_goals first
    | rw [e0, e1, e2, e3, e4, e5]
    | rw [e0, e1, e2, e4, e5]
    | rw [e0, e1, e2, e3]
    | rw [e0, e1]
    | rw [e5]

end Cert.Proof.Activations
-- ==== Proof.PoolSpec.lean ====
/-
  The gradient of the pooling mixer, written for a column of rows numbered by natural numbers: sums over a window of rows
  that ends at a row or begins at one, by doubling, and what each stage of the gradient is at a row and a feature.  Row
  `k` is row `k - 64` of the text; the rows before and after the text are zero.
-/
module

public import proofs.«01_k».proof.Proof.ActivationsReal

@[expose] public section

noncomputable section

namespace Cert.PoolIdeal.Spec

open Idealize.ShloMosaic Cert.ActivationsIdeal.Real

/-- The sum over the `2 ^ n` rows that end at a row, by doubling. -/
def back : ℕ → (ℕ → EReal) → ℕ → EReal
  | 0, V, k => V k
  | n + 1, V, k => back n V k + back n V (k - 2 ^ n)

/-- The sum over the `2 ^ n` rows that begin at a row, by doubling. -/
def fore : ℕ → (ℕ → EReal) → ℕ → EReal
  | 0, V, k => V k
  | n + 1, V, k => fore n V k + fore n V (k + 2 ^ n)

theorem back_eq (V : ℕ → EReal) : ∀ (n k : ℕ), 2 ^ n ≤ k + 1 → back n V k = ∑ j ∈ Finset.range (2 ^ n), V (k - j)
  | 0, k, _ => by simp [back]
  | n + 1, k, h => by
    have h' : 2 ^ n + 2 ^ n ≤ k + 1 := by rw [pow_succ] at h; omega
    rw [back, back_eq V n k (by omega), back_eq V n (k - 2 ^ n) (by omega), pow_succ, mul_two, Finset.sum_range_add]
    refine congrArg _ (Finset.sum_congr rfl fun j _ => ?_)
    rw [Nat.sub_sub]

theorem fore_eq (V : ℕ → EReal) : ∀ (n k : ℕ), fore n V k = ∑ j ∈ Finset.range (2 ^ n), V (k + j)
  | 0, k => by simp [fore]
  | n + 1, k => by
    rw [fore, fore_eq V n k, fore_eq V n (k + 2 ^ n), pow_succ, mul_two, Finset.sum_range_add]
    refine congrArg _ (Finset.sum_congr rfl fun j _ => ?_)
    rw [Nat.add_assoc]

/-- How many rows of the text a window of at most `n` rows that ends at row `k` holds, and one over it. -/
def cnt (n : ℤ) (k : ℕ) : EReal := (((min n (max 1 ((k : ℤ) - 63)) : ℤ) : ℝ) : EReal)
def rec (n : ℤ) (k : ℕ) : EReal := Ideal.div 1 (cnt n k)

/-- Feature `c` of group `a`. -/
def col (a : Fin 4) (c : Fin 256) : Fin 1024 := ⟨a.val * 256 + c.val, by omega⟩
def grp (e : Fin 1024) : Fin 4 := ⟨e.val / 256, by omega⟩
def pos (e : Fin 1024) : Fin 256 := ⟨e.val % 256, by omega⟩

theorem col_grp (e : Fin 1024) : col (grp e) (pos e) = e := Fin.ext (by simp only [col, grp, pos]; omega)
theorem grp_col (a : Fin 4) (c : Fin 256) : grp (col a c) = a := Fin.ext (by simp only [col, grp]; omega)
theorem pos_col (a : Fin 4) (c : Fin 256) : pos (col a c) = c := Fin.ext (by simp only [col, pos]; omega)

variable (X D : ℕ → Fin 1024 → EReal) (g s : Fin 1024 → EReal) (w : Fin 4 → Fin 256 → Fin 256 → EReal)

/-- A normalised row, and the same scaled by `g`. -/
def xh (k : ℕ) (e : Fin 1024) : EReal := X k e * rstd (X k)
def u (k : ℕ) (e : Fin 1024) : EReal := xh X k e * g e

/-- A group's mean over its window less the row itself, and its product with the group's matrix. -/
def pooled (a : Fin 4) (k : ℕ) (c : Fin 256) : EReal :=
  back (a.val + 1) (fun k => u X g k (col a c)) k * rec (2 ^ (a.val + 1)) k - u X g k (col a c)
def y (a : Fin 4) (k : ℕ) (d : Fin 256) : EReal := ∑ c, pooled X g a k c * w a c d

/-- The gradients of the product, of the mean less the row, of the window's sum and of the scaled rows. -/
def dyp (a : Fin 4) (k : ℕ) (d : Fin 256) : EReal := D k (col a d) * s (col a d)
def dpo (a : Fin 4) (k : ℕ) (c : Fin 256) : EReal := ∑ d, dyp D s a k d * w a c d
def z (a : Fin 4) (c : Fin 256) (k : ℕ) : EReal := dpo D s w a k c * rec (2 ^ (a.val + 1)) k
def du (a : Fin 4) (k : ℕ) (c : Fin 256) : EReal := fore (a.val + 1) (z D s w a c) k - dpo D s w a k c
def duAll (k : ℕ) (e : Fin 1024) : EReal := du D s w (grp e) k (pos e)

/-- The rows' gradient. -/
def dx (k : ℕ) (e : Fin 1024) : EReal :=
  D k e + rstd (X k) * (duAll D s w k e * g e
    - xh X k e * Ideal.div (∑ j, duAll D s w k j * g j * xh X k j) (Ideal.ofBits .f32 0x44800000#32))

end Cert.PoolIdeal.Spec
-- ==== Proof.PoolBody.lean ====
/-
  What the kernel's body computes from one tile of 640 rows and the 16 rows before or after it, read row by row against
  the mathematics of the gradient.
-/
module

public import proofs.«01_k».proof.Proof.PoolSpec
public import proofs.«01_k».proof.Proof.Gen.PoolIdeal.Skeleton
public import Idealize.ShloMosaic.Lib.Pointwise

@[expose] public section

set_option maxRecDepth 16384

noncomputable section

namespace Cert.PoolIdeal.Body

open Cert.PoolIdeal Cert.PoolIdeal.Gen Cert.PoolIdeal.Spec Cert.ActivationsIdeal.Real Idealize.ShloMosaic Idealize.ShloMosaic.TcCoe

theorem col_zero (d : Fin 256) : col 0 d = ⟨d.val, by omega⟩ := Fin.ext (by simp [col])

/-- One doubling of a sum over the rows that end at a row. -/
theorem step_back (v : FVec Ideal S656x256 .f32) (V : ℕ → EReal) (b s p : ℕ) (n : BitVec 32) (hn : n.toNat = p) (hp : p ≤ 16) (c : Fin 256)
    (hv : ∀ q : Fin 656, s ≤ q.val → (v (ix2 q c) : EReal) = V (b + q.val)) (q : Fin 656) (hq : s + p ≤ q.val) :
    ((addf v (dynamicRotate 0 n none v rotates_S656x256_d0)) (ix2 q c) : EReal) = V (b + q.val) + V (b + q.val - p) := by
  pointwise
  rw [hv q (by omega), hv _ (by simp only [hn]; omega)]
  simp only [hn]
  congr 2
  omega

/-- One doubling of a sum over the rows that begin at a row. -/
theorem step_fore (v : FVec Ideal S656x256 .f32) (V : ℕ → EReal) (b s p : ℕ) (n : BitVec 32) (hn : n.toNat + p = 656) (hp : p ≤ 16) (hp' : 0 < p) (c : Fin 256)
    (hv : ∀ q : Fin 656, q.val + s < 656 → (v (ix2 q c) : EReal) = V (b + q.val)) (q : Fin 656) (hq : q.val + (s + p) < 656) :
    ((addf v (dynamicRotate 0 n none v rotates_S656x256_d0)) (ix2 q c) : EReal) = V (b + q.val) + V (b + q.val + p) := by
  obtain hn : n.toNat = 656 - p := by omega
  pointwise
  rw [hv q (by omega), hv _ (by simp only [hn]; omega)]
  simp only [hn]
  congr 2
  omega

theorem bmod_small (x : ℤ) (h : -1000000 ≤ x) (h' : x ≤ 1000000) : Int.bmod x (2 ^ 32) = x := by
  rw [Int.bmod_def]
  norm_num only
  split_ifs <;> omega

/-- The kernel's number of a row less the rows before the text. -/
theorem row_word (t r : ℕ) (ht : t < 13) (hr : r < 656) :
    (IntOp.addi (IntOp.subi (IntOp.addi (Scalar.muli (BitVec.ofNat 32 t) 640#32) (BitVec.ofNat 32 r)) 48#32) 1#32).toInt
      = ((640 * t + 16 + r : ℕ) : ℤ) - 63 := by
  have hT : (BitVec.ofNat 32 t).toInt = t := by rw [BitVec.toInt_ofNat', bmod_small _ (by omega) (by omega)]
  have hR : (BitVec.ofNat 32 r).toInt = r := by rw [BitVec.toInt_ofNat', bmod_small _ (by omega) (by omega)]
  have h640 : (640#32 : BitVec 32).toInt = 640 := rfl
  have h48 : (48#32 : BitVec 32).toInt = 48 := rfl
  have h1 : (1#32 : BitVec 32).toInt = 1 := rfl
  simp only [IntOp.addi, IntOp.subi, Scalar.muli, IntOp.muli]
  rw [BitVec.toInt_add, BitVec.toInt_sub, BitVec.toInt_add, BitVec.toInt_mul, hT, hR, h640, h48, h1, bmod_small ((t : ℤ) * 640) (by omega) (by omega),
    bmod_small ((t : ℤ) * 640 + r) (by omega) (by omega), bmod_small ((t : ℤ) * 640 + r - 48) (by omega) (by omega), bmod_small _ (by omega) (by omega)]
  omega

/-- The kernel's count of a window's rows. -/
theorem count (t r w : ℕ) (ht : t < 13) (hr : r < 656) (hw : w ≤ 16) :
    (FloatOps.sitofp (F := Ideal) .f32 (IntOp.minsi (BitVec.ofNat 32 w) (IntOp.maxsi 1#32 (IntOp.addi (IntOp.subi (IntOp.addi (Scalar.muli (BitVec.ofNat 32 t) 640#32) (BitVec.ofNat 32 r)) 48#32) 1#32))) : EReal)
      = cnt w (640 * t + 16 + r) := by
  have h := row_word t r ht hr
  generalize IntOp.addi (IntOp.subi (IntOp.addi (Scalar.muli (BitVec.ofNat 32 t) 640#32) (BitVec.ofNat 32 r)) 48#32) 1#32 = W at h ⊢
  have e : (IntOp.minsi (BitVec.ofNat 32 w) (IntOp.maxsi 1#32 W)).toInt = min (w : ℤ) (max 1 (((640 * t + 16 + r : ℕ) : ℤ) - 63)) := by
    have hw' : (BitVec.ofNat 32 w).toInt = w := by rw [BitVec.toInt_ofNat', bmod_small _ (by omega) (by omega)]
    have h1 : (1#32 : BitVec 32).toInt = 1 := rfl
    unfold IntOp.minsi IntOp.maxsi
    simp only [BitVec.slt, hw', h, h1, decide_eq_true_eq]
    split_ifs <;> simp only [hw', h, h1] at * <;> omega
  unfold cnt
  rw [← e]
  rfl

/-- A group's product transposed. -/
abbrev mmT (v : FVec Ideal S656x256 .bf16) (w : Vec Ideal S1x256x256 .bf16) : FVec Ideal S656x256 .f32 :=
  matmul dot_S656x256_S256x256_S656x256_1_1_0_0_n_n none v (shapeCast S256x256 w shapeCasts_S1x256x256_S256x256 : FVec Ideal S256x256 .bf16) (constant S656x256 .f32 0x00000000#32)

/-- A doubling forward by 1, 2, 4 and 8 rows, and the window's sum less the row. -/
abbrev rot (n : BitVec 32) (v : FVec Ideal S656x256 .f32) : FVec Ideal S656x256 .f32 := addf v (dynamicRotate 0 n none v rotates_S656x256_d0)
abbrev less (F E : FVec Ideal S656x256 .f32) : FVec Ideal S640x256 .f32 :=
  shapeCast S640x256 (subf (extractStridedSlice S640x256 ![0, 0] F slices_S656x256_o0_0_S640x256)
    (extractStridedSlice S640x256 ![0, 0] E slices_S656x256_o0_0_S640x256)) shapeCasts_S640x256_S640x256

theorem mmT_apply (c : Fin 256) (v : FVec Ideal S656x256 .bf16) (w : Vec Ideal S1x256x256 .bf16) (q : Fin 656) :
    (mmT v w (ix2 q c) : EReal) = ∑ d : Fin 256, (v (ix2 q d) : EReal) * (w (ix3 0 c d) : EReal) := by
  unfold mmT
  pointwise

theorem less_apply (c : Fin 256) (F E : FVec Ideal S656x256 .f32) (r : Fin 640) :
    (less F E (ix2 r c) : EReal) = (F (ix2 ⟨r.val, by omega⟩ c) : EReal) - (E (ix2 ⟨r.val, by omega⟩ c) : EReal) := by
  unfold less
  pointwise

variable (t : ℕ) (ht : t < 13) (c : Fin 256) (V : ℕ → EReal)

/-- A group's window sum over its count, less the row. -/
def pool (n : ℕ) (V : ℕ → EReal) (k : ℕ) : EReal := back n V k * rec (2 ^ n) k - V k

include ht
theorem pooled0 (v : FVec Ideal S656x256 .f32) (hv : ∀ q : Fin 656, (v (ix2 q c) : EReal) = V (640 * t + q.val)) (r : Fin 640) :
    (k0_pay12 (BitVec.ofNat 32 t) v 1#32 (ix2 r c) : EReal) = pool 1 V (640 * t + 16 + r.val) := by
  have h1 := step_back v V (640 * t) 0 1 1#32 rfl (by decide) c (fun q _ => hv q) ⟨16 + r.val, by omega⟩ (by simp only; omega)
  unfold k0_pay12
  generalize addf v (dynamicRotate 0 1#32 none v rotates_S656x256_d0) = A at h1 ⊢
  pointwise
  rw [count t r.val 2 ht (by omega) (by decide), h1, hv]
  simp only [pool, rec, Nat.add_assoc]
  rfl

theorem pooled1 (v : FVec Ideal S656x1024 .f32) (hv : ∀ q : Fin 656, (v (ix2 q (col 1 c)) : EReal) = V (640 * t + q.val)) (r : Fin 640) :
    (k0_pay19 (BitVec.ofNat 32 t) (k0_pay17 v) (k0_pay18 v) (ix2 r c) : EReal) = pool 2 V (640 * t + 16 + r.val) := by
  have h0 : ∀ q : Fin 656, (k0_pay17 v (ix2 q c) : EReal) = V (640 * t + q.val) := fun q => by
    rw [← hv]; unfold k0_pay17; pointwise; rfl
  have h1 := step_back _ V (640 * t) 0 1 1#32 rfl (by decide) c (fun q _ => h0 q)
  have h2 := step_back _ (back 1 V) (640 * t) 1 2 2#32 rfl (by decide) c h1 ⟨16 + r.val, by omega⟩ (by simp only; omega)
  have e : k0_pay18 v = addf (k0_pay17 v) (dynamicRotate 0 1#32 none (k0_pay17 v) rotates_S656x256_d0) := rfl
  rw [e]
  unfold k0_pay19
  generalize addf (k0_pay17 v) (dynamicRotate 0 1#32 none (k0_pay17 v) rotates_S656x256_d0) = A at h1 h2 ⊢
  generalize addf A (dynamicRotate 0 2#32 none A rotates_S656x256_d0) = B at h2 ⊢
  pointwise
  rw [count t r.val 4 ht (by omega) (by decide), h2, h0]
  simp only [pool, rec, Nat.add_assoc]
  rfl

theorem pooled2 (v : FVec Ideal S656x1024 .f32) (hv : ∀ q : Fin 656, (v (ix2 q (col 2 c)) : EReal) = V (640 * t + q.val)) (r : Fin 640) :
    (k0_pay24 (BitVec.ofNat 32 t) v (ix2 r c) : EReal) = pool 3 V (640 * t + 16 + r.val) := by
  have h0 : ∀ q : Fin 656, (extractStridedSlice S656x256 ![0, 512] v slices_S656x1024_o0_512_S656x256 (ix2 q c) : EReal) = V (640 * t + q.val) := fun q => by
    rw [← hv]; pointwise; rfl
  unfold k0_pay24
  generalize extractStridedSlice S656x256 ![0, 512] v slices_S656x1024_o0_512_S656x256 = U at h0 ⊢
  have h1 := step_back _ V (640 * t) 0 1 1#32 rfl (by decide) c (fun q _ => h0 q)
  have h2 := step_back _ (back 1 V) (640 * t) 1 2 2#32 rfl (by decide) c h1
  have h3 := step_back _ (back 2 V) (640 * t) 3 4 4#32 rfl (by decide) c h2 ⟨16 + r.val, by omega⟩ (by simp only; omega)
  generalize addf U (dynamicRotate 0 1#32 none U rotates_S656x256_d0) = A at h1 h2 h3 ⊢
  generalize addf A (dynamicRotate 0 2#32 none A rotates_S656x256_d0) = B at h2 h3 ⊢
  generalize addf B (dynamicRotate 0 4#32 none B rotates_S656x256_d0) = C at h3 ⊢
  pointwise
  rw [count t r.val 8 ht (by omega) (by decide), h3, h0]
  simp only [pool, rec, Nat.add_assoc]
  rfl

theorem pooled3 (v : FVec Ideal S656x1024 .f32) (hv : ∀ q : Fin 656, (v (ix2 q (col 3 c)) : EReal) = V (640 * t + q.val)) (r : Fin 640) :
    (k0_pay33 (BitVec.ofNat 32 t) v (ix2 r c) : EReal) = pool 4 V (640 * t + 16 + r.val) := by
  have h0 : ∀ q : Fin 656, (extractStridedSlice S656x256 ![0, 768] v slices_S656x1024_o0_768_S656x256 (ix2 q c) : EReal) = V (640 * t + q.val) := fun q => by
    rw [← hv]; pointwise; rfl
  unfold k0_pay33
  generalize extractStridedSlice S656x256 ![0, 768] v slices_S656x1024_o0_768_S656x256 = U at h0 ⊢
  have h1 := step_back _ V (640 * t) 0 1 1#32 rfl (by decide) c (fun q _ => h0 q)
  have h2 := step_back _ (back 1 V) (640 * t) 1 2 2#32 rfl (by decide) c h1
  have h3 := step_back _ (back 2 V) (640 * t) 3 4 4#32 rfl (by decide) c h2
  have h4 := step_back _ (back 3 V) (640 * t) 7 8 8#32 rfl (by decide) c h3 ⟨16 + r.val, by omega⟩ (by simp only; omega)
  generalize addf U (dynamicRotate 0 1#32 none U rotates_S656x256_d0) = A at h1 h2 h3 h4 ⊢
  generalize addf A (dynamicRotate 0 2#32 none A rotates_S656x256_d0) = B at h2 h3 h4 ⊢
  generalize addf B (dynamicRotate 0 4#32 none B rotates_S656x256_d0) = C at h3 h4 ⊢
  generalize addf C (dynamicRotate 0 8#32 none C rotates_S656x256_d0) = E at h4 ⊢
  pointwise
  rw [count t r.val 16 ht (by omega) (by decide), h4, h0]
  simp only [pool, rec, Nat.add_assoc]
  rfl

omit ht

/-- The gradient of a group's windows' sums: the rows of `E`, each over its count. -/
abbrev zvec (n a : BitVec 32) (E : FVec Ideal S656x256 .f32) : FVec Ideal S656x256 .f32 :=
  mulf E (broadcastTo S656x256 (divf (broadcast S656x1 (Scalar.ofBits (F := Ideal) .f32 0x3F800000#32)) (sitofp .f32 (minsi (broadcast S656x1 n)
    (maxsi (broadcast S656x1 1#32) (addi (subi (addi (broadcast S656x1 (Scalar.muli a 640#32)) (iota .tc S656x1 32 [0] iota_S656x1_d0_w32))
      (broadcast S656x1 48#32)) (broadcast S656x1 1#32)))))) broadcasts_S656x1_S656x256)

include ht in
theorem zvec_apply (n : ℕ) (hn : n ≤ 16) (E : FVec Ideal S656x256 .f32) (hE : ∀ q : Fin 656, (E (ix2 q c) : EReal) = V (640 * t + 16 + q.val)) (q : Fin 656) :
    (zvec (BitVec.ofNat 32 n) (BitVec.ofNat 32 t) E (ix2 q c) : EReal) = V (640 * t + 16 + q.val) * rec n (640 * t + 16 + q.val) := by
  unfold zvec
  pointwise
  rw [count t q.val n ht (by omega) hn, hE]
  rfl

/-- The gradient of a group's windows. -/
def gat (n : ℕ) (V : ℕ → EReal) (k : ℕ) : EReal := fore n (fun k => V k * rec (2 ^ n) k) k - V k

section
variable (E : FVec Ideal S656x256 .f32) (hE : ∀ q : Fin 656, (E (ix2 q c) : EReal) = V (640 * t + 16 + q.val)) (r : Fin 640)
include ht hE

theorem gat0 : (less (rot 655#32 (zvec 2#32 (BitVec.ofNat 32 t) E)) E (ix2 r c) : EReal) = gat 1 V (640 * t + 16 + r.val) := by
  have h0 := zvec_apply t ht c V 2 (by decide) E hE
  have h1 := step_fore _ (fun k => V k * rec 2 k) (640 * t + 16) 0 1 655#32 rfl (by decide) (by decide) c (fun q _ => h0 q) ⟨r.val, by omega⟩ (by simp only; omega)
  rw [less_apply, hE]
  exact congrArg (fun x : EReal => x - V (640 * t + 16 + r.val)) h1

theorem gat1 : (less (rot 654#32 (rot 655#32 (zvec 4#32 (BitVec.ofNat 32 t) E))) E (ix2 r c) : EReal) = gat 2 V (640 * t + 16 + r.val) := by
  have h0 := zvec_apply t ht c V 4 (by decide) E hE
  have h1 := step_fore _ (fun k => V k * rec 4 k) (640 * t + 16) 0 1 655#32 rfl (by decide) (by decide) c (fun q _ => h0 q)
  have h2 := step_fore _ (fore 1 fun k => V k * rec 4 k) (640 * t + 16) 1 2 654#32 rfl (by decide) (by decide) c h1 ⟨r.val, by omega⟩ (by simp only; omega)
  rw [less_apply, hE]
  exact congrArg (fun x : EReal => x - V (640 * t + 16 + r.val)) h2

theorem gat2 : (less (rot 652#32 (rot 654#32 (rot 655#32 (zvec 8#32 (BitVec.ofNat 32 t) E)))) E (ix2 r c) : EReal) = gat 3 V (640 * t + 16 + r.val) := by
  have h0 := zvec_apply t ht c V 8 (by decide) E hE
  have h1 := step_fore _ (fun k => V k * rec 8 k) (640 * t + 16) 0 1 655#32 rfl (by decide) (by decide) c (fun q _ => h0 q)
  have h2 := step_fore _ (fore 1 fun k => V k * rec 8 k) (640 * t + 16) 1 2 654#32 rfl (by decide) (by decide) c h1
  have h3 := step_fore _ (fore 2 fun k => V k * rec 8 k) (640 * t + 16) 3 4 652#32 rfl (by decide) (by decide) c h2 ⟨r.val, by omega⟩ (by simp only; omega)
  rw [less_apply, hE]
  exact congrArg (fun x : EReal => x - V (640 * t + 16 + r.val)) h3

theorem gat3 : (less (rot 648#32 (rot 652#32 (rot 654#32 (rot 655#32 (zvec 16#32 (BitVec.ofNat 32 t) E))))) E (ix2 r c) : EReal) = gat 4 V (640 * t + 16 + r.val) := by
  have h0 := zvec_apply t ht c V 16 (by decide) E hE
  have h1 := step_fore _ (fun k => V k * rec 16 k) (640 * t + 16) 0 1 655#32 rfl (by decide) (by decide) c (fun q _ => h0 q)
  have h2 := step_fore _ (fore 1 fun k => V k * rec 16 k) (640 * t + 16) 1 2 654#32 rfl (by decide) (by decide) c h1
  have h3 := step_fore _ (fore 2 fun k => V k * rec 16 k) (640 * t + 16) 3 4 652#32 rfl (by decide) (by decide) c h2
  have h4 := step_fore _ (fore 3 fun k => V k * rec 16 k) (640 * t + 16) 7 8 648#32 rfl (by decide) (by decide) c h3 ⟨r.val, by omega⟩ (by simp only; omega)
  rw [less_apply, hE]
  exact congrArg (fun x : EReal => x - V (640 * t + 16 + r.val)) h4
end

section Groups
variable (v : FVec Ideal S656x1024 .f32) (sc o : Vec Ideal S1x256 .f32) (w : Vec Ideal S1x256x256 .bf16) (d : Fin 256) (q : Fin 656)
  (p : FVec Ideal S640x256 .bf16) (b : FVec Ideal S656x256 .bf16) (old : Vec Ideal S1x256x256 .f32) (dm : FVec Ideal S640x1024 .f32) (a : BitVec 32)

theorem pay16_eq (v : FVec Ideal S656x256 .bf16) :
    k0_pay16 a v w = less (rot 655#32 (zvec 2#32 a (mmT v w))) (mmT v w) := rfl
theorem pay23_eq (v : FVec Ideal S656x256 .bf16) :
    k0_pay23 a v w = less (rot 654#32 (rot 655#32 (zvec 4#32 a (mmT v w)))) (mmT v w) := rfl
theorem pay32_eq (v : FVec Ideal S656x256 .f32) (s : Vec Ideal S1x256 .f32) :
    k0_pay32 (k0_pay29 v s w) (k0_pay30 a v s w) (k0_pay31 a v s w)
      = less (rot 652#32 (rot 654#32 (rot 655#32 (zvec 8#32 a (mmT (k0_pay27 v s) w))))) (mmT (k0_pay27 v s) w) := rfl
theorem pay40_eq (s : Vec Ideal S1x256 .f32) :
    k0_pay40 (k0_pay38 v s w) (k0_pay39 a)
      = less (rot 648#32 (rot 652#32 (rot 654#32 (rot 655#32 (zvec 16#32 a (mmT (k0_pay36 v s) w)))))) (mmT (k0_pay36 v s) w) := rfl

theorem pay14_apply : (k0_pay14 v sc (ix2 q d) : EReal) = v (ix2 q (col 0 d)) * sc (ix2 0 d) := by
  rw [col_zero]; unfold k0_pay14; pointwise
theorem pay21_apply : (k0_pay21 v sc (ix2 q d) : EReal) = v (ix2 q (col 1 d)) * sc (ix2 0 d) := by
  unfold k0_pay21; pointwise; rfl
theorem pay27_apply : (k0_pay27 (k0_pay26 v) sc (ix2 q d) : EReal) = v (ix2 q (col 2 d)) * sc (ix2 0 d) := by
  unfold k0_pay27 k0_pay26; pointwise; rfl
theorem pay36_apply : (k0_pay36 v sc (ix2 q d) : EReal) = v (ix2 q (col 3 d)) * sc (ix2 0 d) := by
  unfold k0_pay36; pointwise; rfl

/-- The group's matrix gains the products of the tile's rows. -/
theorem pay15_apply : (k0_pay15 p b old (ix3 0 c d) : EReal) = old (ix3 0 c d) + ∑ r : Fin 640, (p (ix2 r c) : EReal) * b (ix2 ⟨r.val, by omega⟩ d) := by
  unfold k0_pay15; pointwise
theorem pay22_apply : (k0_pay22 p b old (ix3 0 c d) : EReal) = old (ix3 0 c d) + ∑ r : Fin 640, (p (ix2 r c) : EReal) * b (ix2 ⟨r.val, by omega⟩ d) := by
  unfold k0_pay22; pointwise
theorem pay28_apply : (k0_pay28 p (k0_pay26 v) sc old (ix3 0 c d) : EReal)
    = old (ix3 0 c d) + ∑ r : Fin 640, (p (ix2 r c) : EReal) * k0_pay27 (k0_pay26 v) sc (ix2 ⟨r.val, by omega⟩ d) := by
  unfold k0_pay28; pointwise
theorem pay37_apply : (k0_pay37 v p sc old (ix3 0 c d) : EReal)
    = old (ix3 0 c d) + ∑ r : Fin 640, (p (ix2 r c) : EReal) * k0_pay36 v sc (ix2 ⟨r.val, by omega⟩ d) := by
  unfold k0_pay37; pointwise

/-- The group's part of the scale gains the sum over the tile's rows. -/
theorem pay13_apply (v35 : FVec Ideal S656x256 .f32) : (k0_pay13 a dm v35 1#32 w o (ix2 0 d) : EReal)
    = o (ix2 0 d) + ∑ r : Fin 640, dm (ix2 r (col 0 d)) * ∑ c, (k0_pay12 a v35 1#32 (ix2 r c) : EReal) * w (ix3 0 c d) := by
  unfold k0_pay13
  generalize k0_pay12 a v35 1#32 = P
  rw [col_zero]
  pointwise
theorem pay20_apply (v1 v2 : FVec Ideal S656x256 .f32) : (k0_pay20 a dm v1 v2 w o (ix2 0 d) : EReal)
    = o (ix2 0 d) + ∑ r : Fin 640, dm (ix2 r (col 1 d)) * ∑ c, (k0_pay19 a v1 v2 (ix2 r c) : EReal) * w (ix3 0 c d) := by
  unfold k0_pay20
  generalize k0_pay19 a v1 v2 = P
  pointwise; rfl
theorem pay25_apply : (k0_pay25 a v dm w o (ix2 0 d) : EReal)
    = o (ix2 0 d) + ∑ r : Fin 640, dm (ix2 r (col 2 d)) * ∑ c, (k0_pay24 a v (ix2 r c) : EReal) * w (ix3 0 c d) := by
  unfold k0_pay25
  generalize k0_pay24 a v = P
  pointwise; rfl
theorem pay35_apply : (k0_pay35 dm (k0_pay34 a v w) o (ix2 0 d) : EReal)
    = o (ix2 0 d) + ∑ r : Fin 640, dm (ix2 r (col 3 d)) * ∑ c, (k0_pay33 a v (ix2 r c) : EReal) * w (ix3 0 c d) := by
  unfold k0_pay35 k0_pay34
  generalize k0_pay33 a v = P
  pointwise; rfl
end Groups

section Norm
variable (i : grid0.Coords) (hi : (i 0).val = t) (b0 b2 : Vec Ideal S640x1024 .f32) (b1 b3 : Vec Ideal S16x1024 .f32) (g4 : Vec Ideal S1x1024 .f32)
  (X D : ℕ → Fin 1024 → EReal) (g : Fin 1024 → EReal)
  (h0 : ∀ (r : Fin 640) e, (b0 (ix2 r e) : EReal) = X (640 * t + 16 + r.val) e)
  (h1 : 0 < t → ∀ (q : Fin 16) e, (b1 (ix2 q e) : EReal) = X (640 * t + q.val) e) (hX : ∀ k e, k < 16 → X k e = 0)
  (h2 : ∀ (r : Fin 640) e, (b2 (ix2 r e) : EReal) = D (640 * t + 16 + r.val) e)
  (h3 : t < 12 → ∀ (q : Fin 16) e, (b3 (ix2 q e) : EReal) = D (640 * t + 656 + q.val) e) (hD : ∀ k e, 8336 ≤ k → D k e = 0)
  (h4 : ∀ e, (g4 (ix2 0 e) : EReal) = g e)
  (q : Fin 656) (r : Fin 640) (e : Fin 1024)

theorem gt_zero (t : ℕ) (ht : t < 13) : Scalar.cmpi .sgt (BitVec.ofNat 32 t) 0#32 = if 0 < t then 1#1 else 0#1 := by
  interval_cases t <;> decide
theorem lt_last (t : ℕ) (ht : t < 13) : Scalar.cmpi .slt (BitVec.ofNat 32 t) 12#32 = if t < 12 then 1#1 else 0#1 := by
  interval_cases t <;> decide

include ht hi

include h0 h1 hX in
theorem pay5_apply : (k0_pay5 i b0 b1 (ix2 q e) : EReal) = X (640 * t + q.val) e := by
  unfold k0_pay5
  rw [hi]
  rw [gt_zero t ht]
  pointwise
  split
  · by_cases hl : 0 < t
    · rw [if_pos hl]
      exact h1 hl _ e
    · rw [if_neg hl, hX _ e (by omega)]
      rfl
  · rw [h0]
    congr 1
    simp only; omega

include h2 h3 hD in
theorem pay10_apply : (k0_pay10 i b2 b3 (ix2 q e) : EReal) = D (640 * t + 16 + q.val) e := by
  unfold k0_pay10 k0_pay9
  rw [hi]
  rw [lt_last t ht]
  pointwise
  split
  · rw [h2]
  · by_cases hl : t < 12
    · rw [if_pos hl]
      refine (h3 hl _ e).trans ?_
      congr 1
      simp only; omega
    · rw [if_neg hl, hD _ e (by omega)]
      rfl

include h0 h1 hX

theorem pay6_apply : (k0_pay6 i b0 b1 (ix2 q 0) : EReal) = rstd (X (640 * t + q.val)) := by
  have h := pay5_apply t ht i hi b0 b1 X h0 h1 hX
  unfold k0_pay6
  generalize k0_pay5 i b0 b1 = P at h ⊢
  pointwise
  simp only [h]
  rfl

theorem pay7_apply : (k0_pay7 i b0 b1 (ix2 q e) : EReal) = xh X (640 * t + q.val) e := by
  have h := pay5_apply t ht i hi b0 b1 X h0 h1 hX
  have h' := pay6_apply t ht i hi b0 b1 X h0 h1 hX
  unfold k0_pay7
  generalize k0_pay5 i b0 b1 = P at h ⊢
  generalize k0_pay6 i b0 b1 = Q at h' ⊢
  pointwise
  rw [h, h']
  rfl

include h4 in
theorem pay8_apply : (k0_pay8 i b0 b1 g4 (ix2 q e) : EReal) = u X g (640 * t + q.val) e := by
  have h := pay7_apply t ht i hi b0 b1 X h0 h1 hX
  unfold k0_pay8
  generalize k0_pay7 i b0 b1 = P at h ⊢
  pointwise
  rw [h, h4]
  rfl

theorem pay43_apply (du : Vec Ideal S640x1024 .f32) (o : Vec Ideal S1x1024 .f32) : (k0_pay43 (k0_pay7 i b0 b1) du o (ix2 0 e) : EReal)
    = o (ix2 0 e) + ∑ r : Fin 640, du (ix2 r e) * xh X (640 * t + 16 + r.val) e := by
  have h := pay7_apply t ht i hi b0 b1 X h0 h1 hX
  unfold k0_pay43 k0_pay41
  generalize k0_pay7 i b0 b1 = P at h ⊢
  pointwise
  simp only [h, Nat.add_assoc]

include h2 h4 in
theorem dx_apply (du : Vec Ideal S640x1024 .f32) :
    (k0_pay1 (k0_pay9 b2) (k0_pay42 (k0_pay6 i b0 b1)) (k0_pay44 (k0_pay7 i b0 b1) du g4) (ix2 r e) : EReal)
      = D (640 * t + 16 + r.val) e + rstd (X (640 * t + 16 + r.val)) * ((du (ix2 r e) : EReal) * g e
          - xh X (640 * t + 16 + r.val) e * Ideal.div (∑ j, (du (ix2 r j) : EReal) * g j * xh X (640 * t + 16 + r.val) j) (Ideal.ofBits .f32 0x44800000#32)) := by
  have h := pay7_apply t ht i hi b0 b1 X h0 h1 hX
  have h' := pay6_apply t ht i hi b0 b1 X h0 h1 hX
  unfold k0_pay1 k0_pay9 k0_pay42 k0_pay44 k0_pay41
  generalize k0_pay7 i b0 b1 = P at h ⊢
  generalize k0_pay6 i b0 b1 = Q at h' ⊢
  pointwise
  simp only [h, h', h2, h4, Nat.add_assoc]
end Norm

end Cert.PoolIdeal.Body
-- ==== Proof.PoolEntry.lean ====
/-
  The blocks that a point of the pooling mixer's gradient reads, as rows of the program's arguments.
-/
module

public import proofs.«01_k».proof.Proof.PoolBody
public import proofs.«01_k».proof.Proof.Gen.PoolIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PoolIdeal.Entry

open Cert.PoolIdeal Cert.PoolIdeal.Gen Cert.PoolIdeal.Spec Idealize.ShloMosaic Idealize.ShloMosaic.TcCoe Idealize.SL.Sem

/-- The rows of an array by number, 64 rows of zeros before it and zeros after it. -/
def rowsOf (x : S8208x1024.Idx → EReal) (k : ℕ) (e : Fin 1024) : EReal := if h : 64 ≤ k ∧ k < 8272 then x (ix2 ⟨k - 64, by omega⟩ e) else 0

theorem rowsOf_low (x : S8208x1024.Idx → EReal) (k : ℕ) (e : Fin 1024) (h : k < 64) : rowsOf x k e = 0 := dif_neg (by omega)
theorem rowsOf_high (x : S8208x1024.Idx → EReal) (k : ℕ) (e : Fin 1024) (h : 8272 ≤ k) : rowsOf x k e = 0 := dif_neg (by omega)
theorem rowsOf_row (x : S8208x1024.Idx → EReal) (l : Fin 8208) (e : Fin 1024) : rowsOf x (64 + l.val) e = x (ix2 l e) := by
  unfold rowsOf
  rw [dif_pos (by omega)]
  congr 2
  exact Fin.ext (by simp only; omega)

variable (m : (ℓ : Loc nD τ sig) → Buf (Elt Ideal) ℓ) (c : Dev nD)

/-- The contents of argument 0 … 4 of the program: rows, scale of the norm, the groups' matrices, the features' scale, and
    the rows' gradient. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

/-- The same, as the mathematics reads them. -/
abbrev X : ℕ → Fin 1024 → EReal := rowsOf (a0 m c)
abbrev D : ℕ → Fin 1024 → EReal := rowsOf (a4 m c)
abbrev γ (e : Fin 1024) : EReal := a1 m c (ix1 e)
abbrev σ (e : Fin 1024) : EReal := a3 m c (ix1 e)
abbrev w (a : Fin 4) (x y : Fin 256) : EReal := a2 m c (ix3 a x y)

/-- The kernel's operands. -/
abbrev hh : S8320x1024.Idx → EReal := V m c main_v0
abbrev dd : S8320x1024.Idx → EReal := V m c main_v4
abbrev gs : S1x1024.Idx → EReal := V m c main_v1
abbrev ws : S4x256x256.Idx → EReal := V m c main_v2
abbrev ss : S1x1024.Idx → EReal := V m c main_v3

/-- The rows between the zeros written before and after them. -/
theorem pad_apply (x : FVec Ideal S8208x1024 .f32) (r : Fin 8320) (e : Fin 1024) :
    (pad S8320x1024 ![48, 0] ![64, 0] ![0, 0] x (sitofp .f32 (constantI S_ 32 0#32) : FVec Ideal S_ .f32)
      pads_S8208x1024_S8320x1024_48640_000 h_S_ (ix2 r e) : EReal) = rowsOf x (r.val + 16) e := by
  unfold rowsOf
  pointwise
  split
  · rename_i h
    split
    · congr 2
    · omega
  · rename_i h
    split
    · omega
    · show (((0#32 : BitVec 32).toInt : ℝ) : EReal) = 0
      simp

theorem hh_apply (r : Fin 8320) (e : Fin 1024) : hh m c (ix2 r e) = X m c (r.val + 16) e := by
  unfold hh
  simp only [V, V0, hostOps0, hostOps0_1, hostOps0_2, hostOps0_3, List.flatten_cons, List.flatten_nil, List.append_nil, List.cons_append,
    List.nil_append]
  entry_read
  exact pad_apply (a0 m c) r e

theorem dd_apply (r : Fin 8320) (e : Fin 1024) : dd m c (ix2 r e) = D m c (r.val + 16) e := by
  unfold dd
  simp only [V, V0, hostOps0, hostOps0_1, hostOps0_2, hostOps0_3, List.flatten_cons, List.flatten_nil, List.append_nil, List.cons_append,
    List.nil_append]
  entry_read
  exact pad_apply (a4 m c) r e

theorem gs_apply (e : Fin 1024) : gs m c (ix2 0 e) = γ m c e := by
  unfold gs
  simp only [V, V0, hostOps0, hostOps0_1, hostOps0_2, hostOps0_3, List.flatten_cons, List.flatten_nil, List.append_nil, List.cons_append,
    List.nil_append]
  entry_read
  pointwise

theorem ss_apply (e : Fin 1024) : ss m c (ix2 0 e) = σ m c e := by
  unfold ss
  simp only [V, V0, hostOps0, hostOps0_1, hostOps0_2, hostOps0_3, List.flatten_cons, List.flatten_nil, List.append_nil, List.cons_append,
    List.nil_append]
  entry_read
  pointwise

theorem ws_apply (a : Fin 4) (x y : Fin 256) : ws m c (ix3 a x y) = w m c a x y := by
  unfold ws
  simp only [V, V0, hostOps0, hostOps0_1, hostOps0_2, hostOps0_3, List.flatten_cons, List.flatten_nil, List.append_nil, List.cons_append,
    List.nil_append]
  entry_read
  pointwise

theorem idx : ∀ t, (win0_0.index t = ![t.val, 0] ∧ win0_1.index t = ![t.val * 40 - 1, 0] ∧ win0_2.index t = ![t.val, 0]
    ∧ win0_3.index t = ![min ((t.val + 1) * 40) 519, 0]) ∧ win0_4.index t = ![0, 0] ∧ win0_5.index t = ![0, 0, 0] ∧ win0_6.index t = ![0, 0] :=
  (by decide +kernel : ∀ t : Fin grid0.N, _)

theorem out_idx : ∀ t, win0_7.index t = ![t.val, 0] ∧ win0_8.index t = ![0, 0] ∧ win0_9.index t = ![0, 0, 0] ∧ win0_10.index t = ![0, 0] :=
  (by decide +kernel : ∀ t : Fin grid0.N, _)

theorem lt13 (t : Fin cfg0.N) : t.val < 13 := lt_of_lt_of_eq t.isLt (show cfg0.N = 13 from N_0)
theorem coord (t : Fin cfg0.N) : (grid0.coords t 0).val = t.val := by
  have h : (grid0.coords t 0).val = t.val / 1 % 13 := Pipeline.Grid.coords_val t 0 (by decide) rfl
  have := lt13 t
  omega

theorem blk0 (t : Fin cfg0.N) (r : Fin 640) (e : Fin 1024) : (iblk m c 0 t (ix2 r e) : EReal) = X m c (640 * t.val + 16 + r.val) e := by
  have := lt13 t
  have h : iblk m c 0 t (ix2 r e) = hh m c (ix2 ⟨t.val * 640 + r.val, by omega⟩ e) := by blk_ext [iblk, idx t]
  refine h.trans ((hh_apply m c _ e).trans ?_)
  congr 1
  simp only; omega
theorem blk1 (t : Fin cfg0.N) (ht : 0 < t.val) (q : Fin 16) (e : Fin 1024) : (iblk m c 1 t (ix2 q e) : EReal) = X m c (640 * t.val + q.val) e := by
  have := lt13 t
  have h : iblk m c 1 t (ix2 q e) = hh m c (ix2 ⟨(t.val * 40 - 1) * 16 + q.val, by omega⟩ e) := by blk_ext [iblk, idx t]
  refine h.trans ((hh_apply m c _ e).trans ?_)
  congr 1
  simp only; omega
theorem blk2 (t : Fin cfg0.N) (r : Fin 640) (e : Fin 1024) : (iblk m c 2 t (ix2 r e) : EReal) = D m c (640 * t.val + 16 + r.val) e := by
  have := lt13 t
  have h : iblk m c 2 t (ix2 r e) = dd m c (ix2 ⟨t.val * 640 + r.val, by omega⟩ e) := by blk_ext [iblk, idx t]
  refine h.trans ((dd_apply m c _ e).trans ?_)
  congr 1
  simp only; omega
theorem blk3 (t : Fin cfg0.N) (ht : t.val < 12) (q : Fin 16) (e : Fin 1024) : (iblk m c 3 t (ix2 q e) : EReal) = D m c (640 * t.val + 656 + q.val) e := by
  have h : iblk m c 3 t (ix2 q e) = dd m c (ix2 ⟨min ((t.val + 1) * 40) 519 * 16 + q.val, by omega⟩ e) := by blk_ext [iblk, idx t]
  refine h.trans ((dd_apply m c _ e).trans ?_)
  congr 1
  simp only; omega
theorem blk4 (t : Fin cfg0.N) (e : Fin 1024) : (iblk m c 4 t (ix2 0 e) : EReal) = γ m c e := by
  have h : iblk m c 4 t (ix2 0 e) = gs m c (ix2 0 e) := by blk_ext [iblk, idx t]
  exact h.trans (gs_apply m c e)
theorem blk5 (t : Fin cfg0.N) (a : Fin 4) (x y : Fin 256) : (iblk m c 5 t (ix3 a x y) : EReal) = w m c a x y := by
  have h : iblk m c 5 t (ix3 a x y) = ws m c (ix3 a x y) := by blk_ext [iblk, idx t]
  exact h.trans (ws_apply m c a x y)
theorem blk6 (t : Fin cfg0.N) (e : Fin 1024) : (iblk m c 6 t (ix2 0 e) : EReal) = σ m c e := by
  have h : iblk m c 6 t (ix2 0 e) = ss m c (ix2 0 e) := by blk_ext [iblk, idx t]
  exact h.trans (ss_apply m c e)

end Cert.PoolIdeal.Entry
-- ==== Proof.PoolPoints.lean ====
/-
  What each point of the pooling mixer's gradient leaves in the windows of its results.
-/
module

public import proofs.«01_k».proof.Proof.PoolEntry

@[expose] public section

set_option maxRecDepth 16384

noncomputable section

namespace Cert.PoolIdeal.Points

open Cert.PoolIdeal Cert.PoolIdeal.Gen Cert.PoolIdeal.Spec Cert.PoolIdeal.Body Cert.PoolIdeal.Entry Idealize.ShloMosaic Idealize.ShloMosaic.TcCoe
  Idealize.SL.Sem Cert.ActivationsIdeal.Real

/-! ## Four stores side by side, over whatever was stored before -/

theorem skip {S : Shape} {e : EltTy} (r B : Rect S) (v : r.shape.Idx → Elt Ideal e) (L : List (View.Piece (Elt Ideal) S e)) (h : LoadRect.disj r B.toLoadRect = true)
    (x : B.shape.Idx) : View.canon (⟨r, v⟩ :: L) (B.emb x) = View.canon L (B.emb x) :=
  View.canon_cons_of_not_mem ⟨r, v⟩ L (LoadRect.idx_not_mem_of_disj h x)

section
variable {S : Shape} {e : EltTy} (r0 r1 r2 r3 : Rect S) (v0 : r0.shape.Idx → Elt Ideal e) (v1 : r1.shape.Idx → Elt Ideal e) (v2 : r2.shape.Idx → Elt Ideal e)
  (v3 : r3.shape.Idx → Elt Ideal e) (L : List (View.Piece (Elt Ideal) S e))
theorem at0 (h1 : LoadRect.disj r1 r0.toLoadRect = true) (h2 : LoadRect.disj r2 r0.toLoadRect = true) (h3 : LoadRect.disj r3 r0.toLoadRect = true) (x : r0.shape.Idx) :
    View.canon (⟨r3, v3⟩ :: ⟨r2, v2⟩ :: ⟨r1, v1⟩ :: ⟨r0, v0⟩ :: L) (r0.emb x) = v0 x := by
  rw [skip _ _ _ _ h3, skip _ _ _ _ h2, skip _ _ _ _ h1, View.canon_cons_emb]
theorem at1 (h2 : LoadRect.disj r2 r1.toLoadRect = true) (h3 : LoadRect.disj r3 r1.toLoadRect = true) (x : r1.shape.Idx) :
    View.canon (⟨r3, v3⟩ :: ⟨r2, v2⟩ :: ⟨r1, v1⟩ :: ⟨r0, v0⟩ :: L) (r1.emb x) = v1 x := by
  rw [skip _ _ _ _ h3, skip _ _ _ _ h2, View.canon_cons_emb]
theorem at2 (h3 : LoadRect.disj r3 r2.toLoadRect = true) (x : r2.shape.Idx) :
    View.canon (⟨r3, v3⟩ :: ⟨r2, v2⟩ :: ⟨r1, v1⟩ :: ⟨r0, v0⟩ :: L) (r2.emb x) = v2 x := by
  rw [skip _ _ _ _ h3, View.canon_cons_emb]
theorem at3 (x : r3.shape.Idx) :
    View.canon (⟨r3, v3⟩ :: ⟨r2, v2⟩ :: ⟨r1, v1⟩ :: ⟨r0, v0⟩ :: L) (r3.emb x) = v3 x := by
  rw [View.canon_cons_emb]
end

/-- Column block `a` of 640 rows, of one row, and matrix `a` of four. -/
abbrev R0 : Rect S640x1024 := Rect.unit ![0, 0] ![640, 256] inb_S640x1024_S640x256_0_0
abbrev R1 : Rect S640x1024 := Rect.unit ![0, 256] ![640, 256] inb_S640x1024_S640x256_0_256
abbrev R2 : Rect S640x1024 := Rect.unit ![0, 512] ![640, 256] inb_S640x1024_S640x256_0_512
abbrev R3 : Rect S640x1024 := Rect.unit ![0, 768] ![640, 256] inb_S640x1024_S640x256_0_768
abbrev C0 : Rect S1x1024 := Rect.unit ![0, 0] ![1, 256] inb_S1x1024_S1x256_0_0
abbrev C1 : Rect S1x1024 := Rect.unit ![0, 256] ![1, 256] inb_S1x1024_S1x256_0_256
abbrev C2 : Rect S1x1024 := Rect.unit ![0, 512] ![1, 256] inb_S1x1024_S1x256_0_512
abbrev C3 : Rect S1x1024 := Rect.unit ![0, 768] ![1, 256] inb_S1x1024_S1x256_0_768
abbrev M0 : Rect S4x256x256 := Rect.unit ![0, 0, 0] ![1, 256, 256] inb_S4x256x256_S1x256x256_0_0_0
abbrev M1 : Rect S4x256x256 := Rect.unit ![1, 0, 0] ![1, 256, 256] inb_S4x256x256_S1x256x256_1_0_0
abbrev M2 : Rect S4x256x256 := Rect.unit ![2, 0, 0] ![1, 256, 256] inb_S4x256x256_S1x256x256_2_0_0
abbrev M3 : Rect S4x256x256 := Rect.unit ![3, 0, 0] ![1, 256, 256] inb_S4x256x256_S1x256x256_3_0_0

/-- A feature of block `a`, for the four blocks. -/
theorem four {P : Fin 1024 → Prop} (h0 : ∀ d, P (col 0 d)) (h1 : ∀ d, P (col 1 d)) (h2 : ∀ d, P (col 2 d)) (h3 : ∀ d, P (col 3 d)) (e : Fin 1024) : P e := by
  rw [← col_grp e]
  match grp e with
  | 0 => exact h0 _
  | 1 => exact h1 _
  | 2 => exact h2 _
  | 3 => exact h3 _

section
variable (r : Fin 640) (d x y : Fin 256)
theorem R0_emb : R0.emb (ix2 r d) = ix2 r (col 0 d) := by
  funext a; refine Fin.ext ?_; match a with | ⟨0, _⟩ => simp [Rect.emb, Rect.unit, ix2]; | ⟨1, _⟩ => simp [Rect.emb, Rect.unit, ix2, col]
theorem R1_emb : R1.emb (ix2 r d) = ix2 r (col 1 d) := by
  funext a; refine Fin.ext ?_; match a with | ⟨0, _⟩ => simp [Rect.emb, Rect.unit, ix2]; | ⟨1, _⟩ => simp [Rect.emb, Rect.unit, ix2, col]
theorem R2_emb : R2.emb (ix2 r d) = ix2 r (col 2 d) := by
  funext a; refine Fin.ext ?_; match a with | ⟨0, _⟩ => simp [Rect.emb, Rect.unit, ix2]; | ⟨1, _⟩ => simp [Rect.emb, Rect.unit, ix2, col]
theorem R3_emb : R3.emb (ix2 r d) = ix2 r (col 3 d) := by
  funext a; refine Fin.ext ?_; match a with | ⟨0, _⟩ => simp [Rect.emb, Rect.unit, ix2]; | ⟨1, _⟩ => simp [Rect.emb, Rect.unit, ix2, col]
theorem C0_emb : C0.emb (ix2 0 d) = ix2 0 (col 0 d) := by
  funext a; refine Fin.ext ?_; match a with | ⟨0, _⟩ => rfl | ⟨1, _⟩ => simp [Rect.emb, Rect.unit, ix2, col]
theorem C1_emb : C1.emb (ix2 0 d) = ix2 0 (col 1 d) := by
  funext a; refine Fin.ext ?_; match a with | ⟨0, _⟩ => rfl | ⟨1, _⟩ => simp [Rect.emb, Rect.unit, ix2, col]
theorem C2_emb : C2.emb (ix2 0 d) = ix2 0 (col 2 d) := by
  funext a; refine Fin.ext ?_; match a with | ⟨0, _⟩ => rfl | ⟨1, _⟩ => simp [Rect.emb, Rect.unit, ix2, col]
theorem C3_emb : C3.emb (ix2 0 d) = ix2 0 (col 3 d) := by
  funext a; refine Fin.ext ?_; match a with | ⟨0, _⟩ => rfl | ⟨1, _⟩ => simp [Rect.emb, Rect.unit, ix2, col]
theorem M0_emb : M0.emb (ix3 0 x y) = ix3 0 x y := by
  funext a; refine Fin.ext ?_; match a with | ⟨0, _⟩ => rfl | ⟨1, _⟩ => simp [Rect.emb, Rect.unit, ix3] | ⟨2, _⟩ => simp [Rect.emb, Rect.unit, ix3]
theorem M1_emb : M1.emb (ix3 0 x y) = ix3 1 x y := by
  funext a; refine Fin.ext ?_; match a with | ⟨0, _⟩ => rfl | ⟨1, _⟩ => simp [Rect.emb, Rect.unit, ix3] | ⟨2, _⟩ => simp [Rect.emb, Rect.unit, ix3]
theorem M2_emb : M2.emb (ix3 0 x y) = ix3 2 x y := by
  funext a; refine Fin.ext ?_; match a with | ⟨0, _⟩ => rfl | ⟨1, _⟩ => simp [Rect.emb, Rect.unit, ix3] | ⟨2, _⟩ => simp [Rect.emb, Rect.unit, ix3]
theorem M3_emb : M3.emb (ix3 0 x y) = ix3 3 x y := by
  funext a; refine Fin.ext ?_; match a with | ⟨0, _⟩ => rfl | ⟨1, _⟩ => simp [Rect.emb, Rect.unit, ix3] | ⟨2, _⟩ => simp [Rect.emb, Rect.unit, ix3]
end

theorem r_stores (p0 p1 p2 p3 : Vec Ideal S640x256 .f32) (L : List (View.Piece (Elt Ideal) S640x1024 .f32)) (r : Fin 640) (G : Fin 1024 → EReal)
    (h0 : ∀ d, (p0 (ix2 r d) : EReal) = G (col 0 d)) (h1 : ∀ d, (p1 (ix2 r d) : EReal) = G (col 1 d)) (h2 : ∀ d, (p2 (ix2 r d) : EReal) = G (col 2 d)) (h3 : ∀ d, (p3 (ix2 r d) : EReal) = G (col 3 d)) (e : Fin 1024) :
    (View.canon (⟨R3, p3⟩ :: ⟨R2, p2⟩ :: ⟨R1, p1⟩ :: ⟨R0, p0⟩ :: L) (ix2 r e) : EReal) = G e := by
  refine four (P := fun e => (View.canon (⟨R3, p3⟩ :: ⟨R2, p2⟩ :: ⟨R1, p1⟩ :: ⟨R0, p0⟩ :: L) (ix2 r e) : EReal) = G e) (fun d => ?_) (fun d => ?_) (fun d => ?_) (fun d => ?_) e
  · rw [← R0_emb r d]; exact (at0 (e := .f32) R0 R1 R2 R3 p0 p1 p2 p3 L (by decide) (by decide) (by decide) (ix2 r d)).trans (h0 d)
  · rw [← R1_emb r d]; exact (at1 (e := .f32) R0 R1 R2 R3 p0 p1 p2 p3 L (by decide) (by decide) (ix2 r d)).trans (h1 d)
  · rw [← R2_emb r d]; exact (at2 (e := .f32) R0 R1 R2 R3 p0 p1 p2 p3 L (by decide) (ix2 r d)).trans (h2 d)
  · rw [← R3_emb r d]; exact (at3 (e := .f32) R0 R1 R2 R3 p0 p1 p2 p3 L  (ix2 r d)).trans (h3 d)

theorem c_stores (p0 p1 p2 p3 : Vec Ideal S1x256 .f32) (L : List (View.Piece (Elt Ideal) S1x1024 .f32)) (G : Fin 1024 → EReal)
    (h0 : ∀ d, (p0 (ix2 0 d) : EReal) = G (col 0 d)) (h1 : ∀ d, (p1 (ix2 0 d) : EReal) = G (col 1 d)) (h2 : ∀ d, (p2 (ix2 0 d) : EReal) = G (col 2 d)) (h3 : ∀ d, (p3 (ix2 0 d) : EReal) = G (col 3 d)) (e : Fin 1024) :
    (View.canon (⟨C3, p3⟩ :: ⟨C2, p2⟩ :: ⟨C1, p1⟩ :: ⟨C0, p0⟩ :: L) (ix2 0 e) : EReal) = G e := by
  refine four (P := fun e => (View.canon (⟨C3, p3⟩ :: ⟨C2, p2⟩ :: ⟨C1, p1⟩ :: ⟨C0, p0⟩ :: L) (ix2 0 e) : EReal) = G e) (fun d => ?_) (fun d => ?_) (fun d => ?_) (fun d => ?_) e
  · rw [← C0_emb d]; exact (at0 (e := .f32) C0 C1 C2 C3 p0 p1 p2 p3 L (by decide) (by decide) (by decide) (ix2 0 d)).trans (h0 d)
  · rw [← C1_emb d]; exact (at1 (e := .f32) C0 C1 C2 C3 p0 p1 p2 p3 L (by decide) (by decide) (ix2 0 d)).trans (h1 d)
  · rw [← C2_emb d]; exact (at2 (e := .f32) C0 C1 C2 C3 p0 p1 p2 p3 L (by decide) (ix2 0 d)).trans (h2 d)
  · rw [← C3_emb d]; exact (at3 (e := .f32) C0 C1 C2 C3 p0 p1 p2 p3 L  (ix2 0 d)).trans (h3 d)

theorem m_stores (p0 p1 p2 p3 : Vec Ideal S1x256x256 .f32) (L : List (View.Piece (Elt Ideal) S4x256x256 .f32)) (G : Fin 4 → Fin 256 → Fin 256 → EReal)
    (h0 : ∀ x y, (p0 (ix3 0 x y) : EReal) = G 0 x y) (h1 : ∀ x y, (p1 (ix3 0 x y) : EReal) = G 1 x y) (h2 : ∀ x y, (p2 (ix3 0 x y) : EReal) = G 2 x y) (h3 : ∀ x y, (p3 (ix3 0 x y) : EReal) = G 3 x y) (a : Fin 4) (x y : Fin 256) :
    (View.canon (⟨M3, p3⟩ :: ⟨M2, p2⟩ :: ⟨M1, p1⟩ :: ⟨M0, p0⟩ :: L) (ix3 a x y) : EReal) = G a x y := by
  match a with
  | 0 => rw [← M0_emb x y]; exact (at0 (e := .f32) M0 M1 M2 M3 p0 p1 p2 p3 L (by decide) (by decide) (by decide) (ix3 0 x y)).trans (h0 x y)
  | 1 => rw [← M1_emb x y]; exact (at1 (e := .f32) M0 M1 M2 M3 p0 p1 p2 p3 L (by decide) (by decide) (ix3 0 x y)).trans (h1 x y)
  | 2 => rw [← M2_emb x y]; exact (at2 (e := .f32) M0 M1 M2 M3 p0 p1 p2 p3 L (by decide) (ix3 0 x y)).trans (h2 x y)
  | 3 => rw [← M3_emb x y]; exact (at3 (e := .f32) M0 M1 M2 M3 p0 p1 p2 p3 L  (ix3 0 x y)).trans (h3 x y)

section
variable (b6 : Vec Ideal S1x1024 .f32) (b5 : Vec Ideal S4x256x256 .bf16) (o9 : Vec Ideal S4x256x256 .f32) (d x y : Fin 256)
theorem ld_C0 : (View.ld b6 C0 (ix2 0 d) : EReal) = b6 (ix2 0 (col 0 d)) := congrArg b6 (C0_emb d)
theorem ld_C1 : (View.ld b6 C1 (ix2 0 d) : EReal) = b6 (ix2 0 (col 1 d)) := congrArg b6 (C1_emb d)
theorem ld_C2 : (View.ld b6 C2 (ix2 0 d) : EReal) = b6 (ix2 0 (col 2 d)) := congrArg b6 (C2_emb d)
theorem ld_C3 : (View.ld b6 C3 (ix2 0 d) : EReal) = b6 (ix2 0 (col 3 d)) := congrArg b6 (C3_emb d)
theorem ld_M0 : (View.ld b5 M0 (ix3 0 x y) : EReal) = b5 (ix3 0 x y) := congrArg b5 (M0_emb x y)
theorem ld_M1 : (View.ld b5 M1 (ix3 0 x y) : EReal) = b5 (ix3 1 x y) := congrArg b5 (M1_emb x y)
theorem ld_M2 : (View.ld b5 M2 (ix3 0 x y) : EReal) = b5 (ix3 2 x y) := congrArg b5 (M2_emb x y)
theorem ld_M3 : (View.ld b5 M3 (ix3 0 x y) : EReal) = b5 (ix3 3 x y) := congrArg b5 (M3_emb x y)
theorem ld_N0 : (View.ld o9 M0 (ix3 0 x y) : EReal) = o9 (ix3 0 x y) := congrArg o9 (M0_emb x y)
theorem ld_N1 : (View.ld o9 M1 (ix3 0 x y) : EReal) = o9 (ix3 1 x y) := congrArg o9 (M1_emb x y)
theorem ld_N2 : (View.ld o9 M2 (ix3 0 x y) : EReal) = o9 (ix3 2 x y) := congrArg o9 (M2_emb x y)
theorem ld_N3 : (View.ld o9 M3 (ix3 0 x y) : EReal) = o9 (ix3 3 x y) := congrArg o9 (M3_emb x y)
end

/-! ## What a point gains -/

variable (m : (ℓ : Loc nD τ sig) → Buf (Elt Ideal) ℓ) (c : Dev nD) (t : Fin cfg0.N)

abbrev word : BitVec 32 := BitVec.ofNat 32 (grid0.coords t 0).val
abbrev P8 : FVec Ideal S656x1024 .f32 := k0_pay8 (grid0.coords t) (iblk m c 0 t) (iblk m c 1 t) (iblk m c 4 t)
abbrev P10 : FVec Ideal S656x1024 .f32 := k0_pay10 (grid0.coords t) (iblk m c 2 t) (iblk m c 3 t)
abbrev P11 : FVec Ideal S656x256 .f32 := k0_pay11 (grid0.coords t) (iblk m c 0 t) (iblk m c 1 t) (iblk m c 4 t)

theorem X_low (k : ℕ) (e : Fin 1024) (h : k < 16) : X m c k e = 0 := rowsOf_low _ k e (by omega)
theorem D_high (k : ℕ) (e : Fin 1024) (h : 8336 ≤ k) : D m c k e = 0 := rowsOf_high _ k e (by omega)

theorem P8_apply (q : Fin 656) (e : Fin 1024) : (P8 m c t (ix2 q e) : EReal) = u (X m c) (γ m c) (640 * t.val + q.val) e :=
  pay8_apply t.val (lt13 t) (grid0.coords t) (coord t) (iblk m c 0 t) (iblk m c 1 t) (iblk m c 4 t) (X m c) (γ m c) (blk0 m c t) (blk1 m c t) (X_low m c) (blk4 m c t) q e
theorem P10_apply (q : Fin 656) (e : Fin 1024) : (P10 m c t (ix2 q e) : EReal) = D m c (640 * t.val + 16 + q.val) e :=
  pay10_apply t.val (lt13 t) (grid0.coords t) (coord t) (iblk m c 2 t) (iblk m c 3 t) (D m c) (blk2 m c t) (blk3 m c t) (D_high m c) q e
theorem P11_apply (q : Fin 656) (d : Fin 256) : (P11 m c t (ix2 q d) : EReal) = u (X m c) (γ m c) (640 * t.val + q.val) (col 0 d) := by
  have h := P8_apply m c t q (col 0 d)
  unfold P11 k0_pay11
  unfold P8 at h
  generalize k0_pay8 (grid0.coords t) (iblk m c 0 t) (iblk m c 1 t) (iblk m c 4 t) = P at h ⊢
  rw [← h, col_zero]
  pointwise

/-- A group's mean less the row. -/
theorem mean0 (r : Fin 640) (x : Fin 256) : (k0_pay12 (word t) (P11 m c t) 1#32 (ix2 r x) : EReal) = pooled (X m c) (γ m c) 0 (640 * t.val + 16 + r.val) x := by
  unfold word
  rw [coord t]
  exact pooled0 t.val (lt13 t) x (fun k => u (X m c) (γ m c) k (col 0 x)) (P11 m c t) (fun q => P11_apply m c t q x) r
theorem mean1 (r : Fin 640) (x : Fin 256) : (k0_pay19 (word t) (k0_pay17 (P8 m c t)) (k0_pay18 (P8 m c t)) (ix2 r x) : EReal)
    = pooled (X m c) (γ m c) 1 (640 * t.val + 16 + r.val) x := by
  unfold word
  rw [coord t]
  exact pooled1 t.val (lt13 t) x (fun k => u (X m c) (γ m c) k (col 1 x)) (P8 m c t) (fun q => P8_apply m c t q (col 1 x)) r
theorem mean2 (r : Fin 640) (x : Fin 256) : (k0_pay24 (word t) (P8 m c t) (ix2 r x) : EReal) = pooled (X m c) (γ m c) 2 (640 * t.val + 16 + r.val) x := by
  unfold word
  rw [coord t]
  exact pooled2 t.val (lt13 t) x (fun k => u (X m c) (γ m c) k (col 2 x)) (P8 m c t) (fun q => P8_apply m c t q (col 2 x)) r
theorem mean3 (r : Fin 640) (x : Fin 256) : (k0_pay33 (word t) (P8 m c t) (ix2 r x) : EReal) = pooled (X m c) (γ m c) 3 (640 * t.val + 16 + r.val) x := by
  unfold word
  rw [coord t]
  exact pooled3 t.val (lt13 t) x (fun k => u (X m c) (γ m c) k (col 3 x)) (P8 m c t) (fun q => P8_apply m c t q (col 3 x)) r

/-- The gradient of a group's product. -/
theorem prod0 (q : Fin 656) (d : Fin 256) : (k0_pay14 (P10 m c t) (View.ld (iblk m c 6 t) C0) (ix2 q d) : EReal) = dyp (D m c) (σ m c) 0 (640 * t.val + 16 + q.val) d := by
  rw [pay14_apply, P10_apply, ld_C0, blk6]; rfl
theorem prod1 (q : Fin 656) (d : Fin 256) : (k0_pay21 (P10 m c t) (View.ld (iblk m c 6 t) C1) (ix2 q d) : EReal) = dyp (D m c) (σ m c) 1 (640 * t.val + 16 + q.val) d := by
  rw [pay21_apply, P10_apply, ld_C1, blk6]; rfl
theorem prod2 (q : Fin 656) (d : Fin 256) : (k0_pay27 (k0_pay26 (P10 m c t)) (View.ld (iblk m c 6 t) C2) (ix2 q d) : EReal)
    = dyp (D m c) (σ m c) 2 (640 * t.val + 16 + q.val) d := by
  rw [pay27_apply, P10_apply, ld_C2, blk6]; rfl
theorem prod3 (q : Fin 656) (d : Fin 256) : (k0_pay36 (P10 m c t) (View.ld (iblk m c 6 t) C3) (ix2 q d) : EReal) = dyp (D m c) (σ m c) 3 (640 * t.val + 16 + q.val) d := by
  rw [pay36_apply, P10_apply, ld_C3, blk6]; rfl

/-- The gradient of a group's mean less the row. -/
theorem back0 (q : Fin 656) (x : Fin 256) : (mmT (k0_pay14 (P10 m c t) (View.ld (iblk m c 6 t) C0)) (View.ld (iblk m c 5 t) M0) (ix2 q x) : EReal)
    = dpo (D m c) (σ m c) (w m c) 0 (640 * t.val + 16 + q.val) x := by
  rw [mmT_apply]
  exact Finset.sum_congr rfl fun d _ => by rw [prod0, ld_M0, blk5]
theorem back1 (q : Fin 656) (x : Fin 256) : (mmT (k0_pay21 (P10 m c t) (View.ld (iblk m c 6 t) C1)) (View.ld (iblk m c 5 t) M1) (ix2 q x) : EReal)
    = dpo (D m c) (σ m c) (w m c) 1 (640 * t.val + 16 + q.val) x := by
  rw [mmT_apply]
  exact Finset.sum_congr rfl fun d _ => by rw [prod1, ld_M1, blk5]
theorem back2 (q : Fin 656) (x : Fin 256) : (mmT (k0_pay27 (k0_pay26 (P10 m c t)) (View.ld (iblk m c 6 t) C2)) (View.ld (iblk m c 5 t) M2) (ix2 q x) : EReal)
    = dpo (D m c) (σ m c) (w m c) 2 (640 * t.val + 16 + q.val) x := by
  rw [mmT_apply]
  exact Finset.sum_congr rfl fun d _ => by rw [prod2, ld_M2, blk5]
theorem back3 (q : Fin 656) (x : Fin 256) : (mmT (k0_pay36 (P10 m c t) (View.ld (iblk m c 6 t) C3)) (View.ld (iblk m c 5 t) M3) (ix2 q x) : EReal)
    = dpo (D m c) (σ m c) (w m c) 3 (640 * t.val + 16 + q.val) x := by
  rw [mmT_apply]
  exact Finset.sum_congr rfl fun d _ => by rw [prod3, ld_M3, blk5]

/-- The gradient of the scaled rows, of each group. -/
theorem rows0 (r : Fin 640) (x : Fin 256) : (k0_pay16 (word t) (k0_pay14 (P10 m c t) (View.ld (iblk m c 6 t) C0)) (View.ld (iblk m c 5 t) M0) (ix2 r x) : EReal)
    = duAll (D m c) (σ m c) (w m c) (640 * t.val + 16 + r.val) (col 0 x) := by
  unfold word
  rw [coord t, pay16_eq, duAll, grp_col, pos_col]
  exact gat0 t.val (lt13 t) x (fun k => dpo (D m c) (σ m c) (w m c) 0 k x) _ (fun q => back0 m c t q x) r
theorem rows1 (r : Fin 640) (x : Fin 256) : (k0_pay23 (word t) (k0_pay21 (P10 m c t) (View.ld (iblk m c 6 t) C1)) (View.ld (iblk m c 5 t) M1) (ix2 r x) : EReal)
    = duAll (D m c) (σ m c) (w m c) (640 * t.val + 16 + r.val) (col 1 x) := by
  unfold word
  rw [coord t, pay23_eq, duAll, grp_col, pos_col]
  exact gat1 t.val (lt13 t) x (fun k => dpo (D m c) (σ m c) (w m c) 1 k x) _ (fun q => back1 m c t q x) r
theorem rows2 (r : Fin 640) (x : Fin 256) :
    (k0_pay32 (k0_pay29 (k0_pay26 (P10 m c t)) (View.ld (iblk m c 6 t) C2) (View.ld (iblk m c 5 t) M2))
        (k0_pay30 (word t) (k0_pay26 (P10 m c t)) (View.ld (iblk m c 6 t) C2) (View.ld (iblk m c 5 t) M2))
        (k0_pay31 (word t) (k0_pay26 (P10 m c t)) (View.ld (iblk m c 6 t) C2) (View.ld (iblk m c 5 t) M2)) (ix2 r x) : EReal)
    = duAll (D m c) (σ m c) (w m c) (640 * t.val + 16 + r.val) (col 2 x) := by
  unfold word
  rw [coord t, pay32_eq, duAll, grp_col, pos_col]
  exact gat2 t.val (lt13 t) x (fun k => dpo (D m c) (σ m c) (w m c) 2 k x) _ (fun q => back2 m c t q x) r
theorem rows3 (r : Fin 640) (x : Fin 256) :
    (k0_pay40 (k0_pay38 (P10 m c t) (View.ld (iblk m c 6 t) C3) (View.ld (iblk m c 5 t) M3)) (k0_pay39 (word t)) (ix2 r x) : EReal)
    = duAll (D m c) (σ m c) (w m c) (640 * t.val + 16 + r.val) (col 3 x) := by
  unfold word
  rw [coord t, pay40_eq, duAll, grp_col, pos_col]
  exact gat3 t.val (lt13 t) x (fun k => dpo (D m c) (σ m c) (w m c) 3 k x) _ (fun q => back3 m c t q x) r

abbrev RW : Rect S640x1024 := Rect.unit ![0, 0] ![640, 1024] inb_S640x1024_S640x1024_0_0

/-- The gradient of the scaled rows as it is stored, four groups side by side. -/
abbrev DU : Vec Ideal S640x1024 .f32 := View.readCov (Val := Elt Ideal) (View.whole cc0_scratch0)
  [⟨R3, k0_pay40 (k0_pay38 (P10 m c t) (View.ld (iblk m c 6 t) C3) (View.ld (iblk m c 5 t) M3)) (k0_pay39 (word t))⟩,
   ⟨R2, k0_pay32 (k0_pay29 (k0_pay26 (P10 m c t)) (View.ld (iblk m c 6 t) C2) (View.ld (iblk m c 5 t) M2))
        (k0_pay30 (word t) (k0_pay26 (P10 m c t)) (View.ld (iblk m c 6 t) C2) (View.ld (iblk m c 5 t) M2))
        (k0_pay31 (word t) (k0_pay26 (P10 m c t)) (View.ld (iblk m c 6 t) C2) (View.ld (iblk m c 5 t) M2))⟩,
   ⟨R1, k0_pay23 (word t) (k0_pay21 (P10 m c t) (View.ld (iblk m c 6 t) C1)) (View.ld (iblk m c 5 t) M1)⟩,
   ⟨R0, k0_pay16 (word t) (k0_pay14 (P10 m c t) (View.ld (iblk m c 6 t) C0)) (View.ld (iblk m c 5 t) M0)⟩]
  RW.toLoadRect

theorem whole_emb (r : Fin 640) (e : Fin 1024) : RW.toLoadRect.idx (ix2 r e) = ix2 r e := by
  funext a; refine Fin.ext ?_; match a with | ⟨0, _⟩ => simp [LoadRect.idx, Rect.toLoadRect, RW, Rect.unit, ix2] | ⟨1, _⟩ => simp [LoadRect.idx, Rect.toLoadRect, RW, Rect.unit, ix2]

theorem DU_apply (r : Fin 640) (e : Fin 1024) : (DU m c t (ix2 r e) : EReal) = duAll (D m c) (σ m c) (w m c) (640 * t.val + 16 + r.val) e := by
  unfold DU
  rw [View.readCov_eq_canon']
  dsimp only
  rw [whole_emb]
  exact r_stores _ _ _ _ [] r _ (rows0 m c t r) (rows1 m c t r) (rows2 m c t r) (rows3 m c t r) e

/-- What a point adds to the gradients of the matrices, of the features' scale and of the norm's scale. -/
def gainW (n : ℕ) (a : Fin 4) (x y : Fin 256) : EReal :=
  ∑ r : Fin 640, pooled (X m c) (γ m c) a (640 * n + 16 + r.val) x * dyp (D m c) (σ m c) a (640 * n + 16 + r.val) y
def gainS (n : ℕ) (e : Fin 1024) : EReal :=
  ∑ r : Fin 640, D m c (640 * n + 16 + r.val) e * y (X m c) (γ m c) (w m c) (grp e) (640 * n + 16 + r.val) (pos e)
def gainG (n : ℕ) (e : Fin 1024) : EReal :=
  ∑ r : Fin 640, duAll (D m c) (σ m c) (w m c) (640 * n + 16 + r.val) e * xh (X m c) (640 * n + 16 + r.val) e

theorem P9_apply (r : Fin 640) (e : Fin 1024) : (k0_pay9 (iblk m c 2 t) (ix2 r e) : EReal) = D m c (640 * t.val + 16 + r.val) e := by
  rw [← blk2 m c t r e]
  unfold k0_pay9
  generalize iblk m c 2 t = b
  change Vec Ideal S640x1024 .f32 at b
  pointwise

section
variable (o : Vec Ideal S1x256 .f32) (d : Fin 256)
theorem scale0 : (k0_pay13 (word t) (k0_pay9 (iblk m c 2 t)) (P11 m c t) 1#32 (View.ld (iblk m c 5 t) M0) o (ix2 0 d) : EReal) = o (ix2 0 d) + gainS m c t.val (col 0 d) := by
  rw [pay13_apply]
  refine congrArg _ (Finset.sum_congr rfl fun r _ => ?_)
  rw [P9_apply, grp_col, pos_col]
  refine congrArg _ (Finset.sum_congr rfl fun x _ => ?_)
  rw [mean0, ld_M0, blk5]
theorem scale1 : (k0_pay20 (word t) (k0_pay9 (iblk m c 2 t)) (k0_pay17 (P8 m c t)) (k0_pay18 (P8 m c t)) (View.ld (iblk m c 5 t) M1) o (ix2 0 d) : EReal)
    = o (ix2 0 d) + gainS m c t.val (col 1 d) := by
  rw [pay20_apply]
  refine congrArg _ (Finset.sum_congr rfl fun r _ => ?_)
  rw [P9_apply, grp_col, pos_col]
  refine congrArg _ (Finset.sum_congr rfl fun x _ => ?_)
  rw [mean1, ld_M1, blk5]
theorem scale2 : (k0_pay25 (word t) (P8 m c t) (k0_pay9 (iblk m c 2 t)) (View.ld (iblk m c 5 t) M2) o (ix2 0 d) : EReal)
    = o (ix2 0 d) + gainS m c t.val (col 2 d) := by
  rw [pay25_apply]
  refine congrArg _ (Finset.sum_congr rfl fun r _ => ?_)
  rw [P9_apply, grp_col, pos_col]
  refine congrArg _ (Finset.sum_congr rfl fun x _ => ?_)
  rw [mean2, ld_M2, blk5]
theorem scale3 : (k0_pay35 (k0_pay9 (iblk m c 2 t)) (k0_pay34 (word t) (P8 m c t) (View.ld (iblk m c 5 t) M3)) o (ix2 0 d) : EReal)
    = o (ix2 0 d) + gainS m c t.val (col 3 d) := by
  rw [pay35_apply]
  refine congrArg _ (Finset.sum_congr rfl fun r _ => ?_)
  rw [P9_apply, grp_col, pos_col]
  refine congrArg _ (Finset.sum_congr rfl fun x _ => ?_)
  rw [mean3, ld_M3, blk5]
end

section
variable (o : Vec Ideal S1x256x256 .f32) (x y : Fin 256)
theorem mats0 : (k0_pay15 (k0_pay12 (word t) (P11 m c t) 1#32) (k0_pay14 (P10 m c t) (View.ld (iblk m c 6 t) C0)) o (ix3 0 x y) : EReal)
    = o (ix3 0 x y) + gainW m c t.val 0 x y := by
  rw [pay15_apply (t := t.val)]
  refine congrArg _ (Finset.sum_congr rfl fun r _ => ?_)
  rw [mean0, prod0]
theorem mats1 : (k0_pay22 (k0_pay19 (word t) (k0_pay17 (P8 m c t)) (k0_pay18 (P8 m c t))) (k0_pay21 (P10 m c t) (View.ld (iblk m c 6 t) C1)) o (ix3 0 x y) : EReal)
    = o (ix3 0 x y) + gainW m c t.val 1 x y := by
  rw [pay22_apply (t := t.val)]
  refine congrArg _ (Finset.sum_congr rfl fun r _ => ?_)
  rw [mean1, prod1]
theorem mats2 : (k0_pay28 (k0_pay24 (word t) (P8 m c t)) (k0_pay26 (P10 m c t)) (View.ld (iblk m c 6 t) C2) o (ix3 0 x y) : EReal)
    = o (ix3 0 x y) + gainW m c t.val 2 x y := by
  rw [pay28_apply (t := t.val)]
  refine congrArg _ (Finset.sum_congr rfl fun r _ => ?_)
  rw [mean2, prod2]
theorem mats3 : (k0_pay37 (P10 m c t) (k0_pay33 (word t) (P8 m c t)) (View.ld (iblk m c 6 t) C3) o (ix3 0 x y) : EReal)
    = o (ix3 0 x y) + gainW m c t.val 3 x y := by
  rw [pay37_apply (t := t.val)]
  refine congrArg _ (Finset.sum_congr rfl fun r _ => ?_)
  rw [mean3, prod3]
end

theorem norm_gain (o : Vec Ideal S1x1024 .f32) (e : Fin 1024) :
    (k0_pay43 (k0_pay7 (grid0.coords t) (iblk m c 0 t) (iblk m c 1 t)) (DU m c t) o (ix2 0 e) : EReal) = o (ix2 0 e) + gainG m c t.val e := by
  refine (pay43_apply t.val (lt13 t) (grid0.coords t) (coord t) (iblk m c 0 t) (iblk m c 1 t) (X m c) (blk0 m c t) (blk1 m c t) (X_low m c) e (DU m c t) o).trans ?_
  refine congrArg _ (Finset.sum_congr rfl fun r _ => ?_)
  rw [DU_apply]

/-- The rows' gradient of a point. -/
theorem rows_apply (r : Fin 640) (e : Fin 1024) :
    (k0_pay1 (k0_pay9 (iblk m c 2 t)) (k0_pay42 (k0_pay6 (grid0.coords t) (iblk m c 0 t) (iblk m c 1 t)))
      (k0_pay44 (k0_pay7 (grid0.coords t) (iblk m c 0 t) (iblk m c 1 t)) (DU m c t) (iblk m c 4 t)) (ix2 r e) : EReal)
      = dx (X m c) (D m c) (γ m c) (σ m c) (w m c) (640 * t.val + 16 + r.val) e := by
  refine (dx_apply t.val (lt13 t) (grid0.coords t) (coord t) (iblk m c 0 t) (iblk m c 2 t) (iblk m c 1 t) (iblk m c 4 t) (X m c) (D m c) (γ m c) (blk0 m c t) (blk1 m c t)
    (X_low m c) (blk2 m c t) (blk4 m c t) r e (DU m c t)).trans ?_
  simp only [DU_apply]
  rfl

/-! ## What the windows hold after a point -/

/-- A block read of what holds zeros only. -/
theorem zero9 {κ : Kind} {sp : Space} (v : View sig κ sp S4x256x256 .f32) (r : Rect S4x256x256) (x : r.shape.Idx) :
    (v.readCov (Val := Elt Ideal) [⟨Rect.unit ![0, 0, 0] ![4, 256, 256] inb_S4x256x256_S4x256x256_0_0_0, k0_pay3 (F := Ideal)⟩] r.toLoadRect x : EReal) = 0 :=
  (congrFun (View.readCov_fill v _ _ [] r (by decide)) x).trans Ideal.ofBits_zero_f32
theorem zero10 {κ : Kind} {sp : Space} (v : View sig κ sp S1x1024 .f32) (r : Rect S1x1024) (x : r.shape.Idx) :
    (v.readCov (Val := Elt Ideal) [⟨Rect.unit ![0, 0] ![1, 1024] inb_S1x1024_S1x1024_0_0, k0_pay4 (F := Ideal)⟩] r.toLoadRect x : EReal) = 0 :=
  (congrFun (View.readCov_fill v _ _ [] r (by decide)) x).trans Ideal.ofBits_zero_f32

theorem out7_A (h0 : t.val % 13 = 0) (r : Fin 640) (e : Fin 1024) : ((outsAt0 m c t.val t.isLt).1 (ix2 r e) : EReal)
    = dx (X m c) (D m c) (γ m c) (σ m c) (w m c) (640 * t.val + 16 + r.val) e := by
  rw [outsAt0_A m c t h0]; dsimp only
  frame_out
  exact rows_apply m c t r e
theorem out7_B (h0 : ¬t.val % 13 = 0) (r : Fin 640) (e : Fin 1024) : ((outsAt0 m c t.val t.isLt).1 (ix2 r e) : EReal)
    = dx (X m c) (D m c) (γ m c) (σ m c) (w m c) (640 * t.val + 16 + r.val) e := by
  rw [outsAt0_B m c t h0]; dsimp only
  frame_out
  exact rows_apply m c t r e

theorem out8_A (h0 : t.val % 13 = 0) (e : Fin 1024) : ((outsAt0 m c t.val t.isLt).2.1 (ix2 0 e) : EReal) = 0 + gainG m c t.val e := by
  rw [outsAt0_A m c t h0]; dsimp only
  frame_out
  exact (norm_gain m c t (k0_pay2 (F := Ideal)) e).trans (congrArg (· + gainG m c t.val e) (Ideal.ofBits_zero_f32))
theorem out8_B (h0 : ¬t.val % 13 = 0) (e : Fin 1024) : ((outsAt0 m c t.val t.isLt).2.1 (ix2 0 e) : EReal)
    = (outsAt0 m c (t.val - 1) (lt_of_le_of_lt (Nat.sub_le _ _) t.isLt)).2.1 (ix2 0 e) + gainG m c t.val e := by
  rw [outsAt0_B m c t h0]; dsimp only
  frame_out
  exact norm_gain m c t _ e

theorem out9_A (h0 : t.val % 13 = 0) (a : Fin 4) (x y : Fin 256) : ((outsAt0 m c t.val t.isLt).2.2.1 (ix3 a x y) : EReal) = 0 + gainW m c t.val a x y := by
  rw [outsAt0_A m c t h0]; dsimp only
  frame_out
  refine m_stores _ _ _ _ _ (fun a x y => 0 + gainW m c t.val a x y) (fun x y => (mats0 m c t _ x y).trans ?_) (fun x y => (mats1 m c t _ x y).trans ?_)
    (fun x y => (mats2 m c t _ x y).trans ?_) (fun x y => (mats3 m c t _ x y).trans ?_) a x y
  · exact congrArg (· + gainW m c t.val 0 x y) (zero9 _ M0 _)
  · rw [View.readCov_skip _ _ _ _ _ (by decide)]; exact congrArg (· + gainW m c t.val 1 x y) (zero9 _ M1 _)
  · rw [View.readCov_skip _ _ _ _ _ (by decide), View.readCov_skip _ _ _ _ _ (by decide)]; exact congrArg (· + gainW m c t.val 2 x y) (zero9 _ M2 _)
  · rw [View.readCov_skip _ _ _ _ _ (by decide), View.readCov_skip _ _ _ _ _ (by decide), View.readCov_skip _ _ _ _ _ (by decide)]
    exact congrArg (· + gainW m c t.val 3 x y) (zero9 _ M3 _)
theorem out9_B (h0 : ¬t.val % 13 = 0) (a : Fin 4) (x y : Fin 256) : ((outsAt0 m c t.val t.isLt).2.2.1 (ix3 a x y) : EReal)
    = (outsAt0 m c (t.val - 1) (lt_of_le_of_lt (Nat.sub_le _ _) t.isLt)).2.2.1 (ix3 a x y) + gainW m c t.val a x y := by
  rw [outsAt0_B m c t h0]; dsimp only
  frame_out
  exact m_stores _ _ _ _ [] (fun a x y => (outsAt0 m c (t.val - 1) (lt_of_le_of_lt (Nat.sub_le _ _) t.isLt)).2.2.1 (ix3 a x y) + gainW m c t.val a x y)
    (fun x y => (mats0 m c t _ x y).trans (congrArg (· + gainW m c t.val 0 x y) (ld_N0 _ x y)))
    (fun x y => (mats1 m c t _ x y).trans (congrArg (· + gainW m c t.val 1 x y) (ld_N1 _ x y)))
    (fun x y => (mats2 m c t _ x y).trans (congrArg (· + gainW m c t.val 2 x y) (ld_N2 _ x y)))
    (fun x y => (mats3 m c t _ x y).trans (congrArg (· + gainW m c t.val 3 x y) (ld_N3 _ x y))) a x y

theorem out10_A (h0 : t.val % 13 = 0) (e : Fin 1024) : ((outsAt0 m c t.val t.isLt).2.2.2 (ix2 0 e) : EReal) = 0 + gainS m c t.val e := by
  rw [outsAt0_A m c t h0]; dsimp only
  frame_out
  refine c_stores _ _ _ _ _ (fun e => 0 + gainS m c t.val e) (fun d => (scale0 m c t _ d).trans ?_) (fun d => (scale1 m c t _ d).trans ?_)
    (fun d => (scale2 m c t _ d).trans ?_) (fun d => (scale3 m c t _ d).trans ?_) e
  · exact congrArg (· + gainS m c t.val (col 0 d)) (zero10 _ C0 _)
  · rw [View.readCov_skip _ _ _ _ _ (by decide)]; exact congrArg (· + gainS m c t.val (col 1 d)) (zero10 _ C1 _)
  · rw [View.readCov_skip _ _ _ _ _ (by decide), View.readCov_skip _ _ _ _ _ (by decide)]; exact congrArg (· + gainS m c t.val (col 2 d)) (zero10 _ C2 _)
  · rw [View.readCov_skip _ _ _ _ _ (by decide), View.readCov_skip _ _ _ _ _ (by decide), View.readCov_skip _ _ _ _ _ (by decide)]
    exact congrArg (· + gainS m c t.val (col 3 d)) (zero10 _ C3 _)
theorem out10_B (h0 : ¬t.val % 13 = 0) (e : Fin 1024) : ((outsAt0 m c t.val t.isLt).2.2.2 (ix2 0 e) : EReal)
    = (outsAt0 m c (t.val - 1) (lt_of_le_of_lt (Nat.sub_le _ _) t.isLt)).2.2.2 (ix2 0 e) + gainS m c t.val e := by
  rw [outsAt0_B m c t h0]; dsimp only
  frame_out
  exact c_stores _ _ _ _ [] (fun e => (outsAt0 m c (t.val - 1) (lt_of_le_of_lt (Nat.sub_le _ _) t.isLt)).2.2.2 (ix2 0 e) + gainS m c t.val e)
    (fun d => (scale0 m c t _ d).trans (congrArg (· + gainS m c t.val (col 0 d)) (ld_C0 _ d)))
    (fun d => (scale1 m c t _ d).trans (congrArg (· + gainS m c t.val (col 1 d)) (ld_C1 _ d)))
    (fun d => (scale2 m c t _ d).trans (congrArg (· + gainS m c t.val (col 2 d)) (ld_C2 _ d)))
    (fun d => (scale3 m c t _ d).trans (congrArg (· + gainS m c t.val (col 3 d)) (ld_C3 _ d))) e

end Cert.PoolIdeal.Points
-- ==== Proof.PoolValue.lean ====
/-
  The four results of the pooling mixer's gradient, as the mathematics of the arguments' rows.
-/
module

public import proofs.«01_k».proof.Proof.PoolPoints
public import Idealize.ShloMosaic.Lib.Claim

@[expose] public section

set_option maxRecDepth 16384

noncomputable section

namespace Cert.PoolIdeal.Tie

open Cert.PoolIdeal Cert.PoolIdeal.Gen Cert.PoolIdeal.Spec Cert.PoolIdeal.Entry Cert.PoolIdeal.Points Idealize.ShloMosaic Idealize.ShloMosaic.TcCoe
  Idealize.SL.Sem Cert.ActivationsIdeal.Real

/-- Thirteen blocks of 640 rows that begin at row 16 hold the 8208 rows of the text, which begin at row 64, and nothing else. -/
theorem blocks (f : ℕ → EReal) (hl : ∀ k, k < 64 → f k = 0) (hh : ∀ k, 8272 ≤ k → f k = 0) :
    ∑ n ∈ Finset.range 13, ∑ r : Fin 640, f (640 * n + 16 + r.val) = ∑ l : Fin 8208, f (64 + l.val) := by
  have e1 : ∀ N, ∑ n ∈ Finset.range N, ∑ r : Fin 640, f (640 * n + 16 + r.val) = ∑ k ∈ Finset.range (640 * N), f (16 + k) := by
    intro N
    induction N with
    | zero => simp
    | succ N ih =>
      rw [Finset.sum_range_succ, ih, Nat.mul_succ, Finset.sum_range_add]
      refine congrArg _ ?_
      rw [Finset.sum_range]
      refine Finset.sum_congr rfl fun r _ => ?_
      congr 1; omega
  rw [e1, show 640 * 13 = 48 + (8208 + 64) from rfl, Finset.sum_range_add, Finset.sum_range_add,
    Finset.sum_eq_zero (s := Finset.range 48) fun k hk => hl _ (by have := Finset.mem_range.mp hk; omega),
    Finset.sum_eq_zero (s := Finset.range 64) fun k hk => hh _ (by omega), zero_add, add_zero, Finset.sum_range]
  refine Finset.sum_congr rfl fun l _ => ?_
  congr 1; omega

variable (m : (ℓ : Loc nD τ sig) → Buf (Elt Ideal) ℓ) (c : Dev nD)

/-! ## The sums over the points -/

theorem sum8 : ∀ (n : ℕ) (hn : n < cfg0.N) (e : Fin 1024), ((outsAt0 m c n hn).2.1 (ix2 0 e) : EReal) = ∑ i ∈ Finset.range (n + 1), gainG m c i e
  | 0, hn, e => by
    refine (out8_A m c ⟨0, hn⟩ rfl e).trans ?_
    rw [Finset.sum_range_one, zero_add]
  | n + 1, hn, e => by
    have h := lt13 ⟨n + 1, hn⟩
    refine (out8_B m c ⟨n + 1, hn⟩ (by simp only at h ⊢; omega) e).trans ?_
    rw [Finset.sum_range_succ]
    exact congrArg (fun x : EReal => x + gainG m c (n + 1) e) (sum8 n (by omega) e)
theorem sum9 : ∀ (n : ℕ) (hn : n < cfg0.N) (a : Fin 4) (x y : Fin 256), ((outsAt0 m c n hn).2.2.1 (ix3 a x y) : EReal) = ∑ i ∈ Finset.range (n + 1), gainW m c i a x y
  | 0, hn, a, x, y => by
    refine (out9_A m c ⟨0, hn⟩ rfl a x y).trans ?_
    rw [Finset.sum_range_one, zero_add]
  | n + 1, hn, a, x, y => by
    have h := lt13 ⟨n + 1, hn⟩
    refine (out9_B m c ⟨n + 1, hn⟩ (by simp only at h ⊢; omega) a x y).trans ?_
    rw [Finset.sum_range_succ]
    exact congrArg (fun z : EReal => z + gainW m c (n + 1) a x y) (sum9 n (by omega) a x y)
theorem sum10 : ∀ (n : ℕ) (hn : n < cfg0.N) (e : Fin 1024), ((outsAt0 m c n hn).2.2.2 (ix2 0 e) : EReal) = ∑ i ∈ Finset.range (n + 1), gainS m c i e
  | 0, hn, e => by
    refine (out10_A m c ⟨0, hn⟩ rfl e).trans ?_
    rw [Finset.sum_range_one, zero_add]
  | n + 1, hn, e => by
    have h := lt13 ⟨n + 1, hn⟩
    refine (out10_B m c ⟨n + 1, hn⟩ (by simp only at h ⊢; omega) e).trans ?_
    rw [Finset.sum_range_succ]
    exact congrArg (fun x : EReal => x + gainS m c (n + 1) e) (sum10 n (by omega) e)

/-! ## The results, over the rows of the text -/

theorem X_out (k : ℕ) (h : k < 64 ∨ 8272 ≤ k) (e : Fin 1024) : X m c k e = 0 := h.elim (rowsOf_low _ k e) (rowsOf_high _ k e)
theorem D_out (k : ℕ) (h : k < 64 ∨ 8272 ≤ k) (e : Fin 1024) : D m c k e = 0 := h.elim (rowsOf_low _ k e) (rowsOf_high _ k e)

/-- The gradient of the norm's scale, of the groups' matrices, of the features' scale and of the rows. -/
def gammaGrad (e : Fin 1024) : EReal := ∑ l : Fin 8208, duAll (D m c) (σ m c) (w m c) (64 + l.val) e * xh (X m c) (64 + l.val) e
def matsGrad (a : Fin 4) (x y : Fin 256) : EReal := ∑ l : Fin 8208, pooled (X m c) (γ m c) a (64 + l.val) x * dyp (D m c) (σ m c) a (64 + l.val) y
def scaleGrad (e : Fin 1024) : EReal := ∑ l : Fin 8208, D m c (64 + l.val) e * y (X m c) (γ m c) (w m c) (grp e) (64 + l.val) (pos e)
def rowsGrad (l : Fin 8208) (e : Fin 1024) : EReal := dx (X m c) (D m c) (γ m c) (σ m c) (w m c) (64 + l.val) e

theorem gamma_sum (e : Fin 1024) : ∑ i ∈ Finset.range 13, gainG m c i e = gammaGrad m c e := by
  have hz : ∀ k, k < 64 ∨ 8272 ≤ k → duAll (D m c) (σ m c) (w m c) k e * xh (X m c) k e = 0 := fun k h => by
    rw [xh, X_out m c k h, zero_mul, mul_zero]
  exact blocks (fun k => duAll (D m c) (σ m c) (w m c) k e * xh (X m c) k e) (fun k h => hz k (Or.inl h)) (fun k h => hz k (Or.inr h))
theorem mats_sum (a : Fin 4) (x y : Fin 256) : ∑ i ∈ Finset.range 13, gainW m c i a x y = matsGrad m c a x y := by
  have hz : ∀ k, k < 64 ∨ 8272 ≤ k → pooled (X m c) (γ m c) a k x * dyp (D m c) (σ m c) a k y = 0 := fun k h => by
    rw [dyp, D_out m c k h, zero_mul, mul_zero]
  exact blocks (fun k => pooled (X m c) (γ m c) a k x * dyp (D m c) (σ m c) a k y) (fun k h => hz k (Or.inl h)) (fun k h => hz k (Or.inr h))
theorem scale_sum (e : Fin 1024) : ∑ i ∈ Finset.range 13, gainS m c i e = scaleGrad m c e := by
  have hz : ∀ k, k < 64 ∨ 8272 ≤ k → D m c k e * y (X m c) (γ m c) (w m c) (grp e) k (pos e) = 0 := fun k h => by
    rw [D_out m c k h, zero_mul]
  exact blocks (fun k => D m c k e * y (X m c) (γ m c) (w m c) (grp e) k (pos e)) (fun k h => hz k (Or.inl h)) (fun k h => hz k (Or.inr h))

/-! ## The arrays at the end -/

theorem out7 (t : Fin cfg0.N) (r : Fin 640) (e : Fin 1024) : ((outsAt0 m c t.val t.isLt).1 (ix2 r e) : EReal)
    = dx (X m c) (D m c) (γ m c) (σ m c) (w m c) (640 * t.val + 16 + r.val) e := by
  by_cases h : t.val % 13 = 0
  · exact out7_A m c t h r e
  · exact out7_B m c t h r e

/-- The rows' gradient with the rows before and after the text. -/
def wide : S8320x1024.Idx → EReal := fun i => dx (X m c) (D m c) (γ m c) (σ m c) (w m c) ((i 0).val + 16) (i 1)

theorem place7 (t : Fin cfg0.N) (r : Fin 640) (e : Fin 1024) : (win0_7.blk t).view.emb (ix2 r e) = ix2 ⟨t.val * 640 + r.val, by have := lt13 t; omega⟩ e := by
  funext a
  refine Fin.ext ?_
  blk_simp [out_idx t]
  match a with
  | ⟨0, _⟩ => rfl
  | ⟨1, _⟩ => show 0 * 1024 + e.val = e.val; omega

theorem rows_end : (dats m 0 c).arrAt 7 cfg0.N = wide m c := by
  refine (dats m 0 c).arrAt_eq_of_covers 7 _ (by decide +kernel) fun t hf y => ?_
  blk_simp
  rw [after0_7]
  change S640x1024.Idx at y
  idx_vars y
  refine ((out7 m c t y0 y1).trans ?_).trans (congrArg (wide m c) (place7 t y0 y1).symm)
  show _ = dx (X m c) (D m c) (γ m c) (σ m c) (w m c) (t.val * 640 + y0.val + 16) y1
  congr 1; omega

theorem gamma_end (i : S1x1024.Idx) : ((dats m 0 c).arrAt 8 cfg0.N i : EReal) = gammaGrad m c (i 1) := by
  refine congrFun ((dats m 0 c).arrAt_eq_of_after_last 8 ⟨12, by have : cfg0.N = 13 := N_0; omega⟩ (by decide +kernel) (fun i => gammaGrad m c (i 1)) fun j => ?_) i
  rw [after0_8]
  change S1x1024.Idx at j
  idx_vars j
  obtain rfl : j0 = 0 := Subsingleton.elim _ _
  exact (sum8 m c 12 _ j1).trans (gamma_sum m c j1)
theorem mats_end (i : S4x256x256.Idx) : ((dats m 0 c).arrAt 9 cfg0.N i : EReal) = matsGrad m c (i 0) (i 1) (i 2) := by
  refine congrFun ((dats m 0 c).arrAt_eq_of_after_last 9 ⟨12, by have : cfg0.N = 13 := N_0; omega⟩ (by decide +kernel) (fun i => matsGrad m c (i 0) (i 1) (i 2)) fun j => ?_) i
  rw [after0_9]
  change S4x256x256.Idx at j
  idx_vars j
  exact (sum9 m c 12 _ j0 j1 j2).trans (mats_sum m c j0 j1 j2)
theorem scale_end (i : S1x1024.Idx) : ((dats m 0 c).arrAt 10 cfg0.N i : EReal) = scaleGrad m c (i 1) := by
  refine congrFun ((dats m 0 c).arrAt_eq_of_after_last 10 ⟨12, by have : cfg0.N = 13 := N_0; omega⟩ (by decide +kernel) (fun i => scaleGrad m c (i 1)) fun j => ?_) i
  rw [after0_10]
  change S1x1024.Idx at j
  idx_vars j
  obtain rfl : j0 = 0 := Subsingleton.elim _ _
  exact (sum10 m c 12 _ j1).trans (scale_sum m c j1)

/-- The slice of the wide result that the program returns. -/
theorem tail_rows (i : S8208x1024.Idx) : (Pipeline.afterTail₀ cfgs (dats m) 0 (V0 m) [hostOps1] c main_v6 i : EReal) = rowsGrad m c (i 0) (i 1) := by
  have h : Pipeline.withArrays (cfgs 0).spec c (V0 m c) (fun w => (dats m 0 c).arrAt w (cfgs 0).N) (Proc.devRef .tc main_v5_0) = wide m c :=
    ((dats m 0 c).withArrays_arrAt launch₀0.sharedIn (V0 m c) (A_eq m c) 7).trans (rows_end m c)
  unfold Pipeline.afterTail₀
  simp only [hostOps1, List.flatten_cons, List.flatten_nil, List.append_nil, List.cons_append, List.nil_append]
  entry_read
  rw [h]
  idx_vars i
  show wide m c _ = _
  unfold wide rowsGrad
  simp [ix2]
  congr 1
  omega

/-- The run, with the results named. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v6) = (fun i : S8208x1024.Idx => rowsGrad m c (i 0) (i 1))
      ∧ r.2.mem ((c.tc : Thread nD τ).loc main_v5_1) = (fun i : S1x1024.Idx => gammaGrad m c (i 1))
      ∧ r.2.mem ((c.tc : Thread nD τ).loc main_v5_2) = (fun i : S4x256x256.Idx => matsGrad m c (i 0) (i 1) (i 2))
      ∧ r.2.mem ((c.tc : Thread nD τ).loc main_v5_3) = (fun i : S1x1024.Idx => scaleGrad m c (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main (F := Ideal) m g) (unchanged (F := Ideal) m g)) fun r h c =>
    ⟨((h.1 c).2 main_v6 (Pipeline.mem_restRefs_of main_v6 (by decide) (by decide))).trans (funext fun i => tail_rows m c i),
      ((h.1 c).1 8).trans (funext fun i => gamma_end m c i), ((h.1 c).1 9).trans (funext fun i => mats_end m c i),
      ((h.1 c).1 10).trans (funext fun i => scale_end m c i), h.2 c⟩

end Cert.PoolIdeal.Tie
-- ==== Proof.PoolWindow.lean ====
/-
  Sums over a window of rows as a host program writes them, and how many rows of the text a window holds.
-/
module

public import proofs.«01_k».proof.Proof.PoolSpec
public import Idealize.ShloMosaic.Lib.Pointwise
public import Idealize.ShloMosaic.Lib.Routing.OpsOne

@[expose] public section

noncomputable section

namespace Cert.PoolIdeal.Window

open Cert.PoolIdeal.Spec Cert.ActivationsIdeal.Real
open Idealize.ShloMosaic Idealize.ShloMosaic.Routing

/-- A fold of additions is the first value and the sum of the others. -/
theorem fold_add {ι : Type} (f : ι → EReal) : ∀ (l : List ι) (v : EReal), l.foldl (fun r n => r + f n) v = v + (l.map f).sum
  | [], v => by simp
  | n :: l, v => by rw [List.foldl_cons, fold_add f l, List.map_cons, List.sum_cons, add_assoc]

/-- The sum over a window of `W` rows and one column that begins `L` rows before a row; the rows outside count as zero. -/
theorem window {N M C W L : ℕ} (x : FVec Ideal (shape2 N C) .f32) (init : FVec Ideal shape0 .f32) (hi : init ix0 = (0 : EReal))
    (h : (shape2 N C).ReduceWindows (![W, 1] : Fin 2 → ℕ) ![1, 1] ![L, 0] ![0, 0] (shape2 M C)) (hu : 0 < shape0.numel) (l : Fin M) (c : Fin C) :
    (Host.reduceWindowAdd ![W, 1] ![1, 1] ![L, 0] ![0, 0] x init h hu (ix2 l c) : EReal)
      = ∑ n ∈ Finset.range W, if q : L ≤ l.val + n ∧ l.val + n - L < N then (x (ix2 ⟨l.val + n - L, q.2⟩ c) : EReal) else 0 := by
  have hv : (init (Shape.Idx.first hu) : EReal) = 0 := (congrArg init (ValueIdx.eq_ix0 _)).trans hi
  have hc := c.isLt
  show Host.reduceWindow (fun a b : EReal => a + b) ![W, 1] ![1, 1] ![L, 0] ![0, 0] x (fun _ : (⟨0, ![]⟩ : Shape).Idx => (init (Shape.Idx.first hu) : EReal)) h hu (ix2 l c) = _
  unfold Host.reduceWindow
  rw [hv]
  refine (fold_add _ _ _).trans ?_
  rw [zero_add, ← Fin.sum_univ_def]
  let G : ℕ → EReal := fun n => if q : L ≤ l.val + n ∧ l.val + n - L < N then (x (ix2 ⟨l.val + n - L, q.2⟩ c) : EReal) else 0
  refine Eq.trans (Finset.sum_congr rfl fun n _ => ?_) ((Fin.sum_univ_eq_sum_range G _).trans (congrArg (fun k => ∑ n ∈ Finset.range k, G n) (numel_col W)))
  have hw0 : ((shape2 W 1).rowMajor.symm n 0).val = n.val := by rw [symm_col]; rfl
  have hw1 : ((shape2 W 1).rowMajor.symm n 1).val = 0 := by rw [symm_col]; rfl
  show _ = if q : L ≤ l.val + n.val ∧ l.val + n.val - L < N then (x (ix2 ⟨l.val + n.val - L, q.2⟩ c) : EReal) else 0
  dsimp only
  split
  · next hin =>
    have h0 := hin 0
    change L ≤ l.val * 1 + ((shape2 W 1).rowMajor.symm n 0).val ∧ l.val * 1 + ((shape2 W 1).rowMajor.symm n 0).val - L < N at h0
    rw [hw0, Nat.mul_one] at h0
    rw [dif_pos h0]
    refine congrArg x (funext fun a => Fin.ext ?_)
    match a with
    | ⟨0, _⟩ =>
      show l.val * 1 + ((shape2 W 1).rowMajor.symm n 0).val - L = l.val + n.val - L
      rw [hw0, Nat.mul_one]
    | ⟨1, _⟩ =>
      show c.val * 1 + ((shape2 W 1).rowMajor.symm n 1).val - 0 = c.val
      rw [hw1]
      omega
  · next hin =>
    rw [dif_neg fun hle => hin fun a => by
      match a with
      | ⟨0, _⟩ =>
        show L ≤ l.val * 1 + ((shape2 W 1).rowMajor.symm n 0).val ∧ l.val * 1 + ((shape2 W 1).rowMajor.symm n 0).val - L < N
        rw [hw0, Nat.mul_one]
        exact hle
      | ⟨1, _⟩ =>
        show 0 ≤ c.val * 1 + ((shape2 W 1).rowMajor.symm n 1).val ∧ c.val * 1 + ((shape2 W 1).rowMajor.symm n 1).val - 0 < C
        rw [hw1]
        omega]

/-- A window that ends at a row sums the rows by doubling, when the rows before the text are zero. -/
theorem window_back {W L : ℕ} (n : ℕ) (hW : W = 2 ^ n) (hL : L + 1 = W) (h64 : W ≤ 64) (x : FVec Ideal (shape2 8208 256) .f32) (c : Fin 256) (V : ℕ → EReal)
    (h0 : ∀ k, k < 64 → V k = 0) (hx : ∀ l : Fin 8208, (x (ix2 l c) : EReal) = V (64 + l.val)) (init : FVec Ideal shape0 .f32) (hi : init ix0 = (0 : EReal))
    (h : (shape2 8208 256).ReduceWindows (![W, 1] : Fin 2 → ℕ) ![1, 1] ![L, 0] ![0, 0] (shape2 8208 256)) (hu : 0 < shape0.numel) (l : Fin 8208) :
    (Host.reduceWindowAdd ![W, 1] ![1, 1] ![L, 0] ![0, 0] x init h hu (ix2 l c) : EReal) = back n V (64 + l.val) := by
  have hl := l.isLt
  rw [window x init hi h hu l c, back_eq V n _ (by omega), ← hW, ← Finset.sum_range_reflect]
  refine Finset.sum_congr rfl fun j hj => ?_
  have hj := Finset.mem_range.mp hj
  by_cases q : L ≤ l.val + (W - 1 - j) ∧ l.val + (W - 1 - j) - L < 8208
  · rw [dif_pos q, hx]
    exact congrArg V (by show 64 + (_ - _) = _; omega)
  · rw [dif_neg q, h0 _ (by omega)]

/-- A window that begins at a row sums the rows by doubling. -/
theorem window_fore {W N : ℕ} (n : ℕ) (hW : W = 2 ^ n) (hN : N + 1 = 8208 + W) (x : FVec Ideal (shape2 N 256) .f32) (c : Fin 256) (V : ℕ → EReal)
    (hx : ∀ r : Fin N, (x (ix2 r c) : EReal) = V (64 + r.val)) (init : FVec Ideal shape0 .f32) (hi : init ix0 = (0 : EReal))
    (h : (shape2 N 256).ReduceWindows (![W, 1] : Fin 2 → ℕ) ![1, 1] ![0, 0] ![0, 0] (shape2 8208 256)) (hu : 0 < shape0.numel) (l : Fin 8208) :
    (Host.reduceWindowAdd ![W, 1] ![1, 1] ![0, 0] ![0, 0] x init h hu (ix2 l c) : EReal) = fore n V (64 + l.val) := by
  have hl := l.isLt
  rw [window x init hi h hu l c, fore_eq V n _, ← hW]
  refine Finset.sum_congr rfl fun j hj => ?_
  have hj := Finset.mem_range.mp hj
  rw [dif_pos ⟨by omega, by omega⟩, hx]
  exact congrArg V (by show 64 + (_ - _) = _; omega)

theorem mod_small (x : ℤ) (h : -1000000 ≤ x) (h' : x ≤ 1000000) : Int.bmod x (2 ^ 32) = x := by
  rw [Int.bmod_def]
  norm_num only
  split_ifs <;> omega

/-- The rows up to row `l` less the rows before its window. -/
theorem count_word (l w : ℕ) (hl : l < 8208) (hw : 1 ≤ w) (hw' : w ≤ 16) :
    (IntOp.subi (IntOp.addi 1#32 (BitVec.ofNat 32 l)) (IntOp.maxsi (IntOp.subi (IntOp.addi 1#32 (BitVec.ofNat 32 l)) (BitVec.ofNat 32 w)) 0#32)).toInt
      = min (w : ℤ) (max 1 (((64 + l : ℕ) : ℤ) - 63)) := by
  have hL : (BitVec.ofNat 32 l).toInt = l := by rw [BitVec.toInt_ofNat', mod_small _ (by omega) (by omega)]
  have hW : (BitVec.ofNat 32 w).toInt = w := by rw [BitVec.toInt_ofNat', mod_small _ (by omega) (by omega)]
  have h1 : (1#32 : BitVec 32).toInt = 1 := rfl
  have h0 : (0#32 : BitVec 32).toInt = 0 := rfl
  have hA : (IntOp.addi 1#32 (BitVec.ofNat 32 l)).toInt = l + 1 := by
    simp only [IntOp.addi]
    rw [BitVec.toInt_add, hL, h1, mod_small _ (by omega) (by omega)]
    omega
  generalize IntOp.addi 1#32 (BitVec.ofNat 32 l) = A at hA ⊢
  have hS : (IntOp.subi A (BitVec.ofNat 32 w)).toInt = l + 1 - w := by
    simp only [IntOp.subi]
    rw [BitVec.toInt_sub, hA, hW, mod_small _ (by omega) (by omega)]
  generalize IntOp.subi A (BitVec.ofNat 32 w) = S at hS ⊢
  have hM : (IntOp.maxsi S 0#32).toInt = max ((l : ℤ) + 1 - w) 0 := by
    unfold IntOp.maxsi
    simp only [BitVec.slt, hS, h0, decide_eq_true_eq]
    split_ifs <;> simp only [hS, h0] at * <;> omega
  simp only [IntOp.subi]
  rw [BitVec.toInt_sub, hA, hM, mod_small _ (by omega) (by omega)]
  push_cast
  omega

/-- The same as a number. -/
theorem count (l w : ℕ) (hl : l < 8208) (hw : 1 ≤ w) (hw' : w ≤ 16) :
    (FloatOps.sitofp (F := Ideal) .f32 (IntOp.subi (IntOp.addi 1#32 (BitVec.ofNat 32 l)) (IntOp.maxsi (IntOp.subi (IntOp.addi 1#32 (BitVec.ofNat 32 l)) (BitVec.ofNat 32 w)) 0#32)) : EReal)
      = cnt w (64 + l) := by
  unfold cnt
  rw [← count_word l w hl hw hw']
  rfl

theorem cnt_pos (w : ℤ) (k : ℕ) (hw : 1 ≤ w) : ∃ r : ℝ, r ≠ 0 ∧ cnt w k = (r : EReal) := by
  refine ⟨_, ?_, rfl⟩
  have : (1 : ℤ) ≤ min w (max 1 ((k : ℤ) - 63)) := by omega
  exact Int.cast_ne_zero.mpr (by omega)

/-- To divide by a count is to multiply by one over it. -/
theorem div_cnt (x : EReal) (w : ℤ) (k : ℕ) (hw : 1 ≤ w) : Ideal.div x (cnt w k) = x * rec w k := by
  obtain ⟨r, hr, e⟩ := cnt_pos w k hw
  have hz : cnt w k ≠ 0 := by rw [e]; exact EReal.coe_ne_zero.mpr hr
  unfold rec Ideal.div
  rw [if_neg hz, if_neg hz, one_mul]

theorem rec_real (w : ℤ) (k : ℕ) (hw : 1 ≤ w) : IsReal (rec w k) := by
  obtain ⟨r, hr, e⟩ := cnt_pos w k hw
  unfold rec
  rw [e]
  exact ⟨_, (div_coe 1 r hr)⟩

end Cert.PoolIdeal.Window
-- ==== Proof.PoolStages.lean ====
/-
  The reference of the pooling mixer's gradient, element by element, in the words of the column of rows.
-/
module

public import proofs.«01_k».proof.Proof.PoolWindow
public import proofs.«01_k».proof.Proof.PoolEntry
public import proofs.«01_k».proof.Proof.Gen.PoolRefIdeal.Read
public import Idealize.ShloMosaic.Lib.Claim

@[expose] public section

set_option maxRecDepth 16384

noncomputable section

namespace Cert.PoolIdeal.Stages

open Cert.PoolRefIdeal Cert.PoolRefIdeal.Read Cert.ActivationsIdeal.Real Cert.PoolIdeal.Spec Cert.PoolIdeal.Window
open Cert.PoolIdeal.Entry (rowsOf rowsOf_low rowsOf_high rowsOf_row)
open Idealize.ShloMosaic Idealize.ShloMosaic.TcCoe

variable (h : FVec Ideal S8208x1024 .f32) (γ : FVec Ideal S1024 .f32) (w : FVec Ideal S4x256x256 .f32) (s : FVec Ideal S1024 .f32)
  (dh : FVec Ideal S8208x1024 .f32)

/-- The arguments as the column of rows, the two scales and the groups' matrices. -/
abbrev X : ℕ → Fin 1024 → EReal := rowsOf h
abbrev D : ℕ → Fin 1024 → EReal := rowsOf dh
abbrev gam (e : Fin 1024) : EReal := γ (ix1 e)
abbrev sc (e : Fin 1024) : EReal := s (ix1 e)
abbrev mat (a : Fin 4) (x y : Fin 256) : EReal := w (ix3 a x y)

theorem row_eq (l : Fin 8208) (e : Fin 1024) : (h (ix2 l e) : EReal) = X h (64 + l.val) e := (rowsOf_row h l e).symm
theorem row_fun (l : Fin 8208) : X h (64 + l.val) = fun e => (h (ix2 l e) : EReal) := funext fun e => rowsOf_row h l e

theorem rstd_apply (l : Fin 8208) (z : Fin 1) : (val_main_v7 (F := Ideal) h (ix2 l z) : EReal) = rstd (X h (64 + l.val)) := by
  rw [row_fun]
  unfold rstd mean
  pointwise [val_main_v7, val_main_v6, val_main_v5, val_main_v4, val_main_v3, val_main_v2, val_main_v1, val_main_v0, val_main_cst, val_main_cst_0, val_main_cst_1]

theorem xh_apply (l : Fin 8208) (e : Fin 1024) : (val_main_v12 (F := Ideal) h (ix2 l e) : EReal) = xh (X h) (64 + l.val) e := by
  unfold xh
  rw [← rstd_apply h l 0, ← row_eq]
  pointwise [val_main_v12, val_main_v11]

theorem u_apply (l : Fin 8208) (e : Fin 1024) : (val_main_v15 (F := Ideal) h γ (ix2 l e) : EReal) = u (X h) (gam γ) (64 + l.val) e := by
  unfold u
  rw [← xh_apply]
  pointwise [val_main_v15, val_main_v14, val_main_v13]

theorem u_low (k : ℕ) (hk : k < 64) (e : Fin 1024) : u (X h) (gam γ) k e = 0 := by
  unfold u xh
  rw [show X h k e = 0 from rowsOf_low h k e hk, zero_mul, zero_mul]

/-! The four groups: their features, the sums over their windows, the windows' counts, the means less the rows. -/

theorem slice0 (l : Fin 8208) (c : Fin 256) : (val_main_v16 (F := Ideal) h γ (ix2 l c) : EReal) = u (X h) (gam γ) (64 + l.val) (col 0 c) := by
  rw [← u_apply]
  pointwise [val_main_v16]
  congr 2
  exact Fin.ext (by simp only [col]; omega)

theorem win0 (l : Fin 8208) (c : Fin 256) :
    (val_main_v18 (F := Ideal) h γ (ix2 l c) : EReal) = back 1 (fun k => u (X h) (gam γ) k (col 0 c)) (64 + l.val) :=
  window_back 1 rfl rfl (by decide) (val_main_v16 (F := Ideal) h γ) c _ (fun k hk => u_low h γ k hk _) (fun l => slice0 h γ l c) _
    (by pointwise [val_main_v17, val_main_cst_3]) _ _ l

theorem count0 (l : Fin 8208) (z : Fin 1) : (val_main_v28 (F := Ideal) (ix2 l z) : EReal) = cnt (2 : ℕ) (64 + l.val) := by
  rw [← count l.val 2 l.isLt (by decide) (by decide)]
  pointwise [val_main_v28, val_main_v27, val_main_v26, val_main_v25, val_main_v24, val_main_v23, val_main_v22, val_main_v21, val_main_v20, val_main_v19, val_main_c, val_main_c_4, val_main_c_5]

theorem pooled0 (l : Fin 8208) (c : Fin 256) : (val_main_v31 (F := Ideal) h γ (ix2 l c) : EReal) = pooled (X h) (gam γ) 0 (64 + l.val) c := by
  show _ = back 1 (fun k => u (X h) (gam γ) k (col 0 c)) (64 + l.val) * rec ((2 : ℕ) : ℤ) (64 + l.val) - u (X h) (gam γ) (64 + l.val) (col 0 c)
  rw [← div_cnt _ _ _ (by decide), ← count0 l 0, ← win0, ← slice0]
  pointwise [val_main_v31, val_main_v30, val_main_v29]

theorem slice1 (l : Fin 8208) (c : Fin 256) : (val_main_v32 (F := Ideal) h γ (ix2 l c) : EReal) = u (X h) (gam γ) (64 + l.val) (col 1 c) := by
  rw [← u_apply]
  pointwise [val_main_v32]
  rfl

theorem win1 (l : Fin 8208) (c : Fin 256) :
    (val_main_v34 (F := Ideal) h γ (ix2 l c) : EReal) = back 2 (fun k => u (X h) (gam γ) k (col 1 c)) (64 + l.val) :=
  window_back 2 rfl rfl (by decide) (val_main_v32 (F := Ideal) h γ) c _ (fun k hk => u_low h γ k hk _) (fun l => slice1 h γ l c) _
    (by pointwise [val_main_v33, val_main_cst_6]) _ _ l

theorem count1 (l : Fin 8208) (z : Fin 1) : (val_main_v44 (F := Ideal) (ix2 l z) : EReal) = cnt (4 : ℕ) (64 + l.val) := by
  rw [← count l.val 4 l.isLt (by decide) (by decide)]
  pointwise [val_main_v44, val_main_v43, val_main_v42, val_main_v41, val_main_v40, val_main_v39, val_main_v38, val_main_v37, val_main_v36, val_main_v35, val_main_c_7, val_main_c_8, val_main_c_9]

theorem pooled1 (l : Fin 8208) (c : Fin 256) : (val_main_v47 (F := Ideal) h γ (ix2 l c) : EReal) = pooled (X h) (gam γ) 1 (64 + l.val) c := by
  show _ = back 2 (fun k => u (X h) (gam γ) k (col 1 c)) (64 + l.val) * rec ((4 : ℕ) : ℤ) (64 + l.val) - u (X h) (gam γ) (64 + l.val) (col 1 c)
  rw [← div_cnt _ _ _ (by decide), ← count1 l 0, ← win1, ← slice1]
  pointwise [val_main_v47, val_main_v46, val_main_v45]

theorem slice2 (l : Fin 8208) (c : Fin 256) : (val_main_v48 (F := Ideal) h γ (ix2 l c) : EReal) = u (X h) (gam γ) (64 + l.val) (col 2 c) := by
  rw [← u_apply]
  pointwise [val_main_v48]
  rfl

theorem win2 (l : Fin 8208) (c : Fin 256) :
    (val_main_v50 (F := Ideal) h γ (ix2 l c) : EReal) = back 3 (fun k => u (X h) (gam γ) k (col 2 c)) (64 + l.val) :=
  window_back 3 rfl rfl (by decide) (val_main_v48 (F := Ideal) h γ) c _ (fun k hk => u_low h γ k hk _) (fun l => slice2 h γ l c) _
    (by pointwise [val_main_v49, val_main_cst_10]) _ _ l

theorem count2 (l : Fin 8208) (z : Fin 1) : (val_main_v60 (F := Ideal) (ix2 l z) : EReal) = cnt (8 : ℕ) (64 + l.val) := by
  rw [← count l.val 8 l.isLt (by decide) (by decide)]
  pointwise [val_main_v60, val_main_v59, val_main_v58, val_main_v57, val_main_v56, val_main_v55, val_main_v54, val_main_v53, val_main_v52, val_main_v51, val_main_c_11, val_main_c_12, val_main_c_13]

theorem pooled2 (l : Fin 8208) (c : Fin 256) : (val_main_v63 (F := Ideal) h γ (ix2 l c) : EReal) = pooled (X h) (gam γ) 2 (64 + l.val) c := by
  show _ = back 3 (fun k => u (X h) (gam γ) k (col 2 c)) (64 + l.val) * rec ((8 : ℕ) : ℤ) (64 + l.val) - u (X h) (gam γ) (64 + l.val) (col 2 c)
  rw [← div_cnt _ _ _ (by decide), ← count2 l 0, ← win2, ← slice2]
  pointwise [val_main_v63, val_main_v62, val_main_v61]

theorem slice3 (l : Fin 8208) (c : Fin 256) : (val_main_v64 (F := Ideal) h γ (ix2 l c) : EReal) = u (X h) (gam γ) (64 + l.val) (col 3 c) := by
  rw [← u_apply]
  pointwise [val_main_v64]
  rfl

theorem win3 (l : Fin 8208) (c : Fin 256) :
    (val_main_v66 (F := Ideal) h γ (ix2 l c) : EReal) = back 4 (fun k => u (X h) (gam γ) k (col 3 c)) (64 + l.val) :=
  window_back 4 rfl rfl (by decide) (val_main_v64 (F := Ideal) h γ) c _ (fun k hk => u_low h γ k hk _) (fun l => slice3 h γ l c) _
    (by pointwise [val_main_v65, val_main_cst_14]) _ _ l

theorem count3 (l : Fin 8208) (z : Fin 1) : (val_main_v76 (F := Ideal) (ix2 l z) : EReal) = cnt (16 : ℕ) (64 + l.val) := by
  rw [← count l.val 16 l.isLt (by decide) (by decide)]
  pointwise [val_main_v76, val_main_v75, val_main_v74, val_main_v73, val_main_v72, val_main_v71, val_main_v70, val_main_v69, val_main_v68, val_main_v67, val_main_c_15, val_main_c_16, val_main_c_17]

theorem pooled3 (l : Fin 8208) (c : Fin 256) : (val_main_v79 (F := Ideal) h γ (ix2 l c) : EReal) = pooled (X h) (gam γ) 3 (64 + l.val) c := by
  show _ = back 4 (fun k => u (X h) (gam γ) k (col 3 c)) (64 + l.val) * rec ((16 : ℕ) : ℤ) (64 + l.val) - u (X h) (gam γ) (64 + l.val) (col 3 c)
  rw [← div_cnt _ _ _ (by decide), ← count3 l 0, ← win3, ← slice3]
  pointwise [val_main_v79, val_main_v78, val_main_v77]

/-- The four groups side by side. -/
theorem pooled_apply (l : Fin 8208) (a : Fin 4) (c : Fin 256) :
    (val_main_v84 (F := Ideal) h γ (ix3 l a c) : EReal) = pooled (X h) (gam γ) a (64 + l.val) c := by
  have e : ∀ a' : Fin 4, a' = a → (val_main_v84 (F := Ideal) h γ (ix3 l a' c) : EReal) = pooled (X h) (gam γ) a' (64 + l.val) c := by
    intro a' _
    match a' with
    | ⟨0, _⟩ => exact Eq.trans (by pointwise [val_main_v84, val_main_v80, val_main_v81, val_main_v82, val_main_v83]) (pooled0 h γ l c)
    | ⟨1, _⟩ => exact Eq.trans (by pointwise [val_main_v84, val_main_v80, val_main_v81, val_main_v82, val_main_v83]) (pooled1 h γ l c)
    | ⟨2, _⟩ => exact Eq.trans (by pointwise [val_main_v84, val_main_v80, val_main_v81, val_main_v82, val_main_v83]) (pooled2 h γ l c)
    | ⟨3, _⟩ => exact Eq.trans (by pointwise [val_main_v84, val_main_v80, val_main_v81, val_main_v82, val_main_v83]) (pooled3 h γ l c)
  exact e a rfl

theorem y_apply (l : Fin 8208) (e : Fin 1024) :
    (val_main_v87 (F := Ideal) h γ w (ix2 l e) : EReal) = y (X h) (gam γ) (mat w) (grp e) (64 + l.val) (pos e) := by
  unfold y
  refine Eq.trans ?_ (Finset.sum_congr (M := EReal) rfl fun c _ => congrArg (fun t : EReal => t * mat w (grp e) c (pos e)) (pooled_apply h γ l (grp e) c))
  pointwise [val_main_v87, val_main_v86, val_main_v85]
  refine Finset.sum_congr (M := EReal) rfl fun c _ => ?_
  exact mul_comm _ _

theorem same (i : S8208x1024.Idx) : (val_main_v92 (F := Ideal) dh i : EReal) = dh i := by
  idx_vars i
  pointwise [val_main_v92]

theorem scaled_apply (l : Fin 8208) (e : Fin 1024) : (val_main_v97 (F := Ideal) s dh (ix2 l e) : EReal) = X dh (64 + l.val) e * sc s e := by
  rw [← row_eq, ← same dh]
  pointwise [val_main_v97, val_main_v96, val_main_v88]

theorem dyp_apply (l : Fin 8208) (a : Fin 4) (d : Fin 256) :
    (val_main_v99 (F := Ideal) s dh (ix3 l a d) : EReal) = dyp (X dh) (sc s) a (64 + l.val) d := by
  unfold dyp
  rw [← scaled_apply]
  pointwise [val_main_v99]
  rfl

theorem dpo_apply (l : Fin 8208) (a : Fin 4) (c : Fin 256) :
    (val_main_v102 (F := Ideal) w s dh (ix3 l a c) : EReal) = dpo (X dh) (sc s) (mat w) a (64 + l.val) c := by
  unfold dpo
  refine Eq.trans ?_ (Finset.sum_congr (M := EReal) rfl fun d _ => congrArg (fun t : EReal => t * mat w a c d) (dyp_apply s dh l a d))
  pointwise [val_main_v102, val_main_v101, val_main_v100]

/-- The gradient of the groups' matrices. -/
theorem mats_apply (a : Fin 4) (x y : Fin 256) : (val_main_v104 (F := Ideal) h γ s dh (ix3 a x y) : EReal)
    = ∑ l : Fin 8208, pooled (X h) (gam γ) a (64 + l.val) x * dyp (X dh) (sc s) a (64 + l.val) y := by
  refine Eq.trans ?_ (Finset.sum_congr (M := EReal) rfl fun l _ => (congrArg₂ (fun t t' : EReal => t' * t) (dyp_apply s dh l a y) (pooled_apply h γ l a x)))
  pointwise [val_main_v104, val_main_v103, val_main_v100]
  refine Finset.sum_congr (M := EReal) rfl fun c _ => ?_
  exact mul_comm _ _

/-- The gradient of the features' scale. -/
theorem scale_apply (z : Fin 1) (e : Fin 1024) : (val_main_v170 (F := Ideal) h γ w dh (ix2 z e) : EReal)
    = ∑ l : Fin 8208, X dh (64 + l.val) e * Spec.y (X h) (gam γ) (mat w) (grp e) (64 + l.val) (pos e) := by
  refine Eq.trans ?_ (Finset.sum_congr (M := EReal) rfl fun l _ => (congrArg₂ (fun t t' : EReal => t * t') ((same dh _).trans (row_eq dh l e)) (y_apply h γ w l e)))
  pointwise [val_main_v170, val_main_v98, val_main_v95, val_main_v94, val_main_v93, val_main_cst_18, val_main_cst_19]
  exact (Fin.sum_univ_one _).trans (Finset.sum_congr (M := EReal) rfl fun _ _ => mul_comm _ _)

/-! The gradient of the scaled rows, group by group. -/

theorem dpo_high (k : ℕ) (hk : 8272 ≤ k) (a : Fin 4) (c : Fin 256) : dpo (X dh) (sc s) (mat w) a k c = 0 := by
  unfold dpo dyp
  exact Finset.sum_eq_zero fun d _ => by rw [show X dh k (col a d) = 0 from rowsOf_high dh k _ hk, zero_mul, zero_mul]

theorem dpo0 (l : Fin 8208) (c : Fin 256) : (val_main_v106 (F := Ideal) w s dh (ix2 l c) : EReal) = dpo (X dh) (sc s) (mat w) 0 (64 + l.val) c := by
  rw [← dpo_apply]
  pointwise [val_main_v106, val_main_v105]

theorem z0 (l : Fin 8208) (c : Fin 256) : (val_main_v141 (F := Ideal) w s dh (ix2 l c) : EReal) = z (X dh) (sc s) (mat w) 0 c (64 + l.val) := by
  show _ = dpo (X dh) (sc s) (mat w) 0 (64 + l.val) c * rec ((2 : ℕ) : ℤ) (64 + l.val)
  rw [← div_cnt _ _ _ (by decide), ← count0 l 0, ← dpo0]
  pointwise [val_main_v141, val_main_v140]

theorem pad0 (r : Fin 8209) (c : Fin 256) : (val_main_v142 (F := Ideal) w s dh (ix2 r c) : EReal) = z (X dh) (sc s) (mat w) 0 c (64 + r.val) := by
  by_cases q : r.val < 8208
  · rw [← z0 w s dh ⟨r.val, q⟩ c]
    pointwise [val_main_v142]
    split
    · rfl
    · rename_i q'
      exact absurd q (by omega)
  · unfold z
    rw [dpo_high w s dh _ (by omega), zero_mul]
    pointwise [val_main_v142, val_main_cst_29]
    exact dif_neg q

theorem fore0 (l : Fin 8208) (c : Fin 256) :
    (val_main_v144 (F := Ideal) w s dh (ix2 l c) : EReal) = fore 1 (z (X dh) (sc s) (mat w) 0 c) (64 + l.val) :=
  window_fore 1 rfl rfl (val_main_v142 (F := Ideal) w s dh) c _ (fun r => pad0 w s dh r c) _ (by pointwise [val_main_v143, val_main_cst_30]) _ _ l

theorem du0 (l : Fin 8208) (c : Fin 256) : (val_main_v145 (F := Ideal) w s dh (ix2 l c) : EReal) = du (X dh) (sc s) (mat w) 0 (64 + l.val) c := by
  show _ = fore 1 (z (X dh) (sc s) (mat w) 0 c) (64 + l.val) - dpo (X dh) (sc s) (mat w) 0 (64 + l.val) c
  rw [← fore0, ← dpo0, sub_eq_add_neg, add_comm]
  pointwise [val_main_v145, val_main_v139]

theorem dpo1 (l : Fin 8208) (c : Fin 256) : (val_main_v108 (F := Ideal) w s dh (ix2 l c) : EReal) = dpo (X dh) (sc s) (mat w) 1 (64 + l.val) c := by
  rw [← dpo_apply]
  pointwise [val_main_v108, val_main_v107]

theorem z1 (l : Fin 8208) (c : Fin 256) : (val_main_v132 (F := Ideal) w s dh (ix2 l c) : EReal) = z (X dh) (sc s) (mat w) 1 c (64 + l.val) := by
  show _ = dpo (X dh) (sc s) (mat w) 1 (64 + l.val) c * rec ((4 : ℕ) : ℤ) (64 + l.val)
  rw [← div_cnt _ _ _ (by decide), ← count1 l 0, ← dpo1]
  pointwise [val_main_v132, val_main_v131]

theorem pad1 (r : Fin 8211) (c : Fin 256) : (val_main_v133 (F := Ideal) w s dh (ix2 r c) : EReal) = z (X dh) (sc s) (mat w) 1 c (64 + r.val) := by
  by_cases q : r.val < 8208
  · rw [← z1 w s dh ⟨r.val, q⟩ c]
    pointwise [val_main_v133]
    split
    · rfl
    · rename_i q'
      exact absurd q (by omega)
  · unfold z
    rw [dpo_high w s dh _ (by omega), zero_mul]
    pointwise [val_main_v133, val_main_cst_26]
    exact dif_neg q

theorem fore1 (l : Fin 8208) (c : Fin 256) :
    (val_main_v135 (F := Ideal) w s dh (ix2 l c) : EReal) = fore 2 (z (X dh) (sc s) (mat w) 1 c) (64 + l.val) :=
  window_fore 2 rfl rfl (val_main_v133 (F := Ideal) w s dh) c _ (fun r => pad1 w s dh r c) _ (by pointwise [val_main_v134, val_main_cst_27]) _ _ l

theorem du1 (l : Fin 8208) (c : Fin 256) : (val_main_v136 (F := Ideal) w s dh (ix2 l c) : EReal) = du (X dh) (sc s) (mat w) 1 (64 + l.val) c := by
  show _ = fore 2 (z (X dh) (sc s) (mat w) 1 c) (64 + l.val) - dpo (X dh) (sc s) (mat w) 1 (64 + l.val) c
  rw [← fore1, ← dpo1, sub_eq_add_neg, add_comm]
  pointwise [val_main_v136, val_main_v130]

theorem dpo2 (l : Fin 8208) (c : Fin 256) : (val_main_v110 (F := Ideal) w s dh (ix2 l c) : EReal) = dpo (X dh) (sc s) (mat w) 2 (64 + l.val) c := by
  rw [← dpo_apply]
  pointwise [val_main_v110, val_main_v109]

theorem z2 (l : Fin 8208) (c : Fin 256) : (val_main_v123 (F := Ideal) w s dh (ix2 l c) : EReal) = z (X dh) (sc s) (mat w) 2 c (64 + l.val) := by
  show _ = dpo (X dh) (sc s) (mat w) 2 (64 + l.val) c * rec ((8 : ℕ) : ℤ) (64 + l.val)
  rw [← div_cnt _ _ _ (by decide), ← count2 l 0, ← dpo2]
  pointwise [val_main_v123, val_main_v122]

theorem pad2 (r : Fin 8215) (c : Fin 256) : (val_main_v124 (F := Ideal) w s dh (ix2 r c) : EReal) = z (X dh) (sc s) (mat w) 2 c (64 + r.val) := by
  by_cases q : r.val < 8208
  · rw [← z2 w s dh ⟨r.val, q⟩ c]
    pointwise [val_main_v124]
    split
    · rfl
    · rename_i q'
      exact absurd q (by omega)
  · unfold z
    rw [dpo_high w s dh _ (by omega), zero_mul]
    pointwise [val_main_v124, val_main_cst_23]
    exact dif_neg q

theorem fore2 (l : Fin 8208) (c : Fin 256) :
    (val_main_v126 (F := Ideal) w s dh (ix2 l c) : EReal) = fore 3 (z (X dh) (sc s) (mat w) 2 c) (64 + l.val) :=
  window_fore 3 rfl rfl (val_main_v124 (F := Ideal) w s dh) c _ (fun r => pad2 w s dh r c) _ (by pointwise [val_main_v125, val_main_cst_24]) _ _ l

theorem du2 (l : Fin 8208) (c : Fin 256) : (val_main_v127 (F := Ideal) w s dh (ix2 l c) : EReal) = du (X dh) (sc s) (mat w) 2 (64 + l.val) c := by
  show _ = fore 3 (z (X dh) (sc s) (mat w) 2 c) (64 + l.val) - dpo (X dh) (sc s) (mat w) 2 (64 + l.val) c
  rw [← fore2, ← dpo2, sub_eq_add_neg, add_comm]
  pointwise [val_main_v127, val_main_v121]

theorem dpo3 (l : Fin 8208) (c : Fin 256) : (val_main_v112 (F := Ideal) w s dh (ix2 l c) : EReal) = dpo (X dh) (sc s) (mat w) 3 (64 + l.val) c := by
  rw [← dpo_apply]
  pointwise [val_main_v112, val_main_v111]

theorem z3 (l : Fin 8208) (c : Fin 256) : (val_main_v115 (F := Ideal) w s dh (ix2 l c) : EReal) = z (X dh) (sc s) (mat w) 3 c (64 + l.val) := by
  show _ = dpo (X dh) (sc s) (mat w) 3 (64 + l.val) c * rec ((16 : ℕ) : ℤ) (64 + l.val)
  rw [← div_cnt _ _ _ (by decide), ← count3 l 0, ← dpo3]
  pointwise [val_main_v115, val_main_v114]

theorem pad3 (r : Fin 8223) (c : Fin 256) : (val_main_v116 (F := Ideal) w s dh (ix2 r c) : EReal) = z (X dh) (sc s) (mat w) 3 c (64 + r.val) := by
  by_cases q : r.val < 8208
  · rw [← z3 w s dh ⟨r.val, q⟩ c]
    pointwise [val_main_v116]
    split
    · rfl
    · rename_i q'
      exact absurd q (by omega)
  · unfold z
    rw [dpo_high w s dh _ (by omega), zero_mul]
    pointwise [val_main_v116, val_main_cst_20]
    exact dif_neg q

theorem fore3 (l : Fin 8208) (c : Fin 256) :
    (val_main_v118 (F := Ideal) w s dh (ix2 l c) : EReal) = fore 4 (z (X dh) (sc s) (mat w) 3 c) (64 + l.val) :=
  window_fore 4 rfl rfl (val_main_v116 (F := Ideal) w s dh) c _ (fun r => pad3 w s dh r c) _ (by pointwise [val_main_v117, val_main_cst_21]) _ _ l

theorem du3 (l : Fin 8208) (c : Fin 256) : (val_main_v119 (F := Ideal) w s dh (ix2 l c) : EReal) = du (X dh) (sc s) (mat w) 3 (64 + l.val) c := by
  show _ = fore 4 (z (X dh) (sc s) (mat w) 3 c) (64 + l.val) - dpo (X dh) (sc s) (mat w) 3 (64 + l.val) c
  rw [← fore3, ← dpo3, sub_eq_add_neg, add_comm]
  pointwise [val_main_v119, val_main_v113]

theorem wide0 (l : Fin 8208) (e : Fin 1024) : (val_main_v146 (F := Ideal) w s dh (ix2 l e) : EReal)
    = if e.val / 256 = 0 then duAll (X dh) (sc s) (mat w) (64 + l.val) e else 0 := by
  by_cases q : e.val / 256 = 0
  · have hg : grp e = 0 := Fin.ext q
    rw [if_pos q]
    unfold duAll
    rw [hg, ← du0]
    pointwise [val_main_v146]
    split
    · rename_i q'
      congr 2
      exact Fin.ext (by simp only [pos]; omega)
    · rename_i q'
      exact absurd q (by omega)
  · rw [if_neg q]
    pointwise [val_main_v146, val_main_cst_31]
    exact dif_neg (by omega)

theorem wide1 (l : Fin 8208) (e : Fin 1024) : (val_main_v137 (F := Ideal) w s dh (ix2 l e) : EReal)
    = if e.val / 256 = 1 then duAll (X dh) (sc s) (mat w) (64 + l.val) e else 0 := by
  by_cases q : e.val / 256 = 1
  · have hg : grp e = 1 := Fin.ext q
    rw [if_pos q]
    unfold duAll
    rw [hg, ← du1]
    pointwise [val_main_v137]
    split
    · rename_i q'
      congr 2
      exact Fin.ext (by simp only [pos]; omega)
    · rename_i q'
      exact absurd q (by omega)
  · rw [if_neg q]
    pointwise [val_main_v137, val_main_cst_28]
    exact dif_neg (by omega)

theorem wide2 (l : Fin 8208) (e : Fin 1024) : (val_main_v128 (F := Ideal) w s dh (ix2 l e) : EReal)
    = if e.val / 256 = 2 then duAll (X dh) (sc s) (mat w) (64 + l.val) e else 0 := by
  by_cases q : e.val / 256 = 2
  · have hg : grp e = 2 := Fin.ext q
    rw [if_pos q]
    unfold duAll
    rw [hg, ← du2]
    pointwise [val_main_v128]
    split
    · rename_i q'
      congr 2
      exact Fin.ext (by simp only [pos]; omega)
    · rename_i q'
      exact absurd q (by omega)
  · rw [if_neg q]
    pointwise [val_main_v128, val_main_cst_25]
    exact dif_neg (by omega)

theorem wide3 (l : Fin 8208) (e : Fin 1024) : (val_main_v120 (F := Ideal) w s dh (ix2 l e) : EReal)
    = if e.val / 256 = 3 then duAll (X dh) (sc s) (mat w) (64 + l.val) e else 0 := by
  by_cases q : e.val / 256 = 3
  · have hg : grp e = 3 := Fin.ext q
    rw [if_pos q]
    unfold duAll
    rw [hg, ← du3]
    pointwise [val_main_v120]
    split
    · rename_i q'
      congr 2
      exact Fin.ext (by simp only [pos]; omega)
    · rename_i q'
      exact absurd q (by omega)
  · rw [if_neg q]
    pointwise [val_main_v120, val_main_cst_22]
    exact dif_neg (by omega)

theorem du_apply (l : Fin 8208) (e : Fin 1024) : (val_main_v147 (F := Ideal) w s dh (ix2 l e) : EReal) = duAll (X dh) (sc s) (mat w) (64 + l.val) e := by
  have E : (val_main_v147 (F := Ideal) w s dh (ix2 l e) : EReal)
      = val_main_v120 (F := Ideal) w s dh (ix2 l e) + val_main_v128 (F := Ideal) w s dh (ix2 l e) + val_main_v137 (F := Ideal) w s dh (ix2 l e)
        + val_main_v146 (F := Ideal) w s dh (ix2 l e) := by
    pointwise [val_main_v147, val_main_v138, val_main_v129]
  rw [E, wide0, wide1, wide2, wide3]
  have q : e.val / 256 = 0 ∨ e.val / 256 = 1 ∨ e.val / 256 = 2 ∨ e.val / 256 = 3 := by omega
  rcases q with q | q | q | q <;> simp [q]

/-- The gradient of the norm's scale. -/
theorem gamma_apply (z : Fin 1) (e : Fin 1024) : (val_main_v169 (F := Ideal) h w s dh (ix2 z e) : EReal)
    = ∑ l : Fin 8208, duAll (X dh) (sc s) (mat w) (64 + l.val) e * xh (X h) (64 + l.val) e := by
  refine Eq.trans ?_ (Finset.sum_congr (M := EReal) rfl fun l _ => (congrArg₂ (fun t t' : EReal => t * t') (du_apply w s dh l e) (xh_apply h l e)))
  pointwise [val_main_v169, val_main_v153, val_main_v150, val_main_v149, val_main_v148, val_main_cst_32, val_main_cst_33]
  exact (Fin.sum_univ_one _).trans (Finset.sum_congr (M := EReal) rfl fun _ _ => mul_comm _ _)

/-! The rows' gradient, which needs real numbers. -/

/-- The gradient of the normalised rows. -/
def dn (k : ℕ) (e : Fin 1024) : EReal := duAll (X dh) (sc s) (mat w) k e * gam γ e

theorem dn_apply (l : Fin 8208) (e : Fin 1024) : (val_main_v152 (F := Ideal) γ w s dh (ix2 l e) : EReal) = dn γ w s dh (64 + l.val) e := by
  unfold dn
  rw [← du_apply]
  pointwise [val_main_v152, val_main_v151, val_main_v13]

/-- What the mean of the squares hands back. -/
def back' (l : Fin 8208) : EReal :=
  Ideal.div ((∑ j, X h (64 + l.val) j * dn γ w s dh (64 + l.val) j) * (Ideal.ofBits .f32 0xBF000000#32 * Ideal.div (rstd (X h (64 + l.val))) (mean (X h (64 + l.val)))))
    (Ideal.ofBits .f32 0x44800000#32)

theorem mean_apply (l : Fin 8208) (z : Fin 1) : (val_main_v6 (F := Ideal) h (ix2 l z) : EReal) = mean (X h (64 + l.val)) := by
  rw [row_fun]
  unfold mean
  pointwise [val_main_v6, val_main_v5, val_main_v4, val_main_v3, val_main_v2, val_main_v1, val_main_v0, val_main_cst, val_main_cst_0, val_main_cst_1]

theorem through_apply (l : Fin 8208) (e : Fin 1024) : (val_main_v164 (F := Ideal) h γ w s dh (ix2 l e) : EReal) = back' h γ w s dh l := by
  unfold back'
  refine Eq.trans ?_ (congrArg (fun t : EReal => Ideal.div (t * _) _) (Finset.sum_congr (M := EReal) rfl fun j _ =>
    congrArg₂ (fun t t' : EReal => t * t') (row_eq h l j) (dn_apply γ w s dh l j)))
  rw [← rstd_apply h l 0, ← mean_apply h l 0]
  pointwise [val_main_v164, val_main_v163, val_main_v162, val_main_v161, val_main_v160, val_main_v156, val_main_v155, val_main_v154, val_main_v10, val_main_v9,
    val_main_v8, val_main_cst_2, val_main_cst_34, val_main_cst_35, val_main_cst_36]
  exact Fin.sum_univ_one _

theorem out_apply (l : Fin 8208) (e : Fin 1024) : (val_main_v168 (F := Ideal) h γ w s dh (ix2 l e) : EReal)
    = ((X dh (64 + l.val) e + dn γ w s dh (64 + l.val) e * rstd (X h (64 + l.val))) + X h (64 + l.val) e * back' h γ w s dh l)
      + back' h γ w s dh l * X h (64 + l.val) e := by
  rw [← dn_apply, ← rstd_apply h l 0, ← through_apply h γ w s dh l e, ← row_eq h, ← row_eq dh]
  pointwise [val_main_v168, val_main_v167, val_main_v166, val_main_v165, val_main_v159, val_main_v158, val_main_v157]

/-! Every row and stage that the rows' gradient reads is real when the arguments are. -/

theorem row_real (hx : ∀ i, IsReal (h i : EReal)) (k : ℕ) (e : Fin 1024) : IsReal (X h k e) := by
  unfold X rowsOf
  split
  · exact hx _
  · exact IsReal.coe 0

theorem fore_real (V : ℕ → EReal) (hV : ∀ k, IsReal (V k)) : ∀ (n k : ℕ), IsReal (fore n V k)
  | 0, k => hV k
  | n + 1, k => (fore_real V hV n k).add (fore_real V hV n _)

variable (hx : ∀ i, IsReal (h i : EReal)) (hg : ∀ i, IsReal (γ i : EReal)) (hw : ∀ i, IsReal (w i : EReal)) (hs : ∀ i, IsReal (s i : EReal))
  (hd : ∀ i, IsReal (dh i : EReal))

include hw hs hd in
theorem dpo_real (a : Fin 4) (k : ℕ) (c : Fin 256) : IsReal (dpo (X dh) (sc s) (mat w) a k c) :=
  IsReal.sum _ fun d => ((row_real dh hd k _).mul (hs _)).mul (hw _)

include hw hs hd in
theorem duAll_real (k : ℕ) (e : Fin 1024) : IsReal (duAll (X dh) (sc s) (mat w) k e) :=
  (fore_real _ (fun k => (dpo_real w s dh hw hs hd _ k _).mul (rec_real _ k (by
    have := Nat.one_le_two_pow (n := (grp e).val + 1)
    exact_mod_cast this))) _ k).sub (dpo_real w s dh hw hs hd _ k _)

include hx hg hw hs hd in
theorem out_eq (l : Fin 8208) (e : Fin 1024) : (val_main_v168 (F := Ideal) h γ w s dh (ix2 l e) : EReal)
    = dx (X h) (X dh) (gam γ) (sc s) (mat w) (64 + l.val) e :=
  (out_apply h γ w s dh l e).trans (norm_back (x := X h (64 + l.val)) (d := dn γ w s dh (64 + l.val)) (r := X dh (64 + l.val) e)
    (row_real h hx _) (fun k => (duAll_real w s dh hw hs hd _ k).mul (hg _)) (row_real dh hd _ e) e).symm

end Cert.PoolIdeal.Stages
-- ==== Proof.PoolClaims.lean ====
/-
  The gradient of the pooling mixer: with arguments that are real numbers the kernel's results are the reference's; and the
  reference's frame.
-/
module

public import proofs.«01_k».proof.Defs
public import proofs.«01_k».proof.Proof.PoolValue
public import proofs.«01_k».proof.Proof.PoolStages
public import proofs.«01_k».proof.Proof.ActivationsClaims
public import proofs.«01_k».proof.Proof.Gen.Pre_pool_finite
public import proofs.«01_k».proof.Proof.Gen.PoolRefIdeal.Run
public import Idealize.ShloMosaic.Lib.Claim
public import Idealize.ShloMosaic.Lib.Quiescent

@[expose] public section

noncomputable section

namespace Cert.Proof.Pool

open Idealize.ShloMosaic Idealize.ShloMosaic.TcCoe Idealize.SL.Sem Cert.ActivationsIdeal.Real Cert.PoolIdeal.Stages

theorem frame_reference : Cert.quiescent_PoolRefIdeal := by
  intro m g _
  refine θ_run_mono (Cert.PoolRefIdeal.Value.run (F := Ideal) m g) fun r h => ⟨fun c => ?_, sem_eq_zero_of_no_sems (by decide) _⟩
  obtain ⟨_, _, _, _, h0, h1, h2, h3, h4⟩ := h c
  exact ⟨h0, h1, h2, h3, h4⟩

theorem frame_reference_finite : Cert.quiescent_PoolRefIdeal_pre_pool_finite := by
  intro m g _
  refine θ_run_mono (Cert.PoolRefIdeal.Value.run (F := Ideal) m g) fun r h => ⟨fun c => ?_, sem_eq_zero_of_no_sems (by decide) _⟩
  obtain ⟨_, _, _, _, h0, h1, h2, h3, h4⟩ := h c
  exact ⟨h0, h1, h2, h3, h4⟩

theorem algebraic : Cert.algebraic_PoolIdeal_PoolRefIdeal_pre_pool_finite := by
  intro m g m' g' hpre hagree
  refine ⟨_, _, _, _, Cert.PoolIdeal.Tie.run m g, ?_⟩
  refine θ_run_mono (Cert.PoolRefIdeal.Value.run (F := Ideal) m' g') fun r h c => ?_
  obtain ⟨r0, r1, r2, r3, hargs⟩ := h c
  obtain ⟨e0, e1, e2, e3, e4⟩ := hagree c
  obtain ⟨p0, p1, p2, p3, p4⟩ := hpre c
  refine ⟨r0.trans ((Cert.PoolRefIdeal.Read.val_main_v168_eq _).trans ?_), r1.trans ((Cert.PoolRefIdeal.Read.val_main_v169_eq _).trans ?_),
    r2.trans ((Cert.PoolRefIdeal.Read.val_main_v104_eq _).trans ?_), r3.trans ((Cert.PoolRefIdeal.Read.val_main_v170_eq _).trans ?_), hargs⟩
  · refine (congr (congr (congr (congr (congrArg (Cert.PoolRefIdeal.Read.val_main_v168 (F := Ideal)) e0) e1) e2) e3) e4).trans (funext fun i => ?_)
    idx_vars i
    exact out_eq _ _ _ _ _ (fun i => Activations.real_of_less (congrFun p0 i)) (fun i => Activations.real_of_less (congrFun p1 i))
      (fun i => Activations.real_of_less (congrFun p2 i)) (fun i => Activations.real_of_less (congrFun p3 i))
      (fun i => Activations.real_of_less (congrFun p4 i)) _ _
  · refine (congr (congr (congr (congrArg (Cert.PoolRefIdeal.Read.val_main_v169 (F := Ideal)) e0) e2) e3) e4).trans (funext fun i => ?_)
    idx_vars i
    exact gamma_apply _ _ _ _ _ _
  · refine (congr (congr (congr (congrArg (Cert.PoolRefIdeal.Read.val_main_v104 (F := Ideal)) e0) e1) e3) e4).trans (funext fun i => ?_)
    idx_vars i
    exact mats_apply _ _ _ _ _ _ _
  · refine (congr (congr (congr (congrArg (Cert.PoolRefIdeal.Read.val_main_v170 (F := Ideal)) e0) e1) e2) e4).trans (funext fun i => ?_)
    idx_vars i
    exact scale_apply _ _ _ _ _ _

end Cert.Proof.Pool
-- ==== Proof.PoolForwardBody.lean ====
/-
  What a point of the pooling mixer's forward call leaves in the window of its result.
-/
module

public import proofs.«01_k».proof.Proof.PoolPoints
public import proofs.«01_k».proof.Proof.Gen.PoolForwardIdeal.Frame

@[expose] public section

set_option maxRecDepth 16384

noncomputable section

namespace Cert.PoolForwardIdeal.Body

open Cert.PoolForwardIdeal Cert.PoolForwardIdeal.Gen Cert.PoolIdeal.Spec Idealize.ShloMosaic Idealize.ShloMosaic.TcCoe Idealize.SL.Sem
  Cert.ActivationsIdeal.Real

/-! A window read whole. -/

theorem whole0 (b : Vec Ideal S640x1024 .f32) : View.ld b r0_0 = b := by
  funext i
  refine congrArg b (funext fun a => Fin.ext ?_)
  match a with
  | ⟨0, _⟩ => simp [Rect.emb, Rect.unit]
  | ⟨1, _⟩ => simp [Rect.emb, Rect.unit]

theorem whole1 (b : Vec Ideal S16x1024 .f32) : View.ld b r0_1 = b := by
  funext i
  refine congrArg b (funext fun a => Fin.ext ?_)
  match a with
  | ⟨0, _⟩ => simp [Rect.emb, Rect.unit]
  | ⟨1, _⟩ => simp [Rect.emb, Rect.unit]

theorem whole2 (b : Vec Ideal S1x1024 .f32) : View.ld b r0_2 = b := by
  funext i
  refine congrArg b (funext fun a => Fin.ext ?_)
  match a with
  | ⟨0, _⟩ => simp [Rect.emb, Rect.unit]
  | ⟨1, _⟩ => simp [Rect.emb, Rect.unit]

section Groups
variable (b : FVec Ideal S640x1024 .f32) (p : FVec Ideal S640x256 .bf16) (w : Vec Ideal S1x256x256 .bf16) (s : Vec Ideal S1x256 .f32) (r : Fin 640) (d : Fin 256)

/-! A group of the block's rows: the rows and the scaled product of the means with the group's matrix. -/

theorem pay9_apply : (k0_pay9 b p w s (ix2 r d) : EReal) = b (ix2 r (col 1 d)) + (∑ c, (p (ix2 r c) : EReal) * w (ix3 0 c d)) * s (ix2 0 d) := by
  unfold k0_pay9; pointwise; rfl
theorem pay11_apply : (k0_pay11 b p w s (ix2 r d) : EReal) = b (ix2 r (col 2 d)) + (∑ c, (p (ix2 r c) : EReal) * w (ix3 0 c d)) * s (ix2 0 d) := by
  unfold k0_pay11; pointwise; rfl
theorem pay1_apply : (k0_pay1 b p (k0_pay13 w) s (ix2 r d) : EReal) = b (ix2 r (col 3 d)) + (∑ c, (p (ix2 r c) : EReal) * w (ix3 0 c d)) * s (ix2 0 d) := by
  unfold k0_pay1 k0_pay13; pointwise; rfl

/-- The first group, whose means are in the same value. -/
theorem pay7_apply (i : grid0.Coords) (b0 : Vec Ideal S640x1024 .f32) (b1 : Vec Ideal S16x1024 .f32) (g : Vec Ideal S1x1024 .f32) :
    (k0_pay7 b (k0_pay4 i b0 b1 g) (k0_pay5 i b0 b1 g) (k0_pay6 (F := Ideal) i) (Scalar.ofBits .f32 0x3F800000#32) w s (ix2 r d) : EReal)
      = b (ix2 r (col 0 d)) + (∑ c, (Cert.PoolIdeal.Gen.k0_pay12 (BitVec.ofNat 32 (i 0).val) (k0_pay4 i b0 b1 g) 1#32 (ix2 r c) : EReal) * w (ix3 0 c d)) * s (ix2 0 d) := by
  have e : k0_pay7 b (k0_pay4 i b0 b1 g) (k0_pay5 i b0 b1 g) (k0_pay6 (F := Ideal) i) (Scalar.ofBits .f32 0x3F800000#32) w s
      = addf (extractStridedSlice S640x256 ![0, 0] b slices_S640x1024_o0_0_S640x256)
          (mulf (matmul dot_S640x256_S256x256_S640x256_1_0_0_1_n_n none (Cert.PoolIdeal.Gen.k0_pay12 (F := Ideal) (BitVec.ofNat 32 (i 0).val) (k0_pay4 i b0 b1 g) 1#32)
              (shapeCast S256x256 w shapeCasts_S1x256x256_S256x256 : FVec Ideal S256x256 .bf16) (constant S640x256 .f32 0x00000000#32))
            (broadcastTo S640x256 (shapeCast S1x256 s shapeCasts_S1x256_S1x256 : FVec Ideal S1x256 .f32) broadcasts_S1x256_S640x256)) := rfl
  rw [e]
  generalize Cert.PoolIdeal.Gen.k0_pay12 (F := Ideal) (BitVec.ofNat 32 (i 0).val) (k0_pay4 i b0 b1 g) 1#32 = P
  rw [Cert.PoolIdeal.Body.col_zero]
  pointwise
end Groups

variable (t : ℕ) (ht : t < 13) (i : grid0.Coords) (hi : (i 0).val = t) (b0 : Vec Ideal S640x1024 .f32) (b1 : Vec Ideal S16x1024 .f32) (b2 : Vec Ideal S1x1024 .f32)
  (b3 : Vec Ideal S4x256x256 .bf16) (b4 : Vec Ideal S1x1024 .f32) (X : ℕ → Fin 1024 → EReal) (g σ : Fin 1024 → EReal) (w : Fin 4 → Fin 256 → Fin 256 → EReal)
  (h0 : ∀ (r : Fin 640) e, (b0 (ix2 r e) : EReal) = X (640 * t + 16 + r.val) e)
  (h1 : 0 < t → ∀ (q : Fin 16) e, (b1 (ix2 q e) : EReal) = X (640 * t + q.val) e) (hX : ∀ k e, k < 16 → X k e = 0)
  (h2 : ∀ e, (b2 (ix2 0 e) : EReal) = g e) (h3 : ∀ a x y, (b3 (ix3 a x y) : EReal) = w a x y) (h4 : ∀ e, (b4 (ix2 0 e) : EReal) = σ e)
  (q : Fin 656) (r : Fin 640) (e : Fin 1024) (d : Fin 256)
include ht hi h0 h1 hX h2

theorem scaled : (k0_pay3 i b0 b1 b2 (ix2 q e) : EReal) = u X g (640 * t + q.val) e :=
  Cert.PoolIdeal.Body.pay8_apply t ht i hi b0 b1 b2 X g h0 h1 hX h2 q e

theorem first : (k0_pay4 i b0 b1 b2 (ix2 q d) : EReal) = u X g (640 * t + q.val) (col 0 d) := by
  have h := scaled t ht i hi b0 b1 b2 X g h0 h1 hX h2 q (col 0 d)
  unfold k0_pay4
  generalize k0_pay3 i b0 b1 b2 = P at h ⊢
  rw [← h, Cert.PoolIdeal.Body.col_zero]
  pointwise

/-- The groups' means less the rows. -/
theorem mean0 : (Cert.PoolIdeal.Gen.k0_pay12 (F := Ideal) (BitVec.ofNat 32 (i 0).val) (k0_pay4 i b0 b1 b2) 1#32 (ix2 r d) : EReal) = pooled X g 0 (640 * t + 16 + r.val) d := by
  rw [hi]
  exact Cert.PoolIdeal.Body.pooled0 t ht d (fun k => u X g k (col 0 d)) (k0_pay4 i b0 b1 b2) (fun q => first t ht i hi b0 b1 b2 X g h0 h1 hX h2 q d) r
theorem mean1 : (k0_pay8 (BitVec.ofNat 32 (i 0).val) (k0_pay3 i b0 b1 b2) (ix2 r d) : EReal) = pooled X g 1 (640 * t + 16 + r.val) d := by
  rw [hi]
  exact Cert.PoolIdeal.Body.pooled1 t ht d (fun k => u X g k (col 1 d)) (k0_pay3 i b0 b1 b2) (fun q => scaled t ht i hi b0 b1 b2 X g h0 h1 hX h2 q (col 1 d)) r
theorem mean2 : (k0_pay10 (BitVec.ofNat 32 (i 0).val) (k0_pay3 i b0 b1 b2) (ix2 r d) : EReal) = pooled X g 2 (640 * t + 16 + r.val) d := by
  rw [hi]
  exact Cert.PoolIdeal.Body.pooled2 t ht d (fun k => u X g k (col 2 d)) (k0_pay3 i b0 b1 b2) (fun q => scaled t ht i hi b0 b1 b2 X g h0 h1 hX h2 q (col 2 d)) r
theorem mean3 : (k0_pay12 (BitVec.ofNat 32 (i 0).val) (k0_pay3 i b0 b1 b2) (ix2 r d) : EReal) = pooled X g 3 (640 * t + 16 + r.val) d := by
  rw [hi]
  exact Cert.PoolIdeal.Body.pooled3 t ht d (fun k => u X g k (col 3 d)) (k0_pay3 i b0 b1 b2) (fun q => scaled t ht i hi b0 b1 b2 X g h0 h1 hX h2 q (col 3 d)) r

include h3 h4

/-- A mixed row of the block. -/
theorem out_apply : (out0_5 i b0 b1 b2 b3 b4 (ix2 r e) : EReal)
    = X (640 * t + 16 + r.val) e + y X g w (grp e) (640 * t + 16 + r.val) (pos e) * σ e := by
  have l0 : View.ld b0 r0_0 = b0 := whole0 b0
  have l1 : View.ld b1 r0_1 = b1 := whole1 b1
  have l2 : View.ld b2 r0_2 = b2 := whole2 b2
  have hb : ∀ (r : Fin 640) e, (k0_pay2 b0 (ix2 r e) : EReal) = X (640 * t + 16 + r.val) e := fun r e => by
    rw [← h0]; unfold k0_pay2; pointwise
  unfold out0_5 k0_pay14 k0_pay15
  rw [l0, l1, l2]
  refine Cert.PoolIdeal.Points.r_stores _ _ _ _ [] r (fun e => X (640 * t + 16 + r.val) e + y X g w (grp e) (640 * t + 16 + r.val) (pos e) * σ e)
    (fun d => ?_) (fun d => ?_) (fun d => ?_) (fun d => ?_) e
  · refine (pay7_apply _ _ _ r d i b0 b1 b2).trans ?_
    rw [hb, Cert.PoolIdeal.Points.ld_C0 b4 d, h4, grp_col, pos_col]
    refine congrArg (fun x : EReal => X (640 * t + 16 + r.val) (col 0 d) + x * σ (col 0 d)) (Finset.sum_congr rfl fun c _ => ?_)
    exact congrArg₂ (fun x y : EReal => x * y) (mean0 t ht i hi b0 b1 b2 X g h0 h1 hX h2 r c) ((Cert.PoolIdeal.Points.ld_M0 b3 c d).trans (h3 _ _ _))
  · refine (pay9_apply _ _ _ _ r d).trans ?_
    rw [hb, Cert.PoolIdeal.Points.ld_C1 b4 d, h4, grp_col, pos_col]
    refine congrArg (fun x : EReal => X (640 * t + 16 + r.val) (col 1 d) + x * σ (col 1 d)) (Finset.sum_congr rfl fun c _ => ?_)
    exact congrArg₂ (fun x y : EReal => x * y) (mean1 t ht i hi b0 b1 b2 X g h0 h1 hX h2 r c) ((Cert.PoolIdeal.Points.ld_M1 b3 c d).trans (h3 _ _ _))
  · refine (pay11_apply _ _ _ _ r d).trans ?_
    rw [hb, Cert.PoolIdeal.Points.ld_C2 b4 d, h4, grp_col, pos_col]
    refine congrArg (fun x : EReal => X (640 * t + 16 + r.val) (col 2 d) + x * σ (col 2 d)) (Finset.sum_congr rfl fun c _ => ?_)
    exact congrArg₂ (fun x y : EReal => x * y) (mean2 t ht i hi b0 b1 b2 X g h0 h1 hX h2 r c) ((Cert.PoolIdeal.Points.ld_M2 b3 c d).trans (h3 _ _ _))
  · refine (pay1_apply _ _ _ _ r d).trans ?_
    rw [hb, Cert.PoolIdeal.Points.ld_C3 b4 d, h4, grp_col, pos_col]
    refine congrArg (fun x : EReal => X (640 * t + 16 + r.val) (col 3 d) + x * σ (col 3 d)) (Finset.sum_congr rfl fun c _ => ?_)
    exact congrArg₂ (fun x y : EReal => x * y) (mean3 t ht i hi b0 b1 b2 X g h0 h1 hX h2 r c) ((Cert.PoolIdeal.Points.ld_M3 b3 c d).trans (h3 _ _ _))

end Cert.PoolForwardIdeal.Body
-- ==== Proof.PoolForwardValue.lean ====
/-
  The result of the pooling mixer's forward call, as the mathematics of the arguments' rows.
-/
module

public import proofs.«01_k».proof.Proof.PoolForwardBody
public import Idealize.ShloMosaic.Lib.Claim

@[expose] public section

set_option maxRecDepth 16384

noncomputable section

namespace Cert.PoolForwardIdeal.Tie

open Cert.PoolForwardIdeal Cert.PoolForwardIdeal.Gen Cert.PoolIdeal.Spec Idealize.ShloMosaic Idealize.ShloMosaic.TcCoe Idealize.SL.Sem
  Cert.ActivationsIdeal.Real
open Cert.PoolIdeal.Entry (rowsOf rowsOf_low rowsOf_high rowsOf_row)

variable (m : (ℓ : Loc nD τ sig) → Buf (Elt Ideal) ℓ) (c : Dev nD)

/-- The contents of the program's arguments: rows, scale of the norm, the groups' matrices and the features' scale. -/
abbrev a0 := m ((c : Thread nD τ).loc main_arg0)
abbrev a1 := m ((c : Thread nD τ).loc main_arg1)
abbrev a2 := m ((c : Thread nD τ).loc main_arg2)
abbrev a3 := m ((c : Thread nD τ).loc main_arg3)

/-- The same, as the mathematics reads them. -/
abbrev X : ℕ → Fin 1024 → EReal := rowsOf (a0 m c)
abbrev γ (e : Fin 1024) : EReal := a1 m c (ix1 e)
abbrev σ (e : Fin 1024) : EReal := a3 m c (ix1 e)
abbrev w (a : Fin 4) (x y : Fin 256) : EReal := a2 m c (ix3 a x y)

/-- The kernel's operands. -/
abbrev hh : S8320x1024.Idx → EReal := V m c main_v0
abbrev gs : S1x1024.Idx → EReal := V m c main_v1
abbrev ws : S4x256x256.Idx → EReal := V m c main_v2
abbrev ss : S1x1024.Idx → EReal := V m c main_v3

theorem hh_apply (r : Fin 8320) (e : Fin 1024) : hh m c (ix2 r e) = X m c (r.val + 16) e := by
  unfold hh
  simp only [V, V0, hostOps0, hostOps0_1, hostOps0_2, List.flatten_cons, List.flatten_nil, List.append_nil, List.cons_append, List.nil_append]
  entry_read
  exact Cert.PoolIdeal.Entry.pad_apply (a0 m c) r e

theorem gs_apply (e : Fin 1024) : gs m c (ix2 0 e) = γ m c e := by
  unfold gs
  simp only [V, V0, hostOps0, hostOps0_1, hostOps0_2, List.flatten_cons, List.flatten_nil, List.append_nil, List.cons_append, List.nil_append]
  entry_read
  pointwise

theorem ss_apply (e : Fin 1024) : ss m c (ix2 0 e) = σ m c e := by
  unfold ss
  simp only [V, V0, hostOps0, hostOps0_1, hostOps0_2, List.flatten_cons, List.flatten_nil, List.append_nil, List.cons_append, List.nil_append]
  entry_read
  pointwise

theorem ws_apply (a : Fin 4) (x y : Fin 256) : ws m c (ix3 a x y) = w m c a x y := by
  unfold ws
  simp only [V, V0, hostOps0, hostOps0_1, hostOps0_2, List.flatten_cons, List.flatten_nil, List.append_nil, List.cons_append, List.nil_append]
  entry_read
  pointwise

theorem idx : ∀ t, (win0_0.index t = ![t.val, 0] ∧ win0_1.index t = ![t.val * 40 - 1, 0] ∧ win0_2.index t = ![0, 0])
    ∧ win0_3.index t = ![0, 0, 0] ∧ win0_4.index t = ![0, 0] ∧ win0_5.index t = ![t.val, 0] :=
  (by decide +kernel : ∀ t : Fin grid0.N, _)

theorem lt13 (t : Fin cfg0.N) : t.val < 13 := lt_of_lt_of_eq t.isLt (show cfg0.N = 13 from N_0)
theorem coord (t : Fin cfg0.N) : (grid0.coords t 0).val = t.val := by
  have h : (grid0.coords t 0).val = t.val / 1 % 13 := Pipeline.Grid.coords_val t 0 (by decide) rfl
  have := lt13 t
  omega

theorem blk0 (t : Fin cfg0.N) (r : Fin 640) (e : Fin 1024) : (iblk m c 0 t (ix2 r e) : EReal) = X m c (640 * t.val + 16 + r.val) e := by
  have := lt13 t
  have h : iblk m c 0 t (ix2 r e) = hh m c (ix2 ⟨t.val * 640 + r.val, by omega⟩ e) := by blk_ext [iblk, idx t]
  refine h.trans ((hh_apply m c _ e).trans ?_)
  congr 1
  simp only; omega
theorem blk1 (t : Fin cfg0.N) (ht : 0 < t.val) (q : Fin 16) (e : Fin 1024) : (iblk m c 1 t (ix2 q e) : EReal) = X m c (640 * t.val + q.val) e := by
  have := lt13 t
  have h : iblk m c 1 t (ix2 q e) = hh m c (ix2 ⟨(t.val * 40 - 1) * 16 + q.val, by omega⟩ e) := by blk_ext [iblk, idx t]
  refine h.trans ((hh_apply m c _ e).trans ?_)
  congr 1
  simp only; omega
theorem blk2 (t : Fin cfg0.N) (e : Fin 1024) : (iblk m c 2 t (ix2 0 e) : EReal) = γ m c e := by
  have h : iblk m c 2 t (ix2 0 e) = gs m c (ix2 0 e) := by blk_ext [iblk, idx t]
  exact h.trans (gs_apply m c e)
theorem blk3 (t : Fin cfg0.N) (a : Fin 4) (x y : Fin 256) : (iblk m c 3 t (ix3 a x y) : EReal) = w m c a x y := by
  have h : iblk m c 3 t (ix3 a x y) = ws m c (ix3 a x y) := by blk_ext [iblk, idx t]
  exact h.trans (ws_apply m c a x y)
theorem blk4 (t : Fin cfg0.N) (e : Fin 1024) : (iblk m c 4 t (ix2 0 e) : EReal) = σ m c e := by
  have h : iblk m c 4 t (ix2 0 e) = ss m c (ix2 0 e) := by blk_ext [iblk, idx t]
  exact h.trans (ss_apply m c e)

/-- A mixed row: the row and the scaled product of its groups' means. -/
def mixed (k : ℕ) (e : Fin 1024) : EReal := X m c k e + y (X m c) (γ m c) (w m c) (grp e) k (pos e) * σ m c e

theorem out5 (t : Fin cfg0.N) (r : Fin 640) (e : Fin 1024) :
    (out0_5 (grid0.coords t) (iblk m c 0 t) (iblk m c 1 t) (iblk m c 2 t) (iblk m c 3 t) (iblk m c 4 t) (ix2 r e) : EReal)
      = mixed m c (640 * t.val + 16 + r.val) e :=
  Body.out_apply t.val (lt13 t) (grid0.coords t) (coord t) (iblk m c 0 t) (iblk m c 1 t) (iblk m c 2 t) (iblk m c 3 t) (iblk m c 4 t)
    (X m c) (γ m c) (σ m c) (w m c) (blk0 m c t) (blk1 m c t) (fun k e h => rowsOf_low _ k e (by omega)) (blk2 m c t) (blk3 m c t) (blk4 m c t) r e

/-- The mixed rows with the rows before and after the text. -/
def wide : S8320x1024.Idx → EReal := fun i => mixed m c ((i 0).val + 16) (i 1)

theorem place5 (t : Fin cfg0.N) (r : Fin 640) (e : Fin 1024) : (win0_5.blk t).view.emb (ix2 r e) = ix2 ⟨t.val * 640 + r.val, by have := lt13 t; omega⟩ e := by
  funext a
  refine Fin.ext ?_
  blk_simp [idx t]
  match a with
  | ⟨0, _⟩ => rfl
  | ⟨1, _⟩ => show 0 * 1024 + e.val = e.val; omega

theorem rows_end : (dats m 0 c).arrAt 5 cfg0.N = wide m c := by
  refine (dats m 0 c).arrAt_eq_of_covers 5 _ (by decide +kernel) fun t hf y => ?_
  blk_simp
  rw [after0_5]
  change S640x1024.Idx at y
  idx_vars y
  refine ((out5 m c t y0 y1).trans ?_).trans (congrArg (wide m c) (place5 t y0 y1).symm)
  show _ = mixed m c (t.val * 640 + y0.val + 16) y1
  congr 1; omega

/-- The slice of the wide result that the program returns. -/
theorem tail_rows (i : S8208x1024.Idx) : (Pipeline.afterTail₀ cfgs (dats m) 0 (V0 m) [hostOps1] c main_v5 i : EReal) = mixed m c (64 + (i 0).val) (i 1) := by
  have h : Pipeline.withArrays (cfgs 0).spec c (V0 m c) (fun w => (dats m 0 c).arrAt w (cfgs 0).N) (Proc.devRef .tc main_v4) = wide m c :=
    ((dats m 0 c).withArrays_arrAt launch₀0.sharedIn (V0 m c) (A_eq m c) 5).trans (rows_end m c)
  unfold Pipeline.afterTail₀
  simp only [hostOps1, List.flatten_cons, List.flatten_nil, List.append_nil, List.cons_append, List.nil_append]
  entry_read
  rw [h]
  idx_vars i
  show wide m c _ = _
  unfold wide
  simp [ix2]
  congr 1
  omega

/-- The run, with the result named. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v5) = (fun i : S8208x1024.Idx => mixed m c (64 + (i 0).val) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (run_main (F := Ideal) m g) (unchanged (F := Ideal) m g)) fun r h c =>
    ⟨((h.1 c).2 main_v5 (Pipeline.mem_restRefs_of main_v5 (by decide) (by decide))).trans (funext fun i => tail_rows m c i), h.2 c⟩

end Cert.PoolForwardIdeal.Tie
-- ==== Proof.PoolForwardStages.lean ====
/-
  The reference of the pooling mixer, element by element, in the words of the column of rows.
-/
module

public import proofs.«01_k».proof.Proof.PoolWindow
public import proofs.«01_k».proof.Proof.PoolEntry
public import proofs.«01_k».proof.Proof.Gen.PoolForwardRefIdeal.Read
public import Idealize.ShloMosaic.Lib.Claim

@[expose] public section

set_option maxRecDepth 16384

noncomputable section

namespace Cert.PoolForwardIdeal.Stages

open Cert.PoolForwardRefIdeal Cert.PoolForwardRefIdeal.Read Cert.ActivationsIdeal.Real Cert.PoolIdeal.Spec Cert.PoolIdeal.Window
open Cert.PoolIdeal.Entry (rowsOf rowsOf_low rowsOf_high rowsOf_row)
open Idealize.ShloMosaic Idealize.ShloMosaic.TcCoe

variable (h : FVec Ideal S8208x1024 .f32) (γ : FVec Ideal S1024 .f32) (w : FVec Ideal S4x256x256 .f32) (s : FVec Ideal S1024 .f32)

/-- The arguments as the column of rows, the two scales and the groups' matrices. -/
abbrev X : ℕ → Fin 1024 → EReal := rowsOf h
abbrev gam (e : Fin 1024) : EReal := γ (ix1 e)
abbrev sc (e : Fin 1024) : EReal := s (ix1 e)
abbrev mat (a : Fin 4) (x y : Fin 256) : EReal := w (ix3 a x y)

theorem row_eq (l : Fin 8208) (e : Fin 1024) : (h (ix2 l e) : EReal) = X h (64 + l.val) e := (rowsOf_row h l e).symm
theorem row_fun (l : Fin 8208) : X h (64 + l.val) = fun e => (h (ix2 l e) : EReal) := funext fun e => rowsOf_row h l e

theorem rstd_apply (l : Fin 8208) (z : Fin 1) : (val_main_v7 (F := Ideal) h (ix2 l z) : EReal) = rstd (X h (64 + l.val)) := by
  rw [row_fun]
  unfold rstd mean
  pointwise [val_main_v7, val_main_v6, val_main_v5, val_main_v4, val_main_v3, val_main_v2, val_main_v1, val_main_v0, val_main_cst, val_main_cst_0, val_main_cst_1]

theorem xh_apply (l : Fin 8208) (e : Fin 1024) : (val_main_v9 (F := Ideal) h (ix2 l e) : EReal) = xh (X h) (64 + l.val) e := by
  unfold xh
  rw [← rstd_apply h l 0, ← row_eq]
  pointwise [val_main_v9, val_main_v8]

theorem u_apply (l : Fin 8208) (e : Fin 1024) : (val_main_v12 (F := Ideal) h γ (ix2 l e) : EReal) = u (X h) (gam γ) (64 + l.val) e := by
  unfold u
  rw [← xh_apply]
  pointwise [val_main_v12, val_main_v11, val_main_v10]

theorem u_low (k : ℕ) (hk : k < 64) (e : Fin 1024) : u (X h) (gam γ) k e = 0 := by
  unfold u xh
  rw [show X h k e = 0 from rowsOf_low h k e hk, zero_mul, zero_mul]

/-! The four groups: their features, the sums over their windows, the windows' counts, the means less the rows. -/

theorem slice0 (l : Fin 8208) (c : Fin 256) : (val_main_v13 (F := Ideal) h γ (ix2 l c) : EReal) = u (X h) (gam γ) (64 + l.val) (col 0 c) := by
  rw [← u_apply]
  pointwise [val_main_v13]
  congr 2
  exact Fin.ext (by simp only [col]; omega)

theorem win0 (l : Fin 8208) (c : Fin 256) :
    (val_main_v15 (F := Ideal) h γ (ix2 l c) : EReal) = back 1 (fun k => u (X h) (gam γ) k (col 0 c)) (64 + l.val) :=
  window_back 1 rfl rfl (by decide) (val_main_v13 (F := Ideal) h γ) c _ (fun k hk => u_low h γ k hk _) (fun l => slice0 h γ l c) _
    (by pointwise [val_main_v14, val_main_cst_2]) _ _ l

theorem count0 (l : Fin 8208) (z : Fin 1) : (val_main_v25 (F := Ideal) (ix2 l z) : EReal) = cnt (2 : ℕ) (64 + l.val) := by
  rw [← count l.val 2 l.isLt (by decide) (by decide)]
  pointwise [val_main_v25, val_main_v24, val_main_v23, val_main_v22, val_main_v21, val_main_v20, val_main_v19, val_main_v18, val_main_v17, val_main_v16, val_main_c, val_main_c_3, val_main_c_4]

theorem pooled0 (l : Fin 8208) (c : Fin 256) : (val_main_v28 (F := Ideal) h γ (ix2 l c) : EReal) = pooled (X h) (gam γ) 0 (64 + l.val) c := by
  show _ = back 1 (fun k => u (X h) (gam γ) k (col 0 c)) (64 + l.val) * rec ((2 : ℕ) : ℤ) (64 + l.val) - u (X h) (gam γ) (64 + l.val) (col 0 c)
  rw [← div_cnt _ _ _ (by decide), ← count0 l 0, ← win0, ← slice0]
  pointwise [val_main_v28, val_main_v27, val_main_v26]

theorem slice1 (l : Fin 8208) (c : Fin 256) : (val_main_v29 (F := Ideal) h γ (ix2 l c) : EReal) = u (X h) (gam γ) (64 + l.val) (col 1 c) := by
  rw [← u_apply]
  pointwise [val_main_v29]
  rfl

theorem win1 (l : Fin 8208) (c : Fin 256) :
    (val_main_v31 (F := Ideal) h γ (ix2 l c) : EReal) = back 2 (fun k => u (X h) (gam γ) k (col 1 c)) (64 + l.val) :=
  window_back 2 rfl rfl (by decide) (val_main_v29 (F := Ideal) h γ) c _ (fun k hk => u_low h γ k hk _) (fun l => slice1 h γ l c) _
    (by pointwise [val_main_v30, val_main_cst_5]) _ _ l

theorem count1 (l : Fin 8208) (z : Fin 1) : (val_main_v41 (F := Ideal) (ix2 l z) : EReal) = cnt (4 : ℕ) (64 + l.val) := by
  rw [← count l.val 4 l.isLt (by decide) (by decide)]
  pointwise [val_main_v41, val_main_v40, val_main_v39, val_main_v38, val_main_v37, val_main_v36, val_main_v35, val_main_v34, val_main_v33, val_main_v32, val_main_c_6, val_main_c_7, val_main_c_8]

theorem pooled1 (l : Fin 8208) (c : Fin 256) : (val_main_v44 (F := Ideal) h γ (ix2 l c) : EReal) = pooled (X h) (gam γ) 1 (64 + l.val) c := by
  show _ = back 2 (fun k => u (X h) (gam γ) k (col 1 c)) (64 + l.val) * rec ((4 : ℕ) : ℤ) (64 + l.val) - u (X h) (gam γ) (64 + l.val) (col 1 c)
  rw [← div_cnt _ _ _ (by decide), ← count1 l 0, ← win1, ← slice1]
  pointwise [val_main_v44, val_main_v43, val_main_v42]

theorem slice2 (l : Fin 8208) (c : Fin 256) : (val_main_v45 (F := Ideal) h γ (ix2 l c) : EReal) = u (X h) (gam γ) (64 + l.val) (col 2 c) := by
  rw [← u_apply]
  pointwise [val_main_v45]
  rfl

theorem win2 (l : Fin 8208) (c : Fin 256) :
    (val_main_v47 (F := Ideal) h γ (ix2 l c) : EReal) = back 3 (fun k => u (X h) (gam γ) k (col 2 c)) (64 + l.val) :=
  window_back 3 rfl rfl (by decide) (val_main_v45 (F := Ideal) h γ) c _ (fun k hk => u_low h γ k hk _) (fun l => slice2 h γ l c) _
    (by pointwise [val_main_v46, val_main_cst_9]) _ _ l

theorem count2 (l : Fin 8208) (z : Fin 1) : (val_main_v57 (F := Ideal) (ix2 l z) : EReal) = cnt (8 : ℕ) (64 + l.val) := by
  rw [← count l.val 8 l.isLt (by decide) (by decide)]
  pointwise [val_main_v57, val_main_v56, val_main_v55, val_main_v54, val_main_v53, val_main_v52, val_main_v51, val_main_v50, val_main_v49, val_main_v48, val_main_c_10, val_main_c_11, val_main_c_12]

theorem pooled2 (l : Fin 8208) (c : Fin 256) : (val_main_v60 (F := Ideal) h γ (ix2 l c) : EReal) = pooled (X h) (gam γ) 2 (64 + l.val) c := by
  show _ = back 3 (fun k => u (X h) (gam γ) k (col 2 c)) (64 + l.val) * rec ((8 : ℕ) : ℤ) (64 + l.val) - u (X h) (gam γ) (64 + l.val) (col 2 c)
  rw [← div_cnt _ _ _ (by decide), ← count2 l 0, ← win2, ← slice2]
  pointwise [val_main_v60, val_main_v59, val_main_v58]

theorem slice3 (l : Fin 8208) (c : Fin 256) : (val_main_v61 (F := Ideal) h γ (ix2 l c) : EReal) = u (X h) (gam γ) (64 + l.val) (col 3 c) := by
  rw [← u_apply]
  pointwise [val_main_v61]
  rfl

theorem win3 (l : Fin 8208) (c : Fin 256) :
    (val_main_v63 (F := Ideal) h γ (ix2 l c) : EReal) = back 4 (fun k => u (X h) (gam γ) k (col 3 c)) (64 + l.val) :=
  window_back 4 rfl rfl (by decide) (val_main_v61 (F := Ideal) h γ) c _ (fun k hk => u_low h γ k hk _) (fun l => slice3 h γ l c) _
    (by pointwise [val_main_v62, val_main_cst_13]) _ _ l

theorem count3 (l : Fin 8208) (z : Fin 1) : (val_main_v73 (F := Ideal) (ix2 l z) : EReal) = cnt (16 : ℕ) (64 + l.val) := by
  rw [← count l.val 16 l.isLt (by decide) (by decide)]
  pointwise [val_main_v73, val_main_v72, val_main_v71, val_main_v70, val_main_v69, val_main_v68, val_main_v67, val_main_v66, val_main_v65, val_main_v64, val_main_c_14, val_main_c_15, val_main_c_16]

theorem pooled3 (l : Fin 8208) (c : Fin 256) : (val_main_v76 (F := Ideal) h γ (ix2 l c) : EReal) = pooled (X h) (gam γ) 3 (64 + l.val) c := by
  show _ = back 4 (fun k => u (X h) (gam γ) k (col 3 c)) (64 + l.val) * rec ((16 : ℕ) : ℤ) (64 + l.val) - u (X h) (gam γ) (64 + l.val) (col 3 c)
  rw [← div_cnt _ _ _ (by decide), ← count3 l 0, ← win3, ← slice3]
  pointwise [val_main_v76, val_main_v75, val_main_v74]

/-- The four groups side by side. -/
theorem pooled_apply (l : Fin 8208) (a : Fin 4) (c : Fin 256) :
    (val_main_v81 (F := Ideal) h γ (ix3 l a c) : EReal) = pooled (X h) (gam γ) a (64 + l.val) c := by
  match a with
  | ⟨0, _⟩ => exact Eq.trans (by pointwise [val_main_v81, val_main_v77, val_main_v78, val_main_v79, val_main_v80]) (pooled0 h γ l c)
  | ⟨1, _⟩ => exact Eq.trans (by pointwise [val_main_v81, val_main_v77, val_main_v78, val_main_v79, val_main_v80]) (pooled1 h γ l c)
  | ⟨2, _⟩ => exact Eq.trans (by pointwise [val_main_v81, val_main_v77, val_main_v78, val_main_v79, val_main_v80]) (pooled2 h γ l c)
  | ⟨3, _⟩ => exact Eq.trans (by pointwise [val_main_v81, val_main_v77, val_main_v78, val_main_v79, val_main_v80]) (pooled3 h γ l c)

theorem y_apply (l : Fin 8208) (e : Fin 1024) :
    (val_main_v84 (F := Ideal) h γ w (ix2 l e) : EReal) = y (X h) (gam γ) (mat w) (grp e) (64 + l.val) (pos e) := by
  unfold y
  refine Eq.trans ?_ (Finset.sum_congr (M := EReal) rfl fun c _ => congrArg (fun t : EReal => t * mat w (grp e) c (pos e)) (pooled_apply h γ l (grp e) c))
  pointwise [val_main_v84, val_main_v83, val_main_v82]
  refine Finset.sum_congr (M := EReal) rfl fun c _ => ?_
  exact mul_comm _ _

/-- The mixed rows. -/
theorem out_apply (l : Fin 8208) (e : Fin 1024) : (val_main_v88 (F := Ideal) h γ w s (ix2 l e) : EReal)
    = X h (64 + l.val) e + y (X h) (gam γ) (mat w) (grp e) (64 + l.val) (pos e) * sc s e := by
  rw [← y_apply, ← row_eq]
  pointwise [val_main_v88, val_main_v87, val_main_v86, val_main_v85]

end Cert.PoolForwardIdeal.Stages
-- ==== Proof.PoolForwardClaims.lean ====
/-
  The pooling mixer's forward call: the kernel's result is the reference's; and the reference's frame.
-/
module

public import proofs.«01_k».proof.Defs
public import proofs.«01_k».proof.Proof.PoolForwardValue
public import proofs.«01_k».proof.Proof.PoolForwardStages
public import proofs.«01_k».proof.Proof.Gen.PoolForwardRefIdeal.Run
public import Idealize.ShloMosaic.Lib.Claim
public import Idealize.ShloMosaic.Lib.Quiescent

@[expose] public section

noncomputable section

namespace Cert.Proof.PoolForward

open Idealize.ShloMosaic Idealize.ShloMosaic.TcCoe Idealize.SL.Sem Cert.PoolForwardIdeal.Stages

theorem frame_reference : Cert.quiescent_PoolForwardRefIdeal := by
  intro m g _
  refine θ_run_mono (Cert.PoolForwardRefIdeal.Value.run (F := Ideal) m g) fun r h => ⟨fun c => ?_, sem_eq_zero_of_no_sems (by decide) _⟩
  obtain ⟨_, h0, h1, h2, h3⟩ := h c
  exact ⟨h0, h1, h2, h3⟩

theorem algebraic : Cert.algebraic_PoolForwardIdeal_PoolForwardRefIdeal := by
  intro m g m' g' _ hagree
  refine ⟨_, Cert.PoolForwardIdeal.Tie.run m g, ?_⟩
  refine θ_run_mono (Cert.PoolForwardRefIdeal.Value.run (F := Ideal) m' g') fun r h c => ?_
  obtain ⟨r0, hargs⟩ := h c
  obtain ⟨e0, e1, e2, e3⟩ := hagree c
  refine ⟨r0.trans ((Cert.PoolForwardRefIdeal.Read.val_main_v88_eq _ _).trans ?_), hargs⟩
  refine (congr (congr (congr (congrArg (Cert.PoolForwardRefIdeal.Read.val_main_v88 (F := Ideal)) e0) e1) e2) e3).trans (funext fun i => ?_)
  idx_vars i
  exact out_apply _ _ _ _ _ _

end Cert.Proof.PoolForward
-- ==== Proof.QueryValue.lean ====
/-
  The latent queries: each block of 640 rows of the result is the product of the same rows with the whole matrix.
-/
module

public import proofs.«01_k».proof.Proof.Gen.QueryIdeal.Value
public import proofs.«01_k».proof.Proof.Gen.QueryRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.QueryIdeal.Tie

open Cert.QueryIdeal Cert.QueryIdeal.Gen Cert.QueryIdeal.Value Idealize.ShloMosaic Idealize.ShloMosaic.TcCoe Idealize.SL.Sem
open Cert.QueryRefIdeal.Read

variable (m : (ℓ : Loc nD τ sig) → Buf (Elt Ideal) ℓ) (c : Dev nD)

/-- The contents of the program's arguments: the rows and the matrix. -/
abbrev a0 : S8320x1024.Idx → EReal := m ((c : Thread nD τ).loc main_arg0)
abbrev a1 : S1024x384.Idx → EReal := m ((c : Thread nD τ).loc main_arg1)

/-- The kernel's operands: the arguments with a leading axis of one. -/
abbrev us : S1x8320x1024.Idx → EReal := V m c main_v1
abbrev ws : S1x1024x384.Idx → EReal := V m c main_v3

theorem us_apply (r : Fin 8320) (k : Fin 1024) : us m c (ix3 0 r k) = a0 m c (ix2 r k) := by
  unfold us
  entry_read
  pointwise

theorem ws_apply (k : Fin 1024) (j : Fin 384) : ws m c (ix3 0 k j) = a1 m c (ix2 k j) := by
  unfold ws
  entry_read
  pointwise

theorem idx : ∀ t, win0_0.index t = ![0, t.val, 0] ∧ win0_1.index t = ![0, 0, 0] ∧ win0_2.index t = ![t.val, 0] :=
  (by decide +kernel : ∀ t : Fin grid0.N, _)

theorem lt13 (t : Fin cfg0.N) : t.val < 13 := lt_of_lt_of_eq t.isLt (show cfg0.N = 13 from N_0)

theorem blk0 (t : Fin cfg0.N) (r : Fin 640) (k : Fin 1024) :
    iblk m c 0 t (ix3 0 r k) = us m c (ix3 0 ⟨t.val * 640 + r.val, by have := lt13 t; omega⟩ k) := by
  blk_ext [iblk, idx t]

theorem blk1 (t : Fin cfg0.N) (k : Fin 1024) (j : Fin 384) : iblk m c 1 t (ix3 0 k j) = ws m c (ix3 0 k j) := by
  blk_ext [iblk, idx t]

/-- What a point stores. -/
theorem pay1_apply (x : Vec Ideal S1x640x1024 .bf16) (y : Vec Ideal S1x1024x384 .bf16) (r : Fin 640) (j : Fin 384) :
    (k0_pay1 x y (ix2 r j) : EReal) = ∑ k : Fin 1024, x (ix3 0 r k) * y (ix3 0 k j) := by
  pointwise [k0_pay1]

/-- The product. -/
def prod (i : S8320x384.Idx) : EReal := ∑ k : Fin 1024, a0 m c (ix2 (i 0) k) * a1 m c (ix2 k (i 1))

theorem place (t : Fin cfg0.N) (r : Fin 640) (j : Fin 384) : (win0_2.blk t).view.emb (ix2 r j) = ix2 ⟨t.val * 640 + r.val, by have := lt13 t; omega⟩ j := by
  funext a
  refine Fin.ext ?_
  blk_simp [idx t]
  match a with
  | ⟨0, _⟩ => rfl
  | ⟨1, _⟩ => show 0 * 384 + j.val = j.val; omega

theorem rows : (dats m 0 c).arrAt 2 cfg0.N = prod m c := by
  refine (dats m 0 c).arrAt_eq_of_covers 2 _ (by decide +kernel) fun t hf y => ?_
  blk_simp
  rw [after0_2]
  change S640x384.Idx at y
  idx_vars y
  refine Eq.trans ?_ (congrArg (prod m c) (place t y0 y1).symm)
  frame_out
  refine (pay1_apply _ _ y0 y1).trans (Finset.sum_congr rfl fun k _ => ?_)
  exact congrArg₂ (fun x y : EReal => x * y) ((blk0 m c t y0 k).trans (us_apply m c _ k)) ((blk1 m c t k y1).trans (ws_apply m c k y1))

theorem result : (dats m 0 c).arrAt 2 cfg0.N = val_main_v0 (F := Ideal) (a0 m c) (a1 m c) := by
  rw [rows]
  funext i
  idx_vars i
  unfold prod
  pointwise [val_main_v0]

end Cert.QueryIdeal.Tie
-- ==== Proof.QueryRowsValue.lean ====
/-
  The gradient of the rows of the latent queries: each block of 640 rows is the product with the transposed matrix.
-/
module

public import proofs.«01_k».proof.Proof.Gen.QueryRowsIdeal.Value
public import proofs.«01_k».proof.Proof.Gen.QueryRowsRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.QueryRowsIdeal.Tie

open Cert.QueryRowsIdeal Cert.QueryRowsIdeal.Gen Cert.QueryRowsIdeal.Value Idealize.ShloMosaic Idealize.ShloMosaic.TcCoe Idealize.SL.Sem
open Cert.QueryRowsRefIdeal.Read

variable (m : (ℓ : Loc nD τ sig) → Buf (Elt Ideal) ℓ) (c : Dev nD)

/-- The contents of the program's arguments: the matrix and the incoming gradient. -/
abbrev a1 : S1024x384.Idx → EReal := m ((c : Thread nD τ).loc main_arg1)
abbrev a2 : S8320x384.Idx → EReal := m ((c : Thread nD τ).loc main_arg2)

/-- The kernel's operands: the arguments with a leading axis of one. -/
abbrev cs : S1x8320x384.Idx → EReal := V m c main_v1
abbrev ws : S1x1024x384.Idx → EReal := V m c main_v3

theorem cs_apply (r : Fin 8320) (j : Fin 384) : cs m c (ix3 0 r j) = a2 m c (ix2 r j) := by
  unfold cs
  entry_read
  pointwise

theorem ws_apply (k : Fin 1024) (j : Fin 384) : ws m c (ix3 0 k j) = a1 m c (ix2 k j) := by
  unfold ws
  entry_read
  pointwise

theorem idx : ∀ t, win0_0.index t = ![0, t.val, 0] ∧ win0_1.index t = ![0, 0, 0] ∧ win0_2.index t = ![t.val, 0] :=
  (by decide +kernel : ∀ t : Fin grid0.N, _)

theorem lt13 (t : Fin cfg0.N) : t.val < 13 := lt_of_lt_of_eq t.isLt (show cfg0.N = 13 from N_0)

theorem blk0 (t : Fin cfg0.N) (r : Fin 640) (j : Fin 384) :
    iblk m c 0 t (ix3 0 r j) = cs m c (ix3 0 ⟨t.val * 640 + r.val, by have := lt13 t; omega⟩ j) := by
  blk_ext [iblk, idx t]

theorem blk1 (t : Fin cfg0.N) (k : Fin 1024) (j : Fin 384) : iblk m c 1 t (ix3 0 k j) = ws m c (ix3 0 k j) := by
  blk_ext [iblk, idx t]

/-- What a point stores. -/
theorem pay1_apply (x : Vec Ideal S1x640x384 .bf16) (y : Vec Ideal S1x1024x384 .bf16) (r : Fin 640) (k : Fin 1024) :
    (k0_pay1 x y (ix2 r k) : EReal) = ∑ j : Fin 384, x (ix3 0 r j) * y (ix3 0 k j) := by
  pointwise [k0_pay1]

/-- The product with the transposed matrix. -/
def prod (i : S8320x1024.Idx) : EReal := ∑ j : Fin 384, a2 m c (ix2 (i 0) j) * a1 m c (ix2 (i 1) j)

theorem place (t : Fin cfg0.N) (r : Fin 640) (k : Fin 1024) : (win0_2.blk t).view.emb (ix2 r k) = ix2 ⟨t.val * 640 + r.val, by have := lt13 t; omega⟩ k := by
  funext a
  refine Fin.ext ?_
  blk_simp [idx t]
  match a with
  | ⟨0, _⟩ => rfl
  | ⟨1, _⟩ => show 0 * 1024 + k.val = k.val; omega

theorem rows : (dats m 0 c).arrAt 2 cfg0.N = prod m c := by
  refine (dats m 0 c).arrAt_eq_of_covers 2 _ (by decide +kernel) fun t hf y => ?_
  blk_simp
  rw [after0_2]
  change S640x1024.Idx at y
  idx_vars y
  refine Eq.trans ?_ (congrArg (prod m c) (place t y0 y1).symm)
  frame_out
  refine (pay1_apply _ _ y0 y1).trans (Finset.sum_congr rfl fun j _ => ?_)
  exact congrArg₂ (fun x y : EReal => x * y) ((blk0 m c t y0 j).trans (cs_apply m c _ j)) ((blk1 m c t y1 j).trans (ws_apply m c y1 j))

theorem result : (dats m 0 c).arrAt 2 cfg0.N = val_main_v3 (F := Ideal) (a1 m c) (a2 m c) := by
  rw [rows]
  funext i
  idx_vars i
  unfold prod
  pointwise [val_main_v3]

end Cert.QueryRowsIdeal.Tie
-- ==== Proof.QueryWeightsValue.lean ====
/-
  The gradient of the matrix of the latent queries: thirteen points each add the product of their 640 rows, and the sum runs over
  all 8320 rows.
-/
module

public import proofs.«01_k».proof.Proof.Gen.QueryWeightsIdeal.Value
public import proofs.«01_k».proof.Proof.Gen.QueryWeightsRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.QueryWeightsIdeal.Tie

open Cert.QueryWeightsIdeal Cert.QueryWeightsIdeal.Gen Cert.QueryWeightsIdeal.Value Idealize.ShloMosaic Idealize.ShloMosaic.TcCoe Idealize.SL.Sem
open Cert.QueryWeightsRefIdeal.Read

variable (m : (ℓ : Loc nD τ sig) → Buf (Elt Ideal) ℓ) (c : Dev nD)

/-- The contents of the program's arguments: the rows and the incoming gradient. -/
abbrev a0 : S8320x1024.Idx → EReal := m ((c : Thread nD τ).loc main_arg0)
abbrev a2 : S8320x384.Idx → EReal := m ((c : Thread nD τ).loc main_arg2)

/-- The kernel's operands: the arguments with a leading axis of one. -/
abbrev us : S1x8320x1024.Idx → EReal := V m c main_v1
abbrev cs : S1x8320x384.Idx → EReal := V m c main_v3

theorem us_apply (r : Fin 8320) (k : Fin 1024) : us m c (ix3 0 r k) = a0 m c (ix2 r k) := by
  unfold us
  entry_read
  pointwise

theorem cs_apply (r : Fin 8320) (j : Fin 384) : cs m c (ix3 0 r j) = a2 m c (ix2 r j) := by
  unfold cs
  entry_read
  pointwise

theorem idx : ∀ t, win0_0.index t = ![0, t.val, 0] ∧ win0_1.index t = ![0, t.val, 0] :=
  (by decide +kernel : ∀ t : Fin grid0.N, _)

theorem lt13 (t : Fin cfg0.N) : t.val < 13 := lt_of_lt_of_eq t.isLt (show cfg0.N = 13 from N_0)

theorem blk0 (t : Fin cfg0.N) (r : Fin 640) (k : Fin 1024) :
    iblk m c 0 t (ix3 0 r k) = us m c (ix3 0 ⟨t.val * 640 + r.val, by have := lt13 t; omega⟩ k) := by
  blk_ext [iblk, idx t]

theorem blk1 (t : Fin cfg0.N) (r : Fin 640) (j : Fin 384) :
    iblk m c 1 t (ix3 0 r j) = cs m c (ix3 0 ⟨t.val * 640 + r.val, by have := lt13 t; omega⟩ j) := by
  blk_ext [iblk, idx t]

/-- What a point stores over what it finds. -/
theorem pay2_apply (x : Vec Ideal S1x640x1024 .bf16) (y : Vec Ideal S1x640x384 .bf16) (acc : Vec Ideal S1x1024x384 .f32) (i : S1x1024x384.Idx) :
    (k0_pay2 x y acc i : EReal) = acc i + ∑ r : Fin 640, x (ix3 0 r (i 1)) * y (ix3 0 r (i 2)) := by
  idx_vars i
  obtain rfl : i0 = 0 := Subsingleton.elim _ _
  pointwise [k0_pay2]

theorem pay1_apply (i : S1x1024x384.Idx) : k0_pay1 (F := Ideal) i = (0 : EReal) := by pointwise [k0_pay1]

/-- What point `n` adds. -/
def part (n : ℕ) (i : S1x1024x384.Idx) : EReal :=
  ∑ r : Fin 640, a0 m c (ix2 ⟨n % 13 * 640 + r.val, by omega⟩ (i 1)) * a2 m c (ix2 ⟨n % 13 * 640 + r.val, by omega⟩ (i 2))

theorem part_eq (n : ℕ) (h : n < cfg0.N) (i : S1x1024x384.Idx) :
    (∑ r : Fin 640, HMul.hMul (α := EReal) (β := EReal) (γ := EReal) (iblk m c 0 ⟨n, h⟩ (ix3 0 r (i 1))) (iblk m c 1 ⟨n, h⟩ (ix3 0 r (i 2)))) = part m c n i := by
  have e : n % 13 = n := Nat.mod_eq_of_lt (lt13 ⟨n, h⟩)
  unfold part
  simp only [e]
  exact Finset.sum_congr rfl fun r _ => congrArg₂ (fun x y : EReal => x * y) ((blk0 m c ⟨n, h⟩ r (i 1)).trans (us_apply m c _ _))
    ((blk1 m c ⟨n, h⟩ r (i 2)).trans (cs_apply m c _ _))

/-- What the thirteen points leave. -/
theorem acc (h : 0 + 12 < cfg0.N) (i : S1x1024x384.Idx) :
    (Pipeline.accAt (reset2 m c) (step2 m c) 0 12 h i : EReal) = ∑ r : Fin 8320, a0 m c (ix2 r (i 1)) * a2 m c (ix2 r (i 2)) := by
  have key := Pipeline.accAt_add_apply (β := EReal) (reset2 m c) (step2 m c) (fun _ => 0) (part m c) 0 12
    (fun h i => by
      unfold reset2
      exact (pay2_apply _ _ _ i).trans (congrArg₂ (fun x y : EReal => x + y) (pay1_apply i) (part_eq m c 0 h i)))
    (fun n h acc i _ _ => by
      unfold step2
      exact (pay2_apply _ _ _ i).trans (congrArg (fun y : EReal => acc i + y) (part_eq m c n h i))) 12 le_rfl h i
  refine key.trans ?_
  rw [zero_add, Finset.sum_range]
  refine Fin.sum_mul_add_congr (S := 13) (n := 640) fun s r hl => ?_
  have e : (0 + s.val) % 13 = s.val := by omega
  simp only [e]

theorem G2_apply (k : Fin 1024) (j : Fin 384) :
    (G2 m c (ix3 0 k j) : EReal) = ∑ r : Fin 8320, a0 m c (ix2 r k) * a2 m c (ix2 r j) := by
  have hN : cfg0.N = 13 := N_0
  have hr : run2Of (ix3 0 k j) = 0 := by
    show 1 * (0 / 1 - 0) + 1 * (k.val / 1024 - 0) + 1 * (j.val / 384 - 0) = 0
    omega
  have e1 : (loc2Of (ix3 0 k j)) 1 = k := Fin.ext (Nat.mod_eq_of_lt k.isLt)
  have e2 : (loc2Of (ix3 0 k j)) 2 = j := Fin.ext (Nat.mod_eq_of_lt j.isLt)
  have key := acc m c (by omega) (loc2Of (ix3 0 k j))
  rw [e1, e2] at key
  rw [← key]
  have same : ∀ (b : ℕ) (_ : b = 0) (h : b + 12 < cfg0.N) (h' : 0 + 12 < cfg0.N),
      Pipeline.accAt (reset2 m c) (step2 m c) b 12 h = Pipeline.accAt (reset2 m c) (step2 m c) 0 12 h' := by
    intro b hb h h'; subst hb; rfl
  unfold G2
  rw [dif_pos (by rw [hr]; omega)]
  exact congrFun (same _ (by rw [hr]) _ _) _

/-- The reference multiplies the two factors in the other order. -/
theorem result : G2 m c = val_main_v4 (F := Ideal) (a0 m c) (a2 m c) := by
  funext i
  idx_vars i
  obtain rfl : i0 = 0 := Subsingleton.elim _ _
  rw [G2_apply]
  pointwise [val_main_v4, val_main_v2, val_main_v1]
  exact Finset.sum_congr (M := EReal) rfl fun r _ => mul_comm (G := EReal) _ _

end Cert.QueryWeightsIdeal.Tie
-- ==== Proof.OutputValue.lean ====
/-
  The attention's output matrix: each block of 640 rows adds to its rows the products of the eight heads with their parts
  of the matrix.
-/
module

public import proofs.«01_k».proof.Proof.Gen.OutputIdeal.Value
public import proofs.«01_k».proof.Proof.Gen.OutputRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.OutputIdeal.Tie

open Cert.OutputIdeal Cert.OutputIdeal.Gen Cert.OutputIdeal.Value Idealize.ShloMosaic Idealize.ShloMosaic.TcCoe Idealize.SL.Sem
open Cert.OutputRefIdeal.Read

variable (m : (ℓ : Loc nD τ sig) → Buf (Elt Ideal) ℓ) (c : Dev nD)

/-- The contents of the program's arguments: the rows, the heads' features and the matrix. -/
abbrev a0 : S8320x1024.Idx → EReal := m ((c : Thread nD τ).loc main_arg0)
abbrev a1 : S8320x512.Idx → EReal := m ((c : Thread nD τ).loc main_arg1)
abbrev a2 : S512x1024.Idx → EReal := m ((c : Thread nD τ).loc main_arg2)

/-- The kernel's operands: the features head by head, and the matrix in eight parts. -/
abbrev os : S8x8320x64.Idx → EReal := V m c main_v2
abbrev ws : S8x64x1024.Idx → EReal := V m c main_v4

/-- The place of a head's feature among all features. -/
abbrev feat (q : Fin 8) (d : Fin 64) : Fin 512 := ⟨q.val * 64 + d.val, by omega⟩

theorem os_apply (q : Fin 8) (r : Fin 8320) (d : Fin 64) : os m c (ix3 q r d) = a1 m c (ix2 r (feat q d)) := by
  unfold os
  entry_read
  pointwise

theorem ws_apply (q : Fin 8) (d : Fin 64) (e : Fin 1024) : ws m c (ix3 q d e) = a2 m c (ix2 (feat q d) e) := by
  unfold ws
  entry_read
  pointwise

theorem idx : ∀ t, (win0_0.index t = ![0, t.val, 0] ∧ win0_1.index t = ![0, 0, 0]) ∧ win0_2.index t = ![t.val, 0] ∧ win0_3.index t = ![t.val, 0] :=
  (by decide +kernel : ∀ t : Fin grid0.N, _)

theorem lt13 (t : Fin cfg0.N) : t.val < 13 := lt_of_lt_of_eq t.isLt (show cfg0.N = 13 from N_0)

theorem blk0 (t : Fin cfg0.N) (q : Fin 8) (r : Fin 640) (d : Fin 64) :
    iblk m c 0 t (ix3 q r d) = os m c (ix3 q ⟨t.val * 640 + r.val, by have := lt13 t; omega⟩ d) := by
  blk_ext [iblk, idx t]

theorem blk1 (t : Fin cfg0.N) (q : Fin 8) (d : Fin 64) (e : Fin 1024) : iblk m c 1 t (ix3 q d e) = ws m c (ix3 q d e) := by
  blk_ext [iblk, idx t]

theorem blk2 (t : Fin cfg0.N) (r : Fin 640) (e : Fin 1024) :
    (iblk m c 2 t (ix2 r e) : EReal) = a0 m c (ix2 ⟨t.val * 640 + r.val, by have := lt13 t; omega⟩ e) := by
  have h : iblk m c 2 t (ix2 r e) = (V m c main_arg0 : S8320x1024.Idx → EReal) (ix2 ⟨t.val * 640 + r.val, by have := lt13 t; omega⟩ e) := by blk_ext [iblk, idx t]
  exact h.trans (congrFun (V_main_arg0 m c) _)

/-! ## What a point computes -/

/-- The product of one head with its part of the matrix. -/
def headProd (x : Vec Ideal S1x640x64 .bf16) (y : Vec Ideal S1x64x1024 .bf16) (r : Fin 640) (e : Fin 1024) : EReal :=
  ∑ d : Fin 64, x (ix3 0 r d) * y (ix3 0 d e)

theorem pay2_apply (x0 x1 x2 x3 : Vec Ideal S1x640x64 .bf16) (y0 y1 y2 y3 : Vec Ideal S1x64x1024 .bf16) (r : Fin 640) (e : Fin 1024) :
    (k0_pay2 x0 y0 x1 y1 x2 y2 x3 y3 (ix2 r e) : EReal) = headProd x0 y0 r e + headProd x1 y1 r e + headProd x2 y2 r e + headProd x3 y3 r e := by
  unfold headProd
  pointwise [k0_pay2]

theorem pay1_apply (p : FVec Ideal S640x1024 .f32) (x4 x5 x6 x7 : Vec Ideal S1x640x64 .bf16) (y4 y5 y6 y7 : Vec Ideal S1x64x1024 .bf16)
    (h : Vec Ideal S640x1024 .f32) (r : Fin 640) (e : Fin 1024) :
    (k0_pay1 p (k0_pay3 x4) y4 x5 y5 x6 y6 x7 y7 h (ix2 r e) : EReal)
      = p (ix2 r e) + headProd x4 y4 r e + headProd x5 y5 r e + headProd x6 y6 r e + headProd x7 y7 r e + h (ix2 r e) := by
  unfold headProd
  pointwise [k0_pay1, k0_pay3]

section Loads

variable (x : Vec Ideal S8x640x64 .bf16) (y : Vec Ideal S8x64x1024 .bf16) (r : Fin 640) (d : Fin 64) (e : Fin 1024)

theorem ld_x0 : (View.ld x r0_0 (ix3 0 r d) : EReal) = x (ix3 0 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y0 : (View.ld y r0_1 (ix3 0 d e) : EReal) = y (ix3 0 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x1 : (View.ld x r0_2 (ix3 0 r d) : EReal) = x (ix3 1 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y1 : (View.ld y r0_3 (ix3 0 d e) : EReal) = y (ix3 1 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x2 : (View.ld x r0_4 (ix3 0 r d) : EReal) = x (ix3 2 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y2 : (View.ld y r0_5 (ix3 0 d e) : EReal) = y (ix3 2 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x3 : (View.ld x r0_6 (ix3 0 r d) : EReal) = x (ix3 3 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y3 : (View.ld y r0_7 (ix3 0 d e) : EReal) = y (ix3 3 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x4 : (View.ld x r0_8 (ix3 0 r d) : EReal) = x (ix3 4 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y4 : (View.ld y r0_9 (ix3 0 d e) : EReal) = y (ix3 4 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x5 : (View.ld x r0_10 (ix3 0 r d) : EReal) = x (ix3 5 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y5 : (View.ld y r0_11 (ix3 0 d e) : EReal) = y (ix3 5 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x6 : (View.ld x r0_12 (ix3 0 r d) : EReal) = x (ix3 6 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y6 : (View.ld y r0_13 (ix3 0 d e) : EReal) = y (ix3 6 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_x7 : (View.ld x r0_14 (ix3 0 r d) : EReal) = x (ix3 7 r d) := by
  refine congrArg x (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]
theorem ld_y7 : (View.ld y r0_15 (ix3 0 d e) : EReal) = y (ix3 7 d e) := by
  refine congrArg y (funext fun a => Fin.ext ?_)
  match a with
  | ⟨0, _⟩ => simp [Rect.emb, Rect.unit, ix3]
  | ⟨1, _⟩ => simp [Rect.emb, Rect.unit, ix3]
  | ⟨2, _⟩ => simp [Rect.emb, Rect.unit, ix3]

/-- The product of head `q`, from the blocks of all heads. -/
def part (q : Fin 8) : EReal := ∑ d : Fin 64, x (ix3 q r d) * y (ix3 q d e)

theorem part0 : headProd (View.ld x r0_0) (View.ld y r0_1) r e = part x y r e 0 :=
  Finset.sum_congr rfl fun d _ => congrArg₂ (fun a b : EReal => a * b) (ld_x0 x r d) (ld_y0 y d e)
theorem part1 : headProd (View.ld x r0_2) (View.ld y r0_3) r e = part x y r e 1 :=
  Finset.sum_congr rfl fun d _ => congrArg₂ (fun a b : EReal => a * b) (ld_x1 x r d) (ld_y1 y d e)
theorem part2 : headProd (View.ld x r0_4) (View.ld y r0_5) r e = part x y r e 2 :=
  Finset.sum_congr rfl fun d _ => congrArg₂ (fun a b : EReal => a * b) (ld_x2 x r d) (ld_y2 y d e)
theorem part3 : headProd (View.ld x r0_6) (View.ld y r0_7) r e = part x y r e 3 :=
  Finset.sum_congr rfl fun d _ => congrArg₂ (fun a b : EReal => a * b) (ld_x3 x r d) (ld_y3 y d e)
theorem part4 : headProd (View.ld x r0_8) (View.ld y r0_9) r e = part x y r e 4 :=
  Finset.sum_congr rfl fun d _ => congrArg₂ (fun a b : EReal => a * b) (ld_x4 x r d) (ld_y4 y d e)
theorem part5 : headProd (View.ld x r0_10) (View.ld y r0_11) r e = part x y r e 5 :=
  Finset.sum_congr rfl fun d _ => congrArg₂ (fun a b : EReal => a * b) (ld_x5 x r d) (ld_y5 y d e)
theorem part6 : headProd (View.ld x r0_12) (View.ld y r0_13) r e = part x y r e 6 :=
  Finset.sum_congr rfl fun d _ => congrArg₂ (fun a b : EReal => a * b) (ld_x6 x r d) (ld_y6 y d e)
theorem part7 : headProd (View.ld x r0_14) (View.ld y r0_15) r e = part x y r e 7 :=
  Finset.sum_congr rfl fun d _ => congrArg₂ (fun a b : EReal => a * b) (ld_x7 x r d) (ld_y7 y d e)

theorem out_apply (h : Vec Ideal S640x1024 .f32) : (out0_3 x y h (ix2 r e) : EReal) = (∑ q : Fin 8, part x y r e q) + h (ix2 r e) := by
  frame_out
  refine (pay1_apply _ _ _ _ _ _ _ _ _ _ r e).trans ?_
  rw [pay2_apply, part0, part1, part2, part3, part4, part5, part6, part7, Fin.sum_univ_eight]

end Loads

/-! ## The result -/

def rowsOut (i : S8320x1024.Idx) : EReal := (∑ q : Fin 8, ∑ d : Fin 64, a1 m c (ix2 (i 0) (feat q d)) * a2 m c (ix2 (feat q d) (i 1))) + a0 m c i

theorem place (t : Fin cfg0.N) (r : Fin 640) (e : Fin 1024) : (win0_3.blk t).view.emb (ix2 r e) = ix2 ⟨t.val * 640 + r.val, by have := lt13 t; omega⟩ e := by
  funext a
  refine Fin.ext ?_
  blk_simp [idx t]
  match a with
  | ⟨0, _⟩ => rfl
  | ⟨1, _⟩ => show 0 * 1024 + e.val = e.val; omega

theorem rows : (dats m 0 c).arrAt 3 cfg0.N = rowsOut m c := by
  refine (dats m 0 c).arrAt_eq_of_covers 3 _ (by decide +kernel) fun t hf y => ?_
  blk_simp
  rw [after0_3]
  change S640x1024.Idx at y
  idx_vars y
  refine Eq.trans ?_ (congrArg (rowsOut m c) (place t y0 y1).symm)
  refine (out_apply _ _ y0 y1 _).trans (congrArg₂ (fun a b : EReal => a + b) (Finset.sum_congr rfl fun q _ => Finset.sum_congr rfl fun d _ => ?_) (blk2 m c t y0 y1))
  exact congrArg₂ (fun x y : EReal => x * y) ((blk0 m c t q y0 d).trans (os_apply m c q _ d)) ((blk1 m c t q d y1).trans (ws_apply m c q d y1))

theorem result : (dats m 0 c).arrAt 3 cfg0.N = val_main_v1 (F := Ideal) (a0 m c) (a1 m c) (a2 m c) := by
  rw [rows]
  funext i
  idx_vars i
  unfold rowsOut
  pointwise [val_main_v1, val_main_v0]
  refine (add_comm (G := EReal) _ _).trans (congrArg (fun b : EReal => a0 m c (ix2 i0 i1) + b) ?_)
  exact Fin.sum_mul_add_congr (S := 8) (n := 64) fun q d hl => rfl

end Cert.OutputIdeal.Tie
-- ==== Proof.AttentionProductsClaims.lean ====
/-
  The claims about the products of the attention block: each reference's frame, and the equality of the two programs' results.
-/
module

public import proofs.«01_k».proof.Defs
public import proofs.«01_k».proof.Proof.QueryValue
public import proofs.«01_k».proof.Proof.Gen.QueryRefIdeal.Run
public import proofs.«01_k».proof.Proof.QueryRowsValue
public import proofs.«01_k».proof.Proof.Gen.QueryRowsRefIdeal.Run
public import proofs.«01_k».proof.Proof.QueryWeightsValue
public import proofs.«01_k».proof.Proof.Gen.QueryWeightsRefIdeal.Run
public import proofs.«01_k».proof.Proof.OutputValue
public import proofs.«01_k».proof.Proof.Gen.OutputRefIdeal.Run
public import Idealize.ShloMosaic.Lib.Quiescent

@[expose] public section

noncomputable section

open Idealize.ShloMosaic Idealize.SL.Sem

namespace Cert.Proof.Query

theorem frame_reference : Cert.quiescent_QueryRefIdeal := by
  intro m g _
  refine θ_run_mono (Cert.QueryRefIdeal.Value.run (F := Ideal) m g) fun r h => ⟨fun c => ?_, sem_eq_zero_of_no_sems (by decide) _⟩
  obtain ⟨_, h0, h1⟩ := h c
  exact ⟨h0, h1⟩

theorem algebraic : Cert.algebraic_QueryIdeal_QueryRefIdeal := by
  intro m g m' g' _ hagree
  refine ⟨_, Cert.QueryIdeal.Value.run_blocks (F := Ideal) m g, ?_⟩
  refine θ_run_mono (Cert.QueryRefIdeal.Value.run (F := Ideal) m' g') fun r h c => ?_
  obtain ⟨r0, h0, h1⟩ := h c
  obtain ⟨e0, e1⟩ := hagree c
  refine ⟨r0.trans ?_, h0, h1⟩
  rw [e0, e1]; exact (Cert.QueryIdeal.Tie.result m c).symm

end Cert.Proof.Query

namespace Cert.Proof.QueryRows

theorem frame_reference : Cert.quiescent_QueryRowsRefIdeal := by
  intro m g _
  refine θ_run_mono (Cert.QueryRowsRefIdeal.Value.run (F := Ideal) m g) fun r h => ⟨fun c => ?_, sem_eq_zero_of_no_sems (by decide) _⟩
  obtain ⟨_, h0, h1, h2⟩ := h c
  exact ⟨h0, h1, h2⟩

theorem algebraic : Cert.algebraic_QueryRowsIdeal_QueryRowsRefIdeal := by
  intro m g m' g' _ hagree
  refine ⟨_, Cert.QueryRowsIdeal.Value.run_blocks (F := Ideal) m g, ?_⟩
  refine θ_run_mono (Cert.QueryRowsRefIdeal.Value.run (F := Ideal) m' g') fun r h c => ?_
  obtain ⟨r0, h0, h1, h2⟩ := h c
  obtain ⟨e0, e1, e2⟩ := hagree c
  refine ⟨r0.trans ((Cert.QueryRowsRefIdeal.Read.val_main_v3_eq _ _).trans ?_), h0, h1, h2⟩
  rw [e1, e2]; exact (Cert.QueryRowsIdeal.Tie.result m c).symm

end Cert.Proof.QueryRows

namespace Cert.Proof.QueryWeights

theorem frame_reference : Cert.quiescent_QueryWeightsRefIdeal := by
  intro m g _
  refine θ_run_mono (Cert.QueryWeightsRefIdeal.Value.run (F := Ideal) m g) fun r h => ⟨fun c => ?_, sem_eq_zero_of_no_sems (by decide) _⟩
  obtain ⟨_, h0, h1, h2⟩ := h c
  exact ⟨h0, h1, h2⟩

theorem algebraic : Cert.algebraic_QueryWeightsIdeal_QueryWeightsRefIdeal := by
  intro m g m' g' _ hagree
  refine ⟨_, Cert.QueryWeightsIdeal.Value.run (F := Ideal) m g, ?_⟩
  refine θ_run_mono (Cert.QueryWeightsRefIdeal.Value.run (F := Ideal) m' g') fun r h c => ?_
  obtain ⟨r0, h0, h1, h2⟩ := h c
  obtain ⟨e0, e1, e2⟩ := hagree c
  refine ⟨r0.trans ((Cert.QueryWeightsRefIdeal.Read.val_main_v4_eq _ _).trans ?_), h0, h1, h2⟩
  rw [e0, e2]; exact (Cert.QueryWeightsIdeal.Tie.result m c).symm

end Cert.Proof.QueryWeights

namespace Cert.Proof.Output

theorem frame_reference : Cert.quiescent_OutputRefIdeal := by
  intro m g _
  refine θ_run_mono (Cert.OutputRefIdeal.Value.run (F := Ideal) m g) fun r h => ⟨fun c => ?_, sem_eq_zero_of_no_sems (by decide) _⟩
  obtain ⟨_, h0, h1, h2⟩ := h c
  exact ⟨h0, h1, h2⟩

theorem algebraic : Cert.algebraic_OutputIdeal_OutputRefIdeal := by
  intro m g m' g' _ hagree
  refine ⟨_, Cert.OutputIdeal.Value.run_blocks (F := Ideal) m g, ?_⟩
  refine θ_run_mono (Cert.OutputRefIdeal.Value.run (F := Ideal) m' g') fun r h c => ?_
  obtain ⟨r0, h0, h1, h2⟩ := h c
  obtain ⟨e0, e1, e2⟩ := hagree c
  refine ⟨r0.trans ((Cert.OutputRefIdeal.Read.val_main_v1_eq _ _ _).trans ?_), h0, h1, h2⟩
  rw [e0, e1, e2]; exact (Cert.OutputIdeal.Tie.result m c).symm

end Cert.Proof.Output
-- ==== Proof.lean ====
module

public import proofs.«01_k».proof.Defs
public import proofs.«01_k».proof.Proof.Gen.Weights
public import proofs.«01_k».proof.Proof.Gen.Weights.Skeleton
public import proofs.«01_k».proof.Proof.Gen.Weights.Launch
public import proofs.«01_k».proof.Proof.Gen.Weights.Points
public import proofs.«01_k».proof.Proof.Gen.Weights.Frame
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points
public import proofs.«01_k».proof.Proof.Gen.WeightsIdeal.Frame
public import proofs.«01_k».proof.Proof.Gen.WeightsRefIdeal
public import proofs.«01_k».proof.Proof.Gen.WeightsIdeal.Value
public import proofs.«01_k».proof.Proof.Gen.WeightsRefIdeal.Run
public import proofs.«01_k».proof.Proof.Gen.WeightsRefIdeal.Read
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardRefIdeal
public import proofs.«01_k».proof.Proof.Gen.ForwardIdeal.Value
public import proofs.«01_k».proof.Proof.Gen.ForwardRefIdeal.Run
public import proofs.«01_k».proof.Proof.Gen.ForwardRefIdeal.Read
public import proofs.«01_k».proof.Proof.Gen.Activations
public import proofs.«01_k».proof.Proof.Gen.Activations.Skeleton
public import proofs.«01_k».proof.Proof.Gen.Activations.Launch
public import proofs.«01_k».proof.Proof.Gen.Activations.Points
public import proofs.«01_k».proof.Proof.Gen.Activations.Frame
public import proofs.«01_k».proof.Proof.Gen.ActivationsIdeal
public import proofs.«01_k».proof.Proof.Gen.ActivationsIdeal.Skeleton
public import proofs.«01_k».proof.Proof.Gen.ActivationsIdeal.Launch
public import proofs.«01_k».proof.Proof.Gen.ActivationsIdeal.Points
public import proofs.«01_k».proof.Proof.Gen.ActivationsIdeal.Frame
public import proofs.«01_k».proof.Proof.Gen.ActivationsRefIdeal
public import proofs.«01_k».proof.Proof.Gen.ActivationsRefIdeal.Run
public import proofs.«01_k».proof.Proof.Gen.ActivationsRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.PoolForward
public import proofs.«01_k».proof.Proof.Gen.PoolForward.Skeleton
public import proofs.«01_k».proof.Proof.Gen.PoolForward.Launch
public import proofs.«01_k».proof.Proof.Gen.PoolForward.Points
public import proofs.«01_k».proof.Proof.Gen.PoolForward.Frame
public import proofs.«01_k».proof.Proof.Gen.PoolForwardIdeal
public import proofs.«01_k».proof.Proof.Gen.PoolForwardIdeal.Skeleton
public import proofs.«01_k».proof.Proof.Gen.PoolForwardIdeal.Launch
public import proofs.«01_k».proof.Proof.Gen.PoolForwardIdeal.Points
public import proofs.«01_k».proof.Proof.Gen.PoolForwardIdeal.Frame
public import proofs.«01_k».proof.Proof.Gen.PoolForwardRefIdeal
public import proofs.«01_k».proof.Proof.Gen.PoolForwardRefIdeal.Run
public import proofs.«01_k».proof.Proof.Gen.PoolForwardRefIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.QueryRows
public import proofs.«01_k».proof.Proof.Gen.QueryRows.Skeleton
public import proofs.«01_k».proof.Proof.Gen.QueryRows.Launch
public import proofs.«01_k».proof.Proof.Gen.QueryRows.Points
public import proofs.«01_k».proof.Proof.Gen.QueryRows.Frame
public import proofs.«01_k».proof.Proof.Gen.QueryRowsIdeal
public import proofs.«01_k».proof.Proof.Gen.QueryRowsIdeal.Skeleton
public import proofs.«01_k».proof.Proof.Gen.QueryRowsIdeal.Launch
public import proofs.«01_k».proof.Proof.Gen.QueryRowsIdeal.Points
public import proofs.«01_k».proof.Proof.Gen.QueryRowsIdeal.Frame
public import proofs.«01_k».proof.Proof.Gen.QueryRowsRefIdeal
public import proofs.«01_k».proof.Proof.Gen.QueryRowsRefIdeal.Run
public import proofs.«01_k».proof.Proof.Gen.QueryRowsRefIdeal.Read
public import proofs.«01_k».proof.Proof.Gen.QueryWeights
public import proofs.«01_k».proof.Proof.Gen.QueryWeights.Skeleton
public import proofs.«01_k».proof.Proof.Gen.QueryWeights.Launch
public import proofs.«01_k».proof.Proof.Gen.QueryWeights.Points
public import proofs.«01_k».proof.Proof.Gen.QueryWeights.Frame
public import proofs.«01_k».proof.Proof.Gen.QueryWeightsIdeal
public import proofs.«01_k».proof.Proof.Gen.QueryWeightsIdeal.Skeleton
public import proofs.«01_k».proof.Proof.Gen.QueryWeightsIdeal.Launch
public import proofs.«01_k».proof.Proof.Gen.QueryWeightsIdeal.Points
public import proofs.«01_k».proof.Proof.Gen.QueryWeightsIdeal.Frame
public import proofs.«01_k».proof.Proof.Gen.QueryWeightsRefIdeal
public import proofs.«01_k».proof.Proof.Gen.QueryWeightsRefIdeal.Run
public import proofs.«01_k».proof.Proof.Gen.QueryWeightsRefIdeal.Read
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputRefIdeal
public import proofs.«01_k».proof.Proof.Gen.OutputRefIdeal.Run
public import proofs.«01_k».proof.Proof.Gen.OutputRefIdeal.Read
public import proofs.«01_k».proof.Proof.Gen.Pre_pool_finite
public import proofs.«01_k».proof.Proof.Gen.Pre_finite
public import proofs.«01_k».proof.Proof.WeightsClaims
public import proofs.«01_k».proof.Proof.ForwardClaims
public import proofs.«01_k».proof.Proof.ActivationsFrames
public import proofs.«01_k».proof.Proof.ActivationsClaims
public import proofs.«01_k».proof.Proof.PoolClaims
public import proofs.«01_k».proof.Proof.PoolForwardClaims
public import proofs.«01_k».proof.Proof.AttentionProductsClaims
public import proofs.«01_k».proof.Proof.QueryValue
public import proofs.«01_k».proof.Proof.QueryRowsValue
public import proofs.«01_k».proof.Proof.QueryWeightsValue
public import proofs.«01_k».proof.Proof.OutputValue
public import Idealize.ShloMosaic.Adequacy
public import Idealize.ShloMosaic.Init

@[expose] public section

noncomputable section

namespace Cert.Proof

open Idealize.ShloMosaic Idealize.SL.Sem Cert.Weights

theorem claim : Cert.Claim := ⟨Cert.Weights.Gen.facts, Cert.WeightsIdeal.Gen.facts, Cert.WeightsRefIdeal.Gen.facts, Cert.Forward.Gen.facts, Cert.ForwardIdeal.Gen.facts, Cert.ForwardRefIdeal.Gen.facts,
  Cert.Activations.Gen.facts, Cert.ActivationsIdeal.Gen.facts, Cert.ActivationsRefIdeal.Gen.facts,
  Cert.Pool.Gen.facts, Cert.PoolIdeal.Gen.facts, Cert.PoolRefIdeal.Gen.facts,
  Cert.PoolForward.Gen.facts, Cert.PoolForwardIdeal.Gen.facts, Cert.PoolForwardRefIdeal.Gen.facts,
  Cert.Query.Gen.facts, Cert.QueryIdeal.Gen.facts, Cert.QueryRefIdeal.Gen.facts,
  Cert.QueryRows.Gen.facts, Cert.QueryRowsIdeal.Gen.facts, Cert.QueryRowsRefIdeal.Gen.facts,
  Cert.QueryWeights.Gen.facts, Cert.QueryWeightsIdeal.Gen.facts, Cert.QueryWeightsRefIdeal.Gen.facts,
  Cert.Output.Gen.facts, Cert.OutputIdeal.Gen.facts, Cert.OutputRefIdeal.Gen.facts,
  Cert.Pre_finite.Gen.facts, Cert.Pre_pool_finite.Gen.facts,
  fun m g _ => Cert.Weights.Gen.frame m g, fun m g _ => Cert.WeightsIdeal.Gen.frame m g, Weights.frame_reference,
  fun m g _ => Cert.Forward.Gen.frame m g, fun m g _ => Cert.ForwardIdeal.Gen.frame m g, Forward.frame_reference,
  Activations.frame_kernel, Activations.frame_ideal, Activations.frame_ideal_finite, Activations.frame_reference, Activations.frame_reference_finite,
  fun m g _ => Cert.Pool.Gen.frame m g, fun m g _ => Cert.PoolIdeal.Gen.frame m g, fun m g _ => Cert.PoolIdeal.Gen.frame m g, Pool.frame_reference, Pool.frame_reference_finite,
  fun m g _ => Cert.PoolForward.Gen.frame m g, fun m g _ => Cert.PoolForwardIdeal.Gen.frame m g, PoolForward.frame_reference,
  fun m g _ => Cert.Query.Gen.frame m g, fun m g _ => Cert.QueryIdeal.Gen.frame m g, Query.frame_reference,
  fun m g _ => Cert.QueryRows.Gen.frame m g, fun m g _ => Cert.QueryRowsIdeal.Gen.frame m g, QueryRows.frame_reference,
  fun m g _ => Cert.QueryWeights.Gen.frame m g, fun m g _ => Cert.QueryWeightsIdeal.Gen.frame m g, QueryWeights.frame_reference,
  fun m g _ => Cert.Output.Gen.frame m g, fun m g _ => Cert.OutputIdeal.Gen.frame m g, Output.frame_reference,
  trivial, Weights.algebraic, trivial, Forward.algebraic, trivial, Activations.algebraic, trivial, Pool.algebraic, trivial, PoolForward.algebraic,
  trivial, Query.algebraic, trivial, QueryRows.algebraic, trivial, QueryWeights.algebraic, trivial, Output.algebraic⟩

end Cert.Proof

end
